-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Later (m : (ℓ : Loc Cert.Later.nD Cert.Later.τ Cert.Later.sig) → Buf (Elt Bits) ℓ) : Prop :=
  True

def Pre_LaterIdeal (m : (ℓ : Loc Cert.LaterIdeal.nD Cert.LaterIdeal.τ Cert.LaterIdeal.sig) → Buf (Elt Ideal) ℓ) : Prop :=
  True

def Pre_Both (m : (ℓ : Loc Cert.Both.nD Cert.Both.τ Cert.Both.sig) → Buf (Elt Bits) ℓ) : Prop :=
  True

def Pre_BothIdeal (m : (ℓ : Loc Cert.BothIdeal.nD Cert.BothIdeal.τ Cert.BothIdeal.sig) → Buf (Elt Ideal) ℓ) : Prop :=
  True

def Pre_BothReferenceIdeal (m : (ℓ : Loc Cert.BothReferenceIdeal.nD Cert.BothReferenceIdeal.τ Cert.BothReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17)
      ∧ r.2.mem ((c.tc : Thread Cert.Mix.nD Cert.Mix.τ).loc Cert.Mix.main_arg18) = m ((c.tc : Thread Cert.Mix.nD Cert.Mix.τ).loc Cert.Mix.main_arg18)
      ∧ r.2.mem ((c.tc : Thread Cert.Mix.nD Cert.Mix.τ).loc Cert.Mix.main_arg19) = m ((c.tc : Thread Cert.Mix.nD Cert.Mix.τ).loc Cert.Mix.main_arg19)
      ∧ r.2.mem ((c.tc : Thread Cert.Mix.nD Cert.Mix.τ).loc Cert.Mix.main_arg20) = m ((c.tc : Thread Cert.Mix.nD Cert.Mix.τ).loc Cert.Mix.main_arg20)
      ∧ r.2.mem ((c.tc : Thread Cert.Mix.nD Cert.Mix.τ).loc Cert.Mix.main_arg21) = m ((c.tc : Thread Cert.Mix.nD Cert.Mix.τ).loc Cert.Mix.main_arg21)
      ∧ r.2.mem ((c.tc : Thread Cert.Mix.nD Cert.Mix.τ).loc Cert.Mix.main_arg22) = m ((c.tc : Thread Cert.Mix.nD Cert.Mix.τ).loc Cert.Mix.main_arg22))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
      ∧ r.2.mem ((c.tc : Thread Cert.MixIdeal.nD Cert.MixIdeal.τ).loc Cert.MixIdeal.main_arg19) = m ((c.tc : Thread Cert.MixIdeal.nD Cert.MixIdeal.τ).loc Cert.MixIdeal.main_arg19)
      ∧ r.2.mem ((c.tc : Thread Cert.MixIdeal.nD Cert.MixIdeal.τ).loc Cert.MixIdeal.main_arg20) = m ((c.tc : Thread Cert.MixIdeal.nD Cert.MixIdeal.τ).loc Cert.MixIdeal.main_arg20)
      ∧ r.2.mem ((c.tc : Thread Cert.MixIdeal.nD Cert.MixIdeal.τ).loc Cert.MixIdeal.main_arg21) = m ((c.tc : Thread Cert.MixIdeal.nD Cert.MixIdeal.τ).loc Cert.MixIdeal.main_arg21)
      ∧ r.2.mem ((c.tc : Thread Cert.MixIdeal.nD Cert.MixIdeal.τ).loc Cert.MixIdeal.main_arg22) = m ((c.tc : Thread Cert.MixIdeal.nD Cert.MixIdeal.τ).loc Cert.MixIdeal.main_arg22))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15)
      ∧ r.2.mem ((c.tc : Thread Cert.MixReferenceIdeal.nD Cert.MixReferenceIdeal.τ).loc Cert.MixReferenceIdeal.main_arg16) = m ((c.tc : Thread Cert.MixReferenceIdeal.nD Cert.MixReferenceIdeal.τ).loc Cert.MixReferenceIdeal.main_arg16)
      ∧ r.2.mem ((c.tc : Thread Cert.MixReferenceIdeal.nD Cert.MixReferenceIdeal.τ).loc Cert.MixReferenceIdeal.main_arg17) = m ((c.tc : Thread Cert.MixReferenceIdeal.nD Cert.MixReferenceIdeal.τ).loc Cert.MixReferenceIdeal.main_arg17)
      ∧ r.2.mem ((c.tc : Thread Cert.MixReferenceIdeal.nD Cert.MixReferenceIdeal.τ).loc Cert.MixReferenceIdeal.main_arg18) = m ((c.tc : Thread Cert.MixReferenceIdeal.nD Cert.MixReferenceIdeal.τ).loc Cert.MixReferenceIdeal.main_arg18)
      ∧ r.2.mem ((c.tc : Thread Cert.MixReferenceIdeal.nD Cert.MixReferenceIdeal.τ).loc Cert.MixReferenceIdeal.main_arg19) = m ((c.tc : Thread Cert.MixReferenceIdeal.nD Cert.MixReferenceIdeal.τ).loc Cert.MixReferenceIdeal.main_arg19)
      ∧ r.2.mem ((c.tc : Thread Cert.MixReferenceIdeal.nD Cert.MixReferenceIdeal.τ).loc Cert.MixReferenceIdeal.main_arg20) = m ((c.tc : Thread Cert.MixReferenceIdeal.nD Cert.MixReferenceIdeal.τ).loc Cert.MixReferenceIdeal.main_arg20)
      ∧ r.2.mem ((c.tc : Thread Cert.MixReferenceIdeal.nD Cert.MixReferenceIdeal.τ).loc Cert.MixReferenceIdeal.main_arg21) = m ((c.tc : Thread Cert.MixReferenceIdeal.nD Cert.MixReferenceIdeal.τ).loc Cert.MixReferenceIdeal.main_arg21)
      ∧ r.2.mem ((c.tc : Thread Cert.MixReferenceIdeal.nD Cert.MixReferenceIdeal.τ).loc Cert.MixReferenceIdeal.main_arg22) = m ((c.tc : Thread Cert.MixReferenceIdeal.nD Cert.MixReferenceIdeal.τ).loc Cert.MixReferenceIdeal.main_arg22))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7))
      ∧ r.2.sem = fun _ => 0)

def quiescent_Later [hLater : Cert.Later.Facts] : Prop :=
  ∀ (m : (ℓ : Loc Cert.Later.nD Cert.Later.τ Cert.Later.sig) → Buf (Elt Bits) ℓ) (g : Dev Cert.Later.nD → PrngReg), Pre_Later m →
    θ_run (Cert.Later.defs (F := Bits)) (onTc (τ := Cert.Later.τ) (Cert.Later.main (F := Bits))) ⟨m, fun _ => 0, g⟩ (fun r => (∀ c : Dev Cert.Later.nD,
      r.2.mem ((c.tc : Thread Cert.Later.nD Cert.Later.τ).loc Cert.Later.main_arg0) = m ((c.tc : Thread Cert.Later.nD Cert.Later.τ).loc Cert.Later.main_arg0)
      ∧ r.2.mem ((c.tc : Thread Cert.Later.nD Cert.Later.τ).loc Cert.Later.main_arg1) = m ((c.tc : Thread Cert.Later.nD Cert.Later.τ).loc Cert.Later.main_arg1)
      ∧ r.2.mem ((c.tc : Thread Cert.Later.nD Cert.Later.τ).loc Cert.Later.main_arg2) = m ((c.tc : Thread Cert.Later.nD Cert.Later.τ).loc Cert.Later.main_arg2)
      ∧ r.2.mem ((c.tc : Thread Cert.Later.nD Cert.Later.τ).loc Cert.Later.main_arg3) = m ((c.tc : Thread Cert.Later.nD Cert.Later.τ).loc Cert.Later.main_arg3)
      ∧ r.2.mem ((c.tc : Thread Cert.Later.nD Cert.Later.τ).loc Cert.Later.main_arg4) = m ((c.tc : Thread Cert.Later.nD Cert.Later.τ).loc Cert.Later.main_arg4)
      ∧ r.2.mem ((c.tc : Thread Cert.Later.nD Cert.Later.τ).loc Cert.Later.main_arg5) = m ((c.tc : Thread Cert.Later.nD Cert.Later.τ).loc Cert.Later.main_arg5)
      ∧ r.2.mem ((c.tc : Thread Cert.Later.nD Cert.Later.τ).loc Cert.Later.main_arg6) = m ((c.tc : Thread Cert.Later.nD Cert.Later.τ).loc Cert.Later.main_arg6)
      ∧ r.2.mem ((c.tc : Thread Cert.Later.nD Cert.Later.τ).loc Cert.Later.main_arg7) = m ((c.tc : Thread Cert.Later.nD Cert.Later.τ).loc Cert.Later.main_arg7))
      ∧ r.2.sem = fun _ => 0)

def quiescent_LaterIdeal [hLaterIdeal : Cert.LaterIdeal.Facts] : Prop :=
  ∀ (m : (ℓ : Loc Cert.LaterIdeal.nD Cert.LaterIdeal.τ Cert.LaterIdeal.sig) → Buf (Elt Ideal) ℓ) (g : Dev Cert.LaterIdeal.nD → PrngReg), Pre_LaterIdeal m →
    θ_run (Cert.LaterIdeal.defs (F := Ideal)) (onTc (τ := Cert.LaterIdeal.τ) (Cert.LaterIdeal.main (F := Ideal))) ⟨m, fun _ => 0, g⟩ (fun r => (∀ c : Dev Cert.LaterIdeal.nD,
      r.2.mem ((c.tc : Thread Cert.LaterIdeal.nD Cert.LaterIdeal.τ).loc Cert.LaterIdeal.main_arg0) = m ((c.tc : Thread Cert.LaterIdeal.nD Cert.LaterIdeal.τ).loc Cert.LaterIdeal.main_arg0)
      ∧ r.2.mem ((c.tc : Thread Cert.LaterIdeal.nD Cert.LaterIdeal.τ).loc Cert.LaterIdeal.main_arg1) = m ((c.tc : Thread Cert.LaterIdeal.nD Cert.LaterIdeal.τ).loc Cert.LaterIdeal.main_arg1)
      ∧ r.2.mem ((c.tc : Thread Cert.LaterIdeal.nD Cert.LaterIdeal.τ).loc Cert.LaterIdeal.main_arg2) = m ((c.tc : Thread Cert.LaterIdeal.nD Cert.LaterIdeal.τ).loc Cert.LaterIdeal.main_arg2)
      ∧ r.2.mem ((c.tc : Thread Cert.LaterIdeal.nD Cert.LaterIdeal.τ).loc Cert.LaterIdeal.main_arg3) = m ((c.tc : Thread Cert.LaterIdeal.nD Cert.LaterIdeal.τ).loc Cert.LaterIdeal.main_arg3)
      ∧ r.2.mem ((c.tc : Thread Cert.LaterIdeal.nD Cert.LaterIdeal.τ).loc Cert.LaterIdeal.main_arg4) = m ((c.tc : Thread Cert.LaterIdeal.nD Cert.LaterIdeal.τ).loc Cert.LaterIdeal.main_arg4)
      ∧ r.2.mem ((c.tc : Thread Cert.LaterIdeal.nD Cert.LaterIdeal.τ).loc Cert.LaterIdeal.main_arg5) = m ((c.tc : Thread Cert.LaterIdeal.nD Cert.LaterIdeal.τ).loc Cert.LaterIdeal.main_arg5)
      ∧ r.2.mem ((c.tc : Thread Cert.LaterIdeal.nD Cert.LaterIdeal.τ).loc Cert.LaterIdeal.main_arg6) = m ((c.tc : Thread Cert.LaterIdeal.nD Cert.LaterIdeal.τ).loc Cert.LaterIdeal.main_arg6)
      ∧ r.2.mem ((c.tc : Thread Cert.LaterIdeal.nD Cert.LaterIdeal.τ).loc Cert.LaterIdeal.main_arg7) = m ((c.tc : Thread Cert.LaterIdeal.nD Cert.LaterIdeal.τ).loc Cert.LaterIdeal.main_arg7))
      ∧ r.2.sem = fun _ => 0)

def quiescent_Both [hBoth : Cert.Both.Facts] : Prop :=
  ∀ (m : (ℓ : Loc Cert.Both.nD Cert.Both.τ Cert.Both.sig) → Buf (Elt Bits) ℓ) (g : Dev Cert.Both.nD → PrngReg), Pre_Both m →
    θ_run (Cert.Both.defs (F := Bits)) (onTc (τ := Cert.Both.τ) (Cert.Both.main (F := Bits))) ⟨m, fun _ => 0, g⟩ (fun r => (∀ c : Dev Cert.Both.nD,
      r.2.mem ((c.tc : Thread Cert.Both.nD Cert.Both.τ).loc Cert.Both.main_arg0) = m ((c.tc : Thread Cert.Both.nD Cert.Both.τ).loc Cert.Both.main_arg0)
      ∧ r.2.mem ((c.tc : Thread Cert.Both.nD Cert.Both.τ).loc Cert.Both.main_arg1) = m ((c.tc : Thread Cert.Both.nD Cert.Both.τ).loc Cert.Both.main_arg1)
      ∧ r.2.mem ((c.tc : Thread Cert.Both.nD Cert.Both.τ).loc Cert.Both.main_arg2) = m ((c.tc : Thread Cert.Both.nD Cert.Both.τ).loc Cert.Both.main_arg2)
      ∧ r.2.mem ((c.tc : Thread Cert.Both.nD Cert.Both.τ).loc Cert.Both.main_arg3) = m ((c.tc : Thread Cert.Both.nD Cert.Both.τ).loc Cert.Both.main_arg3)
      ∧ r.2.mem ((c.tc : Thread Cert.Both.nD Cert.Both.τ).loc Cert.Both.main_arg4) = m ((c.tc : Thread Cert.Both.nD Cert.Both.τ).loc Cert.Both.main_arg4)
      ∧ r.2.mem ((c.tc : Thread Cert.Both.nD Cert.Both.τ).loc Cert.Both.main_arg5) = m ((c.tc : Thread Cert.Both.nD Cert.Both.τ).loc Cert.Both.main_arg5)
      ∧ r.2.mem ((c.tc : Thread Cert.Both.nD Cert.Both.τ).loc Cert.Both.main_arg6) = m ((c.tc : Thread Cert.Both.nD Cert.Both.τ).loc Cert.Both.main_arg6)
      ∧ r.2.mem ((c.tc : Thread Cert.Both.nD Cert.Both.τ).loc Cert.Both.main_arg7) = m ((c.tc : Thread Cert.Both.nD Cert.Both.τ).loc Cert.Both.main_arg7)
      ∧ r.2.mem ((c.tc : Thread Cert.Both.nD Cert.Both.τ).loc Cert.Both.main_arg8) = m ((c.tc : Thread Cert.Both.nD Cert.Both.τ).loc Cert.Both.main_arg8)
      ∧ r.2.mem ((c.tc : Thread Cert.Both.nD Cert.Both.τ).loc Cert.Both.main_arg9) = m ((c.tc : Thread Cert.Both.nD Cert.Both.τ).loc Cert.Both.main_arg9)
      ∧ r.2.mem ((c.tc : Thread Cert.Both.nD Cert.Both.τ).loc Cert.Both.main_arg10) = m ((c.tc : Thread Cert.Both.nD Cert.Both.τ).loc Cert.Both.main_arg10)
      ∧ r.2.mem ((c.tc : Thread Cert.Both.nD Cert.Both.τ).loc Cert.Both.main_arg11) = m ((c.tc : Thread Cert.Both.nD Cert.Both.τ).loc Cert.Both.main_arg11)
      ∧ r.2.mem ((c.tc : Thread Cert.Both.nD Cert.Both.τ).loc Cert.Both.main_arg12) = m ((c.tc : Thread Cert.Both.nD Cert.Both.τ).loc Cert.Both.main_arg12)
      ∧ r.2.mem ((c.tc : Thread Cert.Both.nD Cert.Both.τ).loc Cert.Both.main_arg13) = m ((c.tc : Thread Cert.Both.nD Cert.Both.τ).loc Cert.Both.main_arg13)
      ∧ r.2.mem ((c.tc : Thread Cert.Both.nD Cert.Both.τ).loc Cert.Both.main_arg14) = m ((c.tc : Thread Cert.Both.nD Cert.Both.τ).loc Cert.Both.main_arg14)
      ∧ r.2.mem ((c.tc : Thread Cert.Both.nD Cert.Both.τ).loc Cert.Both.main_arg15) = m ((c.tc : Thread Cert.Both.nD Cert.Both.τ).loc Cert.Both.main_arg15)
      ∧ r.2.mem ((c.tc : Thread Cert.Both.nD Cert.Both.τ).loc Cert.Both.main_arg16) = m ((c.tc : Thread Cert.Both.nD Cert.Both.τ).loc Cert.Both.main_arg16)
      ∧ r.2.mem ((c.tc : Thread Cert.Both.nD Cert.Both.τ).loc Cert.Both.main_arg17) = m ((c.tc : Thread Cert.Both.nD Cert.Both.τ).loc Cert.Both.main_arg17)
      ∧ r.2.mem ((c.tc : Thread Cert.Both.nD Cert.Both.τ).loc Cert.Both.main_arg18) = m ((c.tc : Thread Cert.Both.nD Cert.Both.τ).loc Cert.Both.main_arg18)
      ∧ r.2.mem ((c.tc : Thread Cert.Both.nD Cert.Both.τ).loc Cert.Both.main_arg19) = m ((c.tc : Thread Cert.Both.nD Cert.Both.τ).loc Cert.Both.main_arg19)
      ∧ r.2.mem ((c.tc : Thread Cert.Both.nD Cert.Both.τ).loc Cert.Both.main_arg20) = m ((c.tc : Thread Cert.Both.nD Cert.Both.τ).loc Cert.Both.main_arg20)
      ∧ r.2.mem ((c.tc : Thread Cert.Both.nD Cert.Both.τ).loc Cert.Both.main_arg21) = m ((c.tc : Thread Cert.Both.nD Cert.Both.τ).loc Cert.Both.main_arg21)
      ∧ r.2.mem ((c.tc : Thread Cert.Both.nD Cert.Both.τ).loc Cert.Both.main_arg22) = m ((c.tc : Thread Cert.Both.nD Cert.Both.τ).loc Cert.Both.main_arg22)
      ∧ r.2.mem ((c.tc : Thread Cert.Both.nD Cert.Both.τ).loc Cert.Both.main_arg23) = m ((c.tc : Thread Cert.Both.nD Cert.Both.τ).loc Cert.Both.main_arg23))
      ∧ r.2.sem = fun _ => 0)

def quiescent_BothIdeal [hBothIdeal : Cert.BothIdeal.Facts] : Prop :=
  ∀ (m : (ℓ : Loc Cert.BothIdeal.nD Cert.BothIdeal.τ Cert.BothIdeal.sig) → Buf (Elt Ideal) ℓ) (g : Dev Cert.BothIdeal.nD → PrngReg), Pre_BothIdeal m →
    θ_run (Cert.BothIdeal.defs (F := Ideal)) (onTc (τ := Cert.BothIdeal.τ) (Cert.BothIdeal.main (F := Ideal))) ⟨m, fun _ => 0, g⟩ (fun r => (∀ c : Dev Cert.BothIdeal.nD,
      r.2.mem ((c.tc : Thread Cert.BothIdeal.nD Cert.BothIdeal.τ).loc Cert.BothIdeal.main_arg0) = m ((c.tc : Thread Cert.BothIdeal.nD Cert.BothIdeal.τ).loc Cert.BothIdeal.main_arg0)
      ∧ r.2.mem ((c.tc : Thread Cert.BothIdeal.nD Cert.BothIdeal.τ).loc Cert.BothIdeal.main_arg1) = m ((c.tc : Thread Cert.BothIdeal.nD Cert.BothIdeal.τ).loc Cert.BothIdeal.main_arg1)
      ∧ r.2.mem ((c.tc : Thread Cert.BothIdeal.nD Cert.BothIdeal.τ).loc Cert.BothIdeal.main_arg2) = m ((c.tc : Thread Cert.BothIdeal.nD Cert.BothIdeal.τ).loc Cert.BothIdeal.main_arg2)
      ∧ r.2.mem ((c.tc : Thread Cert.BothIdeal.nD Cert.BothIdeal.τ).loc Cert.BothIdeal.main_arg3) = m ((c.tc : Thread Cert.BothIdeal.nD Cert.BothIdeal.τ).loc Cert.BothIdeal.main_arg3)
      ∧ r.2.mem ((c.tc : Thread Cert.BothIdeal.nD Cert.BothIdeal.τ).loc Cert.BothIdeal.main_arg4) = m ((c.tc : Thread Cert.BothIdeal.nD Cert.BothIdeal.τ).loc Cert.BothIdeal.main_arg4)
      ∧ r.2.mem ((c.tc : Thread Cert.BothIdeal.nD Cert.BothIdeal.τ).loc Cert.BothIdeal.main_arg5) = m ((c.tc : Thread Cert.BothIdeal.nD Cert.BothIdeal.τ).loc Cert.BothIdeal.main_arg5)
      ∧ r.2.mem ((c.tc : Thread Cert.BothIdeal.nD Cert.BothIdeal.τ).loc Cert.BothIdeal.main_arg6) = m ((c.tc : Thread Cert.BothIdeal.nD Cert.BothIdeal.τ).loc Cert.BothIdeal.main_arg6)
      ∧ r.2.mem ((c.tc : Thread Cert.BothIdeal.nD Cert.BothIdeal.τ).loc Cert.BothIdeal.main_arg7) = m ((c.tc : Thread Cert.BothIdeal.nD Cert.BothIdeal.τ).loc Cert.BothIdeal.main_arg7)
      ∧ r.2.mem ((c.tc : Thread Cert.BothIdeal.nD Cert.BothIdeal.τ).loc Cert.BothIdeal.main_arg8) = m ((c.tc : Thread Cert.BothIdeal.nD Cert.BothIdeal.τ).loc Cert.BothIdeal.main_arg8)
      ∧ r.2.mem ((c.tc : Thread Cert.BothIdeal.nD Cert.BothIdeal.τ).loc Cert.BothIdeal.main_arg9) = m ((c.tc : Thread Cert.BothIdeal.nD Cert.BothIdeal.τ).loc Cert.BothIdeal.main_arg9)
      ∧ r.2.mem ((c.tc : Thread Cert.BothIdeal.nD Cert.BothIdeal.τ).loc Cert.BothIdeal.main_arg10) = m ((c.tc : Thread Cert.BothIdeal.nD Cert.BothIdeal.τ).loc Cert.BothIdeal.main_arg10)
      ∧ r.2.mem ((c.tc : Thread Cert.BothIdeal.nD Cert.BothIdeal.τ).loc Cert.BothIdeal.main_arg11) = m ((c.tc : Thread Cert.BothIdeal.nD Cert.BothIdeal.τ).loc Cert.BothIdeal.main_arg11)
      ∧ r.2.mem ((c.tc : Thread Cert.BothIdeal.nD Cert.BothIdeal.τ).loc Cert.BothIdeal.main_arg12) = m ((c.tc : Thread Cert.BothIdeal.nD Cert.BothIdeal.τ).loc Cert.BothIdeal.main_arg12)
      ∧ r.2.mem ((c.tc : Thread Cert.BothIdeal.nD Cert.BothIdeal.τ).loc Cert.BothIdeal.main_arg13) = m ((c.tc : Thread Cert.BothIdeal.nD Cert.BothIdeal.τ).loc Cert.BothIdeal.main_arg13)
      ∧ r.2.mem ((c.tc : Thread Cert.BothIdeal.nD Cert.BothIdeal.τ).loc Cert.BothIdeal.main_arg14) = m ((c.tc : Thread Cert.BothIdeal.nD Cert.BothIdeal.τ).loc Cert.BothIdeal.main_arg14)
      ∧ r.2.mem ((c.tc : Thread Cert.BothIdeal.nD Cert.BothIdeal.τ).loc Cert.BothIdeal.main_arg15) = m ((c.tc : Thread Cert.BothIdeal.nD Cert.BothIdeal.τ).loc Cert.BothIdeal.main_arg15)
      ∧ r.2.mem ((c.tc : Thread Cert.BothIdeal.nD Cert.BothIdeal.τ).loc Cert.BothIdeal.main_arg16) = m ((c.tc : Thread Cert.BothIdeal.nD Cert.BothIdeal.τ).loc Cert.BothIdeal.main_arg16)
      ∧ r.2.mem ((c.tc : Thread Cert.BothIdeal.nD Cert.BothIdeal.τ).loc Cert.BothIdeal.main_arg17) = m ((c.tc : Thread Cert.BothIdeal.nD Cert.BothIdeal.τ).loc Cert.BothIdeal.main_arg17)
      ∧ r.2.mem ((c.tc : Thread Cert.BothIdeal.nD Cert.BothIdeal.τ).loc Cert.BothIdeal.main_arg18) = m ((c.tc : Thread Cert.BothIdeal.nD Cert.BothIdeal.τ).loc Cert.BothIdeal.main_arg18)
      ∧ r.2.mem ((c.tc : Thread Cert.BothIdeal.nD Cert.BothIdeal.τ).loc Cert.BothIdeal.main_arg19) = m ((c.tc : Thread Cert.BothIdeal.nD Cert.BothIdeal.τ).loc Cert.BothIdeal.main_arg19)
      ∧ r.2.mem ((c.tc : Thread Cert.BothIdeal.nD Cert.BothIdeal.τ).loc Cert.BothIdeal.main_arg20) = m ((c.tc : Thread Cert.BothIdeal.nD Cert.BothIdeal.τ).loc Cert.BothIdeal.main_arg20)
      ∧ r.2.mem ((c.tc : Thread Cert.BothIdeal.nD Cert.BothIdeal.τ).loc Cert.BothIdeal.main_arg21) = m ((c.tc : Thread Cert.BothIdeal.nD Cert.BothIdeal.τ).loc Cert.BothIdeal.main_arg21)
      ∧ r.2.mem ((c.tc : Thread Cert.BothIdeal.nD Cert.BothIdeal.τ).loc Cert.BothIdeal.main_arg22) = m ((c.tc : Thread Cert.BothIdeal.nD Cert.BothIdeal.τ).loc Cert.BothIdeal.main_arg22)
      ∧ r.2.mem ((c.tc : Thread Cert.BothIdeal.nD Cert.BothIdeal.τ).loc Cert.BothIdeal.main_arg23) = m ((c.tc : Thread Cert.BothIdeal.nD Cert.BothIdeal.τ).loc Cert.BothIdeal.main_arg23))
      ∧ r.2.sem = fun _ => 0)

def quiescent_BothReferenceIdeal [hBothReferenceIdeal : Cert.BothReferenceIdeal.Facts] : Prop :=
  ∀ (m : (ℓ : Loc Cert.BothReferenceIdeal.nD Cert.BothReferenceIdeal.τ Cert.BothReferenceIdeal.sig) → Buf (Elt Ideal) ℓ) (g : Dev Cert.BothReferenceIdeal.nD → PrngReg), Pre_BothReferenceIdeal m →
    θ_run (Cert.BothReferenceIdeal.defs (F := Ideal)) (onTc (τ := Cert.BothReferenceIdeal.τ) (Cert.BothReferenceIdeal.main (F := Ideal))) ⟨m, fun _ => 0, g⟩ (fun r => (∀ c : Dev Cert.BothReferenceIdeal.nD,
      r.2.mem ((c.tc : Thread Cert.BothReferenceIdeal.nD Cert.BothReferenceIdeal.τ).loc Cert.BothReferenceIdeal.main_arg0) = m ((c.tc : Thread Cert.BothReferenceIdeal.nD Cert.BothReferenceIdeal.τ).loc Cert.BothReferenceIdeal.main_arg0)
      ∧ r.2.mem ((c.tc : Thread Cert.BothReferenceIdeal.nD Cert.BothReferenceIdeal.τ).loc Cert.BothReferenceIdeal.main_arg1) = m ((c.tc : Thread Cert.BothReferenceIdeal.nD Cert.BothReferenceIdeal.τ).loc Cert.BothReferenceIdeal.main_arg1)
      ∧ r.2.mem ((c.tc : Thread Cert.BothReferenceIdeal.nD Cert.BothReferenceIdeal.τ).loc Cert.BothReferenceIdeal.main_arg2) = m ((c.tc : Thread Cert.BothReferenceIdeal.nD Cert.BothReferenceIdeal.τ).loc Cert.BothReferenceIdeal.main_arg2)
      ∧ r.2.mem ((c.tc : Thread Cert.BothReferenceIdeal.nD Cert.BothReferenceIdeal.τ).loc Cert.BothReferenceIdeal.main_arg3) = m ((c.tc : Thread Cert.BothReferenceIdeal.nD Cert.BothReferenceIdeal.τ).loc Cert.BothReferenceIdeal.main_arg3)
      ∧ r.2.mem ((c.tc : Thread Cert.BothReferenceIdeal.nD Cert.BothReferenceIdeal.τ).loc Cert.BothReferenceIdeal.main_arg4) = m ((c.tc : Thread Cert.BothReferenceIdeal.nD Cert.BothReferenceIdeal.τ).loc Cert.BothReferenceIdeal.main_arg4)
      ∧ r.2.mem ((c.tc : Thread Cert.BothReferenceIdeal.nD Cert.BothReferenceIdeal.τ).loc Cert.BothReferenceIdeal.main_arg5) = m ((c.tc : Thread Cert.BothReferenceIdeal.nD Cert.BothReferenceIdeal.τ).loc Cert.BothReferenceIdeal.main_arg5)
      ∧ r.2.mem ((c.tc : Thread Cert.BothReferenceIdeal.nD Cert.BothReferenceIdeal.τ).loc Cert.BothReferenceIdeal.main_arg6) = m ((c.tc : Thread Cert.BothReferenceIdeal.nD Cert.BothReferenceIdeal.τ).loc Cert.BothReferenceIdeal.main_arg6)
      ∧ r.2.mem ((c.tc : Thread Cert.BothReferenceIdeal.nD Cert.BothReferenceIdeal.τ).loc Cert.BothReferenceIdeal.main_arg7) = m ((c.tc : Thread Cert.BothReferenceIdeal.nD Cert.BothReferenceIdeal.τ).loc Cert.BothReferenceIdeal.main_arg7)
      ∧ r.2.mem ((c.tc : Thread Cert.BothReferenceIdeal.nD Cert.BothReferenceIdeal.τ).loc Cert.BothReferenceIdeal.main_arg8) = m ((c.tc : Thread Cert.BothReferenceIdeal.nD Cert.BothReferenceIdeal.τ).loc Cert.BothReferenceIdeal.main_arg8)
      ∧ r.2.mem ((c.tc : Thread Cert.BothReferenceIdeal.nD Cert.BothReferenceIdeal.τ).loc Cert.BothReferenceIdeal.main_arg9) = m ((c.tc : Thread Cert.BothReferenceIdeal.nD Cert.BothReferenceIdeal.τ).loc Cert.BothReferenceIdeal.main_arg9)
      ∧ r.2.mem ((c.tc : Thread Cert.BothReferenceIdeal.nD Cert.BothReferenceIdeal.τ).loc Cert.BothReferenceIdeal.main_arg10) = m ((c.tc : Thread Cert.BothReferenceIdeal.nD Cert.BothReferenceIdeal.τ).loc Cert.BothReferenceIdeal.main_arg10)
      ∧ r.2.mem ((c.tc : Thread Cert.BothReferenceIdeal.nD Cert.BothReferenceIdeal.τ).loc Cert.BothReferenceIdeal.main_arg11) = m ((c.tc : Thread Cert.BothReferenceIdeal.nD Cert.BothReferenceIdeal.τ).loc Cert.BothReferenceIdeal.main_arg11)
      ∧ r.2.mem ((c.tc : Thread Cert.BothReferenceIdeal.nD Cert.BothReferenceIdeal.τ).loc Cert.BothReferenceIdeal.main_arg12) = m ((c.tc : Thread Cert.BothReferenceIdeal.nD Cert.BothReferenceIdeal.τ).loc Cert.BothReferenceIdeal.main_arg12)
      ∧ r.2.mem ((c.tc : Thread Cert.BothReferenceIdeal.nD Cert.BothReferenceIdeal.τ).loc Cert.BothReferenceIdeal.main_arg13) = m ((c.tc : Thread Cert.BothReferenceIdeal.nD Cert.BothReferenceIdeal.τ).loc Cert.BothReferenceIdeal.main_arg13)
      ∧ r.2.mem ((c.tc : Thread Cert.BothReferenceIdeal.nD Cert.BothReferenceIdeal.τ).loc Cert.BothReferenceIdeal.main_arg14) = m ((c.tc : Thread Cert.BothReferenceIdeal.nD Cert.BothReferenceIdeal.τ).loc Cert.BothReferenceIdeal.main_arg14)
      ∧ r.2.mem ((c.tc : Thread Cert.BothReferenceIdeal.nD Cert.BothReferenceIdeal.τ).loc Cert.BothReferenceIdeal.main_arg15) = m ((c.tc : Thread Cert.BothReferenceIdeal.nD Cert.BothReferenceIdeal.τ).loc Cert.BothReferenceIdeal.main_arg15)
      ∧ r.2.mem ((c.tc : Thread Cert.BothReferenceIdeal.nD Cert.BothReferenceIdeal.τ).loc Cert.BothReferenceIdeal.main_arg16) = m ((c.tc : Thread Cert.BothReferenceIdeal.nD Cert.BothReferenceIdeal.τ).loc Cert.BothReferenceIdeal.main_arg16)
      ∧ r.2.mem ((c.tc : Thread Cert.BothReferenceIdeal.nD Cert.BothReferenceIdeal.τ).loc Cert.BothReferenceIdeal.main_arg17) = m ((c.tc : Thread Cert.BothReferenceIdeal.nD Cert.BothReferenceIdeal.τ).loc Cert.BothReferenceIdeal.main_arg17)
      ∧ r.2.mem ((c.tc : Thread Cert.BothReferenceIdeal.nD Cert.BothReferenceIdeal.τ).loc Cert.BothReferenceIdeal.main_arg18) = m ((c.tc : Thread Cert.BothReferenceIdeal.nD Cert.BothReferenceIdeal.τ).loc Cert.BothReferenceIdeal.main_arg18)
      ∧ r.2.mem ((c.tc : Thread Cert.BothReferenceIdeal.nD Cert.BothReferenceIdeal.τ).loc Cert.BothReferenceIdeal.main_arg19) = m ((c.tc : Thread Cert.BothReferenceIdeal.nD Cert.BothReferenceIdeal.τ).loc Cert.BothReferenceIdeal.main_arg19)
      ∧ r.2.mem ((c.tc : Thread Cert.BothReferenceIdeal.nD Cert.BothReferenceIdeal.τ).loc Cert.BothReferenceIdeal.main_arg20) = m ((c.tc : Thread Cert.BothReferenceIdeal.nD Cert.BothReferenceIdeal.τ).loc Cert.BothReferenceIdeal.main_arg20)
      ∧ r.2.mem ((c.tc : Thread Cert.BothReferenceIdeal.nD Cert.BothReferenceIdeal.τ).loc Cert.BothReferenceIdeal.main_arg21) = m ((c.tc : Thread Cert.BothReferenceIdeal.nD Cert.BothReferenceIdeal.τ).loc Cert.BothReferenceIdeal.main_arg21)
      ∧ r.2.mem ((c.tc : Thread Cert.BothReferenceIdeal.nD Cert.BothReferenceIdeal.τ).loc Cert.BothReferenceIdeal.main_arg22) = m ((c.tc : Thread Cert.BothReferenceIdeal.nD Cert.BothReferenceIdeal.τ).loc Cert.BothReferenceIdeal.main_arg22)
      ∧ r.2.mem ((c.tc : Thread Cert.BothReferenceIdeal.nD Cert.BothReferenceIdeal.τ).loc Cert.BothReferenceIdeal.main_arg23) = m ((c.tc : Thread Cert.BothReferenceIdeal.nD Cert.BothReferenceIdeal.τ).loc Cert.BothReferenceIdeal.main_arg23))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9)
      ∧ r.2.mem ((c.tc : Thread Cert.Project.nD Cert.Project.τ).loc Cert.Project.main_arg10) = m ((c.tc : Thread Cert.Project.nD Cert.Project.τ).loc Cert.Project.main_arg10)
      ∧ r.2.mem ((c.tc : Thread Cert.Project.nD Cert.Project.τ).loc Cert.Project.main_arg11) = m ((c.tc : Thread Cert.Project.nD Cert.Project.τ).loc Cert.Project.main_arg11))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
      ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
      ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7)
      ∧ r.2.mem ((c.tc : Thread Cert.ProjectReferenceIdeal.nD Cert.ProjectReferenceIdeal.τ).loc Cert.ProjectReferenceIdeal.main_arg8) = m ((c.tc : Thread Cert.ProjectReferenceIdeal.nD Cert.ProjectReferenceIdeal.τ).loc Cert.ProjectReferenceIdeal.main_arg8)
      ∧ r.2.mem ((c.tc : Thread Cert.ProjectReferenceIdeal.nD Cert.ProjectReferenceIdeal.τ).loc Cert.ProjectReferenceIdeal.main_arg9) = m ((c.tc : Thread Cert.ProjectReferenceIdeal.nD Cert.ProjectReferenceIdeal.τ).loc Cert.ProjectReferenceIdeal.main_arg9)
      ∧ r.2.mem ((c.tc : Thread Cert.ProjectReferenceIdeal.nD Cert.ProjectReferenceIdeal.τ).loc Cert.ProjectReferenceIdeal.main_arg10) = m ((c.tc : Thread Cert.ProjectReferenceIdeal.nD Cert.ProjectReferenceIdeal.τ).loc Cert.ProjectReferenceIdeal.main_arg10)
      ∧ r.2.mem ((c.tc : Thread Cert.ProjectReferenceIdeal.nD Cert.ProjectReferenceIdeal.τ).loc Cert.ProjectReferenceIdeal.main_arg11) = m ((c.tc : Thread Cert.ProjectReferenceIdeal.nD Cert.ProjectReferenceIdeal.τ).loc Cert.ProjectReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)
      ∧ m' ((c.tc : Thread Cert.MixReferenceIdeal.nD Cert.MixReferenceIdeal.τ).loc Cert.MixReferenceIdeal.main_arg15) = m ((c.tc : Thread Cert.MixIdeal.nD Cert.MixIdeal.τ).loc Cert.MixIdeal.main_arg15)
      ∧ m' ((c.tc : Thread Cert.MixReferenceIdeal.nD Cert.MixReferenceIdeal.τ).loc Cert.MixReferenceIdeal.main_arg16) = m ((c.tc : Thread Cert.MixIdeal.nD Cert.MixIdeal.τ).loc Cert.MixIdeal.main_arg16)
      ∧ m' ((c.tc : Thread Cert.MixReferenceIdeal.nD Cert.MixReferenceIdeal.τ).loc Cert.MixReferenceIdeal.main_arg17) = m ((c.tc : Thread Cert.MixIdeal.nD Cert.MixIdeal.τ).loc Cert.MixIdeal.main_arg17)
      ∧ m' ((c.tc : Thread Cert.MixReferenceIdeal.nD Cert.MixReferenceIdeal.τ).loc Cert.MixReferenceIdeal.main_arg18) = m ((c.tc : Thread Cert.MixIdeal.nD Cert.MixIdeal.τ).loc Cert.MixIdeal.main_arg18)
      ∧ m' ((c.tc : Thread Cert.MixReferenceIdeal.nD Cert.MixReferenceIdeal.τ).loc Cert.MixReferenceIdeal.main_arg19) = m ((c.tc : Thread Cert.MixIdeal.nD Cert.MixIdeal.τ).loc Cert.MixIdeal.main_arg19)
      ∧ m' ((c.tc : Thread Cert.MixReferenceIdeal.nD Cert.MixReferenceIdeal.τ).loc Cert.MixReferenceIdeal.main_arg20) = m ((c.tc : Thread Cert.MixIdeal.nD Cert.MixIdeal.τ).loc Cert.MixIdeal.main_arg20)
      ∧ m' ((c.tc : Thread Cert.MixReferenceIdeal.nD Cert.MixReferenceIdeal.τ).loc Cert.MixReferenceIdeal.main_arg21) = m ((c.tc : Thread Cert.MixIdeal.nD Cert.MixIdeal.τ).loc Cert.MixIdeal.main_arg21)
      ∧ m' ((c.tc : Thread Cert.MixReferenceIdeal.nD Cert.MixReferenceIdeal.τ).loc Cert.MixReferenceIdeal.main_arg22) = m ((c.tc : Thread Cert.MixIdeal.nD Cert.MixIdeal.τ).loc Cert.MixIdeal.main_arg22)) →
    ∃ (v0 : (c : Dev Cert.MixIdeal.nD) → Buf (Elt Ideal) ((c.tc : Thread Cert.MixIdeal.nD Cert.MixIdeal.τ).loc Cert.MixIdeal.main_v37)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v37) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
          ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
          ∧ r.2.mem ((c.tc : Thread Cert.MixIdeal.nD Cert.MixIdeal.τ).loc Cert.MixIdeal.main_arg19) = m ((c.tc : Thread Cert.MixIdeal.nD Cert.MixIdeal.τ).loc Cert.MixIdeal.main_arg19)
          ∧ r.2.mem ((c.tc : Thread Cert.MixIdeal.nD Cert.MixIdeal.τ).loc Cert.MixIdeal.main_arg20) = m ((c.tc : Thread Cert.MixIdeal.nD Cert.MixIdeal.τ).loc Cert.MixIdeal.main_arg20)
          ∧ r.2.mem ((c.tc : Thread Cert.MixIdeal.nD Cert.MixIdeal.τ).loc Cert.MixIdeal.main_arg21) = m ((c.tc : Thread Cert.MixIdeal.nD Cert.MixIdeal.τ).loc Cert.MixIdeal.main_arg21)
          ∧ r.2.mem ((c.tc : Thread Cert.MixIdeal.nD Cert.MixIdeal.τ).loc Cert.MixIdeal.main_arg22) = m ((c.tc : Thread Cert.MixIdeal.nD Cert.MixIdeal.τ).loc Cert.MixIdeal.main_arg22))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v69) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15)
          ∧ r.2.mem ((c.tc : Thread Cert.MixReferenceIdeal.nD Cert.MixReferenceIdeal.τ).loc Cert.MixReferenceIdeal.main_arg16) = m' ((c.tc : Thread Cert.MixReferenceIdeal.nD Cert.MixReferenceIdeal.τ).loc Cert.MixReferenceIdeal.main_arg16)
          ∧ r.2.mem ((c.tc : Thread Cert.MixReferenceIdeal.nD Cert.MixReferenceIdeal.τ).loc Cert.MixReferenceIdeal.main_arg17) = m' ((c.tc : Thread Cert.MixReferenceIdeal.nD Cert.MixReferenceIdeal.τ).loc Cert.MixReferenceIdeal.main_arg17)
          ∧ r.2.mem ((c.tc : Thread Cert.MixReferenceIdeal.nD Cert.MixReferenceIdeal.τ).loc Cert.MixReferenceIdeal.main_arg18) = m' ((c.tc : Thread Cert.MixReferenceIdeal.nD Cert.MixReferenceIdeal.τ).loc Cert.MixReferenceIdeal.main_arg18)
          ∧ r.2.mem ((c.tc : Thread Cert.MixReferenceIdeal.nD Cert.MixReferenceIdeal.τ).loc Cert.MixReferenceIdeal.main_arg19) = m' ((c.tc : Thread Cert.MixReferenceIdeal.nD Cert.MixReferenceIdeal.τ).loc Cert.MixReferenceIdeal.main_arg19)
          ∧ r.2.mem ((c.tc : Thread Cert.MixReferenceIdeal.nD Cert.MixReferenceIdeal.τ).loc Cert.MixReferenceIdeal.main_arg20) = m' ((c.tc : Thread Cert.MixReferenceIdeal.nD Cert.MixReferenceIdeal.τ).loc Cert.MixReferenceIdeal.main_arg20)
          ∧ r.2.mem ((c.tc : Thread Cert.MixReferenceIdeal.nD Cert.MixReferenceIdeal.τ).loc Cert.MixReferenceIdeal.main_arg21) = m' ((c.tc : Thread Cert.MixReferenceIdeal.nD Cert.MixReferenceIdeal.τ).loc Cert.MixReferenceIdeal.main_arg21)
          ∧ r.2.mem ((c.tc : Thread Cert.MixReferenceIdeal.nD Cert.MixReferenceIdeal.τ).loc Cert.MixReferenceIdeal.main_arg22) = m' ((c.tc : Thread Cert.MixReferenceIdeal.nD Cert.MixReferenceIdeal.τ).loc Cert.MixReferenceIdeal.main_arg22))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)
      ∧ m' ((c.tc : Thread Cert.FirstReferenceIdeal.nD Cert.FirstReferenceIdeal.τ).loc Cert.FirstReferenceIdeal.main_arg7) = m ((c.tc : Thread Cert.FirstIdeal.nD Cert.FirstIdeal.τ).loc Cert.FirstIdeal.main_arg7)) →
    ∃ (v0 : (c : Dev Cert.FirstIdeal.nD) → Buf (Elt Ideal) ((c.tc : Thread Cert.FirstIdeal.nD Cert.FirstIdeal.τ).loc Cert.FirstIdeal.main_v6)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v6) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v64) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7))

def preserves_Later_LaterIdeal : Prop :=
  True

def algebraic_LaterIdeal_FirstReferenceIdeal [hLaterIdeal : Cert.LaterIdeal.Facts] [hFirstReferenceIdeal : Cert.FirstReferenceIdeal.Facts] : Prop :=
  ∀ (m : (ℓ : Loc Cert.LaterIdeal.nD Cert.LaterIdeal.τ Cert.LaterIdeal.sig) → Buf (Elt Ideal) ℓ) (g : Dev Cert.LaterIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_LaterIdeal m →
    (∀ c : Dev Cert.LaterIdeal.nD,
      m' ((c.tc : Thread Cert.FirstReferenceIdeal.nD Cert.FirstReferenceIdeal.τ).loc Cert.FirstReferenceIdeal.main_arg0) = m ((c.tc : Thread Cert.LaterIdeal.nD Cert.LaterIdeal.τ).loc Cert.LaterIdeal.main_arg0)
      ∧ m' ((c.tc : Thread Cert.FirstReferenceIdeal.nD Cert.FirstReferenceIdeal.τ).loc Cert.FirstReferenceIdeal.main_arg1) = m ((c.tc : Thread Cert.LaterIdeal.nD Cert.LaterIdeal.τ).loc Cert.LaterIdeal.main_arg1)
      ∧ m' ((c.tc : Thread Cert.FirstReferenceIdeal.nD Cert.FirstReferenceIdeal.τ).loc Cert.FirstReferenceIdeal.main_arg2) = m ((c.tc : Thread Cert.LaterIdeal.nD Cert.LaterIdeal.τ).loc Cert.LaterIdeal.main_arg2)
      ∧ m' ((c.tc : Thread Cert.FirstReferenceIdeal.nD Cert.FirstReferenceIdeal.τ).loc Cert.FirstReferenceIdeal.main_arg3) = m ((c.tc : Thread Cert.LaterIdeal.nD Cert.LaterIdeal.τ).loc Cert.LaterIdeal.main_arg3)
      ∧ m' ((c.tc : Thread Cert.FirstReferenceIdeal.nD Cert.FirstReferenceIdeal.τ).loc Cert.FirstReferenceIdeal.main_arg4) = m ((c.tc : Thread Cert.LaterIdeal.nD Cert.LaterIdeal.τ).loc Cert.LaterIdeal.main_arg4)
      ∧ m' ((c.tc : Thread Cert.FirstReferenceIdeal.nD Cert.FirstReferenceIdeal.τ).loc Cert.FirstReferenceIdeal.main_arg5) = m ((c.tc : Thread Cert.LaterIdeal.nD Cert.LaterIdeal.τ).loc Cert.LaterIdeal.main_arg5)
      ∧ m' ((c.tc : Thread Cert.FirstReferenceIdeal.nD Cert.FirstReferenceIdeal.τ).loc Cert.FirstReferenceIdeal.main_arg6) = m ((c.tc : Thread Cert.LaterIdeal.nD Cert.LaterIdeal.τ).loc Cert.LaterIdeal.main_arg6)
      ∧ m' ((c.tc : Thread Cert.FirstReferenceIdeal.nD Cert.FirstReferenceIdeal.τ).loc Cert.FirstReferenceIdeal.main_arg7) = m ((c.tc : Thread Cert.LaterIdeal.nD Cert.LaterIdeal.τ).loc Cert.LaterIdeal.main_arg7)) →
    ∃ (v0 : (c : Dev Cert.LaterIdeal.nD) → Buf (Elt Ideal) ((c.tc : Thread Cert.LaterIdeal.nD Cert.LaterIdeal.τ).loc Cert.LaterIdeal.main_v7)),
      θ_run (Cert.LaterIdeal.defs (F := Ideal)) (onTc (τ := Cert.LaterIdeal.τ) (Cert.LaterIdeal.main (F := Ideal))) ⟨m, fun _ => 0, g⟩ (fun r => ∀ c : Dev Cert.LaterIdeal.nD,
          r.2.mem ((c.tc : Thread Cert.LaterIdeal.nD Cert.LaterIdeal.τ).loc Cert.LaterIdeal.main_v7) = v0 c
          ∧ r.2.mem ((c.tc : Thread Cert.LaterIdeal.nD Cert.LaterIdeal.τ).loc Cert.LaterIdeal.main_arg0) = m ((c.tc : Thread Cert.LaterIdeal.nD Cert.LaterIdeal.τ).loc Cert.LaterIdeal.main_arg0)
          ∧ r.2.mem ((c.tc : Thread Cert.LaterIdeal.nD Cert.LaterIdeal.τ).loc Cert.LaterIdeal.main_arg1) = m ((c.tc : Thread Cert.LaterIdeal.nD Cert.LaterIdeal.τ).loc Cert.LaterIdeal.main_arg1)
          ∧ r.2.mem ((c.tc : Thread Cert.LaterIdeal.nD Cert.LaterIdeal.τ).loc Cert.LaterIdeal.main_arg2) = m ((c.tc : Thread Cert.LaterIdeal.nD Cert.LaterIdeal.τ).loc Cert.LaterIdeal.main_arg2)
          ∧ r.2.mem ((c.tc : Thread Cert.LaterIdeal.nD Cert.LaterIdeal.τ).loc Cert.LaterIdeal.main_arg3) = m ((c.tc : Thread Cert.LaterIdeal.nD Cert.LaterIdeal.τ).loc Cert.LaterIdeal.main_arg3)
          ∧ r.2.mem ((c.tc : Thread Cert.LaterIdeal.nD Cert.LaterIdeal.τ).loc Cert.LaterIdeal.main_arg4) = m ((c.tc : Thread Cert.LaterIdeal.nD Cert.LaterIdeal.τ).loc Cert.LaterIdeal.main_arg4)
          ∧ r.2.mem ((c.tc : Thread Cert.LaterIdeal.nD Cert.LaterIdeal.τ).loc Cert.LaterIdeal.main_arg5) = m ((c.tc : Thread Cert.LaterIdeal.nD Cert.LaterIdeal.τ).loc Cert.LaterIdeal.main_arg5)
          ∧ r.2.mem ((c.tc : Thread Cert.LaterIdeal.nD Cert.LaterIdeal.τ).loc Cert.LaterIdeal.main_arg6) = m ((c.tc : Thread Cert.LaterIdeal.nD Cert.LaterIdeal.τ).loc Cert.LaterIdeal.main_arg6)
          ∧ r.2.mem ((c.tc : Thread Cert.LaterIdeal.nD Cert.LaterIdeal.τ).loc Cert.LaterIdeal.main_arg7) = m ((c.tc : Thread Cert.LaterIdeal.nD Cert.LaterIdeal.τ).loc Cert.LaterIdeal.main_arg7))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v64) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7))

def preserves_Both_BothIdeal : Prop :=
  True

def algebraic_BothIdeal_BothReferenceIdeal [hBothIdeal : Cert.BothIdeal.Facts] [hBothReferenceIdeal : Cert.BothReferenceIdeal.Facts] : Prop :=
  ∀ (m : (ℓ : Loc Cert.BothIdeal.nD Cert.BothIdeal.τ Cert.BothIdeal.sig) → Buf (Elt Ideal) ℓ) (g : Dev Cert.BothIdeal.nD → PrngReg)
    (m' : (ℓ : Loc Cert.BothReferenceIdeal.nD Cert.BothReferenceIdeal.τ Cert.BothReferenceIdeal.sig) → Buf (Elt Ideal) ℓ) (g' : Dev Cert.BothReferenceIdeal.nD → PrngReg), Pre_BothIdeal m →
    (∀ c : Dev Cert.BothIdeal.nD,
      m' ((c.tc : Thread Cert.BothReferenceIdeal.nD Cert.BothReferenceIdeal.τ).loc Cert.BothReferenceIdeal.main_arg0) = m ((c.tc : Thread Cert.BothIdeal.nD Cert.BothIdeal.τ).loc Cert.BothIdeal.main_arg0)
      ∧ m' ((c.tc : Thread Cert.BothReferenceIdeal.nD Cert.BothReferenceIdeal.τ).loc Cert.BothReferenceIdeal.main_arg1) = m ((c.tc : Thread Cert.BothIdeal.nD Cert.BothIdeal.τ).loc Cert.BothIdeal.main_arg1)
      ∧ m' ((c.tc : Thread Cert.BothReferenceIdeal.nD Cert.BothReferenceIdeal.τ).loc Cert.BothReferenceIdeal.main_arg2) = m ((c.tc : Thread Cert.BothIdeal.nD Cert.BothIdeal.τ).loc Cert.BothIdeal.main_arg2)
      ∧ m' ((c.tc : Thread Cert.BothReferenceIdeal.nD Cert.BothReferenceIdeal.τ).loc Cert.BothReferenceIdeal.main_arg3) = m ((c.tc : Thread Cert.BothIdeal.nD Cert.BothIdeal.τ).loc Cert.BothIdeal.main_arg3)
      ∧ m' ((c.tc : Thread Cert.BothReferenceIdeal.nD Cert.BothReferenceIdeal.τ).loc Cert.BothReferenceIdeal.main_arg4) = m ((c.tc : Thread Cert.BothIdeal.nD Cert.BothIdeal.τ).loc Cert.BothIdeal.main_arg4)
      ∧ m' ((c.tc : Thread Cert.BothReferenceIdeal.nD Cert.BothReferenceIdeal.τ).loc Cert.BothReferenceIdeal.main_arg5) = m ((c.tc : Thread Cert.BothIdeal.nD Cert.BothIdeal.τ).loc Cert.BothIdeal.main_arg5)
      ∧ m' ((c.tc : Thread Cert.BothReferenceIdeal.nD Cert.BothReferenceIdeal.τ).loc Cert.BothReferenceIdeal.main_arg6) = m ((c.tc : Thread Cert.BothIdeal.nD Cert.BothIdeal.τ).loc Cert.BothIdeal.main_arg6)
      ∧ m' ((c.tc : Thread Cert.BothReferenceIdeal.nD Cert.BothReferenceIdeal.τ).loc Cert.BothReferenceIdeal.main_arg7) = m ((c.tc : Thread Cert.BothIdeal.nD Cert.BothIdeal.τ).loc Cert.BothIdeal.main_arg7)
      ∧ m' ((c.tc : Thread Cert.BothReferenceIdeal.nD Cert.BothReferenceIdeal.τ).loc Cert.BothReferenceIdeal.main_arg8) = m ((c.tc : Thread Cert.BothIdeal.nD Cert.BothIdeal.τ).loc Cert.BothIdeal.main_arg8)
      ∧ m' ((c.tc : Thread Cert.BothReferenceIdeal.nD Cert.BothReferenceIdeal.τ).loc Cert.BothReferenceIdeal.main_arg9) = m ((c.tc : Thread Cert.BothIdeal.nD Cert.BothIdeal.τ).loc Cert.BothIdeal.main_arg9)
      ∧ m' ((c.tc : Thread Cert.BothReferenceIdeal.nD Cert.BothReferenceIdeal.τ).loc Cert.BothReferenceIdeal.main_arg10) = m ((c.tc : Thread Cert.BothIdeal.nD Cert.BothIdeal.τ).loc Cert.BothIdeal.main_arg10)
      ∧ m' ((c.tc : Thread Cert.BothReferenceIdeal.nD Cert.BothReferenceIdeal.τ).loc Cert.BothReferenceIdeal.main_arg11) = m ((c.tc : Thread Cert.BothIdeal.nD Cert.BothIdeal.τ).loc Cert.BothIdeal.main_arg11)
      ∧ m' ((c.tc : Thread Cert.BothReferenceIdeal.nD Cert.BothReferenceIdeal.τ).loc Cert.BothReferenceIdeal.main_arg12) = m ((c.tc : Thread Cert.BothIdeal.nD Cert.BothIdeal.τ).loc Cert.BothIdeal.main_arg12)
      ∧ m' ((c.tc : Thread Cert.BothReferenceIdeal.nD Cert.BothReferenceIdeal.τ).loc Cert.BothReferenceIdeal.main_arg13) = m ((c.tc : Thread Cert.BothIdeal.nD Cert.BothIdeal.τ).loc Cert.BothIdeal.main_arg13)
      ∧ m' ((c.tc : Thread Cert.BothReferenceIdeal.nD Cert.BothReferenceIdeal.τ).loc Cert.BothReferenceIdeal.main_arg14) = m ((c.tc : Thread Cert.BothIdeal.nD Cert.BothIdeal.τ).loc Cert.BothIdeal.main_arg14)
      ∧ m' ((c.tc : Thread Cert.BothReferenceIdeal.nD Cert.BothReferenceIdeal.τ).loc Cert.BothReferenceIdeal.main_arg15) = m ((c.tc : Thread Cert.BothIdeal.nD Cert.BothIdeal.τ).loc Cert.BothIdeal.main_arg15)
      ∧ m' ((c.tc : Thread Cert.BothReferenceIdeal.nD Cert.BothReferenceIdeal.τ).loc Cert.BothReferenceIdeal.main_arg16) = m ((c.tc : Thread Cert.BothIdeal.nD Cert.BothIdeal.τ).loc Cert.BothIdeal.main_arg16)
      ∧ m' ((c.tc : Thread Cert.BothReferenceIdeal.nD Cert.BothReferenceIdeal.τ).loc Cert.BothReferenceIdeal.main_arg17) = m ((c.tc : Thread Cert.BothIdeal.nD Cert.BothIdeal.τ).loc Cert.BothIdeal.main_arg17)
      ∧ m' ((c.tc : Thread Cert.BothReferenceIdeal.nD Cert.BothReferenceIdeal.τ).loc Cert.BothReferenceIdeal.main_arg18) = m ((c.tc : Thread Cert.BothIdeal.nD Cert.BothIdeal.τ).loc Cert.BothIdeal.main_arg18)
      ∧ m' ((c.tc : Thread Cert.BothReferenceIdeal.nD Cert.BothReferenceIdeal.τ).loc Cert.BothReferenceIdeal.main_arg19) = m ((c.tc : Thread Cert.BothIdeal.nD Cert.BothIdeal.τ).loc Cert.BothIdeal.main_arg19)
      ∧ m' ((c.tc : Thread Cert.BothReferenceIdeal.nD Cert.BothReferenceIdeal.τ).loc Cert.BothReferenceIdeal.main_arg20) = m ((c.tc : Thread Cert.BothIdeal.nD Cert.BothIdeal.τ).loc Cert.BothIdeal.main_arg20)
      ∧ m' ((c.tc : Thread Cert.BothReferenceIdeal.nD Cert.BothReferenceIdeal.τ).loc Cert.BothReferenceIdeal.main_arg21) = m ((c.tc : Thread Cert.BothIdeal.nD Cert.BothIdeal.τ).loc Cert.BothIdeal.main_arg21)
      ∧ m' ((c.tc : Thread Cert.BothReferenceIdeal.nD Cert.BothReferenceIdeal.τ).loc Cert.BothReferenceIdeal.main_arg22) = m ((c.tc : Thread Cert.BothIdeal.nD Cert.BothIdeal.τ).loc Cert.BothIdeal.main_arg22)
      ∧ m' ((c.tc : Thread Cert.BothReferenceIdeal.nD Cert.BothReferenceIdeal.τ).loc Cert.BothReferenceIdeal.main_arg23) = m ((c.tc : Thread Cert.BothIdeal.nD Cert.BothIdeal.τ).loc Cert.BothIdeal.main_arg23)) →
    ∃ (v0 : (c : Dev Cert.BothIdeal.nD) → Buf (Elt Ideal) ((c.tc : Thread Cert.BothIdeal.nD Cert.BothIdeal.τ).loc Cert.BothIdeal.main_v37)),
      θ_run (Cert.BothIdeal.defs (F := Ideal)) (onTc (τ := Cert.BothIdeal.τ) (Cert.BothIdeal.main (F := Ideal))) ⟨m, fun _ => 0, g⟩ (fun r => ∀ c : Dev Cert.BothIdeal.nD,
          r.2.mem ((c.tc : Thread Cert.BothIdeal.nD Cert.BothIdeal.τ).loc Cert.BothIdeal.main_v37) = v0 c
          ∧ r.2.mem ((c.tc : Thread Cert.BothIdeal.nD Cert.BothIdeal.τ).loc Cert.BothIdeal.main_arg0) = m ((c.tc : Thread Cert.BothIdeal.nD Cert.BothIdeal.τ).loc Cert.BothIdeal.main_arg0)
          ∧ r.2.mem ((c.tc : Thread Cert.BothIdeal.nD Cert.BothIdeal.τ).loc Cert.BothIdeal.main_arg1) = m ((c.tc : Thread Cert.BothIdeal.nD Cert.BothIdeal.τ).loc Cert.BothIdeal.main_arg1)
          ∧ r.2.mem ((c.tc : Thread Cert.BothIdeal.nD Cert.BothIdeal.τ).loc Cert.BothIdeal.main_arg2) = m ((c.tc : Thread Cert.BothIdeal.nD Cert.BothIdeal.τ).loc Cert.BothIdeal.main_arg2)
          ∧ r.2.mem ((c.tc : Thread Cert.BothIdeal.nD Cert.BothIdeal.τ).loc Cert.BothIdeal.main_arg3) = m ((c.tc : Thread Cert.BothIdeal.nD Cert.BothIdeal.τ).loc Cert.BothIdeal.main_arg3)
          ∧ r.2.mem ((c.tc : Thread Cert.BothIdeal.nD Cert.BothIdeal.τ).loc Cert.BothIdeal.main_arg4) = m ((c.tc : Thread Cert.BothIdeal.nD Cert.BothIdeal.τ).loc Cert.BothIdeal.main_arg4)
          ∧ r.2.mem ((c.tc : Thread Cert.BothIdeal.nD Cert.BothIdeal.τ).loc Cert.BothIdeal.main_arg5) = m ((c.tc : Thread Cert.BothIdeal.nD Cert.BothIdeal.τ).loc Cert.BothIdeal.main_arg5)
          ∧ r.2.mem ((c.tc : Thread Cert.BothIdeal.nD Cert.BothIdeal.τ).loc Cert.BothIdeal.main_arg6) = m ((c.tc : Thread Cert.BothIdeal.nD Cert.BothIdeal.τ).loc Cert.BothIdeal.main_arg6)
          ∧ r.2.mem ((c.tc : Thread Cert.BothIdeal.nD Cert.BothIdeal.τ).loc Cert.BothIdeal.main_arg7) = m ((c.tc : Thread Cert.BothIdeal.nD Cert.BothIdeal.τ).loc Cert.BothIdeal.main_arg7)
          ∧ r.2.mem ((c.tc : Thread Cert.BothIdeal.nD Cert.BothIdeal.τ).loc Cert.BothIdeal.main_arg8) = m ((c.tc : Thread Cert.BothIdeal.nD Cert.BothIdeal.τ).loc Cert.BothIdeal.main_arg8)
          ∧ r.2.mem ((c.tc : Thread Cert.BothIdeal.nD Cert.BothIdeal.τ).loc Cert.BothIdeal.main_arg9) = m ((c.tc : Thread Cert.BothIdeal.nD Cert.BothIdeal.τ).loc Cert.BothIdeal.main_arg9)
          ∧ r.2.mem ((c.tc : Thread Cert.BothIdeal.nD Cert.BothIdeal.τ).loc Cert.BothIdeal.main_arg10) = m ((c.tc : Thread Cert.BothIdeal.nD Cert.BothIdeal.τ).loc Cert.BothIdeal.main_arg10)
          ∧ r.2.mem ((c.tc : Thread Cert.BothIdeal.nD Cert.BothIdeal.τ).loc Cert.BothIdeal.main_arg11) = m ((c.tc : Thread Cert.BothIdeal.nD Cert.BothIdeal.τ).loc Cert.BothIdeal.main_arg11)
          ∧ r.2.mem ((c.tc : Thread Cert.BothIdeal.nD Cert.BothIdeal.τ).loc Cert.BothIdeal.main_arg12) = m ((c.tc : Thread Cert.BothIdeal.nD Cert.BothIdeal.τ).loc Cert.BothIdeal.main_arg12)
          ∧ r.2.mem ((c.tc : Thread Cert.BothIdeal.nD Cert.BothIdeal.τ).loc Cert.BothIdeal.main_arg13) = m ((c.tc : Thread Cert.BothIdeal.nD Cert.BothIdeal.τ).loc Cert.BothIdeal.main_arg13)
          ∧ r.2.mem ((c.tc : Thread Cert.BothIdeal.nD Cert.BothIdeal.τ).loc Cert.BothIdeal.main_arg14) = m ((c.tc : Thread Cert.BothIdeal.nD Cert.BothIdeal.τ).loc Cert.BothIdeal.main_arg14)
          ∧ r.2.mem ((c.tc : Thread Cert.BothIdeal.nD Cert.BothIdeal.τ).loc Cert.BothIdeal.main_arg15) = m ((c.tc : Thread Cert.BothIdeal.nD Cert.BothIdeal.τ).loc Cert.BothIdeal.main_arg15)
          ∧ r.2.mem ((c.tc : Thread Cert.BothIdeal.nD Cert.BothIdeal.τ).loc Cert.BothIdeal.main_arg16) = m ((c.tc : Thread Cert.BothIdeal.nD Cert.BothIdeal.τ).loc Cert.BothIdeal.main_arg16)
          ∧ r.2.mem ((c.tc : Thread Cert.BothIdeal.nD Cert.BothIdeal.τ).loc Cert.BothIdeal.main_arg17) = m ((c.tc : Thread Cert.BothIdeal.nD Cert.BothIdeal.τ).loc Cert.BothIdeal.main_arg17)
          ∧ r.2.mem ((c.tc : Thread Cert.BothIdeal.nD Cert.BothIdeal.τ).loc Cert.BothIdeal.main_arg18) = m ((c.tc : Thread Cert.BothIdeal.nD Cert.BothIdeal.τ).loc Cert.BothIdeal.main_arg18)
          ∧ r.2.mem ((c.tc : Thread Cert.BothIdeal.nD Cert.BothIdeal.τ).loc Cert.BothIdeal.main_arg19) = m ((c.tc : Thread Cert.BothIdeal.nD Cert.BothIdeal.τ).loc Cert.BothIdeal.main_arg19)
          ∧ r.2.mem ((c.tc : Thread Cert.BothIdeal.nD Cert.BothIdeal.τ).loc Cert.BothIdeal.main_arg20) = m ((c.tc : Thread Cert.BothIdeal.nD Cert.BothIdeal.τ).loc Cert.BothIdeal.main_arg20)
          ∧ r.2.mem ((c.tc : Thread Cert.BothIdeal.nD Cert.BothIdeal.τ).loc Cert.BothIdeal.main_arg21) = m ((c.tc : Thread Cert.BothIdeal.nD Cert.BothIdeal.τ).loc Cert.BothIdeal.main_arg21)
          ∧ r.2.mem ((c.tc : Thread Cert.BothIdeal.nD Cert.BothIdeal.τ).loc Cert.BothIdeal.main_arg22) = m ((c.tc : Thread Cert.BothIdeal.nD Cert.BothIdeal.τ).loc Cert.BothIdeal.main_arg22)
          ∧ r.2.mem ((c.tc : Thread Cert.BothIdeal.nD Cert.BothIdeal.τ).loc Cert.BothIdeal.main_arg23) = m ((c.tc : Thread Cert.BothIdeal.nD Cert.BothIdeal.τ).loc Cert.BothIdeal.main_arg23))
      ∧ θ_run (Cert.BothReferenceIdeal.defs (F := Ideal)) (onTc (τ := Cert.BothReferenceIdeal.τ) (Cert.BothReferenceIdeal.main (F := Ideal))) ⟨m', fun _ => 0, g'⟩ (fun r => ∀ c : Dev Cert.BothReferenceIdeal.nD,
          r.2.mem ((c.tc : Thread Cert.BothReferenceIdeal.nD Cert.BothReferenceIdeal.τ).loc Cert.BothReferenceIdeal.main_v114) = v0 c
          ∧ r.2.mem ((c.tc : Thread Cert.BothReferenceIdeal.nD Cert.BothReferenceIdeal.τ).loc Cert.BothReferenceIdeal.main_arg0) = m' ((c.tc : Thread Cert.BothReferenceIdeal.nD Cert.BothReferenceIdeal.τ).loc Cert.BothReferenceIdeal.main_arg0)
          ∧ r.2.mem ((c.tc : Thread Cert.BothReferenceIdeal.nD Cert.BothReferenceIdeal.τ).loc Cert.BothReferenceIdeal.main_arg1) = m' ((c.tc : Thread Cert.BothReferenceIdeal.nD Cert.BothReferenceIdeal.τ).loc Cert.BothReferenceIdeal.main_arg1)
          ∧ r.2.mem ((c.tc : Thread Cert.BothReferenceIdeal.nD Cert.BothReferenceIdeal.τ).loc Cert.BothReferenceIdeal.main_arg2) = m' ((c.tc : Thread Cert.BothReferenceIdeal.nD Cert.BothReferenceIdeal.τ).loc Cert.BothReferenceIdeal.main_arg2)
          ∧ r.2.mem ((c.tc : Thread Cert.BothReferenceIdeal.nD Cert.BothReferenceIdeal.τ).loc Cert.BothReferenceIdeal.main_arg3) = m' ((c.tc : Thread Cert.BothReferenceIdeal.nD Cert.BothReferenceIdeal.τ).loc Cert.BothReferenceIdeal.main_arg3)
          ∧ r.2.mem ((c.tc : Thread Cert.BothReferenceIdeal.nD Cert.BothReferenceIdeal.τ).loc Cert.BothReferenceIdeal.main_arg4) = m' ((c.tc : Thread Cert.BothReferenceIdeal.nD Cert.BothReferenceIdeal.τ).loc Cert.BothReferenceIdeal.main_arg4)
          ∧ r.2.mem ((c.tc : Thread Cert.BothReferenceIdeal.nD Cert.BothReferenceIdeal.τ).loc Cert.BothReferenceIdeal.main_arg5) = m' ((c.tc : Thread Cert.BothReferenceIdeal.nD Cert.BothReferenceIdeal.τ).loc Cert.BothReferenceIdeal.main_arg5)
          ∧ r.2.mem ((c.tc : Thread Cert.BothReferenceIdeal.nD Cert.BothReferenceIdeal.τ).loc Cert.BothReferenceIdeal.main_arg6) = m' ((c.tc : Thread Cert.BothReferenceIdeal.nD Cert.BothReferenceIdeal.τ).loc Cert.BothReferenceIdeal.main_arg6)
          ∧ r.2.mem ((c.tc : Thread Cert.BothReferenceIdeal.nD Cert.BothReferenceIdeal.τ).loc Cert.BothReferenceIdeal.main_arg7) = m' ((c.tc : Thread Cert.BothReferenceIdeal.nD Cert.BothReferenceIdeal.τ).loc Cert.BothReferenceIdeal.main_arg7)
          ∧ r.2.mem ((c.tc : Thread Cert.BothReferenceIdeal.nD Cert.BothReferenceIdeal.τ).loc Cert.BothReferenceIdeal.main_arg8) = m' ((c.tc : Thread Cert.BothReferenceIdeal.nD Cert.BothReferenceIdeal.τ).loc Cert.BothReferenceIdeal.main_arg8)
          ∧ r.2.mem ((c.tc : Thread Cert.BothReferenceIdeal.nD Cert.BothReferenceIdeal.τ).loc Cert.BothReferenceIdeal.main_arg9) = m' ((c.tc : Thread Cert.BothReferenceIdeal.nD Cert.BothReferenceIdeal.τ).loc Cert.BothReferenceIdeal.main_arg9)
          ∧ r.2.mem ((c.tc : Thread Cert.BothReferenceIdeal.nD Cert.BothReferenceIdeal.τ).loc Cert.BothReferenceIdeal.main_arg10) = m' ((c.tc : Thread Cert.BothReferenceIdeal.nD Cert.BothReferenceIdeal.τ).loc Cert.BothReferenceIdeal.main_arg10)
          ∧ r.2.mem ((c.tc : Thread Cert.BothReferenceIdeal.nD Cert.BothReferenceIdeal.τ).loc Cert.BothReferenceIdeal.main_arg11) = m' ((c.tc : Thread Cert.BothReferenceIdeal.nD Cert.BothReferenceIdeal.τ).loc Cert.BothReferenceIdeal.main_arg11)
          ∧ r.2.mem ((c.tc : Thread Cert.BothReferenceIdeal.nD Cert.BothReferenceIdeal.τ).loc Cert.BothReferenceIdeal.main_arg12) = m' ((c.tc : Thread Cert.BothReferenceIdeal.nD Cert.BothReferenceIdeal.τ).loc Cert.BothReferenceIdeal.main_arg12)
          ∧ r.2.mem ((c.tc : Thread Cert.BothReferenceIdeal.nD Cert.BothReferenceIdeal.τ).loc Cert.BothReferenceIdeal.main_arg13) = m' ((c.tc : Thread Cert.BothReferenceIdeal.nD Cert.BothReferenceIdeal.τ).loc Cert.BothReferenceIdeal.main_arg13)
          ∧ r.2.mem ((c.tc : Thread Cert.BothReferenceIdeal.nD Cert.BothReferenceIdeal.τ).loc Cert.BothReferenceIdeal.main_arg14) = m' ((c.tc : Thread Cert.BothReferenceIdeal.nD Cert.BothReferenceIdeal.τ).loc Cert.BothReferenceIdeal.main_arg14)
          ∧ r.2.mem ((c.tc : Thread Cert.BothReferenceIdeal.nD Cert.BothReferenceIdeal.τ).loc Cert.BothReferenceIdeal.main_arg15) = m' ((c.tc : Thread Cert.BothReferenceIdeal.nD Cert.BothReferenceIdeal.τ).loc Cert.BothReferenceIdeal.main_arg15)
          ∧ r.2.mem ((c.tc : Thread Cert.BothReferenceIdeal.nD Cert.BothReferenceIdeal.τ).loc Cert.BothReferenceIdeal.main_arg16) = m' ((c.tc : Thread Cert.BothReferenceIdeal.nD Cert.BothReferenceIdeal.τ).loc Cert.BothReferenceIdeal.main_arg16)
          ∧ r.2.mem ((c.tc : Thread Cert.BothReferenceIdeal.nD Cert.BothReferenceIdeal.τ).loc Cert.BothReferenceIdeal.main_arg17) = m' ((c.tc : Thread Cert.BothReferenceIdeal.nD Cert.BothReferenceIdeal.τ).loc Cert.BothReferenceIdeal.main_arg17)
          ∧ r.2.mem ((c.tc : Thread Cert.BothReferenceIdeal.nD Cert.BothReferenceIdeal.τ).loc Cert.BothReferenceIdeal.main_arg18) = m' ((c.tc : Thread Cert.BothReferenceIdeal.nD Cert.BothReferenceIdeal.τ).loc Cert.BothReferenceIdeal.main_arg18)
          ∧ r.2.mem ((c.tc : Thread Cert.BothReferenceIdeal.nD Cert.BothReferenceIdeal.τ).loc Cert.BothReferenceIdeal.main_arg19) = m' ((c.tc : Thread Cert.BothReferenceIdeal.nD Cert.BothReferenceIdeal.τ).loc Cert.BothReferenceIdeal.main_arg19)
          ∧ r.2.mem ((c.tc : Thread Cert.BothReferenceIdeal.nD Cert.BothReferenceIdeal.τ).loc Cert.BothReferenceIdeal.main_arg20) = m' ((c.tc : Thread Cert.BothReferenceIdeal.nD Cert.BothReferenceIdeal.τ).loc Cert.BothReferenceIdeal.main_arg20)
          ∧ r.2.mem ((c.tc : Thread Cert.BothReferenceIdeal.nD Cert.BothReferenceIdeal.τ).loc Cert.BothReferenceIdeal.main_arg21) = m' ((c.tc : Thread Cert.BothReferenceIdeal.nD Cert.BothReferenceIdeal.τ).loc Cert.BothReferenceIdeal.main_arg21)
          ∧ r.2.mem ((c.tc : Thread Cert.BothReferenceIdeal.nD Cert.BothReferenceIdeal.τ).loc Cert.BothReferenceIdeal.main_arg22) = m' ((c.tc : Thread Cert.BothReferenceIdeal.nD Cert.BothReferenceIdeal.τ).loc Cert.BothReferenceIdeal.main_arg22)
          ∧ r.2.mem ((c.tc : Thread Cert.BothReferenceIdeal.nD Cert.BothReferenceIdeal.τ).loc Cert.BothReferenceIdeal.main_arg23) = m' ((c.tc : Thread Cert.BothReferenceIdeal.nD Cert.BothReferenceIdeal.τ).loc Cert.BothReferenceIdeal.main_arg23))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)
      ∧ m' ((c.tc : Thread Cert.ProjectReferenceIdeal.nD Cert.ProjectReferenceIdeal.τ).loc Cert.ProjectReferenceIdeal.main_arg8) = m ((c.tc : Thread Cert.ProjectIdeal.nD Cert.ProjectIdeal.τ).loc Cert.ProjectIdeal.main_arg8)
      ∧ m' ((c.tc : Thread Cert.ProjectReferenceIdeal.nD Cert.ProjectReferenceIdeal.τ).loc Cert.ProjectReferenceIdeal.main_arg9) = m ((c.tc : Thread Cert.ProjectIdeal.nD Cert.ProjectIdeal.τ).loc Cert.ProjectIdeal.main_arg9)
      ∧ m' ((c.tc : Thread Cert.ProjectReferenceIdeal.nD Cert.ProjectReferenceIdeal.τ).loc Cert.ProjectReferenceIdeal.main_arg10) = m ((c.tc : Thread Cert.ProjectIdeal.nD Cert.ProjectIdeal.τ).loc Cert.ProjectIdeal.main_arg10)
      ∧ m' ((c.tc : Thread Cert.ProjectReferenceIdeal.nD Cert.ProjectReferenceIdeal.τ).loc Cert.ProjectReferenceIdeal.main_arg11) = m ((c.tc : Thread Cert.ProjectIdeal.nD Cert.ProjectIdeal.τ).loc Cert.ProjectIdeal.main_arg11)) →
    ∃ (v0 : (c : Dev Cert.ProjectIdeal.nD) → Buf (Elt Ideal) ((c.tc : Thread Cert.ProjectIdeal.nD Cert.ProjectIdeal.τ).loc Cert.ProjectIdeal.main_v119_2)) (v1 : (c : Dev Cert.ProjectIdeal.nD) → Buf (Elt Ideal) ((c.tc : Thread Cert.ProjectIdeal.nD Cert.ProjectIdeal.τ).loc Cert.ProjectIdeal.main_v119_3)) (v2 : (c : Dev Cert.ProjectIdeal.nD) → Buf (Elt Ideal) ((c.tc : Thread Cert.ProjectIdeal.nD Cert.ProjectIdeal.τ).loc Cert.ProjectIdeal.main_v119_4)) (v3 : (c : Dev Cert.ProjectIdeal.nD) → Buf (Elt Ideal) ((c.tc : Thread Cert.ProjectIdeal.nD Cert.ProjectIdeal.τ).loc Cert.ProjectIdeal.main_v119_5)) (v4 : (c : Dev Cert.ProjectIdeal.nD) → Buf (Elt Ideal) ((c.tc : Thread Cert.ProjectIdeal.nD Cert.ProjectIdeal.τ).loc Cert.ProjectIdeal.main_v119_6)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v119_2) = v0 c
          ∧ r.2.mem ((c.tc : Thread Cert.ProjectIdeal.nD Cert.ProjectIdeal.τ).loc Cert.ProjectIdeal.main_v119_3) = v1 c
          ∧ r.2.mem ((c.tc : Thread Cert.ProjectIdeal.nD Cert.ProjectIdeal.τ).loc Cert.ProjectIdeal.main_v119_4) = v2 c
          ∧ r.2.mem ((c.tc : Thread Cert.ProjectIdeal.nD Cert.ProjectIdeal.τ).loc Cert.ProjectIdeal.main_v119_5) = v3 c
          ∧ r.2.mem ((c.tc : Thread Cert.ProjectIdeal.nD Cert.ProjectIdeal.τ).loc Cert.ProjectIdeal.main_v119_6) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
          ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
          ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v71) = v0 c
          ∧ r.2.mem ((c.tc : Thread Cert.ProjectReferenceIdeal.nD Cert.ProjectReferenceIdeal.τ).loc Cert.ProjectReferenceIdeal.main_v72) = v1 c
          ∧ r.2.mem ((c.tc : Thread Cert.ProjectReferenceIdeal.nD Cert.ProjectReferenceIdeal.τ).loc Cert.ProjectReferenceIdeal.main_v75) = v2 c
          ∧ r.2.mem ((c.tc : Thread Cert.ProjectReferenceIdeal.nD Cert.ProjectReferenceIdeal.τ).loc Cert.ProjectReferenceIdeal.main_v79) = v3 c
          ∧ r.2.mem ((c.tc : Thread Cert.ProjectReferenceIdeal.nD Cert.ProjectReferenceIdeal.τ).loc Cert.ProjectReferenceIdeal.main_v83) = v4 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7)
          ∧ r.2.mem ((c.tc : Thread Cert.ProjectReferenceIdeal.nD Cert.ProjectReferenceIdeal.τ).loc Cert.ProjectReferenceIdeal.main_arg8) = m' ((c.tc : Thread Cert.ProjectReferenceIdeal.nD Cert.ProjectReferenceIdeal.τ).loc Cert.ProjectReferenceIdeal.main_arg8)
          ∧ r.2.mem ((c.tc : Thread Cert.ProjectReferenceIdeal.nD Cert.ProjectReferenceIdeal.τ).loc Cert.ProjectReferenceIdeal.main_arg9) = m' ((c.tc : Thread Cert.ProjectReferenceIdeal.nD Cert.ProjectReferenceIdeal.τ).loc Cert.ProjectReferenceIdeal.main_arg9)
          ∧ r.2.mem ((c.tc : Thread Cert.ProjectReferenceIdeal.nD Cert.ProjectReferenceIdeal.τ).loc Cert.ProjectReferenceIdeal.main_arg10) = m' ((c.tc : Thread Cert.ProjectReferenceIdeal.nD Cert.ProjectReferenceIdeal.τ).loc Cert.ProjectReferenceIdeal.main_arg10)
          ∧ r.2.mem ((c.tc : Thread Cert.ProjectReferenceIdeal.nD Cert.ProjectReferenceIdeal.τ).loc Cert.ProjectReferenceIdeal.main_arg11) = m' ((c.tc : Thread Cert.ProjectReferenceIdeal.nD Cert.ProjectReferenceIdeal.τ).loc Cert.ProjectReferenceIdeal.main_arg11))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hFirst : Cert.First.Facts) (hFirstIdeal : Cert.FirstIdeal.Facts) (hFirstReferenceIdeal : Cert.FirstReferenceIdeal.Facts) (hLater : Cert.Later.Facts) (hLaterIdeal : Cert.LaterIdeal.Facts) (hBoth : Cert.Both.Facts) (hBothIdeal : Cert.BothIdeal.Facts) (hBothReferenceIdeal : Cert.BothReferenceIdeal.Facts) (hProject : Cert.Project.Facts) (hProjectIdeal : Cert.ProjectIdeal.Facts) (hProjectReferenceIdeal : Cert.ProjectReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mix (hMix := hMix)
    ∧ quiescent_MixIdeal (hMixIdeal := hMixIdeal)
    ∧ quiescent_MixReferenceIdeal (hMixReferenceIdeal := hMixReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Later (hLater := hLater)
    ∧ quiescent_LaterIdeal (hLaterIdeal := hLaterIdeal)
    ∧ quiescent_Both (hBoth := hBoth)
    ∧ quiescent_BothIdeal (hBothIdeal := hBothIdeal)
    ∧ quiescent_BothReferenceIdeal (hBothReferenceIdeal := hBothReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mix_MixIdeal
    ∧ algebraic_MixIdeal_MixReferenceIdeal (hMixIdeal := hMixIdeal) (hMixReferenceIdeal := hMixReferenceIdeal)
    ∧ preserves_First_FirstIdeal
    ∧ algebraic_FirstIdeal_FirstReferenceIdeal (hFirstIdeal := hFirstIdeal) (hFirstReferenceIdeal := hFirstReferenceIdeal)
    ∧ preserves_Later_LaterIdeal
    ∧ algebraic_LaterIdeal_FirstReferenceIdeal (hLaterIdeal := hLaterIdeal) (hFirstReferenceIdeal := hFirstReferenceIdeal)
    ∧ preserves_Both_BothIdeal
    ∧ algebraic_BothIdeal_BothReferenceIdeal (hBothIdeal := hBothIdeal) (hBothReferenceIdeal := hBothReferenceIdeal)
    ∧ preserves_Project_ProjectIdeal
    ∧ algebraic_ProjectIdeal_ProjectReferenceIdeal (hProjectIdeal := hProjectIdeal) (hProjectReferenceIdeal := hProjectReferenceIdeal)
-- ==== Pre_finite.lean ====
abbrev S8x256x4x96 : Shape := ⟨4, ![8, 256, 4, 96]⟩
abbrev S8x4096x4x96 : Shape := ⟨4, ![8, 4096, 4, 96]⟩
abbrev S8x256x4x64 : Shape := ⟨4, ![8, 256, 4, 64]⟩
abbrev S8x4096x4x64 : Shape := ⟨4, ![8, 4096, 4, 64]⟩
abbrev S_ : Shape := ⟨0, ![]⟩

class Facts : Prop where
  bcast_S_S8x4096x4x96 : S_.BroadcastsInDim S8x4096x4x96 (![] : Fin 0 → Fin S8x4096x4x96.rank)
  bcast_S_S8x256x4x96 : S_.BroadcastsInDim S8x256x4x96 (![] : Fin 0 → Fin S8x256x4x96.rank)

variable [Facts]

def fn {F : FTy → Type} [FloatOps F] (main_arg0 : FVec F S8x256x4x96 .f32) (main_arg1 : FVec F S8x4096x4x96 .f32) (main_arg2 : FVec F S8x256x4x96 .f32) (main_arg3 : FVec F S8x4096x4x96 .f32) (main_arg4 : FVec F S8x256x4x64 .f32) (main_arg5 : FVec F S8x4096x4x64 .f32) : IVec S8x4096x4x96 1 × IVec S8x256x4x96 1 × IVec S8x4096x4x96 1 :=
  let main_v0 : FVec F S8x4096x4x96 .f32 := Host.absf main_arg1
  let main_cst : FVec F S_ .f32 := constant S_ .f32 0x7F800000#32
  let main_v1 : FVec F S8x4096x4x96 .f32 := broadcastInDim S8x4096x4x96 ![] bcast_S_S8x4096x4x96 main_cst
  let main_v2 : IVec S8x4096x4x96 1 := cmpf .olt main_v0 main_v1
  let main_v3 : FVec F S8x256x4x96 .f32 := Host.absf main_arg2
  let main_cst_0 : FVec F S_ .f32 := constant S_ .f32 0x7F800000#32
  let main_v4 : FVec F S8x256x4x96 .f32 := broadcastInDim S8x256x4x96 ![] bcast_S_S8x256x4x96 main_cst_0
  let main_v5 : IVec S8x256x4x96 1 := cmpf .olt main_v3 main_v4
  let main_v6 : FVec F S8x4096x4x96 .f32 := Host.absf main_arg3
  let main_cst_1 : FVec F S_ .f32 := constant S_ .f32 0x7F800000#32
  let main_v7 : FVec F S8x4096x4x96 .f32 := broadcastInDim S8x4096x4x96 ![] bcast_S_S8x4096x4x96 main_cst_1
  let main_v8 : IVec S8x4096x4x96 1 := cmpf .olt main_v6 main_v7
  (main_v2, main_v5, main_v8)
-- ==== Kernel.lean ====
abbrev S8x256x4x96 : Shape := ⟨4, ![8, 256, 4, 96]⟩
abbrev S8x4096x4x96 : Shape := ⟨4, ![8, 4096, 4, 96]⟩
abbrev S8x256x4x64 : Shape := ⟨4, ![8, 256, 4, 64]⟩
abbrev S8x4096x4x64 : Shape := ⟨4, ![8, 4096, 4, 64]⟩
abbrev S_ : Shape := ⟨0, ![]⟩
abbrev S8x4352x4x96 : Shape := ⟨4, ![8, 4352, 4, 96]⟩
abbrev S8x4352x4x32 : Shape := ⟨4, ![8, 4352, 4, 32]⟩
abbrev S8x4352x4x128 : Shape := ⟨4, ![8, 4352, 4, 128]⟩
abbrev S8x4352x512 : Shape := ⟨3, ![8, 4352, 512]⟩
abbrev S8x4352x4x64 : Shape := ⟨4, ![8, 4352, 4, 64]⟩
abbrev S8x4352x2x2x64 : Shape := ⟨5, ![8, 4352, 2, 2, 64]⟩
abbrev S8x4352x2x1x1 : Shape := ⟨5, ![8, 4352, 2, 1, 1]⟩
abbrev S8x4352x2x1x63 : Shape := ⟨5, ![8, 4352, 2, 1, 63]⟩
abbrev S8x4352x2x1x64 : Shape := ⟨5, ![8, 4352, 2, 1, 64]⟩
abbrev S8x4352x2x1x128 : Shape := ⟨5, ![8, 4352, 2, 1, 128]⟩
abbrev S8x4352x2x2x128 : Shape := ⟨5, ![8, 4352, 2, 2, 128]⟩
abbrev S8x4096x256 : Shape := ⟨3, ![8, 4096, 256]⟩
abbrev S1x256x512 : Shape := ⟨3, ![1, 256, 512]⟩
abbrev S1x4352x512 : Shape := ⟨3, ![1, 4352, 512]⟩
abbrev S1x512x256 : Shape := ⟨3, ![1, 512, 256]⟩
abbrev S1x128 : Shape := ⟨2, ![1, 128]⟩
abbrev S1x256x128 : Shape := ⟨3, ![1, 256, 128]⟩
abbrev S256x128 : Shape := ⟨2, ![256, 128]⟩
abbrev S1x4352x128 : Shape := ⟨3, ![1, 4352, 128]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩

abbrev nBuf : Space → Nat
  | .hbm => 44
  | .vmem => 10
  | .smem => 0
  | _ => 0

abbrev bufTy : (tb : Table) → Fin (tcTables nBuf tb) → BufTy
  | .hbm, ⟨0, _⟩ => ⟨S8x256x4x96, .f32⟩
  | .hbm, ⟨1, _⟩ => ⟨S8x4096x4x96, .f32⟩
  | .hbm, ⟨2, _⟩ => ⟨S8x256x4x96, .f32⟩
  | .hbm, ⟨3, _⟩ => ⟨S8x4096x4x96, .f32⟩
  | .hbm, ⟨4, _⟩ => ⟨S8x256x4x64, .f32⟩
  | .hbm, ⟨5, _⟩ => ⟨S8x4096x4x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x4352x4x96, .f32⟩
  | .hbm, ⟨16, _⟩ => ⟨S_, .f32⟩
  | .hbm, ⟨17, _⟩ => ⟨S8x4352x4x32, .f32⟩
  | .hbm, ⟨18, _⟩ => ⟨S8x4352x4x128, .f32⟩
  | .hbm, ⟨19, _⟩ => ⟨S8x4352x4x128, .f32⟩
  | .hbm, ⟨20, _⟩ => ⟨S8x4352x4x128, .f32⟩
  | .hbm, ⟨21, _⟩ => ⟨S8x4352x4x128, .bf16⟩
  | .hbm, ⟨22, _⟩ => ⟨S8x4352x512, .bf16⟩
  | .hbm, ⟨23, _⟩ => ⟨S8x4352x4x96, .f32⟩
  | .hbm, ⟨24, _⟩ => ⟨S_, .f32⟩
  | .hbm, ⟨25, _⟩ => ⟨S8x4352x4x32, .f32⟩
  | .hbm, ⟨26, _⟩ => ⟨S8x4352x4x128, .f32⟩
  | .hbm, ⟨27, _⟩ => ⟨S8x4352x4x128, .bf16⟩
  | .hbm, ⟨28, _⟩ => ⟨S8x4352x512, .bf16⟩
  | .hbm, ⟨29, _⟩ => ⟨S8x4352x4x64, .f32⟩
  | .hbm, ⟨30, _⟩ => ⟨S8x4352x2x2x64, .f32⟩
  | .hbm, ⟨31, _⟩ => ⟨S_, .f32⟩
  | .hbm, ⟨32, _⟩ => ⟨S8x4352x2x1x1, .f32⟩
  | .hbm, ⟨33, _⟩ => ⟨S_, .f32⟩
  | .hbm, ⟨34, _⟩ => ⟨S8x4352x2x1x63, .f32⟩
  | .hbm, ⟨35, _⟩ => ⟨S8x4352x2x1x64, .f32⟩
  | .hbm, ⟨36, _⟩ => ⟨S8x4352x2x1x64, .f32⟩
  | .hbm, ⟨37, _⟩ => ⟨S8x4352x2x1x128, .f32⟩
  | .hbm, ⟨38, _⟩ => ⟨S8x4352x2x1x64, .f32⟩
  | .hbm, ⟨39, _⟩ => ⟨S8x4352x2x1x128, .f32⟩
  | .hbm, ⟨40, _⟩ => ⟨S8x4352x2x2x128, .f32⟩
  | .hbm, ⟨41, _⟩ => ⟨S8x4352x2x2x128, .bf16⟩
  | .hbm, ⟨42, _⟩ => ⟨S8x4352x512, .bf16⟩
  | .hbm, ⟨43, _⟩ => ⟨S8x4096x256, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x4352x512, .bf16⟩
  | .local _ .vmem, ⟨7, _⟩ => ⟨S1x4352x512, .bf16⟩
  | .local _ .vmem, ⟨8, _⟩ => ⟨S1x512x256, .bf16⟩
  | .local _ .vmem, ⟨9, _⟩ => ⟨S1x512x256, .bf16⟩
  | _, _ => ⟨S8x256x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c0_i32 : BitVec 32 := 0#32
  let c0_i32_1 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x256x4x96 : Shape := ⟨4, ![8, 256, 4, 96]⟩
abbrev S8x4096x4x96 : Shape := ⟨4, ![8, 4096, 4, 96]⟩
abbrev S8x256x4x64 : Shape := ⟨4, ![8, 256, 4, 64]⟩
abbrev S8x4096x4x64 : Shape := ⟨4, ![8, 4096, 4, 64]⟩
abbrev S_ : Shape := ⟨0, ![]⟩
abbrev S8x4352x4x96 : Shape := ⟨4, ![8, 4352, 4, 96]⟩
abbrev S8x4352x4x64 : Shape := ⟨4, ![8, 4352, 4, 64]⟩
abbrev S8x4x4096x4352 : Shape := ⟨4, ![8, 4, 4096, 4352]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S8x4096x256 : Shape := ⟨3, ![8, 4096, 256]⟩

abbrev nBuf : Space → Nat
  | .hbm => 33
  | .vmem => 0
  | .smem => 0
  | _ => 0

abbrev bufTy : (tb : Table) → Fin (tcTables nBuf tb) → BufTy
  | .hbm, ⟨0, _⟩ => ⟨S8x256x4x96, .f32⟩
  | .hbm, ⟨1, _⟩ => ⟨S8x4096x4x96, .f32⟩
  | .hbm, ⟨2, _⟩ => ⟨S8x256x4x96, .f32⟩
  | .hbm, ⟨3, _⟩ => ⟨S8x4096x4x96, .f32⟩
  | .hbm, ⟨4, _⟩ => ⟨S8x256x4x64, .f32⟩
  | .hbm, ⟨5, _⟩ => ⟨S8x4096x4x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4352x4x96, .f32⟩
  | .hbm, ⟨11, _⟩ => ⟨S8x4352x4x64, .f32⟩
  | .hbm, ⟨12, _⟩ => ⟨S8x4096x4x96, .f32⟩
  | .hbm, ⟨13, _⟩ => ⟨S8x4096x4x96, .f32⟩
  | .hbm, ⟨14, _⟩ => ⟨S8x4x4096x4352, .f32⟩
  | .hbm, ⟨15, _⟩ => ⟨S_, .f32⟩
  | .hbm, ⟨16, _⟩ => ⟨S8x4x4096, .f32⟩
  | .hbm, ⟨17, _⟩ => ⟨S_, .f32⟩
  | .hbm, ⟨18, _⟩ => ⟨S8x4x4096, .f32⟩
  | .hbm, ⟨19, _⟩ => ⟨S8x4x4096, .f32⟩
  | .hbm, ⟨20, _⟩ => ⟨S8x4x4096x1, .f32⟩
  | .hbm, ⟨21, _⟩ => ⟨S8x4x4096x4352, .f32⟩
  | .hbm, ⟨22, _⟩ => ⟨S8x4x4096x4352, .f32⟩
  | .hbm, ⟨23, _⟩ => ⟨S8x4x4096x4352, .f32⟩
  | .hbm, ⟨24, _⟩ => ⟨S_, .f32⟩
  | .hbm, ⟨25, _⟩ => ⟨S8x4x4096, .f32⟩
  | .hbm, ⟨26, _⟩ => ⟨S8x4x4096x1, .f32⟩
  | .hbm, ⟨27, _⟩ => ⟨S8x4x4096x4352, .f32⟩
  | .hbm, ⟨28, _⟩ => ⟨S8x4x4096x4352, .f32⟩
  | .hbm, ⟨29, _⟩ => ⟨S8x4x64x4096, .f32⟩
  | .hbm, ⟨30, _⟩ => ⟨S8x4096x4x64, .f32⟩
  | .hbm, ⟨31, _⟩ => ⟨S8x4096x256, .f32⟩
  | .hbm, ⟨32, _⟩ => ⟨S8x4096x256, .bf16⟩
  | _, _ => ⟨S8x256x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Mix.lean ====
abbrev S8x256x1024 : Shape := ⟨3, ![8, 256, 1024]⟩
abbrev S8x4096x1024 : Shape := ⟨3, ![8, 4096, 1024]⟩
abbrev S8x256x256 : Shape := ⟨3, ![8, 256, 256]⟩
abbrev S8x4096x256 : Shape := ⟨3, ![8, 4096, 256]⟩
abbrev S1x3x1024 : Shape := ⟨3, ![1, 3, 1024]⟩
abbrev S8x3x1024 : Shape := ⟨3, ![8, 3, 1024]⟩
abbrev S64 : Shape := ⟨1, ![64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4x64x4x64 : Shape := ⟨4, ![4, 64, 4, 64]⟩
abbrev S256x256 : Shape := ⟨2, ![256, 256]⟩
abbrev S256x1024 : Shape := ⟨2, ![256, 1024]⟩
abbrev S2x2x64x1024 : Shape := ⟨4, ![2, 2, 64, 1024]⟩
abbrev S768x1024 : Shape := ⟨2, ![768, 1024]⟩
abbrev S8x4352x256 : Shape := ⟨3, ![8, 4352, 256]⟩
abbrev S8x4352x2x2x64 : Shape := ⟨5, ![8, 4352, 2, 2, 64]⟩
abbrev S16x3x1024 : Shape := ⟨3, ![16, 3, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8x4352x1024 : Shape := ⟨3, ![8, 4352, 1024]⟩
abbrev S1x1024 : Shape := ⟨2, ![1, 1024]⟩
abbrev S2x256x1024 : Shape := ⟨3, ![2, 256, 1024]⟩
abbrev S2x256x256 : Shape := ⟨3, ![2, 256, 256]⟩
abbrev S2x3x1024 : Shape := ⟨3, ![2, 3, 1024]⟩
abbrev S1x256x1024 : Shape := ⟨3, ![1, 256, 1024]⟩
abbrev S1x256x256 : Shape := ⟨3, ![1, 256, 256]⟩
abbrev S3x1024 : Shape := ⟨2, ![3, 1024]⟩
abbrev S256x1 : Shape := ⟨2, ![256, 1]⟩
abbrev S512x1024 : Shape := ⟨2, ![512, 1024]⟩
abbrev S512x2816 : Shape := ⟨2, ![512, 2816]⟩

abbrev nBuf : Space → Nat
  | .hbm => 61
  | .vmem => 28
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S8x256x256, .f32⟩
  | .hbm, ⟨3, _⟩ => ⟨S8x4096x256, .f32⟩
  | .hbm, ⟨4, _⟩ => ⟨S8x256x256, .f32⟩
  | .hbm, ⟨5, _⟩ => ⟨S8x4096x256, .f32⟩
  | .hbm, ⟨6, _⟩ => ⟨S8x256x256, .f32⟩
  | .hbm, ⟨7, _⟩ => ⟨S8x4096x256, .f32⟩
  | .hbm, ⟨8, _⟩ => ⟨S8x256x256, .f32⟩
  | .hbm, ⟨9, _⟩ => ⟨S8x4096x256, .f32⟩
  | .hbm, ⟨10, _⟩ => ⟨S8x4096x256, .f32⟩
  | .hbm, ⟨11, _⟩ => ⟨S8x256x256, .f32⟩
  | .hbm, ⟨12, _⟩ => ⟨S8x4096x256, .f32⟩
  | .hbm, ⟨13, _⟩ => ⟨S1x3x1024, .f32⟩
  | .hbm, ⟨14, _⟩ => ⟨S8x3x1024, .f32⟩
  | .hbm, ⟨15, _⟩ => ⟨S8x3x1024, .f32⟩
  | .hbm, ⟨16, _⟩ => ⟨S64, .f32⟩
  | .hbm, ⟨17, _⟩ => ⟨S1024x1024, .f32⟩
  | .hbm, ⟨18, _⟩ => ⟨S1024, .f32⟩
  | .hbm, ⟨19, _⟩ => ⟨S1024x2816, .f32⟩
  | .hbm, ⟨20, _⟩ => ⟨S1024x2816, .f32⟩
  | .hbm, ⟨21, _⟩ => ⟨S2816x1024, .f32⟩
  | .hbm, ⟨22, _⟩ => ⟨S1024, .f32⟩
  | .hbm, ⟨23, _⟩ => ⟨S4x64x4x64, .i32⟩
  | .hbm, ⟨24, _⟩ => ⟨S4x64x4x64, .i32⟩
  | .hbm, ⟨25, _⟩ => ⟨S4x64x4x64, .i1⟩
  | .hbm, ⟨26, _⟩ => ⟨S4x64x4x64, .bf16⟩
  | .hbm, ⟨27, _⟩ => ⟨S256x256, .bf16⟩
  | .hbm, ⟨28, _⟩ => ⟨S256x1024, .f32⟩
  | .hbm, ⟨29, _⟩ => ⟨S2x2x64x1024, .f32⟩
  | .hbm, ⟨30, _⟩ => ⟨S2x2x64x1024, .f32⟩
  | .hbm, ⟨31, _⟩ => ⟨S256x1024, .f32⟩
  | .hbm, ⟨32, _⟩ => ⟨S768x1024, .f32⟩
  | .hbm, ⟨33, _⟩ => ⟨S1024x1024, .f32⟩
  | .hbm, ⟨34, _⟩ => ⟨S1024x1024, .bf16⟩
  | .hbm, ⟨35, _⟩ => ⟨S8x4352x256, .f32⟩
  | .hbm, ⟨36, _⟩ => ⟨S8x4352x2x2x64, .f32⟩
  | .hbm, ⟨37, _⟩ => ⟨S8x4352x2x2x64, .f32⟩
  | .hbm, ⟨38, _⟩ => ⟨S8x4352x256, .f32⟩
  | .hbm, ⟨39, _⟩ => ⟨S8x4352x256, .bf16⟩
  | .hbm, ⟨40, _⟩ => ⟨S8x4352x256, .f32⟩
  | .hbm, ⟨41, _⟩ => ⟨S8x4352x256, .f32⟩
  | .hbm, ⟨42, _⟩ => ⟨S8x4352x256, .f32⟩
  | .hbm, ⟨43, _⟩ => ⟨S8x4096x256, .bf16⟩
  | .hbm, ⟨44, _⟩ => ⟨S8x4352x256, .f32⟩
  | .hbm, ⟨45, _⟩ => ⟨S8x4352x256, .bf16⟩
  | .hbm, ⟨46, _⟩ => ⟨S8x3x1024, .f32⟩
  | .hbm, ⟨47, _⟩ => ⟨S16x3x1024, .f32⟩
  | .hbm, ⟨48, _⟩ => ⟨S1x64, .f32⟩
  | .hbm, ⟨49, _⟩ => ⟨S4x64, .f32⟩
  | .hbm, ⟨50, _⟩ => ⟨S256, .f32⟩
  | .hbm, ⟨51, _⟩ => ⟨S1x256, .f32⟩
  | .hbm, ⟨52, _⟩ => ⟨S8x4352x1024, .f32⟩
  | .hbm, ⟨53, _⟩ => ⟨S8x3x1024, .f32⟩
  | .hbm, ⟨54, _⟩ => ⟨S16x3x1024, .f32⟩
  | .hbm, ⟨55, _⟩ => ⟨S1x1024, .f32⟩
  | .hbm, ⟨56, _⟩ => ⟨S1024x2816, .bf16⟩
  | .hbm, ⟨57, _⟩ => ⟨S1024x2816, .bf16⟩
  | .hbm, ⟨58, _⟩ => ⟨S2816x1024, .bf16⟩
  | .hbm, ⟨59, _⟩ => ⟨S1x1024, .f32⟩
  | .hbm, ⟨60, _⟩ => ⟨S8x4096x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x256, .bf16⟩
  | .local _ .vmem, ⟨3, _⟩ => ⟨S2x256x256, .bf16⟩
  | .local _ .vmem, ⟨4, _⟩ => ⟨S2x256x256, .f32⟩
  | .local _ .vmem, ⟨5, _⟩ => ⟨S2x256x256, .f32⟩
  | .local _ .vmem, ⟨6, _⟩ => ⟨S2x256x256, .f32⟩
  | .local _ .vmem, ⟨7, _⟩ => ⟨S2x256x256, .f32⟩
  | .local _ .vmem, ⟨8, _⟩ => ⟨S2x256x256, .f32⟩
  | .local _ .vmem, ⟨9, _⟩ => ⟨S2x256x256, .f32⟩
  | .local _ .vmem, ⟨10, _⟩ => ⟨S2x256x256, .bf16⟩
  | .local _ .vmem, ⟨11, _⟩ => ⟨S2x256x256, .bf16⟩
  | .local _ .vmem, ⟨12, _⟩ => ⟨S2x256x256, .bf16⟩
  | .local _ .vmem, ⟨13, _⟩ => ⟨S2x256x256, .bf16⟩
  | .local _ .vmem, ⟨14, _⟩ => ⟨S2x3x1024, .f32⟩
  | .local _ .vmem, ⟨15, _⟩ => ⟨S2x3x1024, .f32⟩
  | .local _ .vmem, ⟨16, _⟩ => ⟨S1x256, .f32⟩
  | .local _ .vmem, ⟨17, _⟩ => ⟨S256x256, .bf16⟩
  | .local _ .vmem, ⟨18, _⟩ => ⟨S1024x1024, .bf16⟩
  | .local _ .vmem, ⟨19, _⟩ => ⟨S2x3x1024, .f32⟩
  | .local _ .vmem, ⟨20, _⟩ => ⟨S2x3x1024, .f32⟩
  | .local _ .vmem, ⟨21, _⟩ => ⟨S1x1024, .f32⟩
  | .local _ .vmem, ⟨22, _⟩ => ⟨S1024x2816, .bf16⟩
  | .local _ .vmem, ⟨23, _⟩ => ⟨S1024x2816, .bf16⟩
  | .local _ .vmem, ⟨24, _⟩ => ⟨S2816x1024, .bf16⟩
  | .local _ .vmem, ⟨25, _⟩ => ⟨S1x1024, .f32⟩
  | .local _ .vmem, ⟨26, _⟩ => ⟨S2x256x1024, .f32⟩
  | .local _ .vmem, ⟨27, _⟩ => ⟨S2x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let v1 : BitVec 1 := Scalar.cmpi .eq v0 c0_i32
  let c4_i32 : BitVec 32 := 4#32
  let v2 : BitVec 32 := Scalar.select v1 c4_i32 arg0
  let c0_i32_0 : BitVec 32 := 0#32
  let c0_i32_1 : BitVec 32 := 0#32
  let c0_i32_2 : BitVec 32 := 0#32
  ![v2.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let v1 : BitVec 1 := Scalar.cmpi .eq v0 c0_i32
  let c4_i32 : BitVec 32 := 4#32
  let v2 : BitVec 32 := Scalar.select v1 c4_i32 arg0
  let c0_i32_0 : BitVec 32 := 0#32
  let c0_i32_1 : BitVec 32 := 0#32
  let c0_i32_2 : BitVec 32 := 0#32
  ![v2.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x3x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S2x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MixReferenceIdeal.lean ====
abbrev S8x256x1024 : Shape := ⟨3, ![8, 256, 1024]⟩
abbrev S8x4096x1024 : Shape := ⟨3, ![8, 4096, 1024]⟩
abbrev S8x256x256 : Shape := ⟨3, ![8, 256, 256]⟩
abbrev S8x4096x256 : Shape := ⟨3, ![8, 4096, 256]⟩
abbrev S1x3x1024 : Shape := ⟨3, ![1, 3, 1024]⟩
abbrev S8x3x1024 : Shape := ⟨3, ![8, 3, 1024]⟩
abbrev S64 : Shape := ⟨1, ![64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x4096x4x64 : Shape := ⟨4, ![8, 4096, 4, 64]⟩
abbrev S_ : Shape := ⟨0, ![]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 120
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S8x256x256, .f32⟩
  | .hbm, ⟨3, _⟩ => ⟨S8x4096x256, .f32⟩
  | .hbm, ⟨4, _⟩ => ⟨S8x256x256, .f32⟩
  | .hbm, ⟨5, _⟩ => ⟨S8x4096x256, .f32⟩
  | .hbm, ⟨6, _⟩ => ⟨S8x256x256, .f32⟩
  | .hbm, ⟨7, _⟩ => ⟨S8x4096x256, .f32⟩
  | .hbm, ⟨8, _⟩ => ⟨S8x256x256, .f32⟩
  | .hbm, ⟨9, _⟩ => ⟨S8x4096x256, .f32⟩
  | .hbm, ⟨10, _⟩ => ⟨S8x4096x256, .f32⟩
  | .hbm, ⟨11, _⟩ => ⟨S8x256x256, .f32⟩
  | .hbm, ⟨12, _⟩ => ⟨S8x4096x256, .f32⟩
  | .hbm, ⟨13, _⟩ => ⟨S1x3x1024, .f32⟩
  | .hbm, ⟨14, _⟩ => ⟨S8x3x1024, .f32⟩
  | .hbm, ⟨15, _⟩ => ⟨S8x3x1024, .f32⟩
  | .hbm, ⟨16, _⟩ => ⟨S64, .f32⟩
  | .hbm, ⟨17, _⟩ => ⟨S1024x1024, .f32⟩
  | .hbm, ⟨18, _⟩ => ⟨S1024, .f32⟩
  | .hbm, ⟨19, _⟩ => ⟨S1024x2816, .f32⟩
  | .hbm, ⟨20, _⟩ => ⟨S1024x2816, .f32⟩
  | .hbm, ⟨21, _⟩ => ⟨S2816x1024, .f32⟩
  | .hbm, ⟨22, _⟩ => ⟨S1024, .f32⟩
  | .hbm, ⟨23, _⟩ => ⟨S8x4096x256, .f32⟩
  | .hbm, ⟨24, _⟩ => ⟨S8x4096x4x64, .f32⟩
  | .hbm, ⟨25, _⟩ => ⟨S8x4096x4x64, .f32⟩
  | .hbm, ⟨26, _⟩ => ⟨S_, .f32⟩
  | .hbm, ⟨27, _⟩ => ⟨S8x4096x4, .f32⟩
  | .hbm, ⟨28, _⟩ => ⟨S8x4096x4x1, .f32⟩
  | .hbm, ⟨29, _⟩ => ⟨S_, .f32⟩
  | .hbm, ⟨30, _⟩ => ⟨S8x4096x4x1, .f32⟩
  | .hbm, ⟨31, _⟩ => ⟨S8x4096x4x1, .f32⟩
  | .hbm, ⟨32, _⟩ => ⟨S_, .f32⟩
  | .hbm, ⟨33, _⟩ => ⟨S8x4096x4x1, .f32⟩
  | .hbm, ⟨34, _⟩ => ⟨S8x4096x4x1, .f32⟩
  | .hbm, ⟨35, _⟩ => ⟨S8x4096x4x1, .f32⟩
  | .hbm, ⟨36, _⟩ => ⟨S8x4096x4x64, .f32⟩
  | .hbm, ⟨37, _⟩ => ⟨S8x4096x4x64, .f32⟩
  | .hbm, ⟨38, _⟩ => ⟨S1x1x1x64, .f32⟩
  | .hbm, ⟨39, _⟩ => ⟨S8x4096x4x64, .f32⟩
  | .hbm, ⟨40, _⟩ => ⟨S8x4096x4x64, .f32⟩
  | .hbm, ⟨41, _⟩ => ⟨S8x4096x4x64, .f32⟩
  | .hbm, ⟨42, _⟩ => ⟨S8x4096x4x64, .f32⟩
  | .hbm, ⟨43, _⟩ => ⟨S8x4096x4x64, .f32⟩
  | .hbm, ⟨44, _⟩ => ⟨S_, .f32⟩
  | .hbm, ⟨45, _⟩ => ⟨S8x4096x4x64, .f32⟩
  | .hbm, ⟨46, _⟩ => ⟨S8x4096x4x64, .f32⟩
  | .hbm, ⟨47, _⟩ => ⟨S_, .f32⟩
  | .hbm, ⟨48, _⟩ => ⟨S8x4096x4x64, .f32⟩
  | .hbm, ⟨49, _⟩ => ⟨S8x4096x4x64, .f32⟩
  | .hbm, ⟨50, _⟩ => ⟨S8x4096x4x64, .f32⟩
  | .hbm, ⟨51, _⟩ => ⟨S8x4096x4x64, .f32⟩
  | .hbm, ⟨52, _⟩ => ⟨S8x4096x256, .f32⟩
  | .hbm, ⟨53, _⟩ => ⟨S8x1x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x1x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x1x1024, .f32⟩
  | .hbm, ⟨64, _⟩ => ⟨S8x1x1024, .f32⟩
  | .hbm, ⟨65, _⟩ => ⟨S8x4096x1024, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S8x4096x1, .f32⟩
  | .hbm, ⟨76, _⟩ => ⟨S8x4096x1024, .f32⟩
  | .hbm, ⟨77, _⟩ => ⟨S8x4096x1024, .f32⟩
  | .hbm, ⟨78, _⟩ => ⟨S1x1x1024, .f32⟩
  | .hbm, ⟨79, _⟩ => ⟨S8x4096x1024, .f32⟩
  | .hbm, ⟨80, _⟩ => ⟨S8x4096x1024, .f32⟩
  | .hbm, ⟨81, _⟩ => ⟨S_, .f32⟩
  | .hbm, ⟨82, _⟩ => ⟨S8x1x1024, .f32⟩
  | .hbm, ⟨83, _⟩ => ⟨S8x1x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S8x4096x2816, .f32⟩
  | .hbm, ⟨89, _⟩ => ⟨S8x4096x2816, .f32⟩
  | .hbm, ⟨90, _⟩ => ⟨S8x4096x2816, .f32⟩
  | .hbm, ⟨91, _⟩ => ⟨S_, .f32⟩
  | .hbm, ⟨92, _⟩ => ⟨S8x4096x2816, .f32⟩
  | .hbm, ⟨93, _⟩ => ⟨S8x4096x2816, .f32⟩
  | .hbm, ⟨94, _⟩ => ⟨S_, .f32⟩
  | .hbm, ⟨95, _⟩ => ⟨S8x4096x2816, .f32⟩
  | .hbm, ⟨96, _⟩ => ⟨S8x4096x2816, .f32⟩
  | .hbm, ⟨97, _⟩ => ⟨S8x4096x2816, .f32⟩
  | .hbm, ⟨98, _⟩ => ⟨S8x4096x2816, .f32⟩
  | .hbm, ⟨99, _⟩ => ⟨S8x4096x2816, .f32⟩
  | .hbm, ⟨100, _⟩ => ⟨S8x4096x1024, .f32⟩
  | .hbm, ⟨101, _⟩ => ⟨S8x4096x1024, .f32⟩
  | .hbm, ⟨102, _⟩ => ⟨S8x4096x1024, .f32⟩
  | .hbm, ⟨103, _⟩ => ⟨S8x4096x1024, .f32⟩
  | .hbm, ⟨104, _⟩ => ⟨S8x4096x1024, .f32⟩
  | .hbm, ⟨105, _⟩ => ⟨S_, .f32⟩
  | .hbm, ⟨106, _⟩ => ⟨S8x4096, .f32⟩
  | .hbm, ⟨107, _⟩ => ⟨S8x4096x1, .f32⟩
  | .hbm, ⟨108, _⟩ => ⟨S_, .f32⟩
  | .hbm, ⟨109, _⟩ => ⟨S8x4096x1, .f32⟩
  | .hbm, ⟨110, _⟩ => ⟨S8x4096x1, .f32⟩
  | .hbm, ⟨111, _⟩ => ⟨S_, .f32⟩
  | .hbm, ⟨112, _⟩ => ⟨S8x4096x1, .f32⟩
  | .hbm, ⟨113, _⟩ => ⟨S8x4096x1, .f32⟩
  | .hbm, ⟨114, _⟩ => ⟨S8x4096x1, .f32⟩
  | .hbm, ⟨115, _⟩ => ⟨S8x4096x1024, .f32⟩
  | .hbm, ⟨116, _⟩ => ⟨S8x4096x1024, .f32⟩
  | .hbm, ⟨117, _⟩ => ⟨S1x1x1024, .f32⟩
  | .hbm, ⟨118, _⟩ => ⟨S8x4096x1024, .f32⟩
  | .hbm, ⟨119, _⟩ => ⟨S8x4096x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_cst_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_2 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_3 : Ref sig .tc := ⟨.hbm, 66, rfl⟩
abbrev main_v31 : Ref sig .tc := ⟨.hbm, 67, rfl⟩
abbrev main_v32 : Ref sig .tc := ⟨.hbm, 68, rfl⟩
abbrev main_cst_4 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_6 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_7 : Ref sig .tc := ⟨.hbm, 105, rfl⟩
abbrev main_v58 : Ref sig .tc := ⟨.hbm, 106, rfl⟩
abbrev main_v59 : Ref sig .tc := ⟨.hbm, 107, rfl⟩
abbrev main_cst_8 : Ref sig .tc := ⟨.hbm, 108, rfl⟩
abbrev main_v60 : Ref sig .tc := ⟨.hbm, 109, rfl⟩
abbrev main_v61 : Ref sig .tc := ⟨.hbm, 110, rfl⟩
abbrev main_cst_9 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩

abbrev nD : Nat := 1
abbrev τ : Topo := Topo.v7x

variable {F : FTy → Type} [FloatOps F]
-- ==== First.lean ====
abbrev S8x256x1024 : Shape := ⟨3, ![8, 256, 1024]⟩
abbrev S8x4096x1024 : Shape := ⟨3, ![8, 4096, 1024]⟩
abbrev S1x3x1024 : Shape := ⟨3, ![1, 3, 1024]⟩
abbrev S8x3x1024 : Shape := ⟨3, ![8, 3, 1024]⟩
abbrev S1024 : Shape := ⟨1, ![1024]⟩
abbrev S1024x2816 : Shape := ⟨2, ![1024, 2816]⟩
abbrev S2816x1024 : Shape := ⟨2, ![2816, 1024]⟩
abbrev S16x3x1024 : Shape := ⟨3, ![16, 3, 1024]⟩
abbrev S1x1024 : Shape := ⟨2, ![1, 1024]⟩
abbrev S8x4352x1024 : Shape := ⟨3, ![8, 4352, 1024]⟩
abbrev S2x256x1024 : Shape := ⟨3, ![2, 256, 1024]⟩
abbrev S2x3x1024 : Shape := ⟨3, ![2, 3, 1024]⟩
abbrev S1x256x1024 : Shape := ⟨3, ![1, 256, 1024]⟩
abbrev S256x1024 : Shape := ⟨2, ![256, 1024]⟩
abbrev S3x1024 : Shape := ⟨2, ![3, 1024]⟩
abbrev S256 : Shape := ⟨1, ![256]⟩
abbrev S256x1 : Shape := ⟨2, ![256, 1]⟩
abbrev S512x1024 : Shape := ⟨2, ![512, 1024]⟩
abbrev S512x2816 : Shape := ⟨2, ![512, 2816]⟩

abbrev nBuf : Space → Nat
  | .hbm => 15
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S1x3x1024, .f32⟩
  | .hbm, ⟨3, _⟩ => ⟨S8x3x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8x3x1024, .f32⟩
  | .hbm, ⟨9, _⟩ => ⟨S16x3x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S8x4352x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x3x1024, .f32⟩
  | .local _ .vmem, ⟨5, _⟩ => ⟨S2x3x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S2x256x1024, .f32⟩
  | .local _ .vmem, ⟨11, _⟩ => ⟨S2x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c4_i32 : BitVec 32 := 4#32
  let v2 : BitVec 32 := Scalar.select v1 c4_i32 arg0
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FirstReferenceIdeal.lean ====
abbrev S8x256x1024 : Shape := ⟨3, ![8, 256, 1024]⟩
abbrev S8x4096x1024 : Shape := ⟨3, ![8, 4096, 1024]⟩
abbrev S1x3x1024 : Shape := ⟨3, ![1, 3, 1024]⟩
abbrev S8x3x1024 : Shape := ⟨3, ![8, 3, 1024]⟩
abbrev S1024 : Shape := ⟨1, ![1024]⟩
abbrev S1024x2816 : Shape := ⟨2, ![1024, 2816]⟩
abbrev S2816x1024 : Shape := ⟨2, ![2816, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8x256 : Shape := ⟨2, ![8, 256]⟩
abbrev S8x256x1 : Shape := ⟨3, ![8, 256, 1]⟩
abbrev S8x256x2816 : Shape := ⟨3, ![8, 256, 2816]⟩
abbrev S8x4352x1024 : Shape := ⟨3, ![8, 4352, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S1x3x1024, .f32⟩
  | .hbm, ⟨3, _⟩ => ⟨S8x3x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8x1x1024, .f32⟩
  | .hbm, ⟨9, _⟩ => ⟨S_, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S_, .f32⟩
  | .hbm, ⟨41, _⟩ => ⟨S8x4096x2816, .f32⟩
  | .hbm, ⟨42, _⟩ => ⟨S8x4096x2816, .f32⟩
  | .hbm, ⟨43, _⟩ => ⟨S_, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S_, .f32⟩
  | .hbm, ⟨55, _⟩ => ⟨S1x1x1024, .f32⟩
  | .hbm, ⟨56, _⟩ => ⟨S1x1x1024, .f32⟩
  | .hbm, ⟨57, _⟩ => ⟨S1x1x1024, .f32⟩
  | .hbm, ⟨58, _⟩ => ⟨S1x1x1024, .f32⟩
  | .hbm, ⟨59, _⟩ => ⟨S8x256x1024, .f32⟩
  | .hbm, ⟨60, _⟩ => ⟨S_, .f32⟩
  | .hbm, ⟨61, _⟩ => ⟨S8x256, .f32⟩
  | .hbm, ⟨62, _⟩ => ⟨S8x256x1, .f32⟩
  | .hbm, ⟨63, _⟩ => ⟨S_, .f32⟩
  | .hbm, ⟨64, _⟩ => ⟨S8x256x1, .f32⟩
  | .hbm, ⟨65, _⟩ => ⟨S8x256x1, .f32⟩
  | .hbm, ⟨66, _⟩ => ⟨S_, .f32⟩
  | .hbm, ⟨67, _⟩ => ⟨S8x256x1, .f32⟩
  | .hbm, ⟨68, _⟩ => ⟨S8x256x1, .f32⟩
  | .hbm, ⟨69, _⟩ => ⟨S8x256x1, .f32⟩
  | .hbm, ⟨70, _⟩ => ⟨S8x256x1024, .f32⟩
  | .hbm, ⟨71, _⟩ => ⟨S8x256x1024, .f32⟩
  | .hbm, ⟨72, _⟩ => ⟨S1x1x1024, .f32⟩
  | .hbm, ⟨73, _⟩ => ⟨S8x256x1024, .f32⟩
  | .hbm, ⟨74, _⟩ => ⟨S8x256x1024, .f32⟩
  | .hbm, ⟨75, _⟩ => ⟨S_, .f32⟩
  | .hbm, ⟨76, _⟩ => ⟨S1x1x1024, .f32⟩
  | .hbm, ⟨77, _⟩ => ⟨S1x1x1024, .f32⟩
  | .hbm, ⟨78, _⟩ => ⟨S8x256x1024, .f32⟩
  | .hbm, ⟨79, _⟩ => ⟨S8x256x1024, .f32⟩
  | .hbm, ⟨80, _⟩ => ⟨S8x256x1024, .f32⟩
  | .hbm, ⟨81, _⟩ => ⟨S8x256x1024, .f32⟩
  | .hbm, ⟨82, _⟩ => ⟨S8x256x2816, .f32⟩
  | .hbm, ⟨83, _⟩ => ⟨S8x256x2816, .f32⟩
  | .hbm, ⟨84, _⟩ => ⟨S8x256x2816, .f32⟩
  | .hbm, ⟨85, _⟩ => ⟨S_, .f32⟩
  | .hbm, ⟨86, _⟩ => ⟨S8x256x2816, .f32⟩
  | .hbm, ⟨87, _⟩ => ⟨S8x256x2816, .f32⟩
  | .hbm, ⟨88, _⟩ => ⟨S_, .f32⟩
  | .hbm, ⟨89, _⟩ => ⟨S8x256x2816, .f32⟩
  | .hbm, ⟨90, _⟩ => ⟨S8x256x2816, .f32⟩
  | .hbm, ⟨91, _⟩ => ⟨S8x256x2816, .f32⟩
  | .hbm, ⟨92, _⟩ => ⟨S8x256x2816, .f32⟩
  | .hbm, ⟨93, _⟩ => ⟨S8x256x2816, .f32⟩
  | .hbm, ⟨94, _⟩ => ⟨S8x256x1024, .f32⟩
  | .hbm, ⟨95, _⟩ => ⟨S8x256x1024, .f32⟩
  | .hbm, ⟨96, _⟩ => ⟨S8x256x1024, .f32⟩
  | .hbm, ⟨97, _⟩ => ⟨S8x256x1024, .f32⟩
  | .hbm, ⟨98, _⟩ => ⟨S8x4352x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩

abbrev nD : Nat := 1
abbrev τ : Topo := Topo.v7x

variable {F : FTy → Type} [FloatOps F]
-- ==== Later.lean ====
abbrev S8x256x1024 : Shape := ⟨3, ![8, 256, 1024]⟩
abbrev S8x4096x1024 : Shape := ⟨3, ![8, 4096, 1024]⟩
abbrev S1x3x1024 : Shape := ⟨3, ![1, 3, 1024]⟩
abbrev S8x3x1024 : Shape := ⟨3, ![8, 3, 1024]⟩
abbrev S1024 : Shape := ⟨1, ![1024]⟩
abbrev S1024x2816 : Shape := ⟨2, ![1024, 2816]⟩
abbrev S2816x1024 : Shape := ⟨2, ![2816, 1024]⟩
abbrev S8x4352x1024 : Shape := ⟨3, ![8, 4352, 1024]⟩
abbrev S16x3x1024 : Shape := ⟨3, ![16, 3, 1024]⟩
abbrev S1x1024 : Shape := ⟨2, ![1, 1024]⟩
abbrev S2x256x1024 : Shape := ⟨3, ![2, 256, 1024]⟩
abbrev S2x3x1024 : Shape := ⟨3, ![2, 3, 1024]⟩
abbrev S1x256x1024 : Shape := ⟨3, ![1, 256, 1024]⟩
abbrev S256x1024 : Shape := ⟨2, ![256, 1024]⟩
abbrev S3x1024 : Shape := ⟨2, ![3, 1024]⟩
abbrev S256 : Shape := ⟨1, ![256]⟩
abbrev S256x1 : Shape := ⟨2, ![256, 1]⟩
abbrev S512x1024 : Shape := ⟨2, ![512, 1024]⟩
abbrev S512x2816 : Shape := ⟨2, ![512, 2816]⟩

abbrev nBuf : Space → Nat
  | .hbm => 16
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S1x3x1024, .f32⟩
  | .hbm, ⟨3, _⟩ => ⟨S8x3x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8x4352x1024, .f32⟩
  | .hbm, ⟨9, _⟩ => ⟨S8x3x1024, .f32⟩
  | .hbm, ⟨10, _⟩ => ⟨S16x3x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S8x4352x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x3x1024, .f32⟩
  | .local _ .vmem, ⟨3, _⟩ => ⟨S2x3x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S2x256x1024, .f32⟩
  | .local _ .vmem, ⟨9, _⟩ => ⟨S2x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c4_i32 : BitVec 32 := 4#32
  let v2 : BitVec 32 := Scalar.select v1 c4_i32 arg0
  let c0_i32_1 : BitVec 32 := 0#32
  let c0_i32_2 : BitVec 32 := 0#32
  let c0_i32_3 : BitVec 32 := 0#32
  ![v2.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Both.lean ====
abbrev S8x256x1024 : Shape := ⟨3, ![8, 256, 1024]⟩
abbrev S8x4096x1024 : Shape := ⟨3, ![8, 4096, 1024]⟩
abbrev S8x256x256 : Shape := ⟨3, ![8, 256, 256]⟩
abbrev S8x4096x256 : Shape := ⟨3, ![8, 4096, 256]⟩
abbrev S1x3x1024 : Shape := ⟨3, ![1, 3, 1024]⟩
abbrev S8x3x1024 : Shape := ⟨3, ![8, 3, 1024]⟩
abbrev S64 : Shape := ⟨1, ![64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4x64x4x64 : Shape := ⟨4, ![4, 64, 4, 64]⟩
abbrev S256x256 : Shape := ⟨2, ![256, 256]⟩
abbrev S256x1024 : Shape := ⟨2, ![256, 1024]⟩
abbrev S2x2x64x1024 : Shape := ⟨4, ![2, 2, 64, 1024]⟩
abbrev S768x1024 : Shape := ⟨2, ![768, 1024]⟩
abbrev S8x4352x256 : Shape := ⟨3, ![8, 4352, 256]⟩
abbrev S8x4352x2x2x64 : Shape := ⟨5, ![8, 4352, 2, 2, 64]⟩
abbrev S16x3x1024 : Shape := ⟨3, ![16, 3, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8x4352x1024 : Shape := ⟨3, ![8, 4352, 1024]⟩
abbrev S1x1024 : Shape := ⟨2, ![1, 1024]⟩
abbrev S2x256x1024 : Shape := ⟨3, ![2, 256, 1024]⟩
abbrev S2x256x256 : Shape := ⟨3, ![2, 256, 256]⟩
abbrev S2x3x1024 : Shape := ⟨3, ![2, 3, 1024]⟩
abbrev S1x256x1024 : Shape := ⟨3, ![1, 256, 1024]⟩
abbrev S1x256x256 : Shape := ⟨3, ![1, 256, 256]⟩
abbrev S3x1024 : Shape := ⟨2, ![3, 1024]⟩
abbrev S256x1 : Shape := ⟨2, ![256, 1]⟩
abbrev S512x1024 : Shape := ⟨2, ![512, 1024]⟩
abbrev S512x2816 : Shape := ⟨2, ![512, 2816]⟩

abbrev nBuf : Space → Nat
  | .hbm => 62
  | .vmem => 29
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S8x256x256, .f32⟩
  | .hbm, ⟨3, _⟩ => ⟨S8x4096x256, .f32⟩
  | .hbm, ⟨4, _⟩ => ⟨S8x256x256, .f32⟩
  | .hbm, ⟨5, _⟩ => ⟨S8x4096x256, .f32⟩
  | .hbm, ⟨6, _⟩ => ⟨S8x256x256, .f32⟩
  | .hbm, ⟨7, _⟩ => ⟨S8x4096x256, .f32⟩
  | .hbm, ⟨8, _⟩ => ⟨S8x256x256, .f32⟩
  | .hbm, ⟨9, _⟩ => ⟨S8x4096x256, .f32⟩
  | .hbm, ⟨10, _⟩ => ⟨S8x256x256, .f32⟩
  | .hbm, ⟨11, _⟩ => ⟨S8x4096x256, .f32⟩
  | .hbm, ⟨12, _⟩ => ⟨S8x256x256, .f32⟩
  | .hbm, ⟨13, _⟩ => ⟨S8x4096x256, .f32⟩
  | .hbm, ⟨14, _⟩ => ⟨S1x3x1024, .f32⟩
  | .hbm, ⟨15, _⟩ => ⟨S8x3x1024, .f32⟩
  | .hbm, ⟨16, _⟩ => ⟨S1x3x1024, .f32⟩
  | .hbm, ⟨17, _⟩ => ⟨S8x3x1024, .f32⟩
  | .hbm, ⟨18, _⟩ => ⟨S64, .f32⟩
  | .hbm, ⟨19, _⟩ => ⟨S1024x1024, .f32⟩
  | .hbm, ⟨20, _⟩ => ⟨S1024, .f32⟩
  | .hbm, ⟨21, _⟩ => ⟨S1024x2816, .f32⟩
  | .hbm, ⟨22, _⟩ => ⟨S1024x2816, .f32⟩
  | .hbm, ⟨23, _⟩ => ⟨S2816x1024, .f32⟩
  | .hbm, ⟨24, _⟩ => ⟨S4x64x4x64, .i32⟩
  | .hbm, ⟨25, _⟩ => ⟨S4x64x4x64, .i32⟩
  | .hbm, ⟨26, _⟩ => ⟨S4x64x4x64, .i1⟩
  | .hbm, ⟨27, _⟩ => ⟨S4x64x4x64, .bf16⟩
  | .hbm, ⟨28, _⟩ => ⟨S256x256, .bf16⟩
  | .hbm, ⟨29, _⟩ => ⟨S256x1024, .f32⟩
  | .hbm, ⟨30, _⟩ => ⟨S2x2x64x1024, .f32⟩
  | .hbm, ⟨31, _⟩ => ⟨S2x2x64x1024, .f32⟩
  | .hbm, ⟨32, _⟩ => ⟨S256x1024, .f32⟩
  | .hbm, ⟨33, _⟩ => ⟨S768x1024, .f32⟩
  | .hbm, ⟨34, _⟩ => ⟨S1024x1024, .f32⟩
  | .hbm, ⟨35, _⟩ => ⟨S1024x1024, .bf16⟩
  | .hbm, ⟨36, _⟩ => ⟨S8x4352x256, .f32⟩
  | .hbm, ⟨37, _⟩ => ⟨S8x4352x2x2x64, .f32⟩
  | .hbm, ⟨38, _⟩ => ⟨S8x4352x2x2x64, .f32⟩
  | .hbm, ⟨39, _⟩ => ⟨S8x4352x256, .f32⟩
  | .hbm, ⟨40, _⟩ => ⟨S8x4352x256, .bf16⟩
  | .hbm, ⟨41, _⟩ => ⟨S8x4352x256, .f32⟩
  | .hbm, ⟨42, _⟩ => ⟨S8x4352x256, .f32⟩
  | .hbm, ⟨43, _⟩ => ⟨S8x4352x256, .f32⟩
  | .hbm, ⟨44, _⟩ => ⟨S8x4096x256, .bf16⟩
  | .hbm, ⟨45, _⟩ => ⟨S8x256x256, .bf16⟩
  | .hbm, ⟨46, _⟩ => ⟨S8x4352x256, .f32⟩
  | .hbm, ⟨47, _⟩ => ⟨S8x4352x256, .bf16⟩
  | .hbm, ⟨48, _⟩ => ⟨S8x3x1024, .f32⟩
  | .hbm, ⟨49, _⟩ => ⟨S16x3x1024, .f32⟩
  | .hbm, ⟨50, _⟩ => ⟨S1x64, .f32⟩
  | .hbm, ⟨51, _⟩ => ⟨S4x64, .f32⟩
  | .hbm, ⟨52, _⟩ => ⟨S256, .f32⟩
  | .hbm, ⟨53, _⟩ => ⟨S1x256, .f32⟩
  | .hbm, ⟨54, _⟩ => ⟨S8x4352x1024, .f32⟩
  | .hbm, ⟨55, _⟩ => ⟨S8x3x1024, .f32⟩
  | .hbm, ⟨56, _⟩ => ⟨S16x3x1024, .f32⟩
  | .hbm, ⟨57, _⟩ => ⟨S1x1024, .f32⟩
  | .hbm, ⟨58, _⟩ => ⟨S1024x2816, .bf16⟩
  | .hbm, ⟨59, _⟩ => ⟨S1024x2816, .bf16⟩
  | .hbm, ⟨60, _⟩ => ⟨S2816x1024, .bf16⟩
  | .hbm, ⟨61, _⟩ => ⟨S8x4352x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x256, .bf16⟩
  | .local _ .vmem, ⟨3, _⟩ => ⟨S2x256x256, .bf16⟩
  | .local _ .vmem, ⟨4, _⟩ => ⟨S2x256x256, .f32⟩
  | .local _ .vmem, ⟨5, _⟩ => ⟨S2x256x256, .f32⟩
  | .local _ .vmem, ⟨6, _⟩ => ⟨S2x256x256, .f32⟩
  | .local _ .vmem, ⟨7, _⟩ => ⟨S2x256x256, .f32⟩
  | .local _ .vmem, ⟨8, _⟩ => ⟨S2x256x256, .f32⟩
  | .local _ .vmem, ⟨9, _⟩ => ⟨S2x256x256, .f32⟩
  | .local _ .vmem, ⟨10, _⟩ => ⟨S2x256x256, .bf16⟩
  | .local _ .vmem, ⟨11, _⟩ => ⟨S2x256x256, .bf16⟩
  | .local _ .vmem, ⟨12, _⟩ => ⟨S2x256x256, .bf16⟩
  | .local _ .vmem, ⟨13, _⟩ => ⟨S2x256x256, .bf16⟩
  | .local _ .vmem, ⟨14, _⟩ => ⟨S2x256x256, .bf16⟩
  | .local _ .vmem, ⟨15, _⟩ => ⟨S2x256x256, .bf16⟩
  | .local _ .vmem, ⟨16, _⟩ => ⟨S2x3x1024, .f32⟩
  | .local _ .vmem, ⟨17, _⟩ => ⟨S2x3x1024, .f32⟩
  | .local _ .vmem, ⟨18, _⟩ => ⟨S1x256, .f32⟩
  | .local _ .vmem, ⟨19, _⟩ => ⟨S256x256, .bf16⟩
  | .local _ .vmem, ⟨20, _⟩ => ⟨S1024x1024, .bf16⟩
  | .local _ .vmem, ⟨21, _⟩ => ⟨S2x3x1024, .f32⟩
  | .local _ .vmem, ⟨22, _⟩ => ⟨S2x3x1024, .f32⟩
  | .local _ .vmem, ⟨23, _⟩ => ⟨S1x1024, .f32⟩
  | .local _ .vmem, ⟨24, _⟩ => ⟨S1024x2816, .bf16⟩
  | .local _ .vmem, ⟨25, _⟩ => ⟨S1024x2816, .bf16⟩
  | .local _ .vmem, ⟨26, _⟩ => ⟨S2816x1024, .bf16⟩
  | .local _ .vmem, ⟨27, _⟩ => ⟨S2x256x1024, .f32⟩
  | .local _ .vmem, ⟨28, _⟩ => ⟨S2x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c4_i32 : BitVec 32 := 4#32
  let v2 : BitVec 32 := Scalar.select v1 c4_i32 arg0
  let c0_i32_1 : BitVec 32 := 0#32
  let c0_i32_2 : BitVec 32 := 0#32
  let c0_i32_3 : BitVec 32 := 0#32
  ![v2.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c4_i32 : BitVec 32 := 4#32
  let v2 : BitVec 32 := Scalar.select v1 c4_i32 arg0
  let c0_i32_1 : BitVec 32 := 0#32
  let c0_i32_2 : BitVec 32 := 0#32
  let c0_i32_3 : BitVec 32 := 0#32
  ![v2.toNat, c0_i32_1.toNat, c0_i32_2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x3x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2x3x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S2x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== BothReferenceIdeal.lean ====
abbrev S8x256x1024 : Shape := ⟨3, ![8, 256, 1024]⟩
abbrev S8x4096x1024 : Shape := ⟨3, ![8, 4096, 1024]⟩
abbrev S8x256x256 : Shape := ⟨3, ![8, 256, 256]⟩
abbrev S8x4096x256 : Shape := ⟨3, ![8, 4096, 256]⟩
abbrev S1x3x1024 : Shape := ⟨3, ![1, 3, 1024]⟩
abbrev S8x3x1024 : Shape := ⟨3, ![8, 3, 1024]⟩
abbrev S64 : Shape := ⟨1, ![64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x1x1024 : Shape := ⟨3, ![8, 1, 1024]⟩
abbrev S8x4096x4x64 : Shape := ⟨4, ![8, 4096, 4, 64]⟩
abbrev S_ : Shape := ⟨0, ![]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8x256x4x64 : Shape := ⟨4, ![8, 256, 4, 64]⟩
abbrev S8x256x4 : Shape := ⟨3, ![8, 256, 4]⟩
abbrev S8x256x4x1 : Shape := ⟨4, ![8, 256, 4, 1]⟩
abbrev S8x256 : Shape := ⟨2, ![8, 256]⟩
abbrev S8x256x1 : Shape := ⟨3, ![8, 256, 1]⟩
abbrev S8x256x2816 : Shape := ⟨3, ![8, 256, 2816]⟩
abbrev S8x4352x1024 : Shape := ⟨3, ![8, 4352, 1024]⟩

abbrev nBuf : Space → Nat
  | .hbm => 187
  | .vmem => 0
  | .smem => 0
  | _ => 0

abbrev hbmTy0_0 (i : Nat) : BufTy := match i % 128 with
  | 0 => ⟨S8x256x1024, .f32⟩
  | 1 => ⟨S8x4096x1024, .f32⟩
  | 2 => ⟨S8x256x256, .f32⟩
  | 3 => ⟨S8x4096x256, .f32⟩
  | 4 => ⟨S8x256x256, .f32⟩
  | 5 => ⟨S8x4096x256, .f32⟩
  | 6 => ⟨S8x256x256, .f32⟩
  | 7 => ⟨S8x4096x256, .f32⟩
  | 8 => ⟨S8x256x256, .f32⟩
  | 9 => ⟨S8x4096x256, .f32⟩
  | 10 => ⟨S8x256x256, .f32⟩
  | 11 => ⟨S8x4096x256, .f32⟩
  | 12 => ⟨S8x256x256, .f32⟩
  | 13 => ⟨S8x4096x256, .f32⟩
  | 14 => ⟨S1x3x1024, .f32⟩
  | 15 => ⟨S8x3x1024, .f32⟩
  | 16 => ⟨S1x3x1024, .f32⟩
  | 17 => ⟨S8x3x1024, .f32⟩
  | 18 => ⟨S64, .f32⟩
  | 19 => ⟨S1024x1024, .f32⟩
  | 20 => ⟨S1024, .f32⟩
  | 21 => ⟨S1024x2816, .f32⟩
  | 22 => ⟨S1024x2816, .f32⟩
  | 23 => ⟨S2816x1024, .f32⟩
  | 24 => ⟨S8x1x1024, .f32⟩
  | 25 => ⟨S8x4096x256, .f32⟩
  | 26 => ⟨S8x4096x4x64, .f32⟩
  | 27 => ⟨S8x4096x4x64, .f32⟩
  | 28 => ⟨S_, .f32⟩
  | 29 => ⟨S8x4096x4, .f32⟩
  | 30 => ⟨S8x4096x4x1, .f32⟩
  | 31 => ⟨S_, .f32⟩
  | 32 => ⟨S8x4096x4x1, .f32⟩
  | 33 => ⟨S8x4096x4x1, .f32⟩
  | 34 => ⟨S_, .f32⟩
  | 35 => ⟨S8x4096x4x1, .f32⟩
  | 36 => ⟨S8x4096x4x1, .f32⟩
  | 37 => ⟨S8x4096x4x1, .f32⟩
  | 38 => ⟨S8x4096x4x64, .f32⟩
  | 39 => ⟨S8x4096x4x64, .f32⟩
  | 40 => ⟨S1x1x1x64, .f32⟩
  | 41 => ⟨S8x4096x4x64, .f32⟩
  | 42 => ⟨S8x4096x4x64, .f32⟩
  | 43 => ⟨S8x4096x4x64, .f32⟩
  | 44 => ⟨S8x4096x4x64, .f32⟩
  | 45 => ⟨S8x4096x4x64, .f32⟩
  | 46 => ⟨S_, .f32⟩
  | 47 => ⟨S8x4096x4x64, .f32⟩
  | 48 => ⟨S8x4096x4x64, .f32⟩
  | 49 => ⟨S_, .f32⟩
  | 50 => ⟨S8x4096x4x64, .f32⟩
  | 51 => ⟨S8x4096x4x64, .f32⟩
  | 52 => ⟨S8x4096x4x64, .f32⟩
  | 53 => ⟨S8x4096x4x64, .f32⟩
  | 54 => ⟨S8x4096x256, .f32⟩
  | 55 => ⟨S8x4096x1024, .f32⟩
  | 56 => ⟨S8x4096x1024, .f32⟩
  | 57 => ⟨S8x4096x1024, .f32⟩
  | 58 => ⟨S8x4096x1024, .f32⟩
  | 59 => ⟨S8x4096x1024, .f32⟩
  | 60 => ⟨S8x1x1024, .f32⟩
  | 61 => ⟨S_, .f32⟩
  | 62 => ⟨S8x1x1024, .f32⟩
  | 63 => ⟨S8x1x1024, .f32⟩
  | 64 => ⟨S8x1x1024, .f32⟩
  | 65 => ⟨S8x1x1024, .f32⟩
  | 66 => ⟨S8x4096x1024, .f32⟩
  | 67 => ⟨S_, .f32⟩
  | 68 => ⟨S8x4096, .f32⟩
  | 69 => ⟨S8x4096x1, .f32⟩
  | 70 => ⟨S_, .f32⟩
  | 71 => ⟨S8x4096x1, .f32⟩
  | 72 => ⟨S8x4096x1, .f32⟩
  | 73 => ⟨S_, .f32⟩
  | 74 => ⟨S8x4096x1, .f32⟩
  | 75 => ⟨S8x4096x1, .f32⟩
  | 76 => ⟨S8x4096x1, .f32⟩
  | 77 => ⟨S8x4096x1024, .f32⟩
  | 78 => ⟨S8x4096x1024, .f32⟩
  | 79 => ⟨S1x1x1024, .f32⟩
  | 80 => ⟨S8x4096x1024, .f32⟩
  | 81 => ⟨S8x4096x1024, .f32⟩
  | 82 => ⟨S_, .f32⟩
  | 83 => ⟨S8x1x1024, .f32⟩
  | 84 => ⟨S8x1x1024, .f32⟩
  | 85 => ⟨S8x4096x1024, .f32⟩
  | 86 => ⟨S8x4096x1024, .f32⟩
  | 87 => ⟨S8x4096x1024, .f32⟩
  | 88 => ⟨S8x4096x1024, .f32⟩
  | 89 => ⟨S8x4096x2816, .f32⟩
  | 90 => ⟨S8x4096x2816, .f32⟩
  | 91 => ⟨S8x4096x2816, .f32⟩
  | 92 => ⟨S_, .f32⟩
  | 93 => ⟨S8x4096x2816, .f32⟩
  | 94 => ⟨S8x4096x2816, .f32⟩
  | 95 => ⟨S_, .f32⟩
  | 96 => ⟨S8x4096x2816, .f32⟩
  | 97 => ⟨S8x4096x2816, .f32⟩
  | 98 => ⟨S8x4096x2816, .f32⟩
  | 99 => ⟨S8x4096x2816, .f32⟩
  | 100 => ⟨S8x4096x2816, .f32⟩
  | 101 => ⟨S8x4096x1024, .f32⟩
  | 102 => ⟨S8x4096x1024, .f32⟩
  | 103 => ⟨S8x4096x1024, .f32⟩
  | 104 => ⟨S8x4096x1024, .f32⟩
  | 105 => ⟨S1x1x1024, .f32⟩
  | 106 => ⟨S8x256x256, .f32⟩
  | 107 => ⟨S8x256x4x64, .f32⟩
  | 108 => ⟨S8x256x4x64, .f32⟩
  | 109 => ⟨S_, .f32⟩
  | 110 => ⟨S8x256x4, .f32⟩
  | 111 => ⟨S8x256x4x1, .f32⟩
  | 112 => ⟨S_, .f32⟩
  | 113 => ⟨S8x256x4x1, .f32⟩
  | 114 => ⟨S8x256x4x1, .f32⟩
  | 115 => ⟨S_, .f32⟩
  | 116 => ⟨S8x256x4x1, .f32⟩
  | 117 => ⟨S8x256x4x1, .f32⟩
  | 118 => ⟨S8x256x4x1, .f32⟩
  | 119 => ⟨S8x256x4x64, .f32⟩
  | 120 => ⟨S8x256x4x64, .f32⟩
  | 121 => ⟨S1x1x1x64, .f32⟩
  | 122 => ⟨S8x256x4x64, .f32⟩
  | 123 => ⟨S8x256x4x64, .f32⟩
  | 124 => ⟨S8x256x4x64, .f32⟩
  | 125 => ⟨S8x256x4x64, .f32⟩
  | 126 => ⟨S8x256x4x64, .f32⟩
  | 127 => ⟨S_, .f32⟩
  | _ => ⟨S8x256x1024, .f32⟩

abbrev hbmTy0_1 (i : Nat) : BufTy := match i % 128 with
  | 0 => ⟨S8x256x4x64, .f32⟩
  | 1 => ⟨S8x256x4x64, .f32⟩
  | 2 => ⟨S_, .f32⟩
  | 3 => ⟨S8x256x4x64, .f32⟩
  | 4 => ⟨S8x256x4x64, .f32⟩
  | 5 => ⟨S8x256x4x64, .f32⟩
  | 6 => ⟨S8x256x4x64, .f32⟩
  | 7 => ⟨S8x256x256, .f32⟩
  | 8 => ⟨S8x256x1024, .f32⟩
  | 9 => ⟨S8x256x1024, .f32⟩
  | 10 => ⟨S8x256x1024, .f32⟩
  | 11 => ⟨S8x256x1024, .f32⟩
  | 12 => ⟨S8x256x1024, .f32⟩
  | 13 => ⟨S1x1x1024, .f32⟩
  | 14 => ⟨S_, .f32⟩
  | 15 => ⟨S1x1x1024, .f32⟩
  | 16 => ⟨S1x1x1024, .f32⟩
  | 17 => ⟨S1x1x1024, .f32⟩
  | 18 => ⟨S1x1x1024, .f32⟩
  | 19 => ⟨S8x256x1024, .f32⟩
  | 20 => ⟨S_, .f32⟩
  | 21 => ⟨S8x256, .f32⟩
  | 22 => ⟨S8x256x1, .f32⟩
  | 23 => ⟨S_, .f32⟩
  | 24 => ⟨S8x256x1, .f32⟩
  | 25 => ⟨S8x256x1, .f32⟩
  | 26 => ⟨S_, .f32⟩
  | 27 => ⟨S8x256x1, .f32⟩
  | 28 => ⟨S8x256x1, .f32⟩
  | 29 => ⟨S8x256x1, .f32⟩
  | 30 => ⟨S8x256x1024, .f32⟩
  | 31 => ⟨S8x256x1024, .f32⟩
  | 32 => ⟨S1x1x1024, .f32⟩
  | 33 => ⟨S8x256x1024, .f32⟩
  | 34 => ⟨S8x256x1024, .f32⟩
  | 35 => ⟨S_, .f32⟩
  | 36 => ⟨S1x1x1024, .f32⟩
  | 37 => ⟨S1x1x1024, .f32⟩
  | 38 => ⟨S8x256x1024, .f32⟩
  | 39 => ⟨S8x256x1024, .f32⟩
  | 40 => ⟨S8x256x1024, .f32⟩
  | 41 => ⟨S8x256x1024, .f32⟩
  | 42 => ⟨S8x256x2816, .f32⟩
  | 43 => ⟨S8x256x2816, .f32⟩
  | 44 => ⟨S8x256x2816, .f32⟩
  | 45 => ⟨S_, .f32⟩
  | 46 => ⟨S8x256x2816, .f32⟩
  | 47 => ⟨S8x256x2816, .f32⟩
  | 48 => ⟨S_, .f32⟩
  | 49 => ⟨S8x256x2816, .f32⟩
  | 50 => ⟨S8x256x2816, .f32⟩
  | 51 => ⟨S8x256x2816, .f32⟩
  | 52 => ⟨S8x256x2816, .f32⟩
  | 53 => ⟨S8x256x2816, .f32⟩
  | 54 => ⟨S8x256x1024, .f32⟩
  | 55 => ⟨S8x256x1024, .f32⟩
  | 56 => ⟨S8x256x1024, .f32⟩
  | 57 => ⟨S8x256x1024, .f32⟩
  | 58 => ⟨S8x4352x1024, .f32⟩
  | _ => ⟨S8x256x1024, .f32⟩

abbrev hbmTy (i : Nat) : BufTy := match i / 128 with
  | 0 => hbmTy0_0 i
  | 1 => hbmTy0_1 i
  | _ => ⟨S8x256x1024, .f32⟩

abbrev bufTy : (tb : Table) → Fin (tcTables nBuf tb) → BufTy
  | .hbm, ⟨i, _⟩ => hbmTy i
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_2 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_3 : Ref sig .tc := ⟨.hbm, 67, rfl⟩
abbrev main_v31 : Ref sig .tc := ⟨.hbm, 68, rfl⟩
abbrev main_v32 : Ref sig .tc := ⟨.hbm, 69, rfl⟩
abbrev main_cst_4 : Ref sig .tc := ⟨.hbm, 70, rfl⟩
abbrev main_v33 : Ref sig .tc := ⟨.hbm, 71, rfl⟩
abbrev main_v34 : Ref sig .tc := ⟨.hbm, 72, rfl⟩
abbrev main_cst_5 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_6 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_7 : Ref sig .tc := ⟨.hbm, 109, rfl⟩
abbrev main_v61 : Ref sig .tc := ⟨.hbm, 110, rfl⟩
abbrev main_v62 : Ref sig .tc := ⟨.hbm, 111, rfl⟩
abbrev main_cst_8 : Ref sig .tc := ⟨.hbm, 112, rfl⟩
abbrev main_v63 : Ref sig .tc := ⟨.hbm, 113, rfl⟩
abbrev main_v64 : Ref sig .tc := ⟨.hbm, 114, rfl⟩
abbrev main_cst_9 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_call2_v0 : Ref sig .tc := ⟨.hbm, 125, rfl⟩
abbrev main_call2_v1 : Ref sig .tc := ⟨.hbm, 126, rfl⟩
abbrev main_call2_cst : Ref sig .tc := ⟨.hbm, 127, rfl⟩
abbrev main_call2_v2 : Ref sig .tc := ⟨.hbm, 128, rfl⟩
abbrev main_call2_v3 : Ref sig .tc := ⟨.hbm, 129, rfl⟩
abbrev main_call2_cst_0 : Ref sig .tc := ⟨.hbm, 130, rfl⟩
abbrev main_call2_v4 : Ref sig .tc := ⟨.hbm, 131, rfl⟩
abbrev main_call2_v5 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_10 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_11 : Ref sig .tc := ⟨.hbm, 148, rfl⟩
abbrev main_v88 : Ref sig .tc := ⟨.hbm, 149, rfl⟩
abbrev main_v89 : Ref sig .tc := ⟨.hbm, 150, rfl⟩
abbrev main_cst_12 : Ref sig .tc := ⟨.hbm, 151, rfl⟩
abbrev main_v90 : Ref sig .tc := ⟨.hbm, 152, rfl⟩
abbrev main_v91 : Ref sig .tc := ⟨.hbm, 153, rfl⟩
abbrev main_cst_13 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_cst_14 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_call3_v0 : Ref sig .tc := ⟨.hbm, 171, rfl⟩
abbrev main_call3_v1 : Ref sig .tc := ⟨.hbm, 172, rfl⟩
abbrev main_call3_cst : Ref sig .tc := ⟨.hbm, 173, rfl⟩
abbrev main_call3_v2 : Ref sig .tc := ⟨.hbm, 174, rfl⟩
abbrev main_call3_v3 : Ref sig .tc := ⟨.hbm, 175, rfl⟩
abbrev main_call3_cst_0 : Ref sig .tc := ⟨.hbm, 176, rfl⟩
abbrev main_call3_v4 : Ref sig .tc := ⟨.hbm, 177, rfl⟩
abbrev main_call3_v5 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩

abbrev nD : Nat := 1
abbrev τ : Topo := Topo.v7x

variable {F : FTy → Type} [FloatOps F]
-- ==== Project.lean ====
abbrev S8x256x1024 : Shape := ⟨3, ![8, 256, 1024]⟩
abbrev S8x4096x1024 : Shape := ⟨3, ![8, 4096, 1024]⟩
abbrev S1x3x1024 : Shape := ⟨3, ![1, 3, 1024]⟩
abbrev S8x3x1024 : Shape := ⟨3, ![8, 3, 1024]⟩
abbrev S1024 : Shape := ⟨1, ![1024]⟩
abbrev S1024x2736 : Shape := ⟨2, ![1024, 2736]⟩
abbrev S256 : Shape := ⟨1, ![256]⟩
abbrev S256x384 : Shape := ⟨2, ![256, 384]⟩
abbrev S128 : Shape := ⟨1, ![128]⟩
abbrev S128x512 : Shape := ⟨2, ![128, 512]⟩
abbrev S4096 : Shape := ⟨1, ![4096]⟩
abbrev S512 : Shape := ⟨1, ![512]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S8 : Shape := ⟨1, ![8]⟩
abbrev S1x8 : Shape := ⟨2, ![1, 8]⟩
abbrev S4096x8 : Shape := ⟨2, ![4096, 8]⟩
abbrev S4096x32 : Shape := ⟨2, ![4096, 32]⟩
abbrev S256x128 : Shape := ⟨2, ![256, 128]⟩
abbrev S4096x128 : Shape := ⟨2, ![4096, 128]⟩
abbrev S4352x128 : Shape := ⟨2, ![4352, 128]⟩
abbrev S256x96 : Shape := ⟨2, ![256, 96]⟩
abbrev S256x32 : Shape := ⟨2, ![256, 32]⟩
abbrev S256x4x96 : Shape := ⟨3, ![256, 4, 96]⟩
abbrev S128x4x128 : Shape := ⟨3, ![128, 4, 128]⟩
abbrev S128x4x64 : Shape := ⟨3, ![128, 4, 64]⟩
abbrev S128x1x64 : Shape := ⟨3, ![128, 1, 64]⟩
abbrev S128x1x128 : Shape := ⟨3, ![128, 1, 128]⟩
abbrev S256x4x32 : Shape := ⟨3, ![256, 4, 32]⟩
abbrev S256x4x128 : Shape := ⟨3, ![256, 4, 128]⟩
abbrev S256x512 : Shape := ⟨2, ![256, 512]⟩
abbrev S1x256 : Shape := ⟨2, ![1, 256]⟩
abbrev S1x128 : Shape := ⟨2, ![1, 128]⟩
abbrev S8x4352x1024 : Shape := ⟨3, ![8, 4352, 1024]⟩
abbrev S16x3x1024 : Shape := ⟨3, ![16, 3, 1024]⟩
abbrev S1x1024 : Shape := ⟨2, ![1, 1024]⟩
abbrev S1024x256 : Shape := ⟨2, ![1024, 256]⟩
abbrev S1024x2x2x64 : Shape := ⟨4, ![1024, 2, 2, 64]⟩
abbrev S1024x1296 : Shape := ⟨2, ![1024, 1296]⟩
abbrev S1024x112 : Shape := ⟨2, ![1024, 112]⟩
abbrev S1024x384 : Shape := ⟨2, ![1024, 384]⟩
abbrev S1024x64 : Shape := ⟨2, ![1024, 64]⟩
abbrev S1024x32 : Shape := ⟨2, ![1024, 32]⟩
abbrev S1024x768 : Shape := ⟨2, ![1024, 768]⟩
abbrev S1024x2944 : Shape := ⟨2, ![1024, 2944]⟩
abbrev S1x512 : Shape := ⟨2, ![1, 512]⟩
abbrev S8x4352x256 : Shape := ⟨3, ![8, 4352, 256]⟩
abbrev S8x4352x768 : Shape := ⟨3, ![8, 4352, 768]⟩
abbrev S8x4352x128 : Shape := ⟨3, ![8, 4352, 128]⟩
abbrev S8x4352x512 : Shape := ⟨3, ![8, 4352, 512]⟩
abbrev S2x256x1024 : Shape := ⟨3, ![2, 256, 1024]⟩
abbrev S2x3x1024 : Shape := ⟨3, ![2, 3, 1024]⟩
abbrev S2x256x256 : Shape := ⟨3, ![2, 256, 256]⟩
abbrev S2x256x768 : Shape := ⟨3, ![2, 256, 768]⟩
abbrev S2x256x128 : Shape := ⟨3, ![2, 256, 128]⟩
abbrev S2x256x512 : Shape := ⟨3, ![2, 256, 512]⟩
abbrev S1x256x1024 : Shape := ⟨3, ![1, 256, 1024]⟩
abbrev S256x1024 : Shape := ⟨2, ![256, 1024]⟩
abbrev S3x1024 : Shape := ⟨2, ![3, 1024]⟩
abbrev S256x1 : Shape := ⟨2, ![256, 1]⟩
abbrev S512x1024 : Shape := ⟨2, ![512, 1024]⟩
abbrev S512x2944 : Shape := ⟨2, ![512, 2944]⟩
abbrev S256x256 : Shape := ⟨2, ![256, 256]⟩
abbrev S256x2944 : Shape := ⟨2, ![256, 2944]⟩
abbrev S1x256x256 : Shape := ⟨3, ![1, 256, 256]⟩
abbrev S256x768 : Shape := ⟨2, ![256, 768]⟩
abbrev S1x256x768 : Shape := ⟨3, ![1, 256, 768]⟩
abbrev S1x256x128 : Shape := ⟨3, ![1, 256, 128]⟩
abbrev S1x256x512 : Shape := ⟨3, ![1, 256, 512]⟩

abbrev nBuf : Space → Nat
  | .hbm => 165
  | .vmem => 40
  | .smem => 0
  | _ => 0

abbrev hbmTy0_0 (i : Nat) : BufTy := match i % 128 with
  | 0 => ⟨S8x256x1024, .f32⟩
  | 1 => ⟨S8x4096x1024, .f32⟩
  | 2 => ⟨S1x3x1024, .f32⟩
  | 3 => ⟨S8x3x1024, .f32⟩
  | 4 => ⟨S1024, .f32⟩
  | 5 => ⟨S1024x2736, .f32⟩
  | 6 => ⟨S256, .f32⟩
  | 7 => ⟨S256x384, .f32⟩
  | 8 => ⟨S128, .f32⟩
  | 9 => ⟨S128x512, .f32⟩
  | 10 => ⟨S4096, .f32⟩
  | 11 => ⟨S4096, .f32⟩
  | 12 => ⟨S512, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x1, .f32⟩
  | 33 => ⟨S1x16, .f32⟩
  | 34 => ⟨S4096x16, .f32⟩
  | 35 => ⟨S4096x16, .f32⟩
  | 36 => ⟨S4096x16, .f32⟩
  | 37 => ⟨S4096x16, .f32⟩
  | 38 => ⟨S4096x16, .f32⟩
  | 39 => ⟨S4096x16, .f32⟩
  | 40 => ⟨S4096x16, .f32⟩
  | 41 => ⟨S4096x64, .f32⟩
  | 42 => ⟨S4096x16, .f32⟩
  | 43 => ⟨S4096x16, .f32⟩
  | 44 => ⟨S4096x64, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S4096x1, .f32⟩
  | 60 => ⟨S1x8, .f32⟩
  | 61 => ⟨S4096x8, .f32⟩
  | 62 => ⟨S4096x8, .f32⟩
  | 63 => ⟨S4096x8, .f32⟩
  | 64 => ⟨S4096x1, .f32⟩
  | 65 => ⟨S1x8, .f32⟩
  | 66 => ⟨S4096x8, .f32⟩
  | 67 => ⟨S4096x8, .f32⟩
  | 68 => ⟨S4096x8, .f32⟩
  | 69 => ⟨S4096x8, .f32⟩
  | 70 => ⟨S4096x8, .f32⟩
  | 71 => ⟨S4096x8, .f32⟩
  | 72 => ⟨S4096x8, .f32⟩
  | 73 => ⟨S4096x32, .f32⟩
  | 74 => ⟨S4096x8, .f32⟩
  | 75 => ⟨S4096x8, .f32⟩
  | 76 => ⟨S4096x32, .f32⟩
  | 77 => ⟨S_, .f32⟩
  | 78 => ⟨S256x128, .f32⟩
  | 79 => ⟨S4096x128, .f32⟩
  | 80 => ⟨S4352x128, .f32⟩
  | 81 => ⟨S_, .f32⟩
  | 82 => ⟨S256x128, .f32⟩
  | 83 => ⟨S4096x128, .f32⟩
  | 84 => ⟨S4352x128, .f32⟩
  | 85 => ⟨S_, .f32⟩
  | 86 => ⟨S256x96, .f32⟩
  | 87 => ⟨S_, .f32⟩
  | 88 => ⟨S256x32, .f32⟩
  | 89 => ⟨S256x128, .f32⟩
  | 90 => ⟨S_, .f32⟩
  | 91 => ⟨S4096x64, .f32⟩
  | 92 => ⟨S_, .f32⟩
  | 93 => ⟨S4096x32, .f32⟩
  | 94 => ⟨S4096x128, .f32⟩
  | 95 => ⟨S4352x128, .f32⟩
  | 96 => ⟨S_, .f32⟩
  | 97 => ⟨S256x128, .f32⟩
  | 98 => ⟨S_, .f32⟩
  | 99 => ⟨S4096x64, .f32⟩
  | 100 => ⟨S_, .f32⟩
  | 101 => ⟨S4096x32, .f32⟩
  | 102 => ⟨S4096x128, .f32⟩
  | 103 => ⟨S4352x128, .f32⟩
  | 104 => ⟨S256x4x96, .f32⟩
  | 105 => ⟨S128x4x128, .f32⟩
  | 106 => ⟨S128x4x64, .f32⟩
  | 107 => ⟨S128x4x64, .f32⟩
  | 108 => ⟨S_, .f32⟩
  | 109 => ⟨S128x4x64, .f32⟩
  | 110 => ⟨S128x1x64, .f32⟩
  | 111 => ⟨S128x1x64, .f32⟩
  | 112 => ⟨S128x1x128, .f32⟩
  | 113 => ⟨S128x1x64, .f32⟩
  | 114 => ⟨S128x1x128, .f32⟩
  | 115 => ⟨S128x1x64, .f32⟩
  | 116 => ⟨S128x1x128, .f32⟩
  | 117 => ⟨S128x1x64, .f32⟩
  | 118 => ⟨S128x1x128, .f32⟩
  | 119 => ⟨S128x4x128, .f32⟩
  | 120 => ⟨S_, .f32⟩
  | 121 => ⟨S256x4x32, .f32⟩
  | 122 => ⟨S256x4x128, .f32⟩
  | 123 => ⟨S256x512, .f32⟩
  | 124 => ⟨S_, .f32⟩
  | 125 => ⟨S128x4x64, .f32⟩
  | 126 => ⟨S128x4x128, .f32⟩
  | 127 => ⟨S128x512, .f32⟩
  | _ => ⟨S8x256x1024, .f32⟩

abbrev hbmTy0_1 (i : Nat) : BufTy := match i % 128 with
  | 0 => ⟨S128x512, .f32⟩
  | 1 => ⟨S1x256, .f32⟩
  | 2 => ⟨S1x128, .f32⟩
  | 3 => ⟨S256x512, .bf16⟩
  | 4 => ⟨S128x512, .bf16⟩
  | 5 => ⟨S128x512, .bf16⟩
  | 6 => ⟨S8x4352x1024, .f32⟩
  | 7 => ⟨S8x3x1024, .f32⟩
  | 8 => ⟨S16x3x1024, .f32⟩
  | 9 => ⟨S1x1024, .f32⟩
  | 10 => ⟨S1024x256, .f32⟩
  | 11 => ⟨S1024x2x2x64, .f32⟩
  | 12 => ⟨S1024x2x2x64, .f32⟩
  | 13 => ⟨S1024x256, .f32⟩
  | 14 => ⟨S1024x1296, .f32⟩
  | 15 => ⟨S_, .f32⟩
  | 16 => ⟨S1024x112, .f32⟩
  | 17 => ⟨S1024x384, .f32⟩
  | 18 => ⟨S_, .f32⟩
  | 19 => ⟨S1024x64, .f32⟩
  | 20 => ⟨S1024x32, .f32⟩
  | 21 => ⟨S_, .f32⟩
  | 22 => ⟨S1024x32, .f32⟩
  | 23 => ⟨S1024x768, .f32⟩
  | 24 => ⟨S1024x2944, .f32⟩
  | 25 => ⟨S1024x2944, .bf16⟩
  | 26 => ⟨S1x512, .f32⟩
  | 27 => ⟨S8x4352x256, .bf16⟩
  | 28 => ⟨S8x4352x256, .bf16⟩
  | 29 => ⟨S8x4352x768, .f32⟩
  | 30 => ⟨S8x4352x256, .f32⟩
  | 31 => ⟨S8x4352x128, .f32⟩
  | 32 => ⟨S8x4352x256, .bf16⟩
  | 33 => ⟨S8x4352x512, .bf16⟩
  | 34 => ⟨S8x4352x512, .bf16⟩
  | 35 => ⟨S8x4352x512, .bf16⟩
  | 36 => ⟨S8x4352x512, .bf16⟩
  | _ => ⟨S8x256x1024, .f32⟩

abbrev hbmTy (i : Nat) : BufTy := match i / 128 with
  | 0 => hbmTy0_0 i
  | 1 => hbmTy0_1 i
  | _ => ⟨S8x256x1024, .f32⟩

abbrev bufTy : (tb : Table) → Fin (tcTables nBuf tb) → BufTy
  | .hbm, ⟨i, _⟩ => hbmTy i
  | .local _ .vmem, ⟨0, _⟩ => ⟨S2x256x1024, .f32⟩
  | .local _ .vmem, ⟨1, _⟩ => ⟨S2x256x1024, .f32⟩
  | .local _ .vmem, ⟨2, _⟩ => ⟨S2x3x1024, .f32⟩
  | .local _ .vmem, ⟨3, _⟩ => ⟨S2x3x1024, .f32⟩
  | .local _ .vmem, ⟨4, _⟩ => ⟨S1x1024, .f32⟩
  | .local _ .vmem, ⟨5, _⟩ => ⟨S1024x2944, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256, .f32⟩
  | .local _ .vmem, ⟨11, _⟩ => ⟨S1x128, .f32⟩
  | .local _ .vmem, ⟨12, _⟩ => ⟨S256x512, .bf16⟩
  | .local _ .vmem, ⟨13, _⟩ => ⟨S128x512, .bf16⟩
  | .local _ .vmem, ⟨14, _⟩ => ⟨S128x512, .bf16⟩
  | .local _ .vmem, ⟨15, _⟩ => ⟨S1x512, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S2x256x256, .bf16⟩
  | .local _ .vmem, ⟨21, _⟩ => ⟨S2x256x256, .bf16⟩
  | .local _ .vmem, ⟨22, _⟩ => ⟨S2x256x256, .bf16⟩
  | .local _ .vmem, ⟨23, _⟩ => ⟨S2x256x256, .bf16⟩
  | .local _ .vmem, ⟨24, _⟩ => ⟨S2x256x768, .f32⟩
  | .local _ .vmem, ⟨25, _⟩ => ⟨S2x256x768, .f32⟩
  | .local _ .vmem, ⟨26, _⟩ => ⟨S2x256x256, .f32⟩
  | .local _ .vmem, ⟨27, _⟩ => ⟨S2x256x256, .f32⟩
  | .local _ .vmem, ⟨28, _⟩ => ⟨S2x256x128, .f32⟩
  | .local _ .vmem, ⟨29, _⟩ => ⟨S2x256x128, .f32⟩
  | .local _ .vmem, ⟨30, _⟩ => ⟨S2x256x256, .bf16⟩
  | .local _ .vmem, ⟨31, _⟩ => ⟨S2x256x256, .bf16⟩
  | .local _ .vmem, ⟨32, _⟩ => ⟨S2x256x512, .bf16⟩
  | .local _ .vmem, ⟨33, _⟩ => ⟨S2x256x512, .bf16⟩
  | .local _ .vmem, ⟨34, _⟩ => ⟨S2x256x512, .bf16⟩
  | .local _ .vmem, ⟨35, _⟩ => ⟨S2x256x512, .bf16⟩
  | .local _ .vmem, ⟨36, _⟩ => ⟨S2x256x512, .bf16⟩
  | .local _ .vmem, ⟨37, _⟩ => ⟨S2x256x512, .bf16⟩
  | .local _ .vmem, ⟨38, _⟩ => ⟨S2x256x512, .bf16⟩
  | .local _ .vmem, ⟨39, _⟩ => ⟨S2x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_19 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_20 : Ref sig .tc := ⟨.hbm, 143, rfl⟩
abbrev main_v110 : Ref sig .tc := ⟨.hbm, 144, rfl⟩
abbrev main_v111 : Ref sig .tc := ⟨.hbm, 145, rfl⟩
abbrev main_cst_21 : Ref sig .tc := ⟨.hbm, 146, rfl⟩
abbrev main_v112 : Ref sig .tc := ⟨.hbm, 147, rfl⟩
abbrev main_v113 : Ref sig .tc := ⟨.hbm, 148, rfl⟩
abbrev main_cst_22 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119_0 : Ref sig .tc := ⟨.hbm, 155, rfl⟩
abbrev main_v119_1 : Ref sig .tc := ⟨.hbm, 156, rfl⟩
abbrev main_v119_2 : Ref sig .tc := ⟨.hbm, 157, rfl⟩
abbrev main_v119_3 : Ref sig .tc := ⟨.hbm, 158, rfl⟩
abbrev main_v119_4 : Ref sig .tc := ⟨.hbm, 159, rfl⟩
abbrev main_v119_5 : Ref sig .tc := ⟨.hbm, 160, rfl⟩
abbrev main_v119_6 : Ref sig .tc := ⟨.hbm, 161, rfl⟩
abbrev main_v119_7 : Ref sig .tc := ⟨.hbm, 162, rfl⟩
abbrev main_v119_8 : Ref sig .tc := ⟨.hbm, 163, rfl⟩
abbrev main_v119_9 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c4_i32 : BitVec 32 := 4#32
  let v1 : BitVec 32 := Scalar.select v0 c4_i32 arg0
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S2x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x256x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S2x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S2x256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S2x256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S2x256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S2x256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ProjectReferenceIdeal.lean ====
abbrev S8x256x1024 : Shape := ⟨3, ![8, 256, 1024]⟩
abbrev S8x4096x1024 : Shape := ⟨3, ![8, 4096, 1024]⟩
abbrev S1x3x1024 : Shape := ⟨3, ![1, 3, 1024]⟩
abbrev S8x3x1024 : Shape := ⟨3, ![8, 3, 1024]⟩
abbrev S1024 : Shape := ⟨1, ![1024]⟩
abbrev S1024x2736 : Shape := ⟨2, ![1024, 2736]⟩
abbrev S256 : Shape := ⟨1, ![256]⟩
abbrev S256x384 : Shape := ⟨2, ![256, 384]⟩
abbrev S128 : Shape := ⟨1, ![128]⟩
abbrev S128x512 : Shape := ⟨2, ![128, 512]⟩
abbrev S4096 : Shape := ⟨1, ![4096]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2736 : Shape := ⟨3, ![8, 4096, 2736]⟩
abbrev S8x4096x256 : Shape := ⟨3, ![8, 4096, 256]⟩
abbrev S8x4096x128 : Shape := ⟨3, ![8, 4096, 128]⟩
abbrev S8x4096x768 : Shape := ⟨3, ![8, 4096, 768]⟩
abbrev S8x4096x8 : Shape := ⟨3, ![8, 4096, 8]⟩
abbrev S8x4096x32 : Shape := ⟨3, ![8, 4096, 32]⟩
abbrev S8x256 : Shape := ⟨2, ![8, 256]⟩
abbrev S8x256x1 : Shape := ⟨3, ![8, 256, 1]⟩
abbrev S8x256x2736 : Shape := ⟨3, ![8, 256, 2736]⟩
abbrev S8x256x256 : Shape := ⟨3, ![8, 256, 256]⟩
abbrev S8x256x128 : Shape := ⟨3, ![8, 256, 128]⟩
abbrev S8x256x768 : Shape := ⟨3, ![8, 256, 768]⟩
abbrev S8x256x8 : Shape := ⟨3, ![8, 256, 8]⟩
abbrev S8x256x32 : Shape := ⟨3, ![8, 256, 32]⟩
abbrev S8x4352x112 : Shape := ⟨3, ![8, 4352, 112]⟩
abbrev S8x4352x768 : Shape := ⟨3, ![8, 4352, 768]⟩
abbrev S8x4352x256 : Shape := ⟨3, ![8, 4352, 256]⟩
abbrev S8x4352x8 : Shape := ⟨3, ![8, 4352, 8]⟩
abbrev S8x4352x128 : Shape := ⟨3, ![8, 4352, 128]⟩
abbrev S8x4352x512 : Shape := ⟨3, ![8, 4352, 512]⟩

abbrev nBuf : Space → Nat
  | .hbm => 106
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S1x3x1024, .f32⟩
  | .hbm, ⟨3, _⟩ => ⟨S8x3x1024, .f32⟩
  | .hbm, ⟨4, _⟩ => ⟨S1024, .f32⟩
  | .hbm, ⟨5, _⟩ => ⟨S1024x2736, .f32⟩
  | .hbm, ⟨6, _⟩ => ⟨S256, .f32⟩
  | .hbm, ⟨7, _⟩ => ⟨S256x384, .f32⟩
  | .hbm, ⟨8, _⟩ => ⟨S128, .f32⟩
  | .hbm, ⟨9, _⟩ => ⟨S128x512, .f32⟩
  | .hbm, ⟨10, _⟩ => ⟨S4096, .f32⟩
  | .hbm, ⟨11, _⟩ => ⟨S4096, .f32⟩
  | .hbm, ⟨12, _⟩ => ⟨S8x1x1024, .f32⟩
  | .hbm, ⟨13, _⟩ => ⟨S8x1x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x2736, .f32⟩
  | .hbm, ⟨38, _⟩ => ⟨S8x4096x256, .f32⟩
  | .hbm, ⟨39, _⟩ => ⟨S8x4096x128, .f32⟩
  | .hbm, ⟨40, _⟩ => ⟨S8x4096x128, .f32⟩
  | .hbm, ⟨41, _⟩ => ⟨S8x4096x768, .f32⟩
  | .hbm, ⟨42, _⟩ => ⟨S8x4096x256, .f32⟩
  | .hbm, ⟨43, _⟩ => ⟨S8x4096x8, .f32⟩
  | .hbm, ⟨44, _⟩ => ⟨S8x4096x8, .f32⟩
  | .hbm, ⟨45, _⟩ => ⟨S8x4096x256, .f32⟩
  | .hbm, ⟨46, _⟩ => ⟨S8x4096x128, .f32⟩
  | .hbm, ⟨47, _⟩ => ⟨S8x4096x32, .f32⟩
  | .hbm, ⟨48, _⟩ => ⟨S8x4096x256, .f32⟩
  | .hbm, ⟨49, _⟩ => ⟨S8x4096x256, .f32⟩
  | .hbm, ⟨50, _⟩ => ⟨S8x4096x256, .f32⟩
  | .hbm, ⟨51, _⟩ => ⟨S1x1x1024, .f32⟩
  | .hbm, ⟨52, _⟩ => ⟨S1x1x1024, .f32⟩
  | .hbm, ⟨53, _⟩ => ⟨S8x256x1024, .f32⟩
  | .hbm, ⟨54, _⟩ => ⟨S_, .f32⟩
  | .hbm, ⟨55, _⟩ => ⟨S8x256, .f32⟩
  | .hbm, ⟨56, _⟩ => ⟨S8x256x1, .f32⟩
  | .hbm, ⟨57, _⟩ => ⟨S_, .f32⟩
  | .hbm, ⟨58, _⟩ => ⟨S8x256x1, .f32⟩
  | .hbm, ⟨59, _⟩ => ⟨S8x256x1, .f32⟩
  | .hbm, ⟨60, _⟩ => ⟨S_, .f32⟩
  | .hbm, ⟨61, _⟩ => ⟨S8x256x1, .f32⟩
  | .hbm, ⟨62, _⟩ => ⟨S8x256x1, .f32⟩
  | .hbm, ⟨63, _⟩ => ⟨S8x256x1, .f32⟩
  | .hbm, ⟨64, _⟩ => ⟨S8x256x1024, .f32⟩
  | .hbm, ⟨65, _⟩ => ⟨S8x256x1024, .f32⟩
  | .hbm, ⟨66, _⟩ => ⟨S1x1x1024, .f32⟩
  | .hbm, ⟨67, _⟩ => ⟨S8x256x1024, .f32⟩
  | .hbm, ⟨68, _⟩ => ⟨S8x256x1024, .f32⟩
  | .hbm, ⟨69, _⟩ => ⟨S_, .f32⟩
  | .hbm, ⟨70, _⟩ => ⟨S1x1x1024, .f32⟩
  | .hbm, ⟨71, _⟩ => ⟨S1x1x1024, .f32⟩
  | .hbm, ⟨72, _⟩ => ⟨S8x256x1024, .f32⟩
  | .hbm, ⟨73, _⟩ => ⟨S8x256x1024, .f32⟩
  | .hbm, ⟨74, _⟩ => ⟨S8x256x1024, .f32⟩
  | .hbm, ⟨75, _⟩ => ⟨S8x256x1024, .f32⟩
  | .hbm, ⟨76, _⟩ => ⟨S8x256x2736, .f32⟩
  | .hbm, ⟨77, _⟩ => ⟨S8x256x256, .f32⟩
  | .hbm, ⟨78, _⟩ => ⟨S8x256x128, .f32⟩
  | .hbm, ⟨79, _⟩ => ⟨S8x256x128, .f32⟩
  | .hbm, ⟨80, _⟩ => ⟨S8x256x768, .f32⟩
  | .hbm, ⟨81, _⟩ => ⟨S8x256x256, .f32⟩
  | .hbm, ⟨82, _⟩ => ⟨S8x256x8, .f32⟩
  | .hbm, ⟨83, _⟩ => ⟨S8x256x8, .f32⟩
  | .hbm, ⟨84, _⟩ => ⟨S8x256x256, .f32⟩
  | .hbm, ⟨85, _⟩ => ⟨S8x256x128, .f32⟩
  | .hbm, ⟨86, _⟩ => ⟨S8x256x32, .f32⟩
  | .hbm, ⟨87, _⟩ => ⟨S8x256x256, .f32⟩
  | .hbm, ⟨88, _⟩ => ⟨S8x256x256, .f32⟩
  | .hbm, ⟨89, _⟩ => ⟨S8x256x256, .f32⟩
  | .hbm, ⟨90, _⟩ => ⟨S_, .f32⟩
  | .hbm, ⟨91, _⟩ => ⟨S8x4352x112, .f32⟩
  | .hbm, ⟨92, _⟩ => ⟨S8x4352x768, .f32⟩
  | .hbm, ⟨93, _⟩ => ⟨S8x4352x256, .f32⟩
  | .hbm, ⟨94, _⟩ => ⟨S8x4352x8, .f32⟩
  | .hbm, ⟨95, _⟩ => ⟨S8x4352x8, .f32⟩
  | .hbm, ⟨96, _⟩ => ⟨S8x4352x128, .f32⟩
  | .hbm, ⟨97, _⟩ => ⟨S8x4352x256, .f32⟩
  | .hbm, ⟨98, _⟩ => ⟨S_, .f32⟩
  | .hbm, ⟨99, _⟩ => ⟨S8x4352x256, .f32⟩
  | .hbm, ⟨100, _⟩ => ⟨S8x4352x256, .f32⟩
  | .hbm, ⟨101, _⟩ => ⟨S8x4352x256, .bf16⟩
  | .hbm, ⟨102, _⟩ => ⟨S8x4352x256, .f32⟩
  | .hbm, ⟨103, _⟩ => ⟨S8x4352x256, .f32⟩
  | .hbm, ⟨104, _⟩ => ⟨S8x4352x512, .f32⟩
  | .hbm, ⟨105, _⟩ => ⟨S8x4352x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_8 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Proof.Row.lean ====
/- The attention of one query row, as mathematics over the extended reals: what the tiled program computes for one head
   (base-two exponentials of pre-scaled logits, one division after the values are summed) is the softmax average. -/
module

public import Idealize.ShloMosaic.PureOps.Ideal
public import Idealize.ShloMosaic.Lib.Pointwise

@[expose] public section

set_option maxRecDepth 16384

noncomputable section

open Idealize.ShloMosaic

namespace Cert.Row

/-- The attention's logit scale, one over the square root of ninety-six. -/
def scale : EReal := Ideal.div 1 (Ideal.sqrt (Ideal.ofBits FTy.f32 1119879168#32))

/-- One over the natural logarithm of two. -/
def invLog2 : EReal := Ideal.div 1 (Ideal.log (Ideal.ofBits FTy.f32 1073741824#32))

/-- One head of one query row as the tiled program forms it from padded lanes: the base-two exponentials of the logits
    less their maximum, averaged over the values `v`, divided by their sum against the column `w`. -/
def tiled {n d : ℕ} (q : Fin d → EReal) (k : Fin n → Fin d → EReal) (v w : Fin n → EReal) : EReal :=
  (∑ x, Ideal.exp2 (∑ l, q l * k x l - Finset.fold max (Ideal.ofBits FTy.f32 4286578688#32) (fun x => ∑ l, q l * k x l) Finset.univ) * v x) *
    Ideal.div 1 (∑ x, Ideal.exp2 (∑ l, q l * k x l - Finset.fold max (Ideal.ofBits FTy.f32 4286578688#32) (fun x => ∑ l, q l * k x l) Finset.univ) * w x)

/-- The logit of one key. -/
def logit {d : ℕ} (q k : Fin d → EReal) : EReal := ∑ l, q l * scale * k l

/-- One head of one query row by the textbook: the softmax of the scaled logits, averaged over the values. -/
def soft {n d : ℕ} (q : Fin d → EReal) (k : Fin n → Fin d → EReal) (v : Fin n → EReal) : EReal :=
  ∑ x, v x * Ideal.div (Ideal.exp (logit q (k x) - max (Ideal.ofBits FTy.f32 4286578688#32)
      (Finset.fold max (Ideal.ofBits FTy.f32 4286578688#32) (fun x => logit q (k x)) Finset.univ)))
    (∑ x, Ideal.exp (logit q (k x) - max (Ideal.ofBits FTy.f32 4286578688#32)
      (Finset.fold max (Ideal.ofBits FTy.f32 4286578688#32) (fun x => logit q (k x)) Finset.univ)))

/-- The word of minus infinity denotes the bottom element. -/
theorem bits_bot : Ideal.ofBits FTy.f32 4286578688#32 = ⊥ := by
  simp [Ideal.ofBits, Ideal.ieee]

/-- The word of ninety-six. -/
theorem bits_96 : Ideal.ofBits FTy.f32 1119879168#32 = ((96 : ℝ) : EReal) := by
  simp [Ideal.ofBits, Ideal.ieee, -EReal.coe_mul]; norm_num

/-- The word of two. -/
theorem bits_2 : Ideal.ofBits FTy.f32 1073741824#32 = ((2 : ℝ) : EReal) := by
  simp [Ideal.ofBits, Ideal.ieee, -EReal.coe_mul]; norm_num

/-- The scale is a real number. -/
theorem scale_coe : scale = ((1 / Real.sqrt 96 : ℝ) : EReal) := by
  have h : Real.sqrt 96 ≠ 0 := (Real.sqrt_pos.mpr (by norm_num)).ne'
  rw [scale, bits_96, Ideal.sqrt_coe, if_neg (by norm_num), Ideal.div_coe h, one_mul]

/-- The reciprocal logarithm is a real number. -/
theorem invLog2_coe : invLog2 = ((1 / Real.log 2 : ℝ) : EReal) := by
  have h : Real.log 2 ≠ 0 := (Real.log_pos (by norm_num)).ne'
  rw [invLog2, bits_2, Ideal.log_coe, if_neg (by norm_num), Ideal.div_coe h, one_mul]

/-- A finite sum of reals, read in the extended reals. -/
theorem coe_sum {ι : Type} (s : Finset ι) (f : ι → ℝ) : ((∑ x ∈ s, f x : ℝ) : EReal) = ∑ x ∈ s, (f x : EReal) :=
  map_sum (⟨⟨(↑), EReal.coe_zero⟩, EReal.coe_add⟩ : ℝ →+ EReal) f s

/-- A nonnegative real factor distributes over a finite sum of extended reals. -/
theorem sum_mul_coe {ι : Type} (s : Finset ι) (f : ι → EReal) {a : ℝ} (ha : 0 ≤ a) :
    (∑ x ∈ s, f x) * (a : EReal) = ∑ x ∈ s, f x * (a : EReal) := by
  classical
  induction s using Finset.induction_on with
  | empty => simp
  | insert x s hx ih =>
    rw [Finset.sum_insert hx, Finset.sum_insert hx,
      EReal.right_distrib_of_nonneg_of_ne_top (by exact_mod_cast ha) (EReal.coe_ne_top a), ih]

/-- The maximum of finitely many reals is one of them. -/
theorem fold_max_coe {n : ℕ} (f : Fin n → ℝ) (x0 : Fin n) (h : ∀ x, f x ≤ f x0) :
    Finset.fold max (Ideal.ofBits FTy.f32 4286578688#32) (fun x => (f x : EReal)) Finset.univ = (f x0 : EReal) := by
  rw [bits_bot]
  apply le_antisymm
  · exact (Finset.fold_max_le _).2 ⟨bot_le, fun x _ => by exact_mod_cast h x⟩
  · exact (Finset.le_fold_max _).2 (Or.inr ⟨x0, Finset.mem_univ _, le_rfl⟩)

/-- A base-two exponential of a logit in base-two units is the exponential. -/
theorem exp2_scaled (a b : ℝ) :
    Ideal.exp2 (((1 / Real.log 2 * a : ℝ) : EReal) - ((1 / Real.log 2 * b : ℝ) : EReal)) = ((Real.exp (a - b) : ℝ) : EReal) := by
  have h : Real.log 2 ≠ 0 := (Real.log_pos (by norm_num)).ne'
  rw [← EReal.coe_sub, Ideal.exp2_coe]
  congr 1
  rw [Real.rpow_eq_pow, Real.rpow_def_of_pos (by norm_num)]
  congr 1
  field_simp

/-- On real logits the tiled row is the textbook row: `y` the logits in base-two units, `X` the logits. -/
theorem tiled_core {n : ℕ} (hn : 0 < n) (X : Fin n → ℝ) (y x v w : Fin n → EReal)
    (hx : ∀ j, x j = (X j : EReal)) (hy : ∀ j, y j = ((1 / Real.log 2 * X j : ℝ) : EReal)) (hw : ∀ j, w j = 1) :
    (∑ j, Ideal.exp2 (y j - Finset.fold max (Ideal.ofBits FTy.f32 4286578688#32) (fun j => y j) Finset.univ) * v j) *
        Ideal.div 1 (∑ j, Ideal.exp2 (y j - Finset.fold max (Ideal.ofBits FTy.f32 4286578688#32) (fun j => y j) Finset.univ) * w j)
      = ∑ j, v j * Ideal.div (Ideal.exp (x j - max (Ideal.ofBits FTy.f32 4286578688#32)
            (Finset.fold max (Ideal.ofBits FTy.f32 4286578688#32) (fun j => x j) Finset.univ)))
          (∑ j, Ideal.exp (x j - max (Ideal.ofBits FTy.f32 4286578688#32)
            (Finset.fold max (Ideal.ofBits FTy.f32 4286578688#32) (fun j => x j) Finset.univ))) := by
  haveI : Nonempty (Fin n) := ⟨⟨0, hn⟩⟩
  obtain ⟨x0, h0⟩ := Finite.exists_max X
  have hc : (0 : ℝ) ≤ 1 / Real.log 2 := (one_div_pos.mpr (Real.log_pos (by norm_num))).le
  obtain rfl : x = fun j => (X j : EReal) := funext hx
  obtain rfl : y = fun j => ((1 / Real.log 2 * X j : ℝ) : EReal) := funext hy
  obtain rfl : w = fun _ => 1 := funext hw
  rw [fold_max_coe X x0 h0, fold_max_coe (fun j => 1 / Real.log 2 * X j) x0 (fun j => mul_le_mul_of_nonneg_left (h0 j) hc), bits_bot,
    max_eq_right bot_le]
  simp only [exp2_scaled]
  simp only [← EReal.coe_sub, Ideal.exp_coe, mul_one, ← coe_sum]
  have hL : 0 < ∑ j, Real.exp (X j - X x0) := Finset.sum_pos (fun j _ => Real.exp_pos _) Finset.univ_nonempty
  rw [Ideal.div_coe hL.ne', one_mul, sum_mul_coe _ _ (one_div_nonneg.mpr hL.le)]
  refine Finset.sum_congr rfl fun j _ => ?_
  rw [Ideal.div_coe hL.ne', mul_comm _ (v j), mul_assoc]

/-- A sum over padded lanes whose last entries are zero is the sum over the first ones. -/
theorem sum_lanes {a b : ℕ} (hab : a ≤ b) (f : Fin b → EReal) (g : Fin a → EReal)
    (hf : ∀ l : Fin b, f l = if h : l.val < a then g ⟨l.val, h⟩ else 0) : ∑ l, f l = ∑ l, g l := by
  obtain ⟨c, rfl⟩ := Nat.exists_eq_add_of_le hab
  rw [Fin.sum_univ_add]
  simp [hf]

/-- One padded head row of the tiled program is the textbook row, for real queries and keys: the queries padded with zeros
    and multiplied by the scale in base-two units, the keys padded with zeros, a column of ones to sum against. -/
theorem tiled_eq_soft {n : ℕ} (hn : 0 < n) (Q : Fin 96 → EReal) (K : Fin n → Fin 96 → EReal)
    (hQ : ∀ l, ∃ r : ℝ, Q l = r) (hK : ∀ x l, ∃ r : ℝ, K x l = r)
    (q : Fin 128 → EReal) (k : Fin n → Fin 128 → EReal) (v w : Fin n → EReal)
    (hq : ∀ l, q l = if h : l.val < 96 then Q ⟨l.val, h⟩ * (scale * invLog2) else 0)
    (hk : ∀ x l, k x l = if h : l.val < 96 then K x ⟨l.val, h⟩ else 0)
    (hw : ∀ x, w x = 1) : tiled q k v w = soft Q K v := by
  choose qr hqr using hQ
  choose kr hkr using hK
  refine tiled_core hn (fun x => ∑ l, qr l * (1 / Real.sqrt 96) * kr x l) _ (fun x => logit Q (K x)) v w (fun x => ?_) (fun x => ?_) hw
  · rw [coe_sum]
    exact Finset.sum_congr rfl fun l _ => by rw [hqr, hkr, scale_coe]; push_cast; rfl
  · rw [sum_lanes (by norm_num : 96 ≤ 128) (fun l => q l * k x l) (fun l => Q l * (scale * invLog2) * K x l)
      (fun l => by rw [hq, hk]; split <;> simp), Finset.mul_sum, coe_sum]
    refine Finset.sum_congr rfl fun l _ => ?_
    rw [hqr, hkr, scale_coe, invLog2_coe, ← EReal.coe_mul, ← EReal.coe_mul, ← EReal.coe_mul]
    congr 1
    ring

end Cert.Row
end
-- ==== Proof.MlaBody.lean ====
/- The latent attention: what one tile of queries computes from its blocks, entry by entry. -/
module

public import proofs.«01_k».proof.Proof.Row
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Mla
open Cert.KernelIdeal Cert.KernelIdeal.Gen

/-- A pair of heads side by side in one row of lanes: the first head's row on the lanes below sixty-four, the second's on
    the others; the first sums its weights against lane sixty-four, the second against lane zero. -/
def pair (q q' : FVec Ideal S1x256x128 .bf16) (k k' v v' : FVec Ideal S1x4352x128 .bf16) (r : Fin 256) (e : Fin 128) : EReal :=
  if e.val < 64 then
    Row.tiled (fun l : Fin 128 => (q (ix3 0 r l) : EReal)) (fun (x : Fin 4352) (l : Fin 128) => (k (ix3 0 x l) : EReal))
      (fun x : Fin 4352 => (v (ix3 0 x e) : EReal)) (fun x : Fin 4352 => (v (ix3 0 x 64) : EReal))
  else
    Row.tiled (fun l : Fin 128 => (q' (ix3 0 r l) : EReal)) (fun (x : Fin 4352) (l : Fin 128) => (k' (ix3 0 x l) : EReal))
      (fun x : Fin 4352 => (v' (ix3 0 x e) : EReal)) (fun x : Fin 4352 => (v' (ix3 0 x 0) : EReal))

/-- The lane test as a selection. -/
theorem select_lane (e : Fin 128) (a b : EReal) :
    Scalar.select (IntOp.cmpi CmpIPredicate.slt (BitVec.ofNat 32 e.val) 64#32) a b = if e.val < 64 then a else b := by
  have h : ∀ e : Fin 128, IntOp.cmpi CmpIPredicate.slt (BitVec.ofNat 32 e.val) 64#32 = if e.val < 64 then 1#1 else 0#1 := by decide
  rw [h e]
  split <;> rfl

variable (q q' : FVec Ideal S1x256x128 .bf16) (k k' v v' : FVec Ideal S1x4352x128 .bf16) (r : Fin 256) (e : Fin 128)

/-- The first tile's first pair of heads. -/
theorem pay_00 : k0_pay8 (F := Ideal) k0_pay2 (k0_pay3 q k) (k0_pay5 q' k') v v' (ix3 0 r e) = pair q q' k k' v v' r e := by
  pointwise [k0_pay8, k0_pay2, k0_pay3, k0_pay5]
  rw [select_lane]; rfl

/-- The first tile's second pair of heads. -/
theorem pay_01 : k0_pay13 (F := Ideal) (k0_pay12 k0_pay2 (k0_pay6 q' k') (k0_pay7 (k0_pay4 q k)) v v') (ix3 0 r e)
    = pair q q' k k' v v' r e := by
  pointwise [k0_pay13, k0_pay12, k0_pay2, k0_pay6, k0_pay7, k0_pay4]
  rw [select_lane]; rfl

/-- The second tile's first pair of heads. -/
theorem pay_10 : k0_pay18 (F := Ideal) k0_pay2 (k0_pay14 (k0_pay10 q' k')) (k0_pay15 (k0_pay11 (k0_pay9 q) k) v) v' (ix3 0 r e)
    = pair q q' k k' v v' r e := by
  pointwise [k0_pay18, k0_pay2, k0_pay14, k0_pay10, k0_pay15, k0_pay11, k0_pay9]
  rw [select_lane]; rfl

/-- The second tile's second pair of heads. -/
theorem pay_11 : k0_pay1 (F := Ideal) (k0_pay19 k0_pay2 (k0_pay16 q' k') (k0_pay17 q k) v v') (ix3 0 r e)
    = pair q q' k k' v v' r e := by
  pointwise [k0_pay1, k0_pay2, k0_pay16, k0_pay17, k0_pay19]
  rw [select_lane]; rfl

end Cert.KernelIdeal.Mla
end
-- ==== Proof.MlaPack.lean ====
/- The latent attention: the packed arrays the tiles read, entry by entry, from the arguments. -/
module

public import proofs.«01_k».proof.Proof.Row
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Mla
open Cert.KernelIdeal Cert.KernelIdeal.Gen

/-- Queries, or keys, of the context tokens before those of the latent tokens. -/
def joined (a : FVec Ideal S8x256x4x96 .f32) (b : FVec Ideal S8x4096x4x96 .f32) : FVec Ideal S8x4352x4x96 .f32 :=
  concatenate S8x4352x4x96 1 [⟨S8x256x4x96, a⟩, ⟨S8x4096x4x96, b⟩] concatenates_S8x256x4x96_S8x4096x4x96_S8x4352x4x96_d1

/-- Values of the context tokens before those of the latent tokens. -/
def joinedV (a : FVec Ideal S8x256x4x64 .f32) (b : FVec Ideal S8x4096x4x64 .f32) : FVec Ideal S8x4352x4x64 .f32 :=
  concatenate S8x4352x4x64 1 [⟨S8x256x4x64, a⟩, ⟨S8x4096x4x64, b⟩] concatenates_S8x256x4x64_S8x4096x4x64_S8x4352x4x64_d1

/-- The queries padded to whole lanes, multiplied by the scale in base-two units. -/
def packQ (T : FVec Ideal S8x4352x4x96 .f32) : FVec Ideal S8x4352x512 .bf16 :=
  shapeCast S8x4352x512 (truncf .bf16 (mulf (concatenate S8x4352x4x128 3 [⟨S8x4352x4x96, T⟩,
      ⟨S8x4352x4x32, broadcastInDim S8x4352x4x32 ![] bcast_S_S8x4352x4x32 (constant (F := Ideal) S_ FTy.f32 0#32)⟩]
      concatenates_S8x4352x4x96_S8x4352x4x32_S8x4352x4x128_d3)
    (broadcastInDim S8x4352x4x128 ![] bcast_S_S8x4352x4x128 (mulf (Host.divf (constant S_ FTy.f32 0x3F800000#32) (Host.sqrt (constant S_ FTy.f32 0x42C00000#32)))
      (Host.divf (constant S_ FTy.f32 0x3F800000#32) (Host.log (constant S_ FTy.f32 0x40000000#32)))))) bitsLt_bf16_f32)
    shapeCasts_S8x4352x4x128_S8x4352x512

/-- The keys padded to whole lanes. -/
def packK (T : FVec Ideal S8x4352x4x96 .f32) : FVec Ideal S8x4352x512 .bf16 :=
  shapeCast S8x4352x512 (truncf .bf16 (concatenate S8x4352x4x128 3 [⟨S8x4352x4x96, T⟩,
      ⟨S8x4352x4x32, broadcastInDim S8x4352x4x32 ![] bcast_S_S8x4352x4x32 (constant (F := Ideal) S_ FTy.f32 0#32)⟩]
      concatenates_S8x4352x4x96_S8x4352x4x32_S8x4352x4x128_d3) bitsLt_bf16_f32)
    shapeCasts_S8x4352x4x128_S8x4352x512

/-- A column of ones, then zeros. -/
def onesV : FVec Ideal S8x4352x2x1x64 .f32 :=
  concatenate S8x4352x2x1x64 4 [⟨S8x4352x2x1x1, broadcastInDim S8x4352x2x1x1 ![] bcast_S_S8x4352x2x1x1 (constant (F := Ideal) S_ FTy.f32 1065353216#32)⟩,
    ⟨S8x4352x2x1x63, broadcastInDim S8x4352x2x1x63 ![] bcast_S_S8x4352x2x1x63 (constant (F := Ideal) S_ FTy.f32 0#32)⟩]
    concatenates_S8x4352x2x1x1_S8x4352x2x1x63_S8x4352x2x1x64_d4

/-- The values padded to whole lanes with a column of ones: after the values of an even head, before those of an odd one. -/
def packV (T : FVec Ideal S8x4352x4x64 .f32) : FVec Ideal S8x4352x512 .bf16 :=
  shapeCast S8x4352x512 (truncf .bf16 (concatenate S8x4352x2x2x128 3
    [⟨S8x4352x2x1x128, concatenate S8x4352x2x1x128 4
      [⟨S8x4352x2x1x64, extractStridedSlice S8x4352x2x1x64 ![0, 0, 0, 0, 0] (shapeCast S8x4352x2x2x64 T shapeCasts_S8x4352x4x64_S8x4352x2x2x64)
          slices_S8x4352x2x2x64_S8x4352x2x1x64_0_0_0_0_0⟩, ⟨S8x4352x2x1x64, onesV⟩] concatenates_S8x4352x2x1x64_S8x4352x2x1x64_S8x4352x2x1x128_d4⟩,
     ⟨S8x4352x2x1x128, concatenate S8x4352x2x1x128 4
      [⟨S8x4352x2x1x64, onesV⟩, ⟨S8x4352x2x1x64, extractStridedSlice S8x4352x2x1x64 ![0, 0, 0, 1, 0] (shapeCast S8x4352x2x2x64 T shapeCasts_S8x4352x4x64_S8x4352x2x2x64)
          slices_S8x4352x2x2x64_S8x4352x2x1x64_0_0_0_1_0⟩] concatenates_S8x4352x2x1x64_S8x4352x2x1x64_S8x4352x2x1x128_d4⟩]
    concatenates_S8x4352x2x1x128_S8x4352x2x1x128_S8x4352x2x2x128_d3) bitsLt_bf16_f32) shapeCasts_S8x4352x2x2x128_S8x4352x512

/-- A packed query lane of head `h`. -/
theorem packQ_at (T : FVec Ideal S8x4352x4x96 .f32) (b : Fin 8) (s : Fin 4352) (h : Fin 4) (l : Fin 128) :
    packQ T (ix3 b s ⟨128 * h.val + l.val, by omega⟩) = if hl : l.val < 96 then (T (ix4 b s h ⟨l.val, hl⟩) : EReal) * (Row.scale * Row.invLog2) else 0 := by
  pointwise [packQ]
  split
  · rfl
  · exact zero_mul _

/-- A packed key lane of head `h`. -/
theorem packK_at (T : FVec Ideal S8x4352x4x96 .f32) (b : Fin 8) (s : Fin 4352) (h : Fin 4) (l : Fin 128) :
    packK T (ix3 b s ⟨128 * h.val + l.val, by omega⟩) = if hl : l.val < 96 then (T (ix4 b s h ⟨l.val, hl⟩) : EReal) else 0 := by
  pointwise [packK]

/-- A packed value lane: the even heads' values first, the odd heads' ones first. -/
theorem packV_read (T : FVec Ideal S8x4352x4x64 .f32) (b : Fin 8) (s : Fin 4352) (j : Fin 512) :
    packV T (ix3 b s j) = (if h : j.val / 128 % 2 < 1 then
        if h1 : j.val % 128 < 64 then T (ix4 b s ⟨j.val / 256 * 2 + j.val / 128 % 2, by omega⟩ ⟨j.val % 128, h1⟩)
        else if h : j.val % 128 - 64 < 1 then 1 else 0
      else
        if h : j.val % 128 < 64 then if h : j.val % 128 < 1 then 1 else 0
        else T (ix4 b s ⟨j.val / 256 * 2 + (1 + (j.val / 128 % 2 - 1)), by omega⟩ ⟨j.val % 128 - 64, by omega⟩) : EReal) := by
  pointwise [packV, onesV]

/-- A packed value lane of head `h`: the value `d` sits on lane `d` of an even head, on lane `64 + d` of an odd one. -/
theorem packV_at (T : FVec Ideal S8x4352x4x64 .f32) (b : Fin 8) (s : Fin 4352) (h : Fin 4) (d : Fin 64) (j : Fin 512)
    (hj : j.val = 128 * h.val + 64 * (h.val % 2) + d.val) : packV T (ix3 b s j) = (T (ix4 b s h d) : EReal) := by
  rw [packV_read]
  rcases Nat.mod_two_eq_zero_or_one h.val with h2 | h2
  · rw [dif_pos (by omega), dif_pos (by omega)]; blk_ext
  · rw [dif_neg (by omega), dif_neg (by omega)]; blk_ext

/-- The column of ones of head `h`: lane sixty-four of an even head, lane zero of an odd one. -/
theorem packV_one (T : FVec Ideal S8x4352x4x64 .f32) (b : Fin 8) (s : Fin 4352) (h : Fin 4) (j : Fin 512)
    (hj : j.val = 128 * h.val + 64 * (1 - h.val % 2)) : packV T (ix3 b s j) = (1 : EReal) := by
  rw [packV_read]
  rcases Nat.mod_two_eq_zero_or_one h.val with h2 | h2
  · rw [dif_pos (by omega), dif_neg (by omega), dif_pos (by omega)]
  · rw [dif_neg (by omega), dif_pos (by omega), dif_pos (by omega)]

/-- A latent token's row of the joined queries is that token's. -/
theorem joined_latent (a : FVec Ideal S8x256x4x96 .f32) (q : FVec Ideal S8x4096x4x96 .f32) (b : Fin 8) (s : Fin 4096) (h : Fin 4) (d : Fin 96) :
    joined a q (ix4 b ⟨256 + s.val, by omega⟩ h d) = q (ix4 b s h d) := by
  pointwise [joined]

/-- Joined rows of real numbers are real. -/
theorem joined_real (a : FVec Ideal S8x256x4x96 .f32) (q : FVec Ideal S8x4096x4x96 .f32)
    (ha : ∀ i, ∃ r : ℝ, (a i : EReal) = r) (hq : ∀ i, ∃ r : ℝ, (q i : EReal) = r) (b : Fin 8) (s : Fin 4352) (h : Fin 4) (d : Fin 96) :
    ∃ r : ℝ, (joined a q (ix4 b s h d) : EReal) = r := by
  pointwise [joined]
  split
  · exact ha _
  · exact hq _

variable (m : (ℓ : Loc nD τ sig) → Buf (Elt Ideal) ℓ) (c : Dev nD)
/-- The packed queries as the tiles find them. -/
theorem V_q : V m c main_v11 = packQ (joined (m ((c : Thread nD τ).loc main_arg0)) (m ((c : Thread nD τ).loc main_arg1))) := by
  entry_read; rfl

/-- The packed keys as the tiles find them. -/
theorem V_k : V m c main_v16 = packK (joined (m ((c : Thread nD τ).loc main_arg2)) (m ((c : Thread nD τ).loc main_arg3))) := by
  entry_read; rfl

/-- The packed values as the tiles find them. -/
theorem V_v : V m c main_v28 = packV (joinedV (m ((c : Thread nD τ).loc main_arg4)) (m ((c : Thread nD τ).loc main_arg5))) := by
  entry_read; rfl

end Cert.KernelIdeal.Mla
end
-- ==== Proof.MlaTile.lean ====
/- The latent attention: one whole tile of results is the attention, entry by entry. -/
module

public import proofs.«01_k».proof.Proof.MlaBody
public import proofs.«01_k».proof.Proof.MlaPack

@[expose] public section

set_option maxRecDepth 16384

noncomputable section

open Idealize.ShloMosaic Idealize.ShloMosaic.TcCoe Idealize.SL.Sem

open Idealize.ShloMosaic.Pipeline (Dat)

namespace Cert.KernelIdeal.Mla
open Cert.KernelIdeal Cert.KernelIdeal.Gen

/-- One entry of the attention: latent token `s` of batch `b`, head `h`, value lane `d`. -/
def attnAt (q : FVec Ideal S8x4096x4x96 .f32) (K : FVec Ideal S8x4352x4x96 .f32) (W : FVec Ideal S8x4352x4x64 .f32)
    (b : Fin 8) (s : Fin 4096) (h : Fin 4) (d : Fin 64) : EReal :=
  Row.soft (fun l : Fin 96 => (q (ix4 b s h l) : EReal)) (fun (x : Fin 4352) (l : Fin 96) => (K (ix4 b x h l) : EReal))
    (fun x : Fin 4352 => (W (ix4 b x h d) : EReal))

/-- The attention's result: each latent token's softmax average of the values over all tokens, the heads side by side. -/
def attn (q : FVec Ideal S8x4096x4x96 .f32) (K : FVec Ideal S8x4352x4x96 .f32) (W : FVec Ideal S8x4352x4x64 .f32) :
    FVec Ideal S8x4096x256 .bf16 := fun i =>
  attnAt q K W (i 0) (i 1) ⟨(i 2).val / 64, Nat.div_lt_of_lt_mul (i 2).isLt⟩ ⟨(i 2).val % 64, Nat.mod_lt _ (by norm_num)⟩

variable (a : FVec Ideal S8x256x4x96 .f32) (q : FVec Ideal S8x4096x4x96 .f32) (K : FVec Ideal S8x4352x4x96 .f32)
    (W : FVec Ideal S8x4352x4x64 .f32) (hq : ∀ i, ∃ z : ℝ, (q i : EReal) = z) (hK : ∀ b s h d, ∃ z : ℝ, (K (ix4 b s h d) : EReal) = z)
    (b : Fin 8) (s : Fin 4096)

include hq hK in
/-- A head's row over packed lanes is the attention's entry. -/
theorem head_attn (h : Fin 4) (d : Fin 64) (e o : Fin 128) (he : e.val = 64 * (h.val % 2) + d.val) (ho : o.val = 64 * (1 - h.val % 2))
    (qf : Fin 128 → EReal) (kf : Fin 4352 → Fin 128 → EReal) (vf wf : Fin 4352 → EReal)
    (hq0 : ∀ l : Fin 128, qf l = packQ (joined a q) (ix3 b ⟨256 + s.val, by omega⟩ ⟨128 * h.val + l.val, by omega⟩))
    (hk0 : ∀ (x : Fin 4352) (l : Fin 128), kf x l = packK K (ix3 b x ⟨128 * h.val + l.val, by omega⟩))
    (hv0 : ∀ x : Fin 4352, vf x = packV W (ix3 b x ⟨128 * h.val + e.val, by omega⟩))
    (hw0 : ∀ x : Fin 4352, wf x = packV W (ix3 b x ⟨128 * h.val + o.val, by omega⟩)) :
    Row.tiled qf kf vf wf = attnAt q K W b s h d := by
  have hv : vf = fun x : Fin 4352 => (W (ix4 b x h d) : EReal) := funext fun x =>
    (hv0 x).trans (packV_at W b x h d _ (by simp only [he]; omega))
  rw [attnAt, hv]
  refine Row.tiled_eq_soft (Nat.zero_lt_succ _) _ _ (fun l => hq _) (fun x l => hK _ _ _ _) _ _ _ _ (fun l => ?_) (fun x l => ?_) (fun x => ?_)
  · rw [hq0 l, packQ_at (joined a q) b ⟨256 + s.val, by omega⟩ h l]
    simp only [joined_latent]
  · exact (hk0 x l).trans (packK_at K b x h l)
  · exact (hw0 x).trans (packV_one W b x h _ (by simp only [ho]))

include hq hK in
/-- A pair of heads over packed lanes is the attention's entries at that pair's lanes: `p` the pair, `e` the lane. -/
theorem pair_attn (p : Fin 2) (q0 q1 : FVec Ideal S1x256x128 .bf16) (k0 k1 v0 v1 : FVec Ideal S1x4352x128 .bf16) (r : Fin 256) (e : Fin 128)
    (j : Fin 256) (hj : j.val = 128 * p.val + e.val)
    (hq0 : ∀ (l : Fin 128) (n : Fin 512), n.val = 128 * (2 * p.val) + l.val → (q0 (ix3 0 r l) : EReal) = packQ (joined a q) (ix3 b ⟨256 + s.val, by omega⟩ n))
    (hq1 : ∀ (l : Fin 128) (n : Fin 512), n.val = 128 * (2 * p.val + 1) + l.val → (q1 (ix3 0 r l) : EReal) = packQ (joined a q) (ix3 b ⟨256 + s.val, by omega⟩ n))
    (hk0 : ∀ (x : Fin 4352) (l : Fin 128) (n : Fin 512), n.val = 128 * (2 * p.val) + l.val → (k0 (ix3 0 x l) : EReal) = packK K (ix3 b x n))
    (hk1 : ∀ (x : Fin 4352) (l : Fin 128) (n : Fin 512), n.val = 128 * (2 * p.val + 1) + l.val → (k1 (ix3 0 x l) : EReal) = packK K (ix3 b x n))
    (hv0 : ∀ (x : Fin 4352) (l : Fin 128) (n : Fin 512), n.val = 128 * (2 * p.val) + l.val → (v0 (ix3 0 x l) : EReal) = packV W (ix3 b x n))
    (hv1 : ∀ (x : Fin 4352) (l : Fin 128) (n : Fin 512), n.val = 128 * (2 * p.val + 1) + l.val → (v1 (ix3 0 x l) : EReal) = packV W (ix3 b x n)) :
    pair q0 q1 k0 k1 v0 v1 r e = attn q K W (ix3 b s j) := by
  show pair q0 q1 k0 k1 v0 v1 r e = attnAt q K W b s ⟨j.val / 64, by omega⟩ ⟨j.val % 64, by omega⟩
  unfold pair
  split
  · rename_i he
    exact head_attn a q K W hq hK b s ⟨j.val / 64, by omega⟩ ⟨j.val % 64, by omega⟩ e 64 (by simp only; omega)
      (by show (64 : ℕ) = 64 * (1 - j.val / 64 % 2); omega) _ _ _ _
      (fun l => hq0 l _ (by simp only; omega)) (fun x l => hk0 x l _ (by simp only; omega)) (fun x => hv0 x e _ (by simp only; omega))
      (fun x => hv0 x 64 _ (by simp only; omega))
  · rename_i he
    exact head_attn a q K W hq hK b s ⟨j.val / 64, by omega⟩ ⟨j.val % 64, by omega⟩ e 0 (by simp only; omega)
      (by show (0 : ℕ) = 64 * (1 - j.val / 64 % 2); omega) _ _ _ _
      (fun l => hq1 l _ (by simp only; omega)) (fun x l => hk1 x l _ (by simp only; omega)) (fun x => hv1 x e _ (by simp only; omega))
      (fun x => hv1 x 0 _ (by simp only; omega))

include hq hK in
/-- The whole tile of a point: every entry is the attention's, when the blocks are those of batch `b` and tile `i`. -/
theorem tile_attn (i : Fin 8) (u0 u1 : Vec Ideal S1x256x512 .bf16) (u2 u3 : Vec Ideal S1x4352x512 .bf16)
    (h0 : ∀ (r : Fin 256) (n : Fin 512) (z : Fin 4352), z.val = 256 + (512 * i.val + r.val) → (u0 (ix3 0 r n) : EReal) = packQ (joined a q) (ix3 b z n))
    (h1 : ∀ (r : Fin 256) (n : Fin 512) (z : Fin 4352), z.val = 256 + (512 * i.val + (256 + r.val)) → (u1 (ix3 0 r n) : EReal) = packQ (joined a q) (ix3 b z n))
    (h2 : ∀ (x : Fin 4352) (n : Fin 512), (u2 (ix3 0 x n) : EReal) = packK K (ix3 b x n))
    (h3 : ∀ (x : Fin 4352) (n : Fin 512), (u3 (ix3 0 x n) : EReal) = packV W (ix3 b x n)) (y : S1x512x256.Idx)
    (s : Fin 4096) (j : Fin 256) (hs : s.val = 512 * i.val + (y 1).val) (hj : j.val = (y 2).val) :
    out0_4 u0 u1 u2 u3 y = attn q K W (ix3 b s j) := by
  unfold_out out0_4
  canon_tiles x hx
  case piece0 =>
    idx_vars x
    obtain rfl : x0 = 0 := Subsingleton.elim _ _
    refine (pay_11 _ _ _ _ _ _ x1 x2).trans (pair_attn a q K W hq hK b s 1 _ _ _ _ _ _ x1 x2 j (by show j.val = 128 * 1 + x2.val; omega)
      (fun l n hn => ?_) (fun l n hn => ?_) (fun x l n hn => ?_) (fun x l n hn => ?_) (fun x l n hn => ?_) (fun x l n hn => ?_))
    · refine Eq.trans ?_ (h1 x1 n _ (by simp only; omega)); pointwise; blk_ext
    · refine Eq.trans ?_ (h1 x1 n _ (by simp only; omega)); pointwise; blk_ext
    · refine Eq.trans ?_ (h2 x n); pointwise; blk_ext
    · refine Eq.trans ?_ (h2 x n); pointwise; blk_ext
    · refine Eq.trans ?_ (h3 x n); pointwise; blk_ext
    · refine Eq.trans ?_ (h3 x n); pointwise; blk_ext
  case piece1 =>
    idx_vars x
    obtain rfl : x0 = 0 := Subsingleton.elim _ _
    refine (pay_10 _ _ _ _ _ _ x1 x2).trans (pair_attn a q K W hq hK b s 0 _ _ _ _ _ _ x1 x2 j (by show j.val = 128 * 0 + x2.val; omega)
      (fun l n hn => ?_) (fun l n hn => ?_) (fun x l n hn => ?_) (fun x l n hn => ?_) (fun x l n hn => ?_) (fun x l n hn => ?_))
    · refine Eq.trans ?_ (h1 x1 n _ (by simp only; omega)); pointwise; blk_ext
    · refine Eq.trans ?_ (h1 x1 n _ (by simp only; omega)); pointwise; blk_ext
    · refine Eq.trans ?_ (h2 x n); pointwise; blk_ext
    · refine Eq.trans ?_ (h2 x n); pointwise; blk_ext
    · refine Eq.trans ?_ (h3 x n); pointwise; blk_ext
    · refine Eq.trans ?_ (h3 x n); pointwise; blk_ext
  case piece2 =>
    idx_vars x
    obtain rfl : x0 = 0 := Subsingleton.elim _ _
    refine (pay_01 _ _ _ _ _ _ x1 x2).trans (pair_attn a q K W hq hK b s 1 _ _ _ _ _ _ x1 x2 j (by show j.val = 128 * 1 + x2.val; omega)
      (fun l n hn => ?_) (fun l n hn => ?_) (fun x l n hn => ?_) (fun x l n hn => ?_) (fun x l n hn => ?_) (fun x l n hn => ?_))
    · refine Eq.trans ?_ (h0 x1 n _ (by simp only; omega)); pointwise; blk_ext
    · refine Eq.trans ?_ (h0 x1 n _ (by simp only; omega)); pointwise; blk_ext
    · refine Eq.trans ?_ (h2 x n); pointwise; blk_ext
    · refine Eq.trans ?_ (h2 x n); pointwise; blk_ext
    · refine Eq.trans ?_ (h3 x n); pointwise; blk_ext
    · refine Eq.trans ?_ (h3 x n); pointwise; blk_ext
  case piece3 =>
    idx_vars x
    obtain rfl : x0 = 0 := Subsingleton.elim _ _
    refine (pay_00 _ _ _ _ _ _ x1 x2).trans (pair_attn a q K W hq hK b s 0 _ _ _ _ _ _ x1 x2 j (by show j.val = 128 * 0 + x2.val; omega)
      (fun l n hn => ?_) (fun l n hn => ?_) (fun x l n hn => ?_) (fun x l n hn => ?_) (fun x l n hn => ?_) (fun x l n hn => ?_))
    · refine Eq.trans ?_ (h0 x1 n _ (by simp only; omega)); pointwise; blk_ext
    · refine Eq.trans ?_ (h0 x1 n _ (by simp only; omega)); pointwise; blk_ext
    · refine Eq.trans ?_ (h2 x n); pointwise; blk_ext
    · refine Eq.trans ?_ (h2 x n); pointwise; blk_ext
    · refine Eq.trans ?_ (h3 x n); pointwise; blk_ext
    · refine Eq.trans ?_ (h3 x n); pointwise; blk_ext

end Cert.KernelIdeal.Mla
end
-- ==== Proof.MlaValue.lean ====
/- The latent attention: what the result array holds after the run, in the arguments. -/
module

public import proofs.«01_k».proof.Proof.MlaTile

@[expose] public section

set_option maxRecDepth 16384

noncomputable section

open Idealize.ShloMosaic Idealize.ShloMosaic.TcCoe Idealize.SL.Sem

open Idealize.ShloMosaic.Pipeline (Dat)

namespace Cert.KernelIdeal.Mla
open Cert.KernelIdeal Cert.KernelIdeal.Gen

variable (m : (ℓ : Loc nD τ sig) → Buf (Elt Ideal) ℓ) (c : Dev nD)

/-- Every window's block at each point. -/
theorem idx : ∀ t : Fin cfg0.N, win0_0.index t = ![t.val / 8, 2 * (t.val % 8) + 1, 0] ∧ win0_1.index t = ![t.val / 8, 2 * (t.val % 8) + 2, 0]
    ∧ win0_2.index t = ![t.val / 8, 0, 0] ∧ win0_3.index t = ![t.val / 8, 0, 0] ∧ win0_4.index t = ![t.val / 8, t.val % 8, 0] ∧ t.val / 8 < 8 :=
  (by decide +kernel : ∀ t : Fin grid0.N, _)

/-- The first query tile of a point, read in the packed queries. -/
theorem blk0 (t : Fin cfg0.N) (A : FVec Ideal S8x4352x512 .bf16) (hA : V m c (Pipeline.arrRef spec0 0) = A)
    (r : Fin 256) (b : Fin 8) (s : Fin 4352) (j : Fin 512) (hb : b.val = t.val / 8)
    (hs : s.val = 256 + (512 * (t.val % 8) + r.val)) : iblk m c 0 t (ix3 0 r j) = A (ix3 b s j) := by
  unfold iblk
  rw [hA]
  blk_ext [idx t]

/-- The second query tile of a point, read in the packed queries. -/
theorem blk1 (t : Fin cfg0.N) (A : FVec Ideal S8x4352x512 .bf16) (hA : V m c (Pipeline.arrRef spec0 1) = A)
    (r : Fin 256) (b : Fin 8) (s : Fin 4352) (j : Fin 512) (hb : b.val = t.val / 8)
    (hs : s.val = 256 + (512 * (t.val % 8) + (256 + r.val))) : iblk m c 1 t (ix3 0 r j) = A (ix3 b s j) := by
  unfold iblk
  rw [hA]
  blk_ext [idx t]

/-- The keys of a point, read in the packed keys. -/
theorem blk2 (t : Fin cfg0.N) (A : FVec Ideal S8x4352x512 .bf16) (hA : V m c (Pipeline.arrRef spec0 2) = A)
    (x : Fin 4352) (b : Fin 8) (j : Fin 512) (hb : b.val = t.val / 8) : iblk m c 2 t (ix3 0 x j) = A (ix3 b x j) := by
  unfold iblk
  rw [hA]
  blk_ext [idx t]

/-- The values of a point, read in the packed values. -/
theorem blk3 (t : Fin cfg0.N) (A : FVec Ideal S8x4352x512 .bf16) (hA : V m c (Pipeline.arrRef spec0 3) = A)
    (x : Fin 4352) (b : Fin 8) (j : Fin 512) (hb : b.val = t.val / 8) : iblk m c 3 t (ix3 0 x j) = A (ix3 b x j) := by
  unfold iblk
  rw [hA]
  blk_ext [idx t]

/-- Every entry of an array is a real number. -/
def IsReal {S : Shape} (X : FVec Ideal S .f32) : Prop := ∀ i, ∃ z : ℝ, (X i : EReal) = z

/-- The result array after the run is the attention of the arguments. -/
theorem final (hq : IsReal (S := S8x4096x4x96) (m ((c : Thread nD τ).loc main_arg1)))
    (hkc : IsReal (S := S8x256x4x96) (m ((c : Thread nD τ).loc main_arg2)))
    (hk : IsReal (S := S8x4096x4x96) (m ((c : Thread nD τ).loc main_arg3))) :
    (dats m 0 c).arrAt 4 (cfgs 0).N = attn (m ((c : Thread nD τ).loc main_arg1))
      (joined (m ((c : Thread nD τ).loc main_arg2)) (m ((c : Thread nD τ).loc main_arg3)))
      (joinedV (m ((c : Thread nD τ).loc main_arg4)) (m ((c : Thread nD τ).loc main_arg5))) := by
  refine (dats m 0 c).arrAt_eq_of_covers 4 _ (by decide +kernel) fun t _ y => ?_
  have ht := (idx t).2.2.2.2.2
  have hy : 512 * (t.val % 8) + (y 1).val < 4096 := by have : (y 1).val < 512 := (y 1).isLt; omega
  have e : ((cfg0.win 4).blk t).view.emb y = (ix3 (⟨t.val / 8, ht⟩ : Fin 8)
      (⟨512 * (t.val % 8) + (y 1).val, hy⟩ : Fin 4096) (⟨(y 2).val, (y 2).isLt⟩ : Fin 256) : S8x4096x256.Idx) := by
    blk_ext [idx t]
  blk_simp
  rw [after0_4]
  refine (tile_attn (m ((c : Thread nD τ).loc main_arg0)) (m ((c : Thread nD τ).loc main_arg1))
    (joined (m ((c : Thread nD τ).loc main_arg2)) (m ((c : Thread nD τ).loc main_arg3)))
    (joinedV (m ((c : Thread nD τ).loc main_arg4)) (m ((c : Thread nD τ).loc main_arg5))) hq (joined_real _ _ hkc hk)
    ⟨t.val / 8, ht⟩ ⟨t.val % 8, Nat.mod_lt _ (by norm_num)⟩ (iblk m c 0 t) (iblk m c 1 t) (iblk m c 2 t) (iblk m c 3 t)
    (fun r n z hz => blk0 m c t _ (V_q m c) r _ z n rfl hz) (fun r n z hz => blk1 m c t _ (V_q m c) r _ z n rfl hz)
    (fun x n => blk2 m c t _ (V_k m c) x _ n rfl) (fun x n => blk3 m c t _ (V_v m c) x _ n rfl) y
    ⟨512 * (t.val % 8) + (y 1).val, hy⟩ ⟨(y 2).val, (y 2).isLt⟩ rfl rfl).trans ?_
  exact congrArg _ e.symm

end Cert.KernelIdeal.Mla
end
-- ==== Proof.MlaRef.lean ====
/- The latent attention's reference: its composed term, entry by entry. -/
module

public import proofs.«01_k».proof.Proof.Row
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Mla
open Cert.ReferenceIdeal Cert.ReferenceIdeal.Gen

/-- The scaled queries' products with the keys. -/
def logits (arg1 : FVec Ideal S8x4096x4x96 .f32) (K : FVec Ideal S8x4352x4x96 .f32) : FVec Ideal S8x4x4096x4352 .f32 :=
  Host.dotGeneral dot_S8x4096x4x96_S8x4352x4x96_S8x4x4096x4352_3_3_1_1_02_02 none (mulf arg1 (broadcastInDim S8x4096x4x96 ![] bcast_S_S8x4096x4x96 (Host.divf (constant S_ .f32 0x3F800000#32) (Host.sqrt (constant S_ .f32 0x42C00000#32))))) K

/-- The largest product of each query. -/
def peak (L : FVec Ideal S8x4x4096x4352 .f32) : FVec Ideal S8x4x4096 .f32 :=
  Host.reduce (FloatOps.maximumf (F := Ideal) (φ := .f32)) L (constant (F := Ideal) S_ .f32 0xFF800000#32) reducesTo_S8x4x4096x4352_S8x4x4096_d3 h_S_

/-- A query's shift, at every key. -/
def tops (R : FVec Ideal S8x4x4096 .f32) : FVec Ideal S8x4x4096x4352 .f32 :=
  broadcastInDim S8x4x4096x4352 ![0, 1, 2, 3] bcast_S8x4x4096x1_S8x4x4096x4352_0_1_2_3 (broadcastInDim S8x4x4096x1 ![0, 1, 2] bcast_S8x4x4096_S8x4x4096x1_0_1_2 (maximumf (broadcastInDim S8x4x4096 ![] bcast_S_S8x4x4096 (constant (F := Ideal) S_ .f32 0xFF800000#32)) R))

/-- The exponentials of the products less a shift. -/
def expo (L M : FVec Ideal S8x4x4096x4352 .f32) : FVec Ideal S8x4x4096x4352 .f32 := Host.exp (subf L M)

/-- Each weight over the sum of its query's weights. -/
def weights (E : FVec Ideal S8x4x4096x4352 .f32) : FVec Ideal S8x4x4096x4352 .f32 :=
  Host.divf E (broadcastInDim S8x4x4096x4352 ![0, 1, 2, 3] bcast_S8x4x4096x1_S8x4x4096x4352_0_1_2_3 (broadcastInDim S8x4x4096x1 ![0, 1, 2] bcast_S8x4x4096_S8x4x4096x1_0_1_2 (Host.reduceAdd E (constant S_ .f32 0x00000000#32) reducesTo_S8x4x4096x4352_S8x4x4096_d3 h_S_)))

/-- The values averaged by the weights, the heads side by side. -/
def mixed (W : FVec Ideal S8x4352x4x64 .f32) (P : FVec Ideal S8x4x4096x4352 .f32) : FVec Ideal S8x4096x256 .bf16 :=
  truncf (F := Ideal) .bf16 (shapeCast S8x4096x256 (transpose S8x4096x4x64 [0, 3, 1, 2] (Host.dotGeneral dot_S8x4352x4x64_S8x4x4096x4352_S8x4x64x4096_1_3_3_2_02_01 none W P) transposes_S8x4x64x4096_S8x4096x4x64_0_3_1_2) shapeCasts_S8x4096x4x64_S8x4096x256) bitsLt_bf16_f32

/-- The reference, from the queries and the joined keys and values. -/
def result (arg1 : FVec Ideal S8x4096x4x96 .f32) (K : FVec Ideal S8x4352x4x96 .f32) (W : FVec Ideal S8x4352x4x64 .f32) : FVec Ideal S8x4096x256 .bf16 :=
  mixed W (weights (expo (logits arg1 K) (tops (peak (logits arg1 K)))))

section
variable (b : Fin 8) (h : Fin 4) (s : Fin 4096) (x : Fin 4352)

/-- A product of a scaled query and a key. -/
theorem logits_at (q : FVec Ideal S8x4096x4x96 .f32) (K : FVec Ideal S8x4352x4x96 .f32) :
    (logits q K (ix4 b h s x) : EReal) = Cert.Row.logit (fun l : Fin 96 => (q (ix4 b s h l) : EReal)) (fun l : Fin 96 => (K (ix4 b x h l) : EReal)) := by
  pointwise [logits]
  rfl

/-- The largest product of a query. -/
theorem peak_at (L : FVec Ideal S8x4x4096x4352 .f32) : (peak L (ix3 b h s) : EReal) =
    Finset.fold max (Ideal.ofBits FTy.f32 4286578688#32) (fun z : Fin 4352 => (L (ix4 b h s z) : EReal)) Finset.univ := by
  pointwise [peak]

/-- A query's shift. -/
theorem tops_at (R : FVec Ideal S8x4x4096 .f32) : (tops R (ix4 b h s x) : EReal) = max (Ideal.ofBits FTy.f32 4286578688#32) (R (ix3 b h s)) := by
  pointwise [tops]

/-- An exponential of a shifted product. -/
theorem expo_at (L M : FVec Ideal S8x4x4096x4352 .f32) : (expo L M (ix4 b h s x) : EReal) = Ideal.exp (L (ix4 b h s x) - M (ix4 b h s x)) := by
  pointwise [expo]

/-- A normalised weight. -/
theorem weights_at (E : FVec Ideal S8x4x4096x4352 .f32) : (weights E (ix4 b h s x) : EReal) =
    Ideal.div (E (ix4 b h s x)) (∑ z : Fin 4352, (E (ix4 b h s z) : EReal)) := by
  pointwise [weights]

/-- An averaged value. -/
theorem mixed_at (W : FVec Ideal S8x4352x4x64 .f32) (P : FVec Ideal S8x4x4096x4352 .f32) (j : Fin 256) :
    (mixed W P (ix3 b s j) : EReal) = ∑ z : Fin 4352, (W (ix4 b z ⟨j.val / 64, by omega⟩ ⟨j.val % 64, by omega⟩) : EReal) * P (ix4 b ⟨j.val / 64, by omega⟩ s z) := by
  pointwise [mixed]

end

/-- An entry of the reference is the soft attention of its row. -/
theorem result_at (q : FVec Ideal S8x4096x4x96 .f32) (K : FVec Ideal S8x4352x4x96 .f32) (W : FVec Ideal S8x4352x4x64 .f32)
    (b : Fin 8) (s : Fin 4096) (j : Fin 256) : (result q K W (ix3 b s j) : EReal) =
    Cert.Row.soft (fun l : Fin 96 => (q (ix4 b s ⟨j.val / 64, by omega⟩ l) : EReal)) (fun (x : Fin 4352) (l : Fin 96) => (K (ix4 b x ⟨j.val / 64, by omega⟩ l) : EReal))
      (fun x => (W (ix4 b x ⟨j.val / 64, by omega⟩ ⟨j.val % 64, by omega⟩) : EReal)) := by
  unfold result
  rw [mixed_at]
  simp only [weights_at, expo_at, tops_at, peak_at, logits_at]
  rfl

end Cert.ReferenceIdeal.Mla
end
-- ==== Proof.MlaFinite.lean ====
/- The latent attention: what its precondition says of the arguments. -/
module

public import proofs.«01_k».proof.Defs
public import Idealize.ShloMosaic.Lib.Pointwise

@[expose] public section

set_option maxRecDepth 16384

noncomputable section

open Idealize.ShloMosaic Idealize.ShloMosaic.TcCoe Idealize.SL.Sem

namespace Cert.Mla

/-- The predicate's stated facts hold. -/
theorem preFacts : Cert.Pre_finite.Facts := ⟨by decide, by decide⟩

/-- A number whose magnitude is below the word of infinity is real. -/
theorem real_of_lt (x : Ideal .f32) (h : FloatOps.cmpf (F := Ideal) (φ := .f32) .olt (FloatOps.hostAbsf x) (FloatOps.ofBits (F := Ideal) .f32 0x7F800000#32) = 1#1) :
    ∃ z : ℝ, (x : EReal) = z := by
  have hb : (FloatOps.ofBits (F := Ideal) .f32 0x7F800000#32 : EReal) = ⊤ := by
    simp [FloatOps.ofBits, Ideal.ofBits, Ideal.ieee]
  have h' : max (x : EReal) (-x) < ⊤ := by
    by_contra hn
    rw [← hb] at hn
    change BitVec.ofBool (decide (max (x : EReal) (-x) < (FloatOps.ofBits (F := Ideal) .f32 0x7F800000#32 : EReal))) = 1#1 at h
    rw [decide_eq_false hn] at h
    exact absurd h (by decide)
  obtain ⟨h1, h2⟩ := max_lt_iff.mp h'
  induction x using EReal.rec with
  | bot => simp at h2
  | top => simp at h1
  | coe z => exact ⟨z, rfl⟩

/-- Under the precondition the latent queries and all the keys are real. -/
theorem real_of_pre (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) :
    (∀ i, ∃ z : ℝ, ((show FVec Ideal Cert.KernelIdeal.S8x4096x4x96 .f32 from m ((c.tc : Thread Cert.KernelIdeal.nD Cert.KernelIdeal.τ).loc Cert.KernelIdeal.main_arg1)) i : EReal) = z)
    ∧ (∀ i, ∃ z : ℝ, ((show FVec Ideal Cert.KernelIdeal.S8x256x4x96 .f32 from m ((c.tc : Thread Cert.KernelIdeal.nD Cert.KernelIdeal.τ).loc Cert.KernelIdeal.main_arg2)) i : EReal) = z)
    ∧ (∀ i, ∃ z : ℝ, ((show FVec Ideal Cert.KernelIdeal.S8x4096x4x96 .f32 from m ((c.tc : Thread Cert.KernelIdeal.nD Cert.KernelIdeal.τ).loc Cert.KernelIdeal.main_arg3)) i : EReal) = z) := by
  obtain ⟨h1, h2, h3⟩ := h c
  exact ⟨fun i => real_of_lt _ (congrFun h1 i), fun i => real_of_lt _ (congrFun h2 i), fun i => real_of_lt _ (congrFun h3 i)⟩

end Cert.Mla
end
-- ==== Proof.MlaClaim.lean ====
/- The latent attention: the kernel and the reference end with equal results. -/
module

public import proofs.«01_k».proof.Proof.MlaValue
public import proofs.«01_k».proof.Proof.MlaRef
public import proofs.«01_k».proof.Proof.MlaFinite
public import Idealize.ShloMosaic.Lib.Claim

@[expose] public section

set_option maxRecDepth 16384

noncomputable section

open Idealize.ShloMosaic Idealize.ShloMosaic.TcCoe Idealize.SL.Sem

namespace Cert.Mla

/-- The reference's result is the attention the kernel's tiles make up. -/
theorem result_eq (q : FVec Ideal Cert.KernelIdeal.S8x4096x4x96 .f32) (K : FVec Ideal Cert.KernelIdeal.S8x4352x4x96 .f32) (W : FVec Ideal Cert.KernelIdeal.S8x4352x4x64 .f32) :
    Cert.ReferenceIdeal.Mla.result q K W = Cert.KernelIdeal.Mla.attn q K W := by
  funext y
  idx_vars y
  exact Cert.ReferenceIdeal.Mla.result_at q K W _ _ _

/-- The reference's term, of arrays equal to the kernel's arguments, is the kernel's result array. -/
theorem reference_eq (m : (ℓ : Loc Cert.KernelIdeal.nD Cert.KernelIdeal.τ Cert.KernelIdeal.sig) → Buf (Elt Ideal) ℓ)
    (c : Dev Cert.KernelIdeal.nD) (T : FVec Ideal Cert.KernelIdeal.S8x4096x256 .bf16) (a1 a3 : FVec Ideal Cert.KernelIdeal.S8x4096x4x96 .f32)
    (a2 : FVec Ideal Cert.KernelIdeal.S8x256x4x96 .f32) (a4 : FVec Ideal Cert.KernelIdeal.S8x256x4x64 .f32) (a5 : FVec Ideal Cert.KernelIdeal.S8x4096x4x64 .f32)
    (hT : T = Cert.ReferenceIdeal.Mla.result a1 (Cert.KernelIdeal.Mla.joined a2 a3) (Cert.KernelIdeal.Mla.joinedV a4 a5))
    (h1 : a1 = m ((c : Thread Cert.KernelIdeal.nD Cert.KernelIdeal.τ).loc Cert.KernelIdeal.main_arg1))
    (h2 : a2 = m ((c : Thread Cert.KernelIdeal.nD Cert.KernelIdeal.τ).loc Cert.KernelIdeal.main_arg2))
    (h3 : a3 = m ((c : Thread Cert.KernelIdeal.nD Cert.KernelIdeal.τ).loc Cert.KernelIdeal.main_arg3))
    (h4 : a4 = m ((c : Thread Cert.KernelIdeal.nD Cert.KernelIdeal.τ).loc Cert.KernelIdeal.main_arg4))
    (h5 : a5 = m ((c : Thread Cert.KernelIdeal.nD Cert.KernelIdeal.τ).loc Cert.KernelIdeal.main_arg5))
    (h : Cert.Pre_KernelIdeal_finite (hPre_finite := preFacts) m) :
    T = (Cert.KernelIdeal.Gen.dats m 0 c).arrAt 4 (Cert.KernelIdeal.cfgs 0).N := by
  obtain ⟨hq, hkc, hk⟩ := real_of_pre m h c
  rw [hT, result_eq, h1, h2, h3, h4, h5]
  exact (Cert.KernelIdeal.Mla.final m c hq hkc hk).symm

/-- The algebraic claim. -/
theorem algebraic : Cert.algebraic_KernelIdeal_ReferenceIdeal_pre_finite (hKernelIdeal := Cert.KernelIdeal.Gen.facts)
    (hReferenceIdeal := Cert.ReferenceIdeal.Gen.facts) (hPre_finite := preFacts) := by
  pair_intro
  · run_from Cert.KernelIdeal.Gen.run_main m g
  · run_from Cert.ReferenceIdeal.Value.run m' g'
    exact reference_eq m c _ _ _ _ _ _ rfl rfl (hagree c).2.2.1 (hagree c).2.2.2.1 (hagree c).2.2.2.2.1 (hagree c).2.2.2.2.2 hpre

end Cert.Mla
end
-- ==== Proof.Ffn.lean ====
/- One token's row of the layer after the mixers: norms, the gated feed-forward network, the projection of the joined mixers. -/
module

public import Idealize.ShloMosaic.Lib.Pointwise

@[expose] public section

set_option maxRecDepth 16384

noncomputable section

open Idealize.ShloMosaic Idealize.ShloMosaic.TcCoe Idealize.SL.Sem

namespace Cert.Ffn

/-- The small number added to a mean square. -/
def eps : EReal := Ideal.ofBits FTy.f32 897988541#32

/-- The width of a row, 1024. -/
def width : EReal := Ideal.ofBits FTy.f32 1149239296#32

/-- One half. -/
def half : EReal := Ideal.ofBits FTy.f32 1056964608#32

/-- One sixty-fourth. -/
def inv64 : EReal := Ideal.ofBits FTy.f32 1015021568#32

/-- A row over its root mean square, times a weight. -/
def norm (x g : Fin 1024 → EReal) (j : Fin 1024) : EReal :=
  x j * Ideal.rsqrt (Ideal.div (∑ l, x l * x l) width + eps) * g j

/-- The normalised row, scaled and shifted. -/
def pre (x g sh sc : Fin 1024 → EReal) (j : Fin 1024) : EReal := norm x g j * (1 + sc j) + sh j

/-- `a` times its logistic value. -/
def silu (a : EReal) : EReal := a * Ideal.div 1 (1 + Ideal.exp (0 - a))

/-- The gated feed-forward network of a row. -/
def swi (h : Fin 1024 → EReal) (wg wu : Fin 1024 → Fin 2816 → EReal) (wd : Fin 2816 → Fin 1024 → EReal) (j : Fin 1024) : EReal :=
  ∑ f, silu (∑ l, h l * wg l f) * (∑ l, h l * wu l f) * wd f j

/-- A row plus half its gated feed-forward network, under a modulation (shift, scale, gate). -/
def step (x g sh sc ga : Fin 1024 → EReal) (wg wu : Fin 1024 → Fin 2816 → EReal) (wd : Fin 2816 → Fin 1024 → EReal) (j : Fin 1024) : EReal :=
  x j + half * ga j * swi (pre x g sh sc) wg wu wd j

/-- Four rows of 256 one after the other. -/
def four (a b c d : Fin 256 → EReal) (x : Fin 1024) : EReal :=
  if h : x.val < 256 then a ⟨x.val, h⟩
  else if h1 : x.val - 256 < 256 then b ⟨x.val - 256, h1⟩
  else if h2 : x.val - 256 - 256 < 256 then c ⟨x.val - 256 - 256, h2⟩
  else d ⟨x.val - 256 - 256 - 256, by omega⟩

/-- A row plus a gated projection of the joined mixers' row. -/
def mix (x gate cat : Fin 1024 → EReal) (w : Fin 1024 → Fin 1024 → EReal) (j : Fin 1024) : EReal :=
  x j + gate j * ∑ l, cat l * w l j

/-- Four heads of 64 in one row, each over its root mean square (a mask selects the head), times a weight, gated by `z`. -/
def gated (bd : Fin 256 → Fin 256 → EReal) (o z dn : Fin 256 → EReal) (j : Fin 256) : EReal :=
  o j * Ideal.rsqrt ((∑ x, o x * o x * bd x j) * inv64 + eps) * dn j * silu (z j)

/-- The row of the layer after the mixers. -/
def row (x gate cat : Fin 1024 → EReal) (w : Fin 1024 → Fin 1024 → EReal) (g sh sc ga : Fin 1024 → EReal)
    (wg wu : Fin 1024 → Fin 2816 → EReal) (wd : Fin 2816 → Fin 1024 → EReal) (fin : Fin 1024 → EReal) : Fin 1024 → EReal :=
  norm (step (mix x gate cat w) g sh sc ga wg wu wd) fin

/-- Equal entries give equal rows. -/
theorem row_congr {x x' gate gate' cat cat' : Fin 1024 → EReal} {w w' : Fin 1024 → Fin 1024 → EReal} {g g' sh sh' sc sc' ga ga' : Fin 1024 → EReal}
    {wg wg' wu wu' : Fin 1024 → Fin 2816 → EReal} {wd wd' : Fin 2816 → Fin 1024 → EReal} {fin fin' : Fin 1024 → EReal} {j j' : Fin 1024}
    (h0 : ∀ l, x l = x' l) (h1 : ∀ l, gate l = gate' l) (h2 : ∀ l, cat l = cat' l) (h3 : ∀ l j, w l j = w' l j) (h4 : ∀ l, g l = g' l)
    (h5 : ∀ l, sh l = sh' l) (h6 : ∀ l, sc l = sc' l) (h7 : ∀ l, ga l = ga' l) (h8 : ∀ l f, wg l f = wg' l f) (h9 : ∀ l f, wu l f = wu' l f)
    (h10 : ∀ f j, wd f j = wd' f j) (h11 : ∀ l, fin l = fin' l) (h12 : j = j') :
    row x gate cat w g sh sc ga wg wu wd fin j = row x' gate' cat' w' g' sh' sc' ga' wg' wu' wd' fin' j' := by
  obtain rfl := funext h0; obtain rfl := funext h1; obtain rfl := funext h2; obtain rfl := funext fun l => funext (h3 l)
  obtain rfl := funext h4; obtain rfl := funext h5; obtain rfl := funext h6; obtain rfl := funext h7
  obtain rfl := funext fun l => funext (h8 l); obtain rfl := funext fun l => funext (h9 l); obtain rfl := funext fun f => funext (h10 f)
  obtain rfl := funext h11; rw [h12]

/-- Equal entries give equal joined rows. -/
theorem four_congr {a a' b b' c c' d d' : Fin 256 → EReal} (ha : ∀ l, a l = a' l) (hb : ∀ l, b l = b' l) (hc : ∀ l, c l = c' l)
    (hd : ∀ l, d l = d' l) (l : Fin 1024) : four a b c d l = four a' b' c' d' l := by
  rw [funext ha, funext hb, funext hc, funext hd]

/-- Equal entries give equal gated heads. -/
theorem gated_congr {bd bd' : Fin 256 → Fin 256 → EReal} {o o' z z' dn dn' : Fin 256 → EReal} (hb : ∀ x j, bd x j = bd' x j)
    (ho : ∀ x, o x = o' x) (hz : ∀ x, z x = z' x) (hd : ∀ x, dn x = dn' x) (l : Fin 256) : gated bd o z dn l = gated bd' o' z' dn' l := by
  rw [funext fun x => funext (hb x), funext ho, funext hz, funext hd]

/-- Equal entries give equal sums. -/
theorem add_congr {n : ℕ} {a a' b b' : Fin n → EReal} (ha : ∀ x, a x = a' x) (hb : ∀ x, b x = b' x) (x : Fin n) : a x + b x = a' x + b' x := by
  rw [ha, hb]

/-- The order of the first mixer's heads: the two middle ones change places. -/
def place (n : ℕ) : ℕ := n / 64 % 2 * 128 + n / 128 * 64 + n % 64

/-- Changing places stays in the row. -/
theorem place_lt {n : ℕ} (h : n < 256) : place n < 256 := by unfold place; omega

/-- Changing places twice restores the order. -/
theorem place_place : ∀ n : Fin 256, place (place n.val) = n.val := by decide +kernel

/-- The swapped order on a joined row's first 256 entries. -/
def swap (l : Fin 1024) : Fin 1024 := if h : l.val < 256 then ⟨place l.val, (place_lt h).trans (by norm_num)⟩ else l

/-- Changing places twice restores the joined row. -/
theorem swap_swap (l : Fin 1024) : swap (swap l) = l := by
  by_cases h : l.val < 256
  · have e : swap l = ⟨place l.val, (place_lt h).trans (by norm_num)⟩ := dif_pos h
    have e' : swap ⟨place l.val, (place_lt h).trans (by norm_num)⟩ = ⟨place (place l.val), (place_lt (place_lt h)).trans (by norm_num)⟩ := dif_pos (place_lt h)
    rw [e, e']
    exact Fin.ext (place_place ⟨l.val, h⟩)
  · have e : swap l = l := dif_neg h
    rw [e, e]

/-- A joined row in the swapped order. -/
theorem four_swap (a b c d : Fin 256 → EReal) (l : Fin 1024) :
    four (fun j => a ⟨place j.val, place_lt j.isLt⟩) b c d l = four a b c d (swap l) := by
  by_cases h : l.val < 256
  · have e : swap l = ⟨place l.val, (place_lt h).trans (by norm_num)⟩ := dif_pos h
    rw [e]
    have e1 : four (fun j => a ⟨place j.val, place_lt j.isLt⟩) b c d l = a ⟨place l.val, place_lt h⟩ := dif_pos h
    have e2 : four a b c d ⟨place l.val, (place_lt h).trans (by norm_num)⟩ = a ⟨place l.val, place_lt h⟩ := dif_pos (place_lt h)
    rw [e1, e2]
  · have e : swap l = l := dif_neg h
    rw [e]
    unfold four
    rw [dif_neg h, dif_neg h]

/-- The swapped order on both factors leaves the projection as it is. -/
theorem mix_swap (x gate cat : Fin 1024 → EReal) (w : Fin 1024 → Fin 1024 → EReal) :
    mix x gate (fun l => cat (swap l)) (fun l j => w (swap l) j) = mix x gate cat w := by
  funext j
  have e : ∑ l, cat (swap l) * w (swap l) j = ∑ l, cat l * w l j :=
    Equiv.sum_comp (Function.Involutive.toPerm swap swap_swap) (fun l => cat l * w l j)
  exact congrArg (fun t => x j + gate j * t) e

/-- One head of 64 over its root mean square, times a weight, gated by `z`. -/
def headed (o z : Fin 256 → EReal) (g : Fin 64 → EReal) (j : Fin 256) : EReal :=
  o j * Ideal.rsqrt (Ideal.div (∑ e : Fin 64, o ⟨j.val / 64 * 64 + e.val, by omega⟩ * o ⟨j.val / 64 * 64 + e.val, by omega⟩) (Ideal.ofBits FTy.f32 1115684864#32) + eps)
    * g ⟨j.val % 64, by omega⟩ * silu (z j)

/-- A masked sum over the lanes is the sum over the head's lanes. -/
theorem masked_sum (f : Fin 256 → EReal) (j : Fin 256) :
    ∑ x : Fin 256, f x * (if x.val / 64 = j.val / 64 then 1 else 0) = ∑ e : Fin 64, f ⟨j.val / 64 * 64 + e.val, by omega⟩ := by
  have key : ∀ a : Fin 4, a.val = j.val / 64 →
      ∑ x : Fin (4 * 64), f x * (if x.val / 64 = j.val / 64 then 1 else 0) = ∑ e : Fin 64, f ⟨j.val / 64 * 64 + e.val, by omega⟩ := by
    intro a ha
    rw [← (finProdFinEquiv (m := 4) (n := 64)).sum_comp, Fintype.sum_prod_type, Finset.sum_eq_single a]
    · refine Finset.sum_congr rfl fun e _ => ?_
      have h : ((finProdFinEquiv (a, e) : Fin (4 * 64)) : ℕ) = e.val + 64 * a.val := rfl
      rw [if_pos (by rw [h]; omega), mul_one]
      congr 1
      apply Fin.ext
      rw [h]; show _ = j.val / 64 * 64 + e.val; omega
    · intro b _ hb
      refine Finset.sum_eq_zero fun e _ => ?_
      have h : ((finProdFinEquiv (b, e) : Fin (4 * 64)) : ℕ) = e.val + 64 * b.val := rfl
      have : b.val ≠ a.val := fun h => hb (Fin.ext h)
      rw [if_neg (by rw [h]; omega), mul_zero]
    · intro h; exact absurd (Finset.mem_univ _) h
  exact key ⟨j.val / 64, by omega⟩ rfl

/-- Sixty-four. -/
theorem bits_64 : Ideal.ofBits FTy.f32 1115684864#32 = ((64 : ℝ) : EReal) := by
  simp [Ideal.ofBits, Ideal.ieee, -EReal.coe_mul]; norm_num

/-- One sixty-fourth. -/
theorem bits_inv64 : inv64 = ((1 / 64 : ℝ) : EReal) := by
  unfold inv64
  simp [Ideal.ofBits, Ideal.ieee, -EReal.coe_mul]; norm_num

/-- The masked mean square is the head's. -/
theorem gated_eq (o z : Fin 256 → EReal) (g : Fin 64 → EReal) :
    gated (fun x j => if x.val / 64 = j.val / 64 then 1 else 0) o z (fun j => g ⟨j.val % 64, by omega⟩) = headed o z g := by
  funext j
  unfold gated headed
  rw [masked_sum (fun x => o x * o x) j, bits_64, bits_inv64, Ideal.div_coe (by norm_num)]

end Cert.Ffn
end
-- ==== Proof.MixBody.lean ====
/- The layer after the mixers: what one tile of tokens of two batches computes from its blocks, entry by entry. -/
module

public import proofs.«01_k».proof.Proof.Ffn
public import proofs.«01_k».proof.Proof.Gen.MixIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixIdeal.Mix
open Cert.MixIdeal Cert.MixIdeal.Gen

/-- The gated norm of the summed directions. -/
theorem pay4_at (f b : FVec Ideal S1x256x256 .f32) (w : FVec Ideal S256x256 .bf16) (g : FVec Ideal S1x256 .f32) (z : FVec Ideal S1x256x256 .f32)
    (r j : Fin 256) : (k0_pay4 (F := Ideal) f b w g z (ix2 r j) : EReal)
      = Ffn.gated (fun x j => w (ix2 x j)) (fun x => f (ix3 0 r x) + b (ix3 0 r x)) (fun x => z (ix3 0 r x)) (fun x => g (ix2 0 x)) j := by
  pointwise [k0_pay4]; rfl

/-- The gated projection of the joined mixers. -/
theorem pay5_at (x : FVec Ideal S256x1024 .f32) (yd : FVec Ideal S256x256 .f32) (ym ya yn : FVec Ideal S1x256x256 .bf16)
    (mm : FVec Ideal S1x3x1024 .f32) (w : FVec Ideal S1024x1024 .bf16) (r : Fin 256) (j : Fin 1024) :
    (k0_pay5 (F := Ideal) x yd ym ya yn mm w (ix2 r j) : EReal)
      = Ffn.mix (fun l => x (ix2 r l)) (fun l => mm (ix3 0 2 l))
        (Ffn.four (fun l => ya (ix3 0 r l)) (fun l => yd (ix2 r l)) (fun l => ym (ix3 0 r l)) (fun l => yn (ix3 0 r l)))
        (fun l j => w (ix2 l j)) j := by
  pointwise [k0_pay5]; rfl

/-- The first batch's modulated norm. -/
theorem pay9_at (x : FVec Ideal S256x1024 .f32) (yd : FVec Ideal S256x256 .f32) (ym ya yn : FVec Ideal S1x256x256 .bf16)
    (mm : FVec Ideal S1x3x1024 .f32) (w : FVec Ideal S1024x1024 .bf16) (mf : FVec Ideal S1x3x1024 .f32) (g : FVec Ideal S1x1024 .f32)
    (r : Fin 256) (j : Fin 1024) :
    (k0_pay9 (F := Ideal) (k0_pay7 mf) (k0_pay8 x yd ym ya yn mm w mf g) (ix2 r j) : EReal)
      = Ffn.pre (fun l => k0_pay5 (F := Ideal) x yd ym ya yn mm w (ix2 r l)) (fun l => g (ix2 0 l)) (fun l => mf (ix3 0 0 l)) (fun l => mf (ix3 0 1 l)) j := by
  pointwise [k0_pay9, k0_pay7, k0_pay8, k0_pay6]; rfl

/-- The second batch's modulated norm. -/
theorem pay15_at (x : FVec Ideal S256x1024 .f32) (yd : FVec Ideal S256x256 .f32) (ym ya yn : FVec Ideal S1x256x256 .bf16)
    (mm : FVec Ideal S1x3x1024 .f32) (w : FVec Ideal S1024x1024 .bf16) (mf : FVec Ideal S1x3x1024 .f32) (g : FVec Ideal S1x1024 .f32)
    (r : Fin 256) (j : Fin 1024) :
    ((k0_pay15 (F := Ideal) x yd ym ya yn mm w g (ix2 r j) : EReal) * k0_pay16 (F := Ideal) mf (ix2 r j) + k0_pay14 (F := Ideal) mf (ix2 0 j))
      = Ffn.pre (fun l => k0_pay5 (F := Ideal) x yd ym ya yn mm w (ix2 r l)) (fun l => g (ix2 0 l)) (fun l => mf (ix3 0 0 l)) (fun l => mf (ix3 0 1 l)) j := by
  pointwise [k0_pay15, k0_pay16, k0_pay14, k0_pay13]; rfl

/-- The network of a row of the first batch. -/
theorem pay17_at0 (h : FVec Ideal S256x1024 .bf16) (sh : FVec Ideal S1x1024 .f32) (n s : FVec Ideal S256x1024 .f32)
    (wg wu : FVec Ideal S1024x2816 .bf16) (wd : FVec Ideal S2816x1024 .bf16) (r : Fin 256) (j : Fin 1024) :
    (k0_pay17 (F := Ideal) h sh n s wg wu wd (ix2 ⟨r.val, by omega⟩ j) : EReal)
      = Ffn.swi (fun l => h (ix2 r l)) (fun l f => wg (ix2 l f)) (fun l f => wu (ix2 l f)) (fun f j => wd (ix2 f j)) j := by
  pointwise [k0_pay17]; rfl

/-- The network of a row of the second batch. -/
theorem pay17_at1 (h : FVec Ideal S256x1024 .bf16) (sh : FVec Ideal S1x1024 .f32) (n s : FVec Ideal S256x1024 .f32)
    (wg wu : FVec Ideal S1024x2816 .bf16) (wd : FVec Ideal S2816x1024 .bf16) (r : Fin 256) (j : Fin 1024) :
    (k0_pay17 (F := Ideal) h sh n s wg wu wd (ix2 ⟨256 + r.val, by omega⟩ j) : EReal)
      = Ffn.swi (fun l => (n (ix2 r l) : EReal) * s (ix2 r l) + sh (ix2 0 l)) (fun l f => wg (ix2 l f)) (fun l f => wu (ix2 l f)) (fun f j => wd (ix2 f j)) j := by
  pointwise [k0_pay17]
  rfl

/-- The first batch's row after the network. -/
theorem pay18_at (x : FVec Ideal S256x1024 .f32) (h : FVec Ideal S256x1024 .bf16) (sh : FVec Ideal S1x1024 .f32) (n s : FVec Ideal S256x1024 .f32)
    (wg wu : FVec Ideal S1024x2816 .bf16) (wd : FVec Ideal S2816x1024 .bf16) (mf : FVec Ideal S1x3x1024 .f32) (r : Fin 256) (j : Fin 1024) :
    (k0_pay18 (F := Ideal) x h sh n s wg wu wd mf (ix2 r j) : EReal)
      = (x (ix2 r j) : EReal) + Ffn.half * mf (ix3 0 2 j) * k0_pay17 (F := Ideal) h sh n s wg wu wd (ix2 ⟨r.val, by omega⟩ j) := by
  pointwise [k0_pay18]; rfl

/-- The first batch's root mean square after the network. -/
theorem pay19_at (x : FVec Ideal S256x1024 .f32) (h : FVec Ideal S256x1024 .bf16) (sh : FVec Ideal S1x1024 .f32) (n s : FVec Ideal S256x1024 .f32)
    (wg wu : FVec Ideal S1024x2816 .bf16) (wd : FVec Ideal S2816x1024 .bf16) (mf : FVec Ideal S1x3x1024 .f32) (r : Fin 256) :
    (k0_pay19 (F := Ideal) x h sh n s wg wu wd mf (ix2 r 0) : EReal)
      = Ideal.rsqrt (Ideal.div (∑ l, (k0_pay18 (F := Ideal) x h sh n s wg wu wd mf (ix2 r l) : EReal) * k0_pay18 (F := Ideal) x h sh n s wg wu wd mf (ix2 r l)) Ffn.width + Ffn.eps) := by
  pointwise [k0_pay19]; rfl

/-- The first batch's stored row. -/
theorem pay1_at (x : FVec Ideal S256x1024 .f32) (yd : FVec Ideal S256x256 .f32) (ym ya yn : FVec Ideal S1x256x256 .bf16)
    (mm : FVec Ideal S1x3x1024 .f32) (w : FVec Ideal S1024x1024 .bf16) (mf : FVec Ideal S1x3x1024 .f32) (g : FVec Ideal S1x1024 .f32)
    (sh : FVec Ideal S1x1024 .f32) (n s : FVec Ideal S256x1024 .f32) (wg wu : FVec Ideal S1024x2816 .bf16) (wd : FVec Ideal S2816x1024 .bf16)
    (fin : FVec Ideal S1x1024 .f32) (r : Fin 256) (j : Fin 1024) :
    (k0_pay1 (F := Ideal) (k0_pay18 (k0_pay5 x yd ym ya yn mm w) (k0_pay9 (k0_pay7 mf) (k0_pay8 x yd ym ya yn mm w mf g)) sh n s wg wu wd mf)
        (k0_pay19 (k0_pay5 x yd ym ya yn mm w) (k0_pay9 (k0_pay7 mf) (k0_pay8 x yd ym ya yn mm w mf g)) sh n s wg wu wd mf) fin (ix3 0 r j) : EReal)
      = Ffn.row (fun l => x (ix2 r l)) (fun l => mm (ix3 0 2 l))
        (Ffn.four (fun l => ya (ix3 0 r l)) (fun l => yd (ix2 r l)) (fun l => ym (ix3 0 r l)) (fun l => yn (ix3 0 r l))) (fun l j => w (ix2 l j))
        (fun l => g (ix2 0 l)) (fun l => mf (ix3 0 0 l)) (fun l => mf (ix3 0 1 l)) (fun l => mf (ix3 0 2 l))
        (fun l f => wg (ix2 l f)) (fun l f => wu (ix2 l f)) (fun f j => wd (ix2 f j)) (fun l => fin (ix2 0 l)) j := by
  have e : (k0_pay1 (F := Ideal) (k0_pay18 (k0_pay5 x yd ym ya yn mm w) (k0_pay9 (k0_pay7 mf) (k0_pay8 x yd ym ya yn mm w mf g)) sh n s wg wu wd mf)
        (k0_pay19 (k0_pay5 x yd ym ya yn mm w) (k0_pay9 (k0_pay7 mf) (k0_pay8 x yd ym ya yn mm w mf g)) sh n s wg wu wd mf) fin (ix3 0 r j) : EReal)
      = Ffn.norm (fun l => k0_pay18 (F := Ideal) (k0_pay5 x yd ym ya yn mm w) (k0_pay9 (k0_pay7 mf) (k0_pay8 x yd ym ya yn mm w mf g)) sh n s wg wu wd mf (ix2 r l))
        (fun l => fin (ix2 0 l)) j := by
    unfold Ffn.norm
    rw [← pay19_at]
    pointwise [k0_pay1]
  rw [e]
  simp only [pay18_at, pay17_at0, pay9_at, pay5_at]; rfl

/-- The second batch's stored row. -/
theorem pay2_at (x : FVec Ideal S256x1024 .f32) (yd : FVec Ideal S256x256 .f32) (ym ya yn : FVec Ideal S1x256x256 .bf16)
    (mm : FVec Ideal S1x3x1024 .f32) (w : FVec Ideal S1024x1024 .bf16) (mf : FVec Ideal S1x3x1024 .f32) (g : FVec Ideal S1x1024 .f32)
    (h : FVec Ideal S256x1024 .bf16) (wg wu : FVec Ideal S1024x2816 .bf16) (wd : FVec Ideal S2816x1024 .bf16)
    (fin : FVec Ideal S1x1024 .f32) (r : Fin 256) (j : Fin 1024) :
    (k0_pay2 (F := Ideal) (k0_pay12 x yd ym ya yn mm w) (k0_pay17 h (k0_pay14 mf) (k0_pay15 x yd ym ya yn mm w g) (k0_pay16 mf) wg wu wd) mf fin (ix3 0 r j) : EReal)
      = Ffn.row (fun l => x (ix2 r l)) (fun l => mm (ix3 0 2 l))
        (Ffn.four (fun l => ya (ix3 0 r l)) (fun l => yd (ix2 r l)) (fun l => ym (ix3 0 r l)) (fun l => yn (ix3 0 r l))) (fun l j => w (ix2 l j))
        (fun l => g (ix2 0 l)) (fun l => mf (ix3 0 0 l)) (fun l => mf (ix3 0 1 l)) (fun l => mf (ix3 0 2 l))
        (fun l f => wg (ix2 l f)) (fun l f => wu (ix2 l f)) (fun f j => wd (ix2 f j)) (fun l => fin (ix2 0 l)) j := by
  rw [show @k0_pay12 Ideal _ = k0_pay5 from rfl]
  have e : ∀ y : FVec Ideal S512x1024 .f32, (k0_pay2 (F := Ideal) (k0_pay5 x yd ym ya yn mm w) y mf fin (ix3 0 r j) : EReal)
      = Ffn.norm (fun l => (k0_pay5 (F := Ideal) x yd ym ya yn mm w (ix2 r l) : EReal) + Ffn.half * mf (ix3 0 2 l) * y (ix2 ⟨256 + r.val, by omega⟩ l))
        (fun l => fin (ix2 0 l)) j := by
    intro y
    generalize k0_pay5 (F := Ideal) x yd ym ya yn mm w = X
    pointwise [k0_pay2]; rfl
  rw [e]
  simp only [pay17_at1, pay15_at, pay5_at]; rfl

end Cert.MixIdeal.Mix
end
-- ==== Proof.MixTile.lean ====
/- The layer after the mixers: what one tile stores, from the blocks it reads. -/
module

public import proofs.«01_k».proof.Proof.MixBody

@[expose] public section

set_option maxRecDepth 16384

noncomputable section

open Idealize.ShloMosaic Idealize.ShloMosaic.TcCoe Idealize.SL.Sem

namespace Cert.MixIdeal.Mix
open Cert.MixIdeal Cert.MixIdeal.Gen

/-- The row of a token of one of the two batches, from the blocks. -/
def blockRow (u0 : FVec Ideal S2x256x1024 .f32) (u1 : FVec Ideal S2x256x256 .bf16) (u2 u3 u4 : FVec Ideal S2x256x256 .f32)
    (u5 u6 : FVec Ideal S2x256x256 .bf16) (u7 : FVec Ideal S2x3x1024 .f32) (u8 : FVec Ideal S1x256 .f32) (u9 : FVec Ideal S256x256 .bf16)
    (u10 : FVec Ideal S1024x1024 .bf16) (u11 : FVec Ideal S2x3x1024 .f32) (u12 : FVec Ideal S1x1024 .f32) (u13 u14 : FVec Ideal S1024x2816 .bf16)
    (u15 : FVec Ideal S2816x1024 .bf16) (u16 : FVec Ideal S1x1024 .f32) (b : Fin 2) (r : Fin 256) (j : Fin 1024) : EReal :=
  Ffn.row (fun l => u0 (ix3 b r l)) (fun l => u7 (ix3 b 2 l))
    (Ffn.four (fun l => u1 (ix3 b r l))
      (Ffn.gated (fun x j => u9 (ix2 x j)) (fun x => u2 (ix3 b r x) + u3 (ix3 b r x)) (fun x => u4 (ix3 b r x)) (fun x => u8 (ix2 0 x)))
      (fun l => u5 (ix3 b r l)) (fun l => u6 (ix3 b r l))) (fun l j => u10 (ix2 l j))
    (fun l => u12 (ix2 0 l)) (fun l => u11 (ix3 b 0 l)) (fun l => u11 (ix3 b 1 l)) (fun l => u11 (ix3 b 2 l))
    (fun l f => u13 (ix2 l f)) (fun l f => u14 (ix2 l f)) (fun f j => u15 (ix2 f j)) (fun l => u16 (ix2 0 l)) j

set_option maxHeartbeats 1000000 in
/-- A tile's stored entry is its token's row. -/
theorem tile (u0 : FVec Ideal S2x256x1024 .f32) (u1 : FVec Ideal S2x256x256 .bf16) (u2 u3 u4 : FVec Ideal S2x256x256 .f32)
    (u5 u6 : FVec Ideal S2x256x256 .bf16) (u7 : FVec Ideal S2x3x1024 .f32) (u8 : FVec Ideal S1x256 .f32) (u9 : FVec Ideal S256x256 .bf16)
    (u10 : FVec Ideal S1024x1024 .bf16) (u11 : FVec Ideal S2x3x1024 .f32) (u12 : FVec Ideal S1x1024 .f32) (u13 u14 : FVec Ideal S1024x2816 .bf16)
    (u15 : FVec Ideal S2816x1024 .bf16) (u16 : FVec Ideal S1x1024 .f32) (y : S2x256x1024.Idx) :
    (out0_17 (F := Ideal) u0 u1 u2 u3 u4 u5 u6 u7 u8 u9 u10 u11 u12 u13 u14 u15 u16 y : EReal) = blockRow u0 u1 u2 u3 u4 u5 u6 u7 u8 u9 u10 u11 u12 u13 u14 u15 u16 ⟨(y 0).val, (y 0).isLt⟩ ⟨(y 1).val, (y 1).isLt⟩ ⟨(y 2).val, (y 2).isLt⟩ := by
  unfold_out out0_17
  canon_tiles x hx
  case piece0 =>
    idx_vars x
    obtain rfl : x0 = 0 := Subsingleton.elim _ _
    refine (pay2_at _ _ _ _ _ _ _ _ _ _ _ _ _ _ x1 x2).trans ?_
    rw [show @k0_pay11 Ideal _ = k0_pay4 from rfl]
    simp only [pay4_at]
    unfold blockRow
    refine Ffn.row_congr ?_ ?_ (Ffn.four_congr ?_ (Ffn.gated_congr ?_ (Ffn.add_congr ?_ ?_) ?_ ?_) ?_ ?_) ?_ ?_ ?_ ?_ ?_ ?_ ?_ ?_ ?_ (Fin.ext hx2.symm)
    all_goals intros
    all_goals pointwise [k0_pay10]
    all_goals blk_ext
  case piece1 =>
    idx_vars x
    obtain rfl : x0 = 0 := Subsingleton.elim _ _
    refine (pay1_at _ _ _ _ _ _ _ _ _ _ _ _ _ _ _ _ x1 x2).trans ?_
    simp only [pay4_at]
    unfold blockRow
    refine Ffn.row_congr ?_ ?_ (Ffn.four_congr ?_ (Ffn.gated_congr ?_ (Ffn.add_congr ?_ ?_) ?_ ?_) ?_ ?_) ?_ ?_ ?_ ?_ ?_ ?_ ?_ ?_ ?_ (Fin.ext hx2.symm)
    all_goals intros
    all_goals pointwise [k0_pay3]
    all_goals blk_ext

end Cert.MixIdeal.Mix
end
-- ==== Proof.MixPack.lean ====
/- The layer after the mixers: the arrays the tiles read, entry by entry, from the arguments. -/
module

public import proofs.«01_k».proof.Proof.Ffn
public import proofs.«01_k».proof.Proof.Gen.MixIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixIdeal.Mix
open Cert.MixIdeal Cert.MixIdeal.Gen

/-- Rows of 256 of the context tokens before those of the latent tokens. -/
def joined (a : FVec Ideal S8x256x256 .f32) (b : FVec Ideal S8x4096x256 .f32) : FVec Ideal S8x4352x256 .f32 :=
  concatenate S8x4352x256 1 [⟨S8x256x256, a⟩, ⟨S8x4096x256, b⟩] concatenates_S8x256x256_S8x4096x256_S8x4352x256_d1

/-- Rows of 1024 of the context tokens before those of the latent tokens. -/
def joinedX (a : FVec Ideal S8x256x1024 .f32) (b : FVec Ideal S8x4096x1024 .f32) : FVec Ideal S8x4352x1024 .f32 :=
  concatenate S8x4352x1024 1 [⟨S8x256x1024, a⟩, ⟨S8x4096x1024, b⟩] concatenates_S8x256x1024_S8x4096x1024_S8x4352x1024_d1

/-- The first mixer's heads in the order of the pairs that share keys. -/
def packYa (T : FVec Ideal S8x4352x256 .f32) : FVec Ideal S8x4352x256 .bf16 :=
  truncf .bf16 (shapeCast S8x4352x256 (transpose S8x4352x2x2x64 [0, 1, 3, 2, 4] (shapeCast S8x4352x2x2x64 T shapeCasts_S8x4352x256_S8x4352x2x2x64)
    transposes_S8x4352x2x2x64_S8x4352x2x2x64_0_1_3_2_4) shapeCasts_S8x4352x2x2x64_S8x4352x256) bitsLt_bf16_f32

/-- A row cast for the product. -/
def castT (T : FVec Ideal S8x4352x256 .f32) : FVec Ideal S8x4352x256 .bf16 := truncf .bf16 T bitsLt_bf16_f32

/-- A latent row cast for the product. -/
def castL (T : FVec Ideal S8x4096x256 .f32) : FVec Ideal S8x4096x256 .bf16 := truncf .bf16 T bitsLt_bf16_f32

/-- The output projection, its first 256 rows in the order of the first mixer's heads. -/
def packW (W : FVec Ideal S1024x1024 .f32) : FVec Ideal S1024x1024 .bf16 :=
  truncf .bf16 (concatenate S1024x1024 0 [⟨S256x1024, shapeCast S256x1024 (transpose S2x2x64x1024 [1, 0, 2, 3]
      (shapeCast S2x2x64x1024 (extractStridedSlice S256x1024 ![0, 0] W slices_S1024x1024_S256x1024_0_0) shapeCasts_S256x1024_S2x2x64x1024)
      transposes_S2x2x64x1024_S2x2x64x1024_1_0_2_3) shapeCasts_S2x2x64x1024_S256x1024⟩,
    ⟨S768x1024, extractStridedSlice S768x1024 ![256, 0] W slices_S1024x1024_S768x1024_256_0⟩] concatenates_S256x1024_S768x1024_S1024x1024_d0) bitsLt_bf16_f32

/-- Ones where two lanes belong to the same head. -/
def mask : FVec Ideal S256x256 .bf16 :=
  shapeCast S256x256 (uitofp (F := Ideal) .bf16 (cmpi .eq (iotaInDim S4x64x4x64 32 0) (iotaInDim S4x64x4x64 32 2))) shapeCasts_S4x64x4x64_S256x256

/-- One head's weight, for every head. -/
def packG (g : FVec Ideal S64 .f32) : FVec Ideal S1x256 .f32 :=
  shapeCast S1x256 (shapeCast S256 (broadcastInDim S4x64 ![0, 1] bcast_S1x64_S4x64_0_1 (shapeCast S1x64 g shapeCasts_S64_S1x64)) shapeCasts_S4x64_S256) shapeCasts_S256_S1x256

/-- The latent tokens' modulations before the context tokens'. -/
def packM (a : FVec Ideal S8x3x1024 .f32) (c : FVec Ideal S1x3x1024 .f32) : FVec Ideal S16x3x1024 .f32 :=
  concatenate S16x3x1024 0 [⟨S8x3x1024, a⟩, ⟨S8x3x1024, broadcastInDim S8x3x1024 ![0, 1, 2] bcast_S1x3x1024_S8x3x1024_0_1_2 c⟩] concatenates_S8x3x1024_S8x3x1024_S16x3x1024_d0

/-- A weight row. -/
def packN (g : FVec Ideal S1024 .f32) : FVec Ideal S1x1024 .f32 := shapeCast S1x1024 g shapeCasts_S1024_S1x1024

/-- The up projections cast for the product. -/
def castU (w : FVec Ideal S1024x2816 .f32) : FVec Ideal S1024x2816 .bf16 := truncf .bf16 w bitsLt_bf16_f32

/-- The down projection cast for the product. -/
def castD (w : FVec Ideal S2816x1024 .f32) : FVec Ideal S2816x1024 .bf16 := truncf .bf16 w bitsLt_bf16_f32

/-- A latent token's row of the joined rows of 256. -/
theorem joined_at (a : FVec Ideal S8x256x256 .f32) (b : FVec Ideal S8x4096x256 .f32) (i : Fin 8) (s : Fin 4096) (j : Fin 256) :
    (joined a b (ix3 i ⟨256 + s.val, by omega⟩ j) : EReal) = b (ix3 i s j) := by
  pointwise [joined]

/-- A latent token's row of the joined rows of 1024. -/
theorem joinedX_at (a : FVec Ideal S8x256x1024 .f32) (b : FVec Ideal S8x4096x1024 .f32) (i : Fin 8) (s : Fin 4096) (j : Fin 1024) :
    (joinedX a b (ix3 i ⟨256 + s.val, by omega⟩ j) : EReal) = b (ix3 i s j) := by
  pointwise [joinedX]

/-- A lane of the first mixer's reordered heads. -/
theorem packYa_at (T : FVec Ideal S8x4352x256 .f32) (i : Fin 8) (s : Fin 4352) (j : Fin 256) :
    (packYa T (ix3 i s j) : EReal) = T (ix3 i s ⟨Ffn.place j.val, Ffn.place_lt j.isLt⟩) := by
  have e : (⟨Ffn.place j.val, Ffn.place_lt j.isLt⟩ : Fin 256) = ⟨j.val / 64 % 2 * 128 + j.val / 128 * 64 + j.val % 64, by omega⟩ := rfl
  rw [e]
  pointwise [packYa]
  blk_ext

/-- A row of the reordered projection. -/
theorem packW_at (W : FVec Ideal S1024x1024 .f32) (l j : Fin 1024) :
    (packW W (ix2 l j) : EReal) = W (ix2 (Ffn.swap l) j) := by
  pointwise [packW]
  unfold Ffn.swap Ffn.place
  split
  · blk_ext
  · blk_ext

/-- A one where two lanes belong to the same head, else a zero. -/
theorem mask_at (x j : Fin 256) : (mask (ix2 x j) : EReal) = if x.val / 64 = j.val / 64 then 1 else 0 := by
  pointwise [mask]
  have key : ∀ a b : Fin 4, IntOp.cmpi CmpIPredicate.eq (BitVec.ofNat 32 a.val) (BitVec.ofNat 32 b.val) = if a.val = b.val then 1#1 else 0#1 := by decide
  have e := key ⟨x.val / 64, by omega⟩ ⟨j.val / 64, by omega⟩
  simp only at e
  rw [e]
  split
  · show ((((1#1).toNat : ℕ) : ℝ) : EReal) = 1
    norm_num
  · show ((((0#1).toNat : ℕ) : ℝ) : EReal) = 0
    norm_num

/-- A lane of the repeated weight. -/
theorem packG_at (g : FVec Ideal S64 .f32) (j : Fin 256) : (packG g (ix2 0 j) : EReal) = g (ix1 ⟨j.val % 64, by omega⟩) := by
  pointwise [packG]

/-- A batch's modulation. -/
theorem packM_at (a : FVec Ideal S8x3x1024 .f32) (c : FVec Ideal S1x3x1024 .f32) (i : Fin 8) (k : Fin 3) (l : Fin 1024) :
    (packM a c (ix3 ⟨i.val, by omega⟩ k l) : EReal) = a (ix3 i k l) := by
  pointwise [packM]

/-- A weight row's entry. -/
theorem packN_at (g : FVec Ideal S1024 .f32) (l : Fin 1024) : (packN g (ix2 0 l) : EReal) = g (ix1 l) := by
  pointwise [packN]

variable (m : (ℓ : Loc nD τ sig) → Buf (Elt Ideal) ℓ) (c : Dev nD)

/-- The rows as the tiles find them. -/
theorem V_x : V m c main_v29 = joinedX (m ((c : Thread nD τ).loc main_arg0)) (m ((c : Thread nD τ).loc main_arg1)) := by
  entry_read; rfl

/-- The first mixer's rows as the tiles find them. -/
theorem V_ya : V m c main_v16 = packYa (joined (m ((c : Thread nD τ).loc main_arg2)) (m ((c : Thread nD τ).loc main_arg3))) := by
  entry_read; rfl

/-- The forward direction's rows as the tiles find them. -/
theorem V_of : V m c main_v17 = joined (m ((c : Thread nD τ).loc main_arg4)) (m ((c : Thread nD τ).loc main_arg5)) := by
  entry_read; rfl

/-- The backward direction's rows as the tiles find them. -/
theorem V_ob : V m c main_v18 = joined (m ((c : Thread nD τ).loc main_arg6)) (m ((c : Thread nD τ).loc main_arg7)) := by
  entry_read; rfl

/-- The gates' rows as the tiles find them. -/
theorem V_z : V m c main_v19 = joined (m ((c : Thread nD τ).loc main_arg8)) (m ((c : Thread nD τ).loc main_arg9)) := by
  entry_read; rfl

/-- The third mixer's rows as the tiles find them. -/
theorem V_ym : V m c main_v20 = castL (m ((c : Thread nD τ).loc main_arg10)) := by
  entry_read; rfl

/-- The fourth mixer's rows as the tiles find them. -/
theorem V_yn : V m c main_v22 = castT (joined (m ((c : Thread nD τ).loc main_arg11)) (m ((c : Thread nD τ).loc main_arg12))) := by
  entry_read; rfl

/-- The mixers' modulations as the tiles find them. -/
theorem V_mm : V m c main_v24 = packM (m ((c : Thread nD τ).loc main_arg14)) (m ((c : Thread nD τ).loc main_arg13)) := by
  entry_read; rfl

/-- The heads' weights as the tiles find them. -/
theorem V_g : V m c main_v28 = packG (m ((c : Thread nD τ).loc main_arg16)) := by
  entry_read; rfl

/-- The heads' mask as the tiles find it. -/
theorem V_mask : V m c main_v4 = mask := by
  entry_read; rfl

/-- The output projection as the tiles find it. -/
theorem V_w : V m c main_v11 = packW (m ((c : Thread nD τ).loc main_arg17)) := by
  entry_read; rfl

/-- The network's modulations as the tiles find them. -/
theorem V_mf : V m c main_v31 = packM (m ((c : Thread nD τ).loc main_arg15)) (m ((c : Thread nD τ).loc main_arg13)) := by
  entry_read; rfl

/-- The network's norm weights as the tiles find them. -/
theorem V_n3 : V m c main_v32 = packN (m ((c : Thread nD τ).loc main_arg18)) := by
  entry_read; rfl

/-- The gate projection as the tiles find it. -/
theorem V_wg : V m c main_v33 = castU (m ((c : Thread nD τ).loc main_arg19)) := by
  entry_read; rfl

/-- The up projection as the tiles find it. -/
theorem V_wu : V m c main_v34 = castU (m ((c : Thread nD τ).loc main_arg20)) := by
  entry_read; rfl

/-- The down projection as the tiles find it. -/
theorem V_wd : V m c main_v35 = castD (m ((c : Thread nD τ).loc main_arg21)) := by
  entry_read; rfl

/-- The last norm's weights as the tiles find them. -/
theorem V_fin : V m c main_v36 = packN (m ((c : Thread nD τ).loc main_arg22)) := by
  entry_read; rfl

end Cert.MixIdeal.Mix
end
-- ==== Proof.MixValue.lean ====
/- The layer after the mixers: what the result array holds after the run, in the arguments. -/
module

public import proofs.«01_k».proof.Proof.MixTile
public import proofs.«01_k».proof.Proof.MixPack

@[expose] public section

set_option maxRecDepth 16384

noncomputable section

open Idealize.ShloMosaic Idealize.ShloMosaic.TcCoe Idealize.SL.Sem
open Idealize.ShloMosaic.Pipeline (Dat)

namespace Cert.MixIdeal.Mix
open Cert.MixIdeal Cert.MixIdeal.Gen

/-- A latent token's row of the layer after the mixers, from the arguments. -/
def latent (x : FVec Ideal S8x4096x1024 .f32) (ya of ob z ym yn : FVec Ideal S8x4096x256 .f32) (mm mf : FVec Ideal S8x3x1024 .f32)
    (g : FVec Ideal S64 .f32) (w : FVec Ideal S1024x1024 .f32) (n3 : FVec Ideal S1024 .f32) (wg wu : FVec Ideal S1024x2816 .f32)
    (wd : FVec Ideal S2816x1024 .f32) (fin : FVec Ideal S1024 .f32) (b : Fin 8) (s : Fin 4096) (j : Fin 1024) : EReal :=
  Ffn.row (fun l => x (ix3 b s l)) (fun l => mm (ix3 b 2 l))
    (Ffn.four (fun l => ya (ix3 b s l)) (Ffn.headed (fun l => of (ix3 b s l) + ob (ix3 b s l)) (fun l => z (ix3 b s l)) (fun l => g (ix1 l)))
      (fun l => ym (ix3 b s l)) (fun l => yn (ix3 b s l))) (fun l j => w (ix2 l j))
    (fun l => n3 (ix1 l)) (fun l => mf (ix3 b 0 l)) (fun l => mf (ix3 b 1 l)) (fun l => mf (ix3 b 2 l))
    (fun l f => wg (ix2 l f)) (fun l f => wu (ix2 l f)) (fun f j => wd (ix2 f j)) (fun l => fin (ix1 l)) j

/-- Every latent token's row. -/
def layer (x : FVec Ideal S8x4096x1024 .f32) (ya of ob z ym yn : FVec Ideal S8x4096x256 .f32) (mm mf : FVec Ideal S8x3x1024 .f32)
    (g : FVec Ideal S64 .f32) (w : FVec Ideal S1024x1024 .f32) (n3 : FVec Ideal S1024 .f32) (wg wu : FVec Ideal S1024x2816 .f32)
    (wd : FVec Ideal S2816x1024 .f32) (fin : FVec Ideal S1024 .f32) : FVec Ideal S8x4096x1024 .f32 :=
  fun i => latent x ya of ob z ym yn mm mf g w n3 wg wu wd fin ⟨(i 0).val, (i 0).isLt⟩ ⟨(i 1).val, (i 1).isLt⟩ ⟨(i 2).val, (i 2).isLt⟩

/-- The swapped order and the masked mean squares leave the row as it is. -/
theorem row_swap (x gate : Fin 1024 → EReal) (ya o z ym yn : Fin 256 → EReal) (gn : Fin 64 → EReal) (w : Fin 1024 → Fin 1024 → EReal)
    (g sh sc ga : Fin 1024 → EReal) (wg wu : Fin 1024 → Fin 2816 → EReal) (wd : Fin 2816 → Fin 1024 → EReal) (fin : Fin 1024 → EReal) (j : Fin 1024) :
    Ffn.row x gate (Ffn.four (fun j => ya ⟨Ffn.place j.val, Ffn.place_lt j.isLt⟩)
        (Ffn.gated (fun x j => if x.val / 64 = j.val / 64 then 1 else 0) o z (fun j => gn ⟨j.val % 64, by omega⟩)) ym yn)
      (fun l j => w (Ffn.swap l) j) g sh sc ga wg wu wd fin j
    = Ffn.row x gate (Ffn.four ya (Ffn.headed o z gn) ym yn) w g sh sc ga wg wu wd fin j := by
  unfold Ffn.row
  rw [Ffn.gated_eq, funext (Ffn.four_swap ya (Ffn.headed o z gn) ym yn), Ffn.mix_swap]

variable (m : (ℓ : Loc nD τ sig) → Buf (Elt Ideal) ℓ) (c : Dev nD)

/-- Every window's block at each point. -/
theorem idx : ∀ t : Fin cfg0.N, win0_0.index t = ![t.val / 16, t.val % 16 + 1, 0] ∧ win0_1.index t = ![t.val / 16, t.val % 16 + 1, 0]
    ∧ win0_2.index t = ![t.val / 16, t.val % 16 + 1, 0] ∧ win0_3.index t = ![t.val / 16, t.val % 16 + 1, 0]
    ∧ win0_4.index t = ![t.val / 16, t.val % 16 + 1, 0] ∧ win0_5.index t = ![t.val / 16, t.val % 16, 0]
    ∧ win0_6.index t = ![t.val / 16, t.val % 16 + 1, 0] ∧ win0_7.index t = ![t.val / 16, 0, 0] ∧ win0_8.index t = ![0, 0]
    ∧ win0_9.index t = ![0, 0] ∧ win0_10.index t = ![0, 0] ∧ win0_11.index t = ![t.val / 16, 0, 0] ∧ win0_12.index t = ![0, 0]
    ∧ win0_13.index t = ![0, 0] ∧ win0_14.index t = ![0, 0] ∧ win0_15.index t = ![0, 0] ∧ win0_16.index t = ![0, 0]
    ∧ win0_17.index t = ![t.val / 16, t.val % 16, 0] ∧ t.val / 16 < 4 :=
  (by decide +kernel : ∀ t : Fin grid0.N, _)

/-- The rows of a point's block. -/
theorem blk0 (t : Fin cfg0.N) (A : FVec Ideal S8x4352x1024 .f32) (hA : V m c (Pipeline.arrRef spec0 0) = A) (q : Fin 2) (r : Fin 256) (j : Fin 1024)
    (b : Fin 8) (s : Fin 4352) (hb : b.val = 2 * (t.val / 16) + q.val) (hs : s.val = 256 + (256 * (t.val % 16) + r.val)) : iblk m c 0 t (ix3 q r j) = A (ix3 b s j) := by
  unfold iblk
  rw [hA]
  blk_ext [idx t]

/-- The first mixer's rows of a point's block. -/
theorem blk1 (t : Fin cfg0.N) (A : FVec Ideal S8x4352x256 .bf16) (hA : V m c (Pipeline.arrRef spec0 1) = A) (q : Fin 2) (r : Fin 256) (j : Fin 256)
    (b : Fin 8) (s : Fin 4352) (hb : b.val = 2 * (t.val / 16) + q.val) (hs : s.val = 256 + (256 * (t.val % 16) + r.val)) : iblk m c 1 t (ix3 q r j) = A (ix3 b s j) := by
  unfold iblk
  rw [hA]
  blk_ext [idx t]

/-- The forward direction's rows of a point's block. -/
theorem blk2 (t : Fin cfg0.N) (A : FVec Ideal S8x4352x256 .f32) (hA : V m c (Pipeline.arrRef spec0 2) = A) (q : Fin 2) (r : Fin 256) (j : Fin 256)
    (b : Fin 8) (s : Fin 4352) (hb : b.val = 2 * (t.val / 16) + q.val) (hs : s.val = 256 + (256 * (t.val % 16) + r.val)) : iblk m c 2 t (ix3 q r j) = A (ix3 b s j) := by
  unfold iblk
  rw [hA]
  blk_ext [idx t]

/-- The backward direction's rows of a point's block. -/
theorem blk3 (t : Fin cfg0.N) (A : FVec Ideal S8x4352x256 .f32) (hA : V m c (Pipeline.arrRef spec0 3) = A) (q : Fin 2) (r : Fin 256) (j : Fin 256)
    (b : Fin 8) (s : Fin 4352) (hb : b.val = 2 * (t.val / 16) + q.val) (hs : s.val = 256 + (256 * (t.val % 16) + r.val)) : iblk m c 3 t (ix3 q r j) = A (ix3 b s j) := by
  unfold iblk
  rw [hA]
  blk_ext [idx t]

/-- The gates' rows of a point's block. -/
theorem blk4 (t : Fin cfg0.N) (A : FVec Ideal S8x4352x256 .f32) (hA : V m c (Pipeline.arrRef spec0 4) = A) (q : Fin 2) (r : Fin 256) (j : Fin 256)
    (b : Fin 8) (s : Fin 4352) (hb : b.val = 2 * (t.val / 16) + q.val) (hs : s.val = 256 + (256 * (t.val % 16) + r.val)) : iblk m c 4 t (ix3 q r j) = A (ix3 b s j) := by
  unfold iblk
  rw [hA]
  blk_ext [idx t]

/-- The fourth mixer's rows of a point's block. -/
theorem blk6 (t : Fin cfg0.N) (A : FVec Ideal S8x4352x256 .bf16) (hA : V m c (Pipeline.arrRef spec0 6) = A) (q : Fin 2) (r : Fin 256) (j : Fin 256)
    (b : Fin 8) (s : Fin 4352) (hb : b.val = 2 * (t.val / 16) + q.val) (hs : s.val = 256 + (256 * (t.val % 16) + r.val)) : iblk m c 6 t (ix3 q r j) = A (ix3 b s j) := by
  unfold iblk
  rw [hA]
  blk_ext [idx t]

/-- The third mixer's rows of a point's block. -/
theorem blk5 (t : Fin cfg0.N) (A : FVec Ideal S8x4096x256 .bf16) (hA : V m c (Pipeline.arrRef spec0 5) = A) (q : Fin 2) (r : Fin 256) (j : Fin 256)
    (b : Fin 8) (s : Fin 4096) (hb : b.val = 2 * (t.val / 16) + q.val) (hs : s.val = 256 * (t.val % 16) + r.val) : iblk m c 5 t (ix3 q r j) = A (ix3 b s j) := by
  unfold iblk
  rw [hA]
  blk_ext [idx t]

/-- The mixers' modulations of a point's block. -/
theorem blk7 (t : Fin cfg0.N) (A : FVec Ideal S16x3x1024 .f32) (hA : V m c (Pipeline.arrRef spec0 7) = A) (q : Fin 2) (e : Fin 3) (j : Fin 1024)
    (b : Fin 16) (hb : b.val = 2 * (t.val / 16) + q.val) : iblk m c 7 t (ix3 q e j) = A (ix3 b e j) := by
  unfold iblk
  rw [hA]
  blk_ext [idx t]

/-- The network's modulations of a point's block. -/
theorem blk11 (t : Fin cfg0.N) (A : FVec Ideal S16x3x1024 .f32) (hA : V m c (Pipeline.arrRef spec0 11) = A) (q : Fin 2) (e : Fin 3) (j : Fin 1024)
    (b : Fin 16) (hb : b.val = 2 * (t.val / 16) + q.val) : iblk m c 11 t (ix3 q e j) = A (ix3 b e j) := by
  unfold iblk
  rw [hA]
  blk_ext [idx t]

/-- The heads' weights of a point's block. -/
theorem blk8 (t : Fin cfg0.N) (A : FVec Ideal S1x256 .f32) (hA : V m c (Pipeline.arrRef spec0 8) = A) (r : Fin 1) (j : Fin 256) :
    iblk m c 8 t (ix2 r j) = A (ix2 r j) := by
  unfold iblk
  rw [hA]
  blk_ext [idx t]

/-- The heads' mask of a point's block. -/
theorem blk9 (t : Fin cfg0.N) (A : FVec Ideal S256x256 .bf16) (hA : V m c (Pipeline.arrRef spec0 9) = A) (r : Fin 256) (j : Fin 256) :
    iblk m c 9 t (ix2 r j) = A (ix2 r j) := by
  unfold iblk
  rw [hA]
  blk_ext [idx t]

/-- The output projection of a point's block. -/
theorem blk10 (t : Fin cfg0.N) (A : FVec Ideal S1024x1024 .bf16) (hA : V m c (Pipeline.arrRef spec0 10) = A) (r : Fin 1024) (j : Fin 1024) :
    iblk m c 10 t (ix2 r j) = A (ix2 r j) := by
  unfold iblk
  rw [hA]
  blk_ext [idx t]

/-- The network's norm weights of a point's block. -/
theorem blk12 (t : Fin cfg0.N) (A : FVec Ideal S1x1024 .f32) (hA : V m c (Pipeline.arrRef spec0 12) = A) (r : Fin 1) (j : Fin 1024) :
    iblk m c 12 t (ix2 r j) = A (ix2 r j) := by
  unfold iblk
  rw [hA]
  blk_ext [idx t]

/-- The gate projection of a point's block. -/
theorem blk13 (t : Fin cfg0.N) (A : FVec Ideal S1024x2816 .bf16) (hA : V m c (Pipeline.arrRef spec0 13) = A) (r : Fin 1024) (j : Fin 2816) :
    iblk m c 13 t (ix2 r j) = A (ix2 r j) := by
  unfold iblk
  rw [hA]
  blk_ext [idx t]

/-- The up projection of a point's block. -/
theorem blk14 (t : Fin cfg0.N) (A : FVec Ideal S1024x2816 .bf16) (hA : V m c (Pipeline.arrRef spec0 14) = A) (r : Fin 1024) (j : Fin 2816) :
    iblk m c 14 t (ix2 r j) = A (ix2 r j) := by
  unfold iblk
  rw [hA]
  blk_ext [idx t]

/-- The down projection of a point's block. -/
theorem blk15 (t : Fin cfg0.N) (A : FVec Ideal S2816x1024 .bf16) (hA : V m c (Pipeline.arrRef spec0 15) = A) (r : Fin 2816) (j : Fin 1024) :
    iblk m c 15 t (ix2 r j) = A (ix2 r j) := by
  unfold iblk
  rw [hA]
  blk_ext [idx t]

/-- The last norm's weights of a point's block. -/
theorem blk16 (t : Fin cfg0.N) (A : FVec Ideal S1x1024 .f32) (hA : V m c (Pipeline.arrRef spec0 16) = A) (r : Fin 1) (j : Fin 1024) :
    iblk m c 16 t (ix2 r j) = A (ix2 r j) := by
  unfold iblk
  rw [hA]
  blk_ext [idx t]

/-- A point's row of one of its two batches is the latent token's row. -/
theorem blockRow_eq (t : Fin cfg0.N) (q : Fin 2) (r : Fin 256) (j : Fin 1024) (b : Fin 8) (s : Fin 4096)
    (hb : b.val = 2 * (t.val / 16) + q.val) (hs : s.val = 256 * (t.val % 16) + r.val) :
    blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) q r j = latent (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg12)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) b s j := by
  have hz : (⟨256 + s.val, by omega⟩ : Fin 4352).val = 256 + (256 * (t.val % 16) + r.val) := congrArg (256 + ·) hs
  have hb' : (⟨b.val, by omega⟩ : Fin 16).val = 2 * (t.val / 16) + q.val := hb
  unfold blockRow latent
  rw [← row_swap]
  refine Ffn.row_congr ?_ ?_ (Ffn.four_congr ?_ (Ffn.gated_congr ?_ (Ffn.add_congr ?_ ?_) ?_ ?_) ?_ ?_) ?_ ?_ ?_ ?_ ?_ ?_ ?_ ?_ ?_ rfl
  · exact fun l => (blk0 m c t _ (V_x m c) q r l b _ hb hz).trans (joinedX_at _ _ b s l)
  · exact fun l => (blk7 m c t _ (V_mm m c) q 2 l _ hb').trans (packM_at _ _ b 2 l)
  · exact fun l => (blk1 m c t _ (V_ya m c) q r l b _ hb hz).trans ((packYa_at _ b _ l).trans (joined_at _ _ b s _))
  · exact fun x j => (blk9 m c t _ (V_mask m c) x j).trans (mask_at x j)
  · exact fun l => (blk2 m c t _ (V_of m c) q r l b _ hb hz).trans (joined_at _ _ b s l)
  · exact fun l => (blk3 m c t _ (V_ob m c) q r l b _ hb hz).trans (joined_at _ _ b s l)
  · exact fun l => (blk4 m c t _ (V_z m c) q r l b _ hb hz).trans (joined_at _ _ b s l)
  · exact fun l => (blk8 m c t _ (V_g m c) 0 l).trans (packG_at _ l)
  · exact fun l => blk5 m c t _ (V_ym m c) q r l b s hb hs
  · exact fun l => (blk6 m c t _ (V_yn m c) q r l b _ hb hz).trans (joined_at _ _ b s l)
  · exact fun l j => (blk10 m c t _ (V_w m c) l j).trans (packW_at _ l j)
  · exact fun l => (blk12 m c t _ (V_n3 m c) 0 l).trans (packN_at _ l)
  · exact fun l => (blk11 m c t _ (V_mf m c) q 0 l _ hb').trans (packM_at _ _ b 0 l)
  · exact fun l => (blk11 m c t _ (V_mf m c) q 1 l _ hb').trans (packM_at _ _ b 1 l)
  · exact fun l => (blk11 m c t _ (V_mf m c) q 2 l _ hb').trans (packM_at _ _ b 2 l)
  · exact fun l f => blk13 m c t _ (V_wg m c) l f
  · exact fun l f => blk14 m c t _ (V_wu m c) l f
  · exact fun f j => blk15 m c t _ (V_wd m c) f j
  · exact fun l => (blk16 m c t _ (V_fin m c) 0 l).trans (packN_at _ l)

/-- The result array after the run holds every latent token's row. -/
theorem final : (dats m 0 c).arrAt 17 (cfgs 0).N = layer (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg12)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (dats m 0 c).arrAt_eq_of_covers 17 _ (by decide +kernel) fun t _ y => ?_
  have ht : t.val / 16 < 4 := (idx t).2.2.2.2.2.2.2.2.2.2.2.2.2.2.2.2.2.2
  have hy0 : 2 * (t.val / 16) + (y 0).val < 8 := by have : (y 0).val < 2 := (y 0).isLt; omega
  have hy : 256 * (t.val % 16) + (y 1).val < 4096 := by have : (y 1).val < 256 := (y 1).isLt; omega
  have e : ((cfg0.win 17).blk t).view.emb y = (ix3 (⟨2 * (t.val / 16) + (y 0).val, hy0⟩ : Fin 8)
      (⟨256 * (t.val % 16) + (y 1).val, hy⟩ : Fin 4096) (⟨(y 2).val, (y 2).isLt⟩ : Fin 1024) : S8x4096x1024.Idx) := by
    blk_ext [idx t]
  blk_simp
  rw [after0_17]
  refine (tile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y).trans ?_
  refine (blockRow_eq m c t _ _ _ ⟨2 * (t.val / 16) + (y 0).val, hy0⟩ ⟨256 * (t.val % 16) + (y 1).val, hy⟩ rfl rfl).trans ?_
  exact congrArg (layer (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg12)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) e.symm

end Cert.MixIdeal.Mix
end
-- ==== Proof.MixRef.lean ====
/- The layer after the mixers: the reference's term, stage by stage, entry by entry. -/
module

public import proofs.«01_k».proof.Proof.Ffn
public import proofs.«01_k».proof.Proof.Gen.MixReferenceIdeal
public import Idealize.ShloMosaic.Lib.Pointwise

@[expose] public section

set_option maxRecDepth 16384

noncomputable section

open Idealize.ShloMosaic Idealize.ShloMosaic.TcCoe Idealize.SL.Sem

namespace Cert.MixReferenceIdeal.Mix
open Cert.MixReferenceIdeal Cert.MixReferenceIdeal.Gen

/-- The two directions' sum, head by head. -/
def summed (f b : FVec Ideal S8x4096x256 .f32) : FVec Ideal S8x4096x4x64 .f32 :=
  shapeCast S8x4096x4x64 (addf f b) shapeCasts_S8x4096x256_S8x4096x4x64

/-- Each head over its root mean square, times the weight. -/
def normed (o : FVec Ideal S8x4096x4x64 .f32) (g : FVec Ideal S64 .f32) : FVec Ideal S8x4096x4x64 .f32 :=
  mulf (mulf o (broadcastInDim S8x4096x4x64 ![0, 1, 2, 3] bcast_S8x4096x4x1_S8x4096x4x64_0_1_2_3 (Host.rsqrt (addf
      (Host.divf (broadcastInDim S8x4096x4x1 ![0, 1, 2] bcast_S8x4096x4_S8x4096x4x1_0_1_2
          (Host.reduceAdd (mulf o o) (constant (F := Ideal) S_ .f32 0x00000000#32) reducesTo_S8x4096x4x64_S8x4096x4_d3 h_S_))
        (broadcastInDim S8x4096x4x1 ![] bcast_S_S8x4096x4x1 (constant (F := Ideal) S_ .f32 0x42800000#32)))
      (broadcastInDim S8x4096x4x1 ![] bcast_S_S8x4096x4x1 (constant (F := Ideal) S_ .f32 0x358637BD#32))))))
    (broadcastInDim S8x4096x4x64 ![0, 1, 2, 3] bcast_S1x1x1x64_S8x4096x4x64_0_1_2_3 (broadcastInDim S1x1x1x64 ![3] bcast_S64_S1x1x1x64_3 g))

/-- The heads' gates. -/
def gates (z : FVec Ideal S8x4096x256 .f32) : FVec Ideal S8x4096x4x64 .f32 :=
  mulf (shapeCast S8x4096x4x64 z shapeCasts_S8x4096x256_S8x4096x4x64)
    (Host.divf (broadcastInDim S8x4096x4x64 ![] bcast_S_S8x4096x4x64 (constant (F := Ideal) S_ .f32 0x3F800000#32))
      (addf (broadcastInDim S8x4096x4x64 ![] bcast_S_S8x4096x4x64 (constant (F := Ideal) S_ .f32 0x3F800000#32))
        (Host.exp (Host.negf (shapeCast S8x4096x4x64 z shapeCasts_S8x4096x256_S8x4096x4x64)))))

/-- The gated heads side by side. -/
def headed (n z : FVec Ideal S8x4096x4x64 .f32) : FVec Ideal S8x4096x256 .f32 :=
  shapeCast S8x4096x256 (mulf n z) shapeCasts_S8x4096x4x64_S8x4096x256

/-- The four mixers side by side. -/
def sides (ya yd ym yn : FVec Ideal S8x4096x256 .f32) : FVec Ideal S8x4096x1024 .f32 :=
  concatenate S8x4096x1024 2 [⟨S8x4096x256, ya⟩, ⟨S8x4096x256, yd⟩, ⟨S8x4096x256, ym⟩, ⟨S8x4096x256, yn⟩] concatenates_S8x4096x256_S8x4096x256_S8x4096x256_S8x4096x256_S8x4096x1024_d2

/-- The rows plus the gated projection. -/
def mixed (x cat : FVec Ideal S8x4096x1024 .f32) (mm : FVec Ideal S8x3x1024 .f32) (w : FVec Ideal S1024x1024 .f32) : FVec Ideal S8x4096x1024 .f32 :=
  addf x (mulf (broadcastInDim S8x4096x1024 ![0, 1, 2] bcast_S8x1x1024_S8x4096x1024_0_1_2 (extractStridedSlice S8x1x1024 ![0, 2, 0] mm slices_S8x3x1024_S8x1x1024_0_2_0))
    (Host.dotGeneral dot_S8x4096x1024_S1024x1024_S8x4096x1024_2_0_01_1_n_n none cat w))

/-- The rows over their root mean squares, times a weight. -/
def norms (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf
      (Host.divf (broadcastInDim S8x4096x1 ![0, 1] bcast_S8x4096_S8x4096x1_0_1
          (Host.reduceAdd (mulf x x) (constant (F := Ideal) S_ .f32 0x00000000#32) reducesTo_S8x4096x1024_S8x4096_d2 h_S_))
        (broadcastInDim S8x4096x1 ![] bcast_S_S8x4096x1 (constant (F := Ideal) S_ .f32 0x44800000#32)))
      (broadcastInDim S8x4096x1 ![] bcast_S_S8x4096x1 (constant (F := Ideal) S_ .f32 0x358637BD#32))))))
    (broadcastInDim S8x4096x1024 ![0, 1, 2] bcast_S1x1x1024_S8x4096x1024_0_1_2 (broadcastInDim S1x1x1024 ![2] bcast_S1024_S1x1x1024_2 g))

/-- The normalised rows scaled and shifted. -/
def shifted (n : FVec Ideal S8x4096x1024 .f32) (mf : FVec Ideal S8x3x1024 .f32) : FVec Ideal S8x4096x1024 .f32 :=
  addf (mulf n (broadcastInDim S8x4096x1024 ![0, 1, 2] bcast_S8x1x1024_S8x4096x1024_0_1_2
      (addf (broadcastInDim S8x1x1024 ![] bcast_S_S8x1x1024 (constant (F := Ideal) S_ .f32 0x3F800000#32))
        (extractStridedSlice S8x1x1024 ![0, 1, 0] mf slices_S8x3x1024_S8x1x1024_0_1_0))))
    (broadcastInDim S8x4096x1024 ![0, 1, 2] bcast_S8x1x1024_S8x4096x1024_0_1_2 (extractStridedSlice S8x1x1024 ![0, 0, 0] mf slices_S8x3x1024_S8x1x1024_0_0_0))

/-- A product with an up projection. -/
def up (h : FVec Ideal S8x4096x1024 .f32) (w : FVec Ideal S1024x2816 .f32) : FVec Ideal S8x4096x2816 .f32 :=
  Host.dotGeneral dot_S8x4096x1024_S1024x2816_S8x4096x2816_2_0_01_1_n_n none h w

/-- The gate of the network. -/
def silu (a : FVec Ideal S8x4096x2816 .f32) : FVec Ideal S8x4096x2816 .f32 :=
  mulf a (Host.divf (broadcastInDim S8x4096x2816 ![] bcast_S_S8x4096x2816 (constant (F := Ideal) S_ .f32 0x3F800000#32))
    (addf (broadcastInDim S8x4096x2816 ![] bcast_S_S8x4096x2816 (constant (F := Ideal) S_ .f32 0x3F800000#32)) (Host.exp (Host.negf a))))

/-- The product with the down projection. -/
def down (a u : FVec Ideal S8x4096x2816 .f32) (w : FVec Ideal S2816x1024 .f32) : FVec Ideal S8x4096x1024 .f32 :=
  Host.dotGeneral dot_S8x4096x2816_S2816x1024_S8x4096x1024_2_0_01_1_n_n none (mulf a u) w

/-- The rows plus half the gated network. -/
def stepped (x y : FVec Ideal S8x4096x1024 .f32) (mf : FVec Ideal S8x3x1024 .f32) : FVec Ideal S8x4096x1024 .f32 :=
  addf x (mulf (broadcastInDim S8x4096x1024 ![0, 1, 2] bcast_S8x1x1024_S8x4096x1024_0_1_2
    (mulf (broadcastInDim S8x1x1024 ![] bcast_S_S8x1x1024 (constant (F := Ideal) S_ .f32 0x3F000000#32))
      (extractStridedSlice S8x1x1024 ![0, 2, 0] mf slices_S8x3x1024_S8x1x1024_0_2_0))) y)

/-- The network of rows. -/
def net (x : FVec Ideal S8x4096x1024 .f32) (mf : FVec Ideal S8x3x1024 .f32) (n3 : FVec Ideal S1024 .f32)
    (wg wu : FVec Ideal S1024x2816 .f32) (wd : FVec Ideal S2816x1024 .f32) : FVec Ideal S8x4096x1024 .f32 :=
  down (silu (up (shifted (norms x n3) mf) wg)) (up (shifted (norms x n3) mf) wu) wd

/-- The rows after the projection. -/
def base (x : FVec Ideal S8x4096x1024 .f32) (ya of ob z ym yn : FVec Ideal S8x4096x256 .f32) (mm : FVec Ideal S8x3x1024 .f32)
    (g : FVec Ideal S64 .f32) (w : FVec Ideal S1024x1024 .f32) : FVec Ideal S8x4096x1024 .f32 :=
  mixed x (sides ya (headed (normed (summed of ob) g) (gates z)) ym yn) mm w

/-- The reference. -/
def result (x : FVec Ideal S8x4096x1024 .f32) (ya of ob z ym yn : FVec Ideal S8x4096x256 .f32) (mm mf : FVec Ideal S8x3x1024 .f32)
    (g : FVec Ideal S64 .f32) (w : FVec Ideal S1024x1024 .f32) (n3 : FVec Ideal S1024 .f32) (wg wu : FVec Ideal S1024x2816 .f32)
    (wd : FVec Ideal S2816x1024 .f32) (fin : FVec Ideal S1024 .f32) : FVec Ideal S8x4096x1024 .f32 :=
  norms (stepped (base x ya of ob z ym yn mm g w) (net (base x ya of ob z ym yn mm g w) mf n3 wg wu wd) mf) fin

section
variable (b : Fin 8) (s : Fin 4096)

/-- A lane of a normalised head. -/
theorem normed_at (f r : FVec Ideal S8x4096x256 .f32) (g : FVec Ideal S64 .f32) (h : Fin 4) (d : Fin 64) :
    (normed (summed f r) g (ix4 b s h d) : EReal) = ((f (ix3 b s ⟨h.val * 64 + d.val, by omega⟩) : EReal) + r (ix3 b s ⟨h.val * 64 + d.val, by omega⟩))
      * Ideal.rsqrt (Ideal.div (∑ e : Fin 64, ((f (ix3 b s ⟨h.val * 64 + e.val, by omega⟩) : EReal) + r (ix3 b s ⟨h.val * 64 + e.val, by omega⟩))
          * ((f (ix3 b s ⟨h.val * 64 + e.val, by omega⟩) : EReal) + r (ix3 b s ⟨h.val * 64 + e.val, by omega⟩))) (Ideal.ofBits FTy.f32 1115684864#32) + Ffn.eps)
      * g (ix1 d) := by
  have e : ∀ d : Fin 64, (summed f r (ix4 b s h d) : EReal) = (f (ix3 b s ⟨h.val * 64 + d.val, by omega⟩) : EReal) + r (ix3 b s ⟨h.val * 64 + d.val, by omega⟩) := by
    intro d
    pointwise [summed]
  simp only [← e]
  generalize summed f r = o
  pointwise [normed]
  rfl

/-- A lane of the gates. -/
theorem gates_at (z : FVec Ideal S8x4096x256 .f32) (h : Fin 4) (d : Fin 64) :
    (gates z (ix4 b s h d) : EReal) = Ffn.silu (z (ix3 b s ⟨h.val * 64 + d.val, by omega⟩)) := by
  unfold Ffn.silu
  rw [zero_sub]
  pointwise [gates]

/-- A lane of the gated heads. -/
theorem headed_at (f r z : FVec Ideal S8x4096x256 .f32) (g : FVec Ideal S64 .f32) (j : Fin 256) :
    (headed (normed (summed f r) g) (gates z) (ix3 b s j) : EReal)
      = Ffn.headed (fun l => f (ix3 b s l) + r (ix3 b s l)) (fun l => z (ix3 b s l)) (fun l => g (ix1 l)) j := by
  have e : ∀ n z : FVec Ideal S8x4096x4x64 .f32, (headed n z (ix3 b s j) : EReal)
      = (n (ix4 b s ⟨j.val / 64, by omega⟩ ⟨j.val % 64, by omega⟩) : EReal) * z (ix4 b s ⟨j.val / 64, by omega⟩ ⟨j.val % 64, by omega⟩) := by
    intro n z
    pointwise [headed]
  rw [e, normed_at, gates_at]
  have hj : (⟨j.val / 64 * 64 + j.val % 64, by omega⟩ : Fin 256) = j := Fin.ext (Nat.div_add_mod' j.val 64)
  simp only [hj]
  rfl

/-- An entry of the four mixers side by side. -/
theorem sides_at (ya yd ym yn : FVec Ideal S8x4096x256 .f32) (l : Fin 1024) : (sides ya yd ym yn (ix3 b s l) : EReal)
    = Ffn.four (fun l => ya (ix3 b s l)) (fun l => yd (ix3 b s l)) (fun l => ym (ix3 b s l)) (fun l => yn (ix3 b s l)) l := by
  pointwise [sides]
  rfl

/-- An entry after the projection. -/
theorem mixed_at (x cat : FVec Ideal S8x4096x1024 .f32) (mm : FVec Ideal S8x3x1024 .f32) (w : FVec Ideal S1024x1024 .f32) (j : Fin 1024) :
    (mixed x cat mm w (ix3 b s j) : EReal) = Ffn.mix (fun l => x (ix3 b s l)) (fun l => mm (ix3 b 2 l)) (fun l => cat (ix3 b s l)) (fun l j => w (ix2 l j)) j := by
  pointwise [mixed]
  rfl

/-- A normalised entry. -/
theorem norms_at (x : FVec Ideal S8x4096x1024 .f32) (g : FVec Ideal S1024 .f32) (j : Fin 1024) :
    (norms x g (ix3 b s j) : EReal) = Ffn.norm (fun l => x (ix3 b s l)) (fun l => g (ix1 l)) j := by
  pointwise [norms]
  rfl

/-- A scaled and shifted entry. -/
theorem shifted_at (n : FVec Ideal S8x4096x1024 .f32) (mf : FVec Ideal S8x3x1024 .f32) (j : Fin 1024) :
    (shifted n mf (ix3 b s j) : EReal) = (n (ix3 b s j) : EReal) * (1 + mf (ix3 b 1 j)) + mf (ix3 b 0 j) := by
  pointwise [shifted]

/-- An entry of a product with an up projection. -/
theorem up_at (h : FVec Ideal S8x4096x1024 .f32) (w : FVec Ideal S1024x2816 .f32) (f : Fin 2816) :
    (up h w (ix3 b s f) : EReal) = ∑ l : Fin 1024, (h (ix3 b s l) : EReal) * w (ix2 l f) := by
  pointwise [up]

/-- An entry of the gate. -/
theorem silu_at (a : FVec Ideal S8x4096x2816 .f32) (f : Fin 2816) : (silu a (ix3 b s f) : EReal) = Ffn.silu (a (ix3 b s f)) := by
  unfold Ffn.silu
  rw [zero_sub]
  pointwise [silu]

/-- An entry of the product with the down projection. -/
theorem down_at (a u : FVec Ideal S8x4096x2816 .f32) (w : FVec Ideal S2816x1024 .f32) (j : Fin 1024) :
    (down a u w (ix3 b s j) : EReal) = ∑ f : Fin 2816, (a (ix3 b s f) : EReal) * u (ix3 b s f) * w (ix2 f j) := by
  pointwise [down]

/-- An entry after the network. -/
theorem stepped_at (x y : FVec Ideal S8x4096x1024 .f32) (mf : FVec Ideal S8x3x1024 .f32) (j : Fin 1024) :
    (stepped x y mf (ix3 b s j) : EReal) = (x (ix3 b s j) : EReal) + Ffn.half * mf (ix3 b 2 j) * y (ix3 b s j) := by
  pointwise [stepped]
  rfl

/-- An entry of the network. -/
theorem net_at (x : FVec Ideal S8x4096x1024 .f32) (mf : FVec Ideal S8x3x1024 .f32) (n3 : FVec Ideal S1024 .f32)
    (wg wu : FVec Ideal S1024x2816 .f32) (wd : FVec Ideal S2816x1024 .f32) (j : Fin 1024) :
    (net x mf n3 wg wu wd (ix3 b s j) : EReal) = Ffn.swi (Ffn.pre (fun l => x (ix3 b s l)) (fun l => n3 (ix1 l)) (fun l => mf (ix3 b 0 l)) (fun l => mf (ix3 b 1 l)))
      (fun l f => wg (ix2 l f)) (fun l f => wu (ix2 l f)) (fun f j => wd (ix2 f j)) j := by
  unfold net
  rw [down_at]
  simp only [silu_at, up_at, shifted_at, norms_at]
  rfl

/-- An entry of the reference. -/
theorem result_at (x : FVec Ideal S8x4096x1024 .f32) (ya of ob z ym yn : FVec Ideal S8x4096x256 .f32) (mm mf : FVec Ideal S8x3x1024 .f32)
    (g : FVec Ideal S64 .f32) (w : FVec Ideal S1024x1024 .f32) (n3 : FVec Ideal S1024 .f32) (wg wu : FVec Ideal S1024x2816 .f32)
    (wd : FVec Ideal S2816x1024 .f32) (fin : FVec Ideal S1024 .f32) (j : Fin 1024) :
    (result x ya of ob z ym yn mm mf g w n3 wg wu wd fin (ix3 b s j) : EReal) = Ffn.row (fun l => x (ix3 b s l)) (fun l => mm (ix3 b 2 l))
      (Ffn.four (fun l => ya (ix3 b s l)) (Ffn.headed (fun l => of (ix3 b s l) + ob (ix3 b s l)) (fun l => z (ix3 b s l)) (fun l => g (ix1 l)))
        (fun l => ym (ix3 b s l)) (fun l => yn (ix3 b s l))) (fun l j => w (ix2 l j))
      (fun l => n3 (ix1 l)) (fun l => mf (ix3 b 0 l)) (fun l => mf (ix3 b 1 l)) (fun l => mf (ix3 b 2 l))
      (fun l f => wg (ix2 l f)) (fun l f => wu (ix2 l f)) (fun f j => wd (ix2 f j)) (fun l => fin (ix1 l)) j := by
  unfold result
  simp only [norms_at, stepped_at, net_at, base, mixed_at, sides_at, headed_at]
  rfl

end

end Cert.MixReferenceIdeal.Mix
end
-- ==== Proof.MixRun.lean ====
/- The layer after the mixers: the reference's run, read back in three parts. -/
module

public import proofs.«01_k».proof.Proof.MixRef
public import Idealize.ShloMosaic.Lib.StableHlo.Run

@[expose] public section

set_option maxRecDepth 16384

noncomputable section

open Idealize.ShloMosaic Idealize.ShloMosaic.TcCoe Idealize.SL.Sem

namespace Cert.MixReferenceIdeal.Mix
open Cert.MixReferenceIdeal Cert.MixReferenceIdeal.Gen Idealize.ShloMosaic.StableHlo

variable {F : FTy → Type} [FloatOps F]

/-- The four mixers side by side, of any floats. -/
def fn_main_v20 : (main_arg3 : Ref sig .tc).ty.Contents (Elt F) → (main_v18 : Ref sig .tc).ty.Contents (Elt F) → (main_arg10 : Ref sig .tc).ty.Contents (Elt F) → (main_arg12 : Ref sig .tc).ty.Contents (Elt F) → (main_v20 : Ref sig .tc).ty.Contents (Elt F) :=
  (fun u0 u1 u2 u3 => (concatenate S8x4096x1024 2 [⟨S8x4096x256, (u0 : (⟨S8x4096x256, .f32⟩ : BufTy).Contents (Elt F))⟩, ⟨S8x4096x256, (u1 : (⟨S8x4096x256, .f32⟩ : BufTy).Contents (Elt F))⟩, ⟨S8x4096x256, (u2 : (⟨S8x4096x256, .f32⟩ : BufTy).Contents (Elt F))⟩, ⟨S8x4096x256, (u3 : (⟨S8x4096x256, .f32⟩ : BufTy).Contents (Elt F))⟩] concatenates_S8x4096x256_S8x4096x256_S8x4096x256_S8x4096x256_S8x4096x1024_d2 : (⟨S8x4096x1024, .f32⟩ : BufTy).Contents (Elt F)))

/-- The operations up to the rows after the projection. -/
abbrev opsA : List (HloOp τ sig (Elt F)) :=
  [ binary main_arg5 main_arg7 main_v0 (addf : (⟨S8x4096x256, .f32⟩ : BufTy).Contents (Elt F) → (⟨S8x4096x256, .f32⟩ : BufTy).Contents (Elt F) → (⟨S8x4096x256, .f32⟩ : BufTy).Contents (Elt F)),
    reshape main_v0 main_v1 (rfl : (.f32 : EltTy) = .f32) shapeCasts_S8x4096x256_S8x4096x4x64,
    binary main_v1 main_v1 main_v2 (mulf : (⟨S8x4096x4x64, .f32⟩ : BufTy).Contents (Elt F) → (⟨S8x4096x4x64, .f32⟩ : BufTy).Contents (Elt F) → (⟨S8x4096x4x64, .f32⟩ : BufTy).Contents (Elt F)),
    nullary main_cst (constant S_ .f32 0x00000000#32),
    binary main_v2 main_cst main_v3 ((fun x v => Host.reduceAdd x v reducesTo_S8x4096x4x64_S8x4096x4_d3 h_S_) : (⟨S8x4096x4x64, .f32⟩ : BufTy).Contents (Elt F) → (⟨S_, .f32⟩ : BufTy).Contents (Elt F) → (⟨S8x4096x4, .f32⟩ : BufTy).Contents (Elt F)),
    unary main_v3 main_v4 (broadcastInDim S8x4096x4x1 ![0, 1, 2] bcast_S8x4096x4_S8x4096x4x1_0_1_2 : (⟨S8x4096x4, .f32⟩ : BufTy).Contents (Elt F) → (⟨S8x4096x4x1, .f32⟩ : BufTy).Contents (Elt F)),
    nullary main_cst_0 (constant S_ .f32 0x42800000#32),
    unary main_cst_0 main_v5 (broadcastInDim S8x4096x4x1 ![] bcast_S_S8x4096x4x1 : (⟨S_, .f32⟩ : BufTy).Contents (Elt F) → (⟨S8x4096x4x1, .f32⟩ : BufTy).Contents (Elt F)),
    binary main_v4 main_v5 main_v6 (Host.divf : (⟨S8x4096x4x1, .f32⟩ : BufTy).Contents (Elt F) → (⟨S8x4096x4x1, .f32⟩ : BufTy).Contents (Elt F) → (⟨S8x4096x4x1, .f32⟩ : BufTy).Contents (Elt F)),
    nullary main_cst_1 (constant S_ .f32 0x358637BD#32),
    unary main_cst_1 main_v7 (broadcastInDim S8x4096x4x1 ![] bcast_S_S8x4096x4x1 : (⟨S_, .f32⟩ : BufTy).Contents (Elt F) → (⟨S8x4096x4x1, .f32⟩ : BufTy).Contents (Elt F)),
    binary main_v6 main_v7 main_v8 (addf : (⟨S8x4096x4x1, .f32⟩ : BufTy).Contents (Elt F) → (⟨S8x4096x4x1, .f32⟩ : BufTy).Contents (Elt F) → (⟨S8x4096x4x1, .f32⟩ : BufTy).Contents (Elt F)),
    unary main_v8 main_v9 (Host.rsqrt : (⟨S8x4096x4x1, .f32⟩ : BufTy).Contents (Elt F) → (⟨S8x4096x4x1, .f32⟩ : BufTy).Contents (Elt F)),
    unary main_v9 main_v10 (broadcastInDim S8x4096x4x64 ![0, 1, 2, 3] bcast_S8x4096x4x1_S8x4096x4x64_0_1_2_3 : (⟨S8x4096x4x1, .f32⟩ : BufTy).Contents (Elt F) → (⟨S8x4096x4x64, .f32⟩ : BufTy).Contents (Elt F)),
    binary main_v1 main_v10 main_v11 (mulf : (⟨S8x4096x4x64, .f32⟩ : BufTy).Contents (Elt F) → (⟨S8x4096x4x64, .f32⟩ : BufTy).Contents (Elt F) → (⟨S8x4096x4x64, .f32⟩ : BufTy).Contents (Elt F)),
    unary main_arg16 main_v12 (broadcastInDim S1x1x1x64 ![3] bcast_S64_S1x1x1x64_3 : (⟨S64, .f32⟩ : BufTy).Contents (Elt F) → (⟨S1x1x1x64, .f32⟩ : BufTy).Contents (Elt F)),
    unary main_v12 main_v13 (broadcastInDim S8x4096x4x64 ![0, 1, 2, 3] bcast_S1x1x1x64_S8x4096x4x64_0_1_2_3 : (⟨S1x1x1x64, .f32⟩ : BufTy).Contents (Elt F) → (⟨S8x4096x4x64, .f32⟩ : BufTy).Contents (Elt F)),
    binary main_v11 main_v13 main_v14 (mulf : (⟨S8x4096x4x64, .f32⟩ : BufTy).Contents (Elt F) → (⟨S8x4096x4x64, .f32⟩ : BufTy).Contents (Elt F) → (⟨S8x4096x4x64, .f32⟩ : BufTy).Contents (Elt F)),
    reshape main_arg9 main_v15 (rfl : (.f32 : EltTy) = .f32) shapeCasts_S8x4096x256_S8x4096x4x64,
    TRef.unary (TRef.of (T := ⟨S8x4096x4x64, .f32⟩) main_v15) (TRef.of (T := ⟨S8x4096x4x64, .f32⟩) main_call0_v0) Host.negf,
    TRef.unary (TRef.of (T := ⟨S8x4096x4x64, .f32⟩) main_call0_v0) (TRef.of (T := ⟨S8x4096x4x64, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S8x4096x4x64, .f32⟩) main_call0_v2) (broadcastInDim S8x4096x4x64 ![] bcast_S_S8x4096x4x64),
    TRef.binary (TRef.of (T := ⟨S8x4096x4x64, .f32⟩) main_call0_v2) (TRef.of (T := ⟨S8x4096x4x64, .f32⟩) main_call0_v1) (TRef.of (T := ⟨S8x4096x4x64, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S8x4096x4x64, .f32⟩) main_call0_v4) (broadcastInDim S8x4096x4x64 ![] bcast_S_S8x4096x4x64),
    TRef.binary (TRef.of (T := ⟨S8x4096x4x64, .f32⟩) main_call0_v4) (TRef.of (T := ⟨S8x4096x4x64, .f32⟩) main_call0_v3) (TRef.of (T := ⟨S8x4096x4x64, .f32⟩) main_call0_v5) Host.divf,
    TRef.binary (TRef.of (T := ⟨S8x4096x4x64, .f32⟩) main_v15) (TRef.of (T := ⟨S8x4096x4x64, .f32⟩) main_call0_v5) (TRef.of (T := ⟨S8x4096x4x64, .f32⟩) main_v16) mulf,
    binary main_v14 main_v16 main_v17 (mulf : (⟨S8x4096x4x64, .f32⟩ : BufTy).Contents (Elt F) → (⟨S8x4096x4x64, .f32⟩ : BufTy).Contents (Elt F) → (⟨S8x4096x4x64, .f32⟩ : BufTy).Contents (Elt F)),
    reshape main_v17 main_v18 (rfl : (.f32 : EltTy) = .f32) shapeCasts_S8x4096x4x64_S8x4096x256,
    unary main_arg14 main_v19 ((extractStridedSlice S8x1x1024 ![0, 2, 0] · slices_S8x3x1024_S8x1x1024_0_2_0) : (⟨S8x3x1024, .f32⟩ : BufTy).Contents (Elt F) → (⟨S8x1x1024, .f32⟩ : BufTy).Contents (Elt F)),
    nary ![main_arg3, main_v18, main_arg10, main_arg12] main_v20 (fun u => fn_main_v20 (F := F) (u 0) (u 1) (u 2) (u 3)),
    binary main_v20 main_arg17 main_v21 ((fun l r => Host.dotGeneral dot_S8x4096x1024_S1024x1024_S8x4096x1024_2_0_01_1_n_n none l r) : (⟨S8x4096x1024, .f32⟩ : BufTy).Contents (Elt F) → (⟨S1024x1024, .f32⟩ : BufTy).Contents (Elt F) → (⟨S8x4096x1024, .f32⟩ : BufTy).Contents (Elt F)),
    unary main_v19 main_v22 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v22 main_v21 main_v23 (mulf : (⟨S8x4096x1024, .f32⟩ : BufTy).Contents (Elt F) → (⟨S8x4096x1024, .f32⟩ : BufTy).Contents (Elt F) → (⟨S8x4096x1024, .f32⟩ : BufTy).Contents (Elt F)),
    binary main_arg1 main_v23 main_v24 (addf : (⟨S8x4096x1024, .f32⟩ : BufTy).Contents (Elt F) → (⟨S8x4096x1024, .f32⟩ : BufTy).Contents (Elt F) → (⟨S8x4096x1024, .f32⟩ : BufTy).Contents (Elt F)) ]

/-- The buffers those operations write. -/
abbrev wopsA : List (Ref sig .tc) :=
  [main_v0, main_v1, main_v2, main_cst, main_v3, main_v4, main_cst_0, main_v5, main_v6, main_cst_1, main_v7, main_v8, main_v9, main_v10, main_v11, main_v12, main_v13, main_v14, main_v15, main_call0_v0, main_call0_v1, main_call0_cst, main_call0_v2, main_call0_v3, main_call0_cst_0, main_call0_v4, main_call0_v5, main_v16, main_v17, main_v18, main_v19, main_v20, main_v21, main_v22, main_v23, main_v24]

set_option maxRecDepth 8192 in
/-- Those operations write those buffers only. -/
theorem sub_opsA : (opsA : List (HloOp τ sig (Elt F))).Forall fun op => op.writes ⊆ (wopsA.map (Proc.devRef (τ := τ) .tc)).toFinset :=
  forall_writes_sub_of_map rfl

set_option maxRecDepth 8192 in
/-- Those operations touch the core's buffers only. -/
theorem bufs_opsA : (opsA : List (HloOp τ sig (Elt F))).Forall fun op => op.bufs ⊆ tcRefs τ sig :=
  ⟨binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., unary_bufs_sub .., nary_bufs_sub .., binary_bufs_sub .., unary_bufs_sub .., binary_bufs_sub .., binary_bufs_sub ..⟩

/-- The operations of the network. -/
abbrev opsB : List (HloOp τ sig (Elt F)) :=
  [ unary main_arg15 main_v25 ((extractStridedSlice S8x1x1024 ![0, 2, 0] · slices_S8x3x1024_S8x1x1024_0_2_0) : (⟨S8x3x1024, .f32⟩ : BufTy).Contents (Elt F) → (⟨S8x1x1024, .f32⟩ : BufTy).Contents (Elt F)),
    nullary main_cst_2 (constant S_ .f32 0x3F000000#32),
    unary main_cst_2 main_v26 (broadcastInDim S8x1x1024 ![] bcast_S_S8x1x1024 : (⟨S_, .f32⟩ : BufTy).Contents (Elt F) → (⟨S8x1x1024, .f32⟩ : BufTy).Contents (Elt F)),
    binary main_v26 main_v25 main_v27 (mulf : (⟨S8x1x1024, .f32⟩ : BufTy).Contents (Elt F) → (⟨S8x1x1024, .f32⟩ : BufTy).Contents (Elt F) → (⟨S8x1x1024, .f32⟩ : BufTy).Contents (Elt F)),
    unary main_arg15 main_v28 ((extractStridedSlice S8x1x1024 ![0, 0, 0] · slices_S8x3x1024_S8x1x1024_0_0_0) : (⟨S8x3x1024, .f32⟩ : BufTy).Contents (Elt F) → (⟨S8x1x1024, .f32⟩ : BufTy).Contents (Elt F)),
    unary main_arg15 main_v29 ((extractStridedSlice S8x1x1024 ![0, 1, 0] · slices_S8x3x1024_S8x1x1024_0_1_0) : (⟨S8x3x1024, .f32⟩ : BufTy).Contents (Elt F) → (⟨S8x1x1024, .f32⟩ : BufTy).Contents (Elt F)),
    binary main_v24 main_v24 main_v30 (mulf : (⟨S8x4096x1024, .f32⟩ : BufTy).Contents (Elt F) → (⟨S8x4096x1024, .f32⟩ : BufTy).Contents (Elt F) → (⟨S8x4096x1024, .f32⟩ : BufTy).Contents (Elt F)),
    nullary main_cst_3 (constant S_ .f32 0x00000000#32),
    binary main_v30 main_cst_3 main_v31 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v31 main_v32 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_4 (constant S_ .f32 0x44800000#32),
    unary main_cst_4 main_v33 (broadcastInDim S8x4096x1 ![] bcast_S_S8x4096x1 : (⟨S_, .f32⟩ : BufTy).Contents (Elt F) → (⟨S8x4096x1, .f32⟩ : BufTy).Contents (Elt F)),
    binary main_v32 main_v33 main_v34 (Host.divf : (⟨S8x4096x1, .f32⟩ : BufTy).Contents (Elt F) → (⟨S8x4096x1, .f32⟩ : BufTy).Contents (Elt F) → (⟨S8x4096x1, .f32⟩ : BufTy).Contents (Elt F)),
    nullary main_cst_5 (constant S_ .f32 0x358637BD#32),
    unary main_cst_5 main_v35 (broadcastInDim S8x4096x1 ![] bcast_S_S8x4096x1 : (⟨S_, .f32⟩ : BufTy).Contents (Elt F) → (⟨S8x4096x1, .f32⟩ : BufTy).Contents (Elt F)),
    binary main_v34 main_v35 main_v36 (addf : (⟨S8x4096x1, .f32⟩ : BufTy).Contents (Elt F) → (⟨S8x4096x1, .f32⟩ : BufTy).Contents (Elt F) → (⟨S8x4096x1, .f32⟩ : BufTy).Contents (Elt F)),
    unary main_v36 main_v37 (Host.rsqrt : (⟨S8x4096x1, .f32⟩ : BufTy).Contents (Elt F) → (⟨S8x4096x1, .f32⟩ : BufTy).Contents (Elt F)),
    unary main_v37 main_v38 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v24 main_v38 main_v39 (mulf : (⟨S8x4096x1024, .f32⟩ : BufTy).Contents (Elt F) → (⟨S8x4096x1024, .f32⟩ : BufTy).Contents (Elt F) → (⟨S8x4096x1024, .f32⟩ : BufTy).Contents (Elt F)),
    unary main_arg18 main_v40 (broadcastInDim S1x1x1024 ![2] bcast_S1024_S1x1x1024_2 : (⟨S1024, .f32⟩ : BufTy).Contents (Elt F) → (⟨S1x1x1024, .f32⟩ : BufTy).Contents (Elt F)),
    unary main_v40 main_v41 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v39 main_v41 main_v42 (mulf : (⟨S8x4096x1024, .f32⟩ : BufTy).Contents (Elt F) → (⟨S8x4096x1024, .f32⟩ : BufTy).Contents (Elt F) → (⟨S8x4096x1024, .f32⟩ : BufTy).Contents (Elt F)),
    nullary main_cst_6 (constant S_ .f32 0x3F800000#32),
    unary main_cst_6 main_v43 (broadcastInDim S8x1x1024 ![] bcast_S_S8x1x1024 : (⟨S_, .f32⟩ : BufTy).Contents (Elt F) → (⟨S8x1x1024, .f32⟩ : BufTy).Contents (Elt F)),
    binary main_v43 main_v29 main_v44 (addf : (⟨S8x1x1024, .f32⟩ : BufTy).Contents (Elt F) → (⟨S8x1x1024, .f32⟩ : BufTy).Contents (Elt F) → (⟨S8x1x1024, .f32⟩ : BufTy).Contents (Elt F)),
    unary main_v44 main_v45 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v42 main_v45 main_v46 (mulf : (⟨S8x4096x1024, .f32⟩ : BufTy).Contents (Elt F) → (⟨S8x4096x1024, .f32⟩ : BufTy).Contents (Elt F) → (⟨S8x4096x1024, .f32⟩ : BufTy).Contents (Elt F)),
    unary main_v28 main_v47 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v46 main_v47 main_v48 (addf : (⟨S8x4096x1024, .f32⟩ : BufTy).Contents (Elt F) → (⟨S8x4096x1024, .f32⟩ : BufTy).Contents (Elt F) → (⟨S8x4096x1024, .f32⟩ : BufTy).Contents (Elt F)),
    binary main_v48 main_arg19 main_v49 ((fun l r => Host.dotGeneral dot_S8x4096x1024_S1024x2816_S8x4096x2816_2_0_01_1_n_n none l r) : (⟨S8x4096x1024, .f32⟩ : BufTy).Contents (Elt F) → (⟨S1024x2816, .f32⟩ : BufTy).Contents (Elt F) → (⟨S8x4096x2816, .f32⟩ : BufTy).Contents (Elt F)),
    TRef.unary (TRef.of (T := ⟨S8x4096x2816, .f32⟩) main_v49) (TRef.of (T := ⟨S8x4096x2816, .f32⟩) main_call1_v0) Host.negf,
    TRef.unary (TRef.of (T := ⟨S8x4096x2816, .f32⟩) main_call1_v0) (TRef.of (T := ⟨S8x4096x2816, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S8x4096x2816, .f32⟩) main_call1_v2) (broadcastInDim S8x4096x2816 ![] bcast_S_S8x4096x2816),
    TRef.binary (TRef.of (T := ⟨S8x4096x2816, .f32⟩) main_call1_v2) (TRef.of (T := ⟨S8x4096x2816, .f32⟩) main_call1_v1) (TRef.of (T := ⟨S8x4096x2816, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S8x4096x2816, .f32⟩) main_call1_v4) (broadcastInDim S8x4096x2816 ![] bcast_S_S8x4096x2816),
    TRef.binary (TRef.of (T := ⟨S8x4096x2816, .f32⟩) main_call1_v4) (TRef.of (T := ⟨S8x4096x2816, .f32⟩) main_call1_v3) (TRef.of (T := ⟨S8x4096x2816, .f32⟩) main_call1_v5) Host.divf,
    TRef.binary (TRef.of (T := ⟨S8x4096x2816, .f32⟩) main_v49) (TRef.of (T := ⟨S8x4096x2816, .f32⟩) main_call1_v5) (TRef.of (T := ⟨S8x4096x2816, .f32⟩) main_v50) mulf,
    binary main_v48 main_arg20 main_v51 ((fun l r => Host.dotGeneral dot_S8x4096x1024_S1024x2816_S8x4096x2816_2_0_01_1_n_n none l r) : (⟨S8x4096x1024, .f32⟩ : BufTy).Contents (Elt F) → (⟨S1024x2816, .f32⟩ : BufTy).Contents (Elt F) → (⟨S8x4096x2816, .f32⟩ : BufTy).Contents (Elt F)),
    binary main_v50 main_v51 main_v52 (mulf : (⟨S8x4096x2816, .f32⟩ : BufTy).Contents (Elt F) → (⟨S8x4096x2816, .f32⟩ : BufTy).Contents (Elt F) → (⟨S8x4096x2816, .f32⟩ : BufTy).Contents (Elt F)),
    binary main_v52 main_arg21 main_v53 ((fun l r => Host.dotGeneral dot_S8x4096x2816_S2816x1024_S8x4096x1024_2_0_01_1_n_n none l r) : (⟨S8x4096x2816, .f32⟩ : BufTy).Contents (Elt F) → (⟨S2816x1024, .f32⟩ : BufTy).Contents (Elt F) → (⟨S8x4096x1024, .f32⟩ : BufTy).Contents (Elt F)),
    unary main_v27 main_v54 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v54 main_v53 main_v55 (mulf : (⟨S8x4096x1024, .f32⟩ : BufTy).Contents (Elt F) → (⟨S8x4096x1024, .f32⟩ : BufTy).Contents (Elt F) → (⟨S8x4096x1024, .f32⟩ : BufTy).Contents (Elt F)),
    binary main_v24 main_v55 main_v56 (addf : (⟨S8x4096x1024, .f32⟩ : BufTy).Contents (Elt F) → (⟨S8x4096x1024, .f32⟩ : BufTy).Contents (Elt F) → (⟨S8x4096x1024, .f32⟩ : BufTy).Contents (Elt F)) ]

/-- The buffers those operations write. -/
abbrev wopsB : List (Ref sig .tc) :=
  [main_v25, main_cst_2, main_v26, main_v27, main_v28, main_v29, main_v30, main_cst_3, main_v31, main_v32, main_cst_4, main_v33, main_v34, main_cst_5, main_v35, main_v36, main_v37, main_v38, main_v39, main_v40, main_v41, main_v42, main_cst_6, main_v43, main_v44, main_v45, main_v46, main_v47, main_v48, main_v49, main_call1_v0, main_call1_v1, main_call1_cst, main_call1_v2, main_call1_v3, main_call1_cst_0, main_call1_v4, main_call1_v5, main_v50, main_v51, main_v52, main_v53, main_v54, main_v55, main_v56]

set_option maxRecDepth 8192 in
/-- Those operations write those buffers only. -/
theorem sub_opsB : (opsB : List (HloOp τ sig (Elt F))).Forall fun op => op.writes ⊆ (wopsB.map (Proc.devRef (τ := τ) .tc)).toFinset :=
  forall_writes_sub_of_map rfl

set_option maxRecDepth 8192 in
/-- Those operations touch the core's buffers only. -/
theorem bufs_opsB : (opsB : List (HloOp τ sig (Elt F))).Forall fun op => op.bufs ⊆ tcRefs τ sig :=
  ⟨unary_bufs_sub .., nullary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., unary_bufs_sub .., binary_bufs_sub .., binary_bufs_sub ..⟩

/-- The operations of the last norm. -/
abbrev opsC : List (HloOp τ sig (Elt F)) :=
  [ binary main_v56 main_v56 main_v57 (mulf : (⟨S8x4096x1024, .f32⟩ : BufTy).Contents (Elt F) → (⟨S8x4096x1024, .f32⟩ : BufTy).Contents (Elt F) → (⟨S8x4096x1024, .f32⟩ : BufTy).Contents (Elt F)),
    nullary main_cst_7 (constant S_ .f32 0x00000000#32),
    binary main_v57 main_cst_7 main_v58 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v58 main_v59 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_8 (constant S_ .f32 0x44800000#32),
    unary main_cst_8 main_v60 (broadcastInDim S8x4096x1 ![] bcast_S_S8x4096x1 : (⟨S_, .f32⟩ : BufTy).Contents (Elt F) → (⟨S8x4096x1, .f32⟩ : BufTy).Contents (Elt F)),
    binary main_v59 main_v60 main_v61 (Host.divf : (⟨S8x4096x1, .f32⟩ : BufTy).Contents (Elt F) → (⟨S8x4096x1, .f32⟩ : BufTy).Contents (Elt F) → (⟨S8x4096x1, .f32⟩ : BufTy).Contents (Elt F)),
    nullary main_cst_9 (constant S_ .f32 0x358637BD#32),
    unary main_cst_9 main_v62 (broadcastInDim S8x4096x1 ![] bcast_S_S8x4096x1 : (⟨S_, .f32⟩ : BufTy).Contents (Elt F) → (⟨S8x4096x1, .f32⟩ : BufTy).Contents (Elt F)),
    binary main_v61 main_v62 main_v63 (addf : (⟨S8x4096x1, .f32⟩ : BufTy).Contents (Elt F) → (⟨S8x4096x1, .f32⟩ : BufTy).Contents (Elt F) → (⟨S8x4096x1, .f32⟩ : BufTy).Contents (Elt F)),
    unary main_v63 main_v64 (Host.rsqrt : (⟨S8x4096x1, .f32⟩ : BufTy).Contents (Elt F) → (⟨S8x4096x1, .f32⟩ : BufTy).Contents (Elt F)),
    unary main_v64 main_v65 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v56 main_v65 main_v66 (mulf : (⟨S8x4096x1024, .f32⟩ : BufTy).Contents (Elt F) → (⟨S8x4096x1024, .f32⟩ : BufTy).Contents (Elt F) → (⟨S8x4096x1024, .f32⟩ : BufTy).Contents (Elt F)),
    unary main_arg22 main_v67 (broadcastInDim S1x1x1024 ![2] bcast_S1024_S1x1x1024_2 : (⟨S1024, .f32⟩ : BufTy).Contents (Elt F) → (⟨S1x1x1024, .f32⟩ : BufTy).Contents (Elt F)),
    unary main_v67 main_v68 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v66 main_v68 main_v69 (mulf : (⟨S8x4096x1024, .f32⟩ : BufTy).Contents (Elt F) → (⟨S8x4096x1024, .f32⟩ : BufTy).Contents (Elt F) → (⟨S8x4096x1024, .f32⟩ : BufTy).Contents (Elt F)) ]

/-- The buffers those operations write. -/
abbrev wopsC : List (Ref sig .tc) :=
  [main_v57, main_cst_7, main_v58, main_v59, main_cst_8, main_v60, main_v61, main_cst_9, main_v62, main_v63, main_v64, main_v65, main_v66, main_v67, main_v68, main_v69]

set_option maxRecDepth 8192 in
/-- Those operations write those buffers only. -/
theorem sub_opsC : (opsC : List (HloOp τ sig (Elt F))).Forall fun op => op.writes ⊆ (wopsC.map (Proc.devRef (τ := τ) .tc)).toFinset :=
  forall_writes_sub_of_map rfl

set_option maxRecDepth 8192 in
/-- Those operations touch the core's buffers only. -/
theorem bufs_opsC : (opsC : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

/-- One line of operations after another. -/
theorem after_append (A B : List (HloOp τ sig (Elt F))) (V : Valuation τ sig (Elt F)) : after (A ++ B) V = after B (after A V) := by
  induction A generalizing V with
  | nil => rfl
  | cons a A ih => exact ih _

/-- The whole line of operations. -/
abbrev line : List (HloOp τ sig (Elt F)) := opsA ++ (opsB ++ opsC)

set_option maxRecDepth 8192 in
set_option maxHeartbeats 4000000 in
/-- The program is its line of operations. -/
theorem main_line (c : Dev nD) : main (F := F) c = seq line := rfl

/-- No buffer is scoped. -/
theorem noRefs : (Finset.univ.filter fun b : Ref sig .tc => b.isScoped) = ∅ := by decide

/-- No counter is scoped. -/
theorem noSems : (Finset.univ.filter fun sm : SemLoc sig => sm.isScoped .tc) = ∅ := by decide

/-- The line touches the core's buffers only. -/
theorem bufs_line : (line : List (HloOp τ sig (Elt F))).Forall fun op => op.bufs ⊆ tcRefs τ sig := by
  refine List.forall_iff_forall_mem.mpr fun op h => ?_
  rcases List.mem_append.mp h with h | h
  · exact List.forall_iff_forall_mem.mp bufs_opsA op h
  rcases List.mem_append.mp h with h | h
  · exact List.forall_iff_forall_mem.mp bufs_opsB op h
  · exact List.forall_iff_forall_mem.mp bufs_opsC op h

/-- Each of those operations determines what it writes. -/
theorem fresh_opsA : ∀ op ∈ (opsA : List (HloOp τ sig (Elt F))), op.fresh = ∅ := by
  intro _ h; (repeat (cases h with | head => rfl | tail _ h => ?_)); exact nomatch h

/-- Each of those operations determines what it writes. -/
theorem fresh_opsB : ∀ op ∈ (opsB : List (HloOp τ sig (Elt F))), op.fresh = ∅ := by
  intro _ h; (repeat (cases h with | head => rfl | tail _ h => ?_)); exact nomatch h

/-- Each of those operations determines what it writes. -/
theorem fresh_opsC : ∀ op ∈ (opsC : List (HloOp τ sig (Elt F))), op.fresh = ∅ := by
  intro _ h; (repeat (cases h with | head => rfl | tail _ h => ?_)); exact nomatch h

/-- Each operation of the line determines what it writes. -/
theorem fresh_line : ∀ op ∈ (line : List (HloOp τ sig (Elt F))), op.fresh = ∅ := by
  intro op h
  rcases List.mem_append.mp h with h | h
  · exact fresh_opsA op h
  rcases List.mem_append.mp h with h | h
  · exact fresh_opsB op h
  · exact fresh_opsC op h

set_option maxHeartbeats 4000000 in
/-- The rows after the projection, read back. -/
theorem read_opsA (V : Valuation τ sig (Elt Ideal)) : after (opsA (F := Ideal)) V (Proc.devRef .tc main_v24) = base (V (Proc.devRef .tc main_arg1)) (V (Proc.devRef .tc main_arg3)) (V (Proc.devRef .tc main_arg5)) (V (Proc.devRef .tc main_arg7)) (V (Proc.devRef .tc main_arg9)) (V (Proc.devRef .tc main_arg10)) (V (Proc.devRef .tc main_arg12)) (V (Proc.devRef .tc main_arg14)) (V (Proc.devRef .tc main_arg16)) (V (Proc.devRef .tc main_arg17)) := by
  simp only [opsA, TRef.binary, TRef.nullary, TRef.unary, TRef.toBuf, TRef.ofBuf, cast_eq]; after_results_simp <;> (try dsimp only [Matrix.cons_val]) <;> (try after_results_simp) <;> rfl

set_option maxHeartbeats 4000000 in
/-- The rows after the network, read back. -/
theorem read_opsB (V : Valuation τ sig (Elt Ideal)) : after (opsB (F := Ideal)) V (Proc.devRef .tc main_v56) = stepped (V (Proc.devRef .tc main_v24)) (net (V (Proc.devRef .tc main_v24)) (V (Proc.devRef .tc main_arg15)) (V (Proc.devRef .tc main_arg18)) (V (Proc.devRef .tc main_arg19)) (V (Proc.devRef .tc main_arg20)) (V (Proc.devRef .tc main_arg21))) (V (Proc.devRef .tc main_arg15)) := by
  simp only [opsB, TRef.binary, TRef.nullary, TRef.unary, TRef.toBuf, TRef.ofBuf, cast_eq]; after_results_simp <;> (try dsimp only [Matrix.cons_val]) <;> (try after_results_simp) <;> rfl

set_option maxHeartbeats 4000000 in
/-- The last norm, read back. -/
theorem read_opsC (V : Valuation τ sig (Elt Ideal)) : after (opsC (F := Ideal)) V (Proc.devRef .tc main_v69) = norms (V (Proc.devRef .tc main_v56)) (V (Proc.devRef .tc main_arg22)) := by
  simp only [opsC, TRef.binary, TRef.nullary, TRef.unary, TRef.toBuf, TRef.ofBuf, cast_eq]; after_results_simp <;> (try dsimp only [Matrix.cons_val]) <;> (try after_results_simp) <;> rfl

/-- A buffer the line does not write keeps its contents. -/
theorem keep (V : Valuation τ sig (Elt F)) (r : Ref sig .tc) (hA : r ∉ wopsA) (hB : r ∉ wopsB) (hC : r ∉ wopsC) :
    after (line (F := F)) V (Proc.devRef .tc r) = V (Proc.devRef .tc r) := by
  rw [after_append, after_append, after_of_writes_sub _ _ sub_opsC hC, after_of_writes_sub _ _ sub_opsB hB, after_of_writes_sub _ _ sub_opsA hA]

/-- The result, read back. -/
theorem read_line (V : Valuation τ sig (Elt Ideal)) : after (line (F := Ideal)) V (Proc.devRef .tc main_v69) = result (V (Proc.devRef .tc main_arg1)) (V (Proc.devRef .tc main_arg3)) (V (Proc.devRef .tc main_arg5)) (V (Proc.devRef .tc main_arg7)) (V (Proc.devRef .tc main_arg9)) (V (Proc.devRef .tc main_arg10)) (V (Proc.devRef .tc main_arg12)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  have kA : ∀ r : Ref sig .tc, r ∉ wopsA → after (opsA (F := Ideal)) V (Proc.devRef .tc r) = V (Proc.devRef .tc r) :=
    fun r h => after_of_writes_sub _ _ sub_opsA h
  have kB : ∀ r : Ref sig .tc, r ∉ wopsB → after (opsB (F := Ideal)) (after opsA V) (Proc.devRef .tc r) = after (opsA (F := Ideal)) V (Proc.devRef .tc r) :=
    fun r h => after_of_writes_sub _ _ sub_opsB h
  rw [after_append, after_append, read_opsC, read_opsB, kB main_arg22 (by decide), kA main_arg22 (by decide), read_opsA,
    kA main_arg15 (by decide), kA main_arg18 (by decide), kA main_arg19 (by decide), kA main_arg20 (by decide), kA main_arg21 (by decide)]
  rfl

/-- The reference ends with its result in the result array and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = result (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg10)) (m ((c.tc : Thread nD τ).loc main_arg12)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v69).trans (read_line _),
      (h c main_arg0).trans (keep _ _ (by decide) (by decide) (by decide)),
      (h c main_arg1).trans (keep _ _ (by decide) (by decide) (by decide)),
      (h c main_arg2).trans (keep _ _ (by decide) (by decide) (by decide)),
      (h c main_arg3).trans (keep _ _ (by decide) (by decide) (by decide)),
      (h c main_arg4).trans (keep _ _ (by decide) (by decide) (by decide)),
      (h c main_arg5).trans (keep _ _ (by decide) (by decide) (by decide)),
      (h c main_arg6).trans (keep _ _ (by decide) (by decide) (by decide)),
      (h c main_arg7).trans (keep _ _ (by decide) (by decide) (by decide)),
      (h c main_arg8).trans (keep _ _ (by decide) (by decide) (by decide)),
      (h c main_arg9).trans (keep _ _ (by decide) (by decide) (by decide)),
      (h c main_arg10).trans (keep _ _ (by decide) (by decide) (by decide)),
      (h c main_arg11).trans (keep _ _ (by decide) (by decide) (by decide)),
      (h c main_arg12).trans (keep _ _ (by decide) (by decide) (by decide)),
      (h c main_arg13).trans (keep _ _ (by decide) (by decide) (by decide)),
      (h c main_arg14).trans (keep _ _ (by decide) (by decide) (by decide)),
      (h c main_arg15).trans (keep _ _ (by decide) (by decide) (by decide)),
      (h c main_arg16).trans (keep _ _ (by decide) (by decide) (by decide)),
      (h c main_arg17).trans (keep _ _ (by decide) (by decide) (by decide)),
      (h c main_arg18).trans (keep _ _ (by decide) (by decide) (by decide)),
      (h c main_arg19).trans (keep _ _ (by decide) (by decide) (by decide)),
      (h c main_arg20).trans (keep _ _ (by decide) (by decide) (by decide)),
      (h c main_arg21).trans (keep _ _ (by decide) (by decide) (by decide)),
      (h c main_arg22).trans (keep _ _ (by decide) (by decide) (by decide))⟩)
    (run_seq noRefs noSems defs main (fun _ => line) main_line (fun _ => bufs_line) m ρ (fun _ => fresh_line))

end Cert.MixReferenceIdeal.Mix
end
-- ==== Proof.MixClaim.lean ====
/- The layer after the mixers: the kernel and the reference agree on it. -/
module

public import proofs.«01_k».proof.Defs
public import proofs.«01_k».proof.Proof.MixValue
public import proofs.«01_k».proof.Proof.MixRun
public import proofs.«01_k».proof.Proof.Gen.MixIdeal.Frame
public import proofs.«01_k».proof.Proof.Gen.MixReferenceIdeal

@[expose] public section

set_option maxRecDepth 16384

noncomputable section

open Idealize.ShloMosaic Idealize.ShloMosaic.TcCoe Idealize.SL.Sem

namespace Cert.Mix

/-- The reference's result is what the kernel's tiles make up. -/
theorem result_eq (x : FVec Ideal Cert.MixIdeal.S8x4096x1024 .f32) (ya of ob z ym yn : FVec Ideal Cert.MixIdeal.S8x4096x256 .f32) (mm mf : FVec Ideal Cert.MixIdeal.S8x3x1024 .f32)
    (g : FVec Ideal Cert.MixIdeal.S64 .f32) (w : FVec Ideal Cert.MixIdeal.S1024x1024 .f32) (n3 : FVec Ideal Cert.MixIdeal.S1024 .f32) (wg wu : FVec Ideal Cert.MixIdeal.S1024x2816 .f32)
    (wd : FVec Ideal Cert.MixIdeal.S2816x1024 .f32) (fin : FVec Ideal Cert.MixIdeal.S1024 .f32) :
    Cert.MixReferenceIdeal.Mix.result x ya of ob z ym yn mm mf g w n3 wg wu wd fin = Cert.MixIdeal.Mix.layer x ya of ob z ym yn mm mf g w n3 wg wu wd fin := by
  funext y
  idx_vars y
  exact Cert.MixReferenceIdeal.Mix.result_at _ _ x ya of ob z ym yn mm mf g w n3 wg wu wd fin _

/-- The reference's term, of arrays equal to the kernel's arguments, is the kernel's result array. -/
theorem reference_eq (m : (ℓ : Loc Cert.MixIdeal.nD Cert.MixIdeal.τ Cert.MixIdeal.sig) → Buf (Elt Ideal) ℓ)
    (c : Dev Cert.MixIdeal.nD) (T : FVec Ideal Cert.MixIdeal.S8x4096x1024 .f32)
    (a1 : FVec Ideal Cert.MixIdeal.S8x4096x1024 .f32)
    (a3 : FVec Ideal Cert.MixIdeal.S8x4096x256 .f32)
    (a5 : FVec Ideal Cert.MixIdeal.S8x4096x256 .f32)
    (a7 : FVec Ideal Cert.MixIdeal.S8x4096x256 .f32)
    (a9 : FVec Ideal Cert.MixIdeal.S8x4096x256 .f32)
    (a10 : FVec Ideal Cert.MixIdeal.S8x4096x256 .f32)
    (a12 : FVec Ideal Cert.MixIdeal.S8x4096x256 .f32)
    (a14 : FVec Ideal Cert.MixIdeal.S8x3x1024 .f32)
    (a15 : FVec Ideal Cert.MixIdeal.S8x3x1024 .f32)
    (a16 : FVec Ideal Cert.MixIdeal.S64 .f32)
    (a17 : FVec Ideal Cert.MixIdeal.S1024x1024 .f32)
    (a18 : FVec Ideal Cert.MixIdeal.S1024 .f32)
    (a19 : FVec Ideal Cert.MixIdeal.S1024x2816 .f32)
    (a20 : FVec Ideal Cert.MixIdeal.S1024x2816 .f32)
    (a21 : FVec Ideal Cert.MixIdeal.S2816x1024 .f32)
    (a22 : FVec Ideal Cert.MixIdeal.S1024 .f32)
    (hT : T = Cert.MixReferenceIdeal.Mix.result a1 a3 a5 a7 a9 a10 a12 a14 a15 a16 a17 a18 a19 a20 a21 a22)
    (h1 : a1 = (m ((c : Thread Cert.MixIdeal.nD Cert.MixIdeal.τ).loc Cert.MixIdeal.main_arg1)))
    (h3 : a3 = (m ((c : Thread Cert.MixIdeal.nD Cert.MixIdeal.τ).loc Cert.MixIdeal.main_arg3)))
    (h5 : a5 = (m ((c : Thread Cert.MixIdeal.nD Cert.MixIdeal.τ).loc Cert.MixIdeal.main_arg5)))
    (h7 : a7 = (m ((c : Thread Cert.MixIdeal.nD Cert.MixIdeal.τ).loc Cert.MixIdeal.main_arg7)))
    (h9 : a9 = (m ((c : Thread Cert.MixIdeal.nD Cert.MixIdeal.τ).loc Cert.MixIdeal.main_arg9)))
    (h10 : a10 = (m ((c : Thread Cert.MixIdeal.nD Cert.MixIdeal.τ).loc Cert.MixIdeal.main_arg10)))
    (h12 : a12 = (m ((c : Thread Cert.MixIdeal.nD Cert.MixIdeal.τ).loc Cert.MixIdeal.main_arg12)))
    (h14 : a14 = (m ((c : Thread Cert.MixIdeal.nD Cert.MixIdeal.τ).loc Cert.MixIdeal.main_arg14)))
    (h15 : a15 = (m ((c : Thread Cert.MixIdeal.nD Cert.MixIdeal.τ).loc Cert.MixIdeal.main_arg15)))
    (h16 : a16 = (m ((c : Thread Cert.MixIdeal.nD Cert.MixIdeal.τ).loc Cert.MixIdeal.main_arg16)))
    (h17 : a17 = (m ((c : Thread Cert.MixIdeal.nD Cert.MixIdeal.τ).loc Cert.MixIdeal.main_arg17)))
    (h18 : a18 = (m ((c : Thread Cert.MixIdeal.nD Cert.MixIdeal.τ).loc Cert.MixIdeal.main_arg18)))
    (h19 : a19 = (m ((c : Thread Cert.MixIdeal.nD Cert.MixIdeal.τ).loc Cert.MixIdeal.main_arg19)))
    (h20 : a20 = (m ((c : Thread Cert.MixIdeal.nD Cert.MixIdeal.τ).loc Cert.MixIdeal.main_arg20)))
    (h21 : a21 = (m ((c : Thread Cert.MixIdeal.nD Cert.MixIdeal.τ).loc Cert.MixIdeal.main_arg21)))
    (h22 : a22 = (m ((c : Thread Cert.MixIdeal.nD Cert.MixIdeal.τ).loc Cert.MixIdeal.main_arg22))) :
    T = (Cert.MixIdeal.Gen.dats m 0 c).arrAt 17 (Cert.MixIdeal.cfgs 0).N := by
  rw [hT, result_eq, h1, h3, h5, h7, h9, h10, h12, h14, h15, h16, h17, h18, h19, h20, h21, h22]
  exact (Cert.MixIdeal.Mix.final m c).symm

/-- The algebraic claim. -/
theorem algebraic : Cert.algebraic_MixIdeal_MixReferenceIdeal (hMixIdeal := Cert.MixIdeal.Gen.facts)
    (hMixReferenceIdeal := Cert.MixReferenceIdeal.Gen.facts) := by
  intro m g m' g' _ hagree
  refine ⟨fun c => (Cert.MixIdeal.Gen.dats m 0 c).arrAt 17 (Cert.MixIdeal.cfgs 0).N, ?_, ?_⟩
  · refine θ_run_mono (θ_run_and (Cert.MixIdeal.Gen.run_main m g) (Cert.MixIdeal.Gen.frame m g)) ?_
    rintro r ⟨h, hf⟩ c
    exact ⟨(h c).1 17, hf.1 c⟩
  · refine θ_run_mono (Cert.MixReferenceIdeal.Mix.run m' g') ?_
    intro r h c
    exact ⟨(h c).1.trans (reference_eq m c _ _ _ _ _ _ _ _ _ _ _ _ _ _ _ _ _ rfl (hagree c).2.1 (hagree c).2.2.2.1 (hagree c).2.2.2.2.2.1 (hagree c).2.2.2.2.2.2.2.1 (hagree c).2.2.2.2.2.2.2.2.2.1 (hagree c).2.2.2.2.2.2.2.2.2.2.1 (hagree c).2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2), (h c).2⟩

end Cert.Mix
end
-- ==== Proof.Step.lean ====
/- A token's row plus half its gated feed-forward network, for context and latent tokens. -/
module

public import proofs.«01_k».proof.Proof.Ffn

@[expose] public section

set_option maxRecDepth 16384

noncomputable section

open Idealize.ShloMosaic Idealize.ShloMosaic.TcCoe Idealize.SL.Sem

namespace Cert.Ffn
/-- Equal entries give equal rows. -/
theorem step_congr {x x' g g' sh sh' sc sc' ga ga' : Fin 1024 → EReal} {wg wg' wu wu' : Fin 1024 → Fin 2816 → EReal}
    {wd wd' : Fin 2816 → Fin 1024 → EReal} {j j' : Fin 1024} (h0 : ∀ l, x l = x' l) (h1 : ∀ l, g l = g' l) (h2 : ∀ l, sh l = sh' l)
    (h3 : ∀ l, sc l = sc' l) (h4 : ∀ l, ga l = ga' l) (h5 : ∀ l f, wg l f = wg' l f) (h6 : ∀ l f, wu l f = wu' l f)
    (h7 : ∀ f j, wd f j = wd' f j) (h8 : j = j') : step x g sh sc ga wg wu wd j = step x' g' sh' sc' ga' wg' wu' wd' j' := by
  obtain rfl := funext h0; obtain rfl := funext h1; obtain rfl := funext h2; obtain rfl := funext h3; obtain rfl := funext h4
  obtain rfl := funext fun l => funext (h5 l); obtain rfl := funext fun l => funext (h6 l); obtain rfl := funext fun f => funext (h7 f)
  rw [h8]

/-- A grid coordinate compared with zero. -/
theorem is_zero : ∀ n : Fin 17, IntOp.cmpi .eq (BitVec.ofNat 32 n.val) 0#32 = if n.val = 0 then 1#1 else 0#1 := by decide

end Cert.Ffn
end
-- ==== Proof.FirstBody.lean ====
/- The first feed-forward block: what its body computes at an entry. -/
module

public import proofs.«01_k».proof.Proof.Step
public import proofs.«01_k».proof.Proof.Gen.FirstIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FirstIdeal.First
open Cert.FirstIdeal Cert.FirstIdeal.Gen

/-- A choice between two blocks at an entry. -/
theorem select_at (c : BitVec 1) (a b : FVec Ideal S256x1024 .f32) (y : S256x1024.Idx) :
    ((Scalar.select c a b : FVec Ideal S256x1024 .f32) y : EReal) = if c = 1#1 then a y else b y := by
  by_cases h : c = 1#1
  · exact (congrFun (if_pos h) y).trans (if_pos h).symm
  · exact (congrFun (if_neg h) y).trans (if_neg h).symm

/-- A coordinate's choice. -/
theorem choice (n : Fin 17) (a b : EReal) : (if Scalar.cmpi .eq (BitVec.ofNat 32 n.val) 0#32 = 1#1 then a else b) = if n.val = 0 then a else b := by
  have h : Scalar.cmpi .eq (BitVec.ofNat 32 n.val) 0#32 = if n.val = 0 then 1#1 else 0#1 := Ffn.is_zero n
  rw [h]
  by_cases e : n.val = 0
  · rw [if_pos e, if_pos e, if_pos rfl]
  · rw [if_neg e, if_neg e, if_neg (by decide)]

/-- The first batch's row: the context's at the first coordinate. -/
theorem pay4_at (i : grid0.Coords) (v0 v3 : FVec Ideal S1x256x1024 .f32) (r : Fin 256) (l : Fin 1024) :
    (k0_pay4 (F := Ideal) i v0 v3 (ix2 r l) : EReal) = if (i 1).val = 0 then v3 (ix3 0 r l) else v0 (ix3 0 r l) := by
  refine (select_at _ _ _ _).trans ((choice (i 1) _ _).trans ?_)
  congr 1
  · pointwise []
  · pointwise []

/-- The second batch's row: the context's at the first coordinate. -/
theorem pay7_at (n : Fin 17) (v31 v34 : FVec Ideal S1x256x1024 .f32) (r : Fin 256) (l : Fin 1024) :
    (k0_pay7 (F := Ideal) (k0_pay6 v31) (Scalar.cmpi .eq (BitVec.ofNat 32 n.val) 0#32) v34 (ix2 r l) : EReal) = if n.val = 0 then v34 (ix3 0 r l) else v31 (ix3 0 r l) := by
  refine (select_at _ _ _ _).trans ((choice n _ _).trans ?_)
  congr 1
  · pointwise []
  · pointwise [k0_pay6]

/-- The first batch's modulated norm. -/
theorem pay5_at (i : grid0.Coords) (v0 v3 : FVec Ideal S1x256x1024 .f32) (v6 : FVec Ideal S1x3x1024 .f32) (v8 : FVec Ideal S1x1024 .f32) (r : Fin 256) (j : Fin 1024) :
    (k0_pay5 (F := Ideal) i v0 v3 v6 v8 (ix2 r j) : EReal)
      = Ffn.pre (fun l => k0_pay4 (F := Ideal) i v0 v3 (ix2 r l)) (fun l => v8 (ix2 0 l)) (fun l => v6 (ix3 0 0 l)) (fun l => v6 (ix3 0 1 l)) j := by
  pointwise [k0_pay5]; rfl

/-- The joined rows at a row of the first batch. -/
theorem pay8_at0 (v30 : FVec Ideal S256x1024 .bf16) (v32 : FVec Ideal S256x1024 .f32) (v33 : BitVec 1) (v34 : FVec Ideal S1x256x1024 .f32) (v37 : FVec Ideal S1x3x1024 .f32)
    (v39 : FVec Ideal S1x1024 .f32) (r : Fin 256) (j : Fin 1024) :
    (k0_pay8 (F := Ideal) v30 v32 v33 v34 v37 v39 (ix2 ⟨r.val, by omega⟩ j) : EReal) = v30 (ix2 r j) := by
  pointwise [k0_pay8]

/-- The joined rows at a row of the second batch. -/
theorem pay8_at1 (v30 : FVec Ideal S256x1024 .bf16) (v32 : FVec Ideal S256x1024 .f32) (v33 : BitVec 1) (v34 : FVec Ideal S1x256x1024 .f32) (v37 : FVec Ideal S1x3x1024 .f32)
    (v39 : FVec Ideal S1x1024 .f32) (r : Fin 256) (j : Fin 1024) :
    (k0_pay8 (F := Ideal) v30 v32 v33 v34 v37 v39 (ix2 ⟨256 + r.val, by omega⟩ j) : EReal)
      = Ffn.pre (fun l => k0_pay7 (F := Ideal) v32 v33 v34 (ix2 r l)) (fun l => v39 (ix2 0 l)) (fun l => v37 (ix3 0 0 l)) (fun l => v37 (ix3 0 1 l)) j := by
  pointwise [k0_pay8]; rfl

/-- The gate's side of a row. -/
theorem pay9_at (v30 : FVec Ideal S256x1024 .bf16) (v32 : FVec Ideal S256x1024 .f32) (v33 : BitVec 1) (v34 : FVec Ideal S1x256x1024 .f32) (v37 : FVec Ideal S1x3x1024 .f32)
    (v39 : FVec Ideal S1x1024 .f32) (w : FVec Ideal S1024x2816 .bf16) (x : Fin 512) (f : Fin 2816) :
    (k0_pay9 (F := Ideal) v30 v32 v33 v34 v37 v39 w (ix2 x f) : EReal) = Ffn.silu (∑ l : Fin 1024, (k0_pay8 (F := Ideal) v30 v32 v33 v34 v37 v39 (ix2 x l) : EReal) * w (ix2 l f)) := by
  pointwise [k0_pay9]; rfl

/-- The other side of a row. -/
theorem pay10_at (v30 : FVec Ideal S256x1024 .bf16) (v32 : FVec Ideal S256x1024 .f32) (v33 : BitVec 1) (v34 : FVec Ideal S1x256x1024 .f32) (v37 : FVec Ideal S1x3x1024 .f32)
    (v39 : FVec Ideal S1x1024 .f32) (w : FVec Ideal S1024x2816 .bf16) (x : Fin 512) (f : Fin 2816) :
    (k0_pay10 (F := Ideal) v30 v32 v33 v34 v37 v39 w (ix2 x f) : EReal) = ∑ l : Fin 1024, (k0_pay8 (F := Ideal) v30 v32 v33 v34 v37 v39 (ix2 x l) : EReal) * w (ix2 l f) := by
  pointwise [k0_pay10]

/-- The network of a row. -/
theorem pay1_at (a b : FVec Ideal S512x2816 .f32) (w : FVec Ideal S2816x1024 .bf16) (x : Fin 512) (j : Fin 1024) :
    (k0_pay1 (F := Ideal) a b w (ix2 x j) : EReal) = ∑ f : Fin 2816, (a (ix2 x f) : EReal) * b (ix2 x f) * w (ix2 f j) := by
  pointwise [k0_pay1]

/-- The first batch's stored row over the network's. -/
theorem pay2_at (x : FVec Ideal S256x1024 .f32) (a b : FVec Ideal S512x2816 .f32) (w : FVec Ideal S2816x1024 .bf16) (v82 : FVec Ideal S1x3x1024 .f32) (r : Fin 256) (j : Fin 1024) :
    (k0_pay2 (F := Ideal) x a b w v82 (ix3 0 r j) : EReal) = (x (ix2 r j) : EReal) + Ffn.half * v82 (ix3 0 2 j) * k0_pay1 (F := Ideal) a b w (ix2 ⟨r.val, by omega⟩ j) := by
  pointwise [k0_pay2]; rfl

/-- The second batch's stored row over the network's. -/
theorem pay3_at (x : FVec Ideal S256x1024 .f32) (a b : FVec Ideal S512x2816 .f32) (w : FVec Ideal S2816x1024 .bf16) (v94 : FVec Ideal S1x3x1024 .f32) (r : Fin 256) (j : Fin 1024) :
    (k0_pay3 (F := Ideal) x a b w v94 (ix3 0 r j) : EReal) = (x (ix2 r j) : EReal) + Ffn.half * v94 (ix3 0 2 j) * k0_pay1 (F := Ideal) a b w (ix2 ⟨256 + r.val, by omega⟩ j) := by
  pointwise [k0_pay3]; rfl

/-- The first batch's stored row. -/
theorem store0_at (x : FVec Ideal S256x1024 .f32) (v30 : FVec Ideal S256x1024 .bf16) (v8 : FVec Ideal S1x1024 .f32) (v6 : FVec Ideal S1x3x1024 .f32)
    (h : ∀ (r : Fin 256) (j : Fin 1024), (v30 (ix2 r j) : EReal) = Ffn.pre (fun l => x (ix2 r l)) (fun l => v8 (ix2 0 l)) (fun l => v6 (ix3 0 0 l)) (fun l => v6 (ix3 0 1 l)) j)
    (v32 : FVec Ideal S256x1024 .f32) (v33 : BitVec 1) (v34 : FVec Ideal S1x256x1024 .f32) (v37 : FVec Ideal S1x3x1024 .f32)
    (v39 : FVec Ideal S1x1024 .f32) (wg wu : FVec Ideal S1024x2816 .bf16) (wd : FVec Ideal S2816x1024 .bf16) (v82 : FVec Ideal S1x3x1024 .f32) (r : Fin 256) (j : Fin 1024) :
    (k0_pay2 (F := Ideal) x (k0_pay9 v30 v32 v33 v34 v37 v39 wg) (k0_pay10 v30 v32 v33 v34 v37 v39 wu) wd v82 (ix3 0 r j) : EReal)
      = Ffn.step (fun l => x (ix2 r l)) (fun l => v8 (ix2 0 l)) (fun l => v6 (ix3 0 0 l)) (fun l => v6 (ix3 0 1 l)) (fun l => v82 (ix3 0 2 l)) (fun l f => wg (ix2 l f)) (fun l f => wu (ix2 l f)) (fun f j => wd (ix2 f j)) j := by
  simp only [pay2_at, pay1_at, pay9_at, pay10_at, pay8_at0, h]; rfl

/-- The second batch's stored row. -/
theorem store1_at (v30 : FVec Ideal S256x1024 .bf16) (v32 : FVec Ideal S256x1024 .f32) (v33 : BitVec 1) (v34 : FVec Ideal S1x256x1024 .f32) (v37 : FVec Ideal S1x3x1024 .f32)
    (v39 : FVec Ideal S1x1024 .f32) (wg wu : FVec Ideal S1024x2816 .bf16) (wd : FVec Ideal S2816x1024 .bf16) (v94 : FVec Ideal S1x3x1024 .f32) (r : Fin 256) (j : Fin 1024) :
    (k0_pay3 (F := Ideal) (k0_pay7 v32 v33 v34) (k0_pay9 v30 v32 v33 v34 v37 v39 wg) (k0_pay10 v30 v32 v33 v34 v37 v39 wu) wd v94 (ix3 0 r j) : EReal)
      = Ffn.step (fun l => k0_pay7 (F := Ideal) v32 v33 v34 (ix2 r l)) (fun l => v39 (ix2 0 l)) (fun l => v37 (ix3 0 0 l)) (fun l => v37 (ix3 0 1 l)) (fun l => v94 (ix3 0 2 l)) (fun l f => wg (ix2 l f)) (fun l f => wu (ix2 l f)) (fun f j => wd (ix2 f j)) j := by
  simp only [pay3_at, pay1_at, pay9_at, pay10_at, pay8_at1]; rfl

end Cert.FirstIdeal.First
end
-- ==== Proof.FirstTile.lean ====
/- The first feed-forward block: what one tile stores, from the blocks it reads. -/
module

public import proofs.«01_k».proof.Proof.FirstBody

@[expose] public section

set_option maxRecDepth 16384

noncomputable section

open Idealize.ShloMosaic Idealize.ShloMosaic.TcCoe Idealize.SL.Sem

namespace Cert.FirstIdeal.First
open Cert.FirstIdeal Cert.FirstIdeal.Gen

/-- The row of a token of one of the two batches, from the blocks. -/
def blockRow (n : Fin 17) (u0 u1 : FVec Ideal S2x256x1024 .f32) (u2 : FVec Ideal S2x3x1024 .f32) (u3 : FVec Ideal S1x1024 .f32) (u4 u5 : FVec Ideal S1024x2816 .bf16) (u6 : FVec Ideal S2816x1024 .bf16) (b : Fin 2) (r : Fin 256) (j : Fin 1024) : EReal :=
  Ffn.step (fun l => if n.val = 0 then u1 (ix3 b r l) else u0 (ix3 b r l)) (fun l => u3 (ix2 0 l)) (fun l => u2 (ix3 b 0 l)) (fun l => u2 (ix3 b 1 l)) (fun l => u2 (ix3 b 2 l))
    (fun l f => u4 (ix2 l f)) (fun l f => u5 (ix2 l f)) (fun f j => u6 (ix2 f j)) j

set_option maxHeartbeats 1000000 in
/-- A tile's stored entry is its token's row. -/
theorem tile (i : grid0.Coords) (u0 u1 : FVec Ideal S2x256x1024 .f32) (u2 : FVec Ideal S2x3x1024 .f32) (u3 : FVec Ideal S1x1024 .f32) (u4 u5 : FVec Ideal S1024x2816 .bf16) (u6 : FVec Ideal S2816x1024 .bf16) (y : S2x256x1024.Idx) :
    (out0_7 (F := Ideal) i u0 u1 u2 u3 u4 u5 u6 y : EReal) = blockRow (i 1) u0 u1 u2 u3 u4 u5 u6 ⟨(y 0).val, (y 0).isLt⟩ ⟨(y 1).val, (y 1).isLt⟩ ⟨(y 2).val, (y 2).isLt⟩ := by
  unfold_out out0_7
  canon_tiles x hx
  case piece0 =>
    idx_vars x
    obtain rfl : x0 = 0 := Subsingleton.elim _ _
    refine (store1_at _ _ _ _ _ _ _ _ _ _ x1 x2).trans ?_
    simp only [pay7_at (i 1)]
    unfold blockRow
    refine Ffn.step_congr ?_ ?_ ?_ ?_ ?_ ?_ ?_ ?_ (Fin.ext hx2.symm)
    case refine_1 => intro l; congr 1 <;> (pointwise []; blk_ext)
    all_goals intros
    all_goals pointwise []
    all_goals blk_ext
  case piece1 =>
    idx_vars x
    obtain rfl : x0 = 0 := Subsingleton.elim _ _
    refine (store0_at _ _ _ _ (pay5_at i _ _ _ _) _ _ _ _ _ _ _ _ _ x1 x2).trans ?_
    simp only [pay4_at]
    unfold blockRow
    refine Ffn.step_congr ?_ ?_ ?_ ?_ ?_ ?_ ?_ ?_ (Fin.ext hx2.symm)
    case refine_1 => intro l; congr 1 <;> (pointwise []; blk_ext)
    all_goals intros
    all_goals pointwise []
    all_goals blk_ext

end Cert.FirstIdeal.First
end
-- ==== Proof.FirstPack.lean ====
/- The first feed-forward block: the arrays the tiles read, and every token's row. -/
module

public import proofs.«01_k».proof.Proof.Step
public import proofs.«01_k».proof.Proof.Gen.FirstIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FirstIdeal.First
open Cert.FirstIdeal Cert.FirstIdeal.Gen

/-- A context token's row. -/
def ctxRow (xc : FVec Ideal S8x256x1024 .f32) (x : FVec Ideal S8x4096x1024 .f32) (mc : FVec Ideal S1x3x1024 .f32) (mx : FVec Ideal S8x3x1024 .f32)
    (g : FVec Ideal S1024 .f32) (wg wu : FVec Ideal S1024x2816 .f32) (wd : FVec Ideal S2816x1024 .f32) (b : Fin 8) (s : Fin 256) (j : Fin 1024) : EReal :=
  Ffn.step (fun l => xc (ix3 b s l)) (fun l => g (ix1 l)) (fun l => mc (ix3 0 0 l)) (fun l => mc (ix3 0 1 l)) (fun l => mc (ix3 0 2 l))
    (fun l f => wg (ix2 l f)) (fun l f => wu (ix2 l f)) (fun f j => wd (ix2 f j)) j

/-- A latent token's row. -/
def latRow (xc : FVec Ideal S8x256x1024 .f32) (x : FVec Ideal S8x4096x1024 .f32) (mc : FVec Ideal S1x3x1024 .f32) (mx : FVec Ideal S8x3x1024 .f32)
    (g : FVec Ideal S1024 .f32) (wg wu : FVec Ideal S1024x2816 .f32) (wd : FVec Ideal S2816x1024 .f32) (b : Fin 8) (s : Fin 4096) (j : Fin 1024) : EReal :=
  Ffn.step (fun l => x (ix3 b s l)) (fun l => g (ix1 l)) (fun l => mx (ix3 b 0 l)) (fun l => mx (ix3 b 1 l)) (fun l => mx (ix3 b 2 l))
    (fun l f => wg (ix2 l f)) (fun l f => wu (ix2 l f)) (fun f j => wd (ix2 f j)) j

/-- A token's row: the context tokens come first. -/
def token (xc : FVec Ideal S8x256x1024 .f32) (x : FVec Ideal S8x4096x1024 .f32) (mc : FVec Ideal S1x3x1024 .f32) (mx : FVec Ideal S8x3x1024 .f32)
    (g : FVec Ideal S1024 .f32) (wg wu : FVec Ideal S1024x2816 .f32) (wd : FVec Ideal S2816x1024 .f32) (b : Fin 8) (s : Fin 4352) (j : Fin 1024) : EReal :=
  if h : s.val < 256 then ctxRow xc x mc mx g wg wu wd b ⟨s.val, h⟩ j else latRow xc x mc mx g wg wu wd b ⟨s.val - 256, by omega⟩ j

/-- Every token's row. -/
def layer (xc : FVec Ideal S8x256x1024 .f32) (x : FVec Ideal S8x4096x1024 .f32) (mc : FVec Ideal S1x3x1024 .f32) (mx : FVec Ideal S8x3x1024 .f32)
    (g : FVec Ideal S1024 .f32) (wg wu : FVec Ideal S1024x2816 .f32) (wd : FVec Ideal S2816x1024 .f32) : FVec Ideal S8x4352x1024 .f32 :=
  fun i => token xc x mc mx g wg wu wd ⟨(i 0).val, (i 0).isLt⟩ ⟨(i 1).val, (i 1).isLt⟩ ⟨(i 2).val, (i 2).isLt⟩

/-- The latent tokens' modulations before the context tokens'. -/
def packM (a : FVec Ideal S8x3x1024 .f32) (c : FVec Ideal S1x3x1024 .f32) : FVec Ideal S16x3x1024 .f32 :=
  concatenate S16x3x1024 0 [⟨S8x3x1024, a⟩, ⟨S8x3x1024, broadcastInDim S8x3x1024 ![0, 1, 2] bcast_S1x3x1024_S8x3x1024_0_1_2 c⟩] concatenates_S8x3x1024_S8x3x1024_S16x3x1024_d0

/-- A weight row. -/
def packN (g : FVec Ideal S1024 .f32) : FVec Ideal S1x1024 .f32 := shapeCast S1x1024 g shapeCasts_S1024_S1x1024

/-- The up projections cast for the product. -/
def castU (w : FVec Ideal S1024x2816 .f32) : FVec Ideal S1024x2816 .bf16 := truncf .bf16 w bitsLt_bf16_f32

/-- The down projection cast for the product. -/
def castD (w : FVec Ideal S2816x1024 .f32) : FVec Ideal S2816x1024 .bf16 := truncf .bf16 w bitsLt_bf16_f32

/-- A batch's modulation. -/
theorem packM_at (a : FVec Ideal S8x3x1024 .f32) (c : FVec Ideal S1x3x1024 .f32) (i : Fin 8) (k : Fin 3) (l : Fin 1024) :
    (packM a c (ix3 ⟨i.val, by omega⟩ k l) : EReal) = a (ix3 i k l) := by
  pointwise [packM]

/-- The context's modulation. -/
theorem packM_ctx (a : FVec Ideal S8x3x1024 .f32) (c : FVec Ideal S1x3x1024 .f32) (i : Fin 8) (k : Fin 3) (l : Fin 1024) :
    (packM a c (ix3 ⟨8 + i.val, by omega⟩ k l) : EReal) = c (ix3 0 k l) := by
  pointwise [packM]

/-- A weight row's entry. -/
theorem packN_at (g : FVec Ideal S1024 .f32) (l : Fin 1024) : (packN g (ix2 0 l) : EReal) = g (ix1 l) := by
  pointwise [packN]

variable (m : (ℓ : Loc nD τ sig) → Buf (Elt Ideal) ℓ) (c : Dev nD)

/-- The modulations as the tiles find them. -/
theorem V_m : V m c main_v1 = packM (m ((c : Thread nD τ).loc main_arg3)) (m ((c : Thread nD τ).loc main_arg2)) := by
  entry_read; rfl

/-- The norm's weights as the tiles find them. -/
theorem V_g : V m c main_v2 = packN (m ((c : Thread nD τ).loc main_arg4)) := by
  entry_read; rfl

/-- The gate projection as the tiles find it. -/
theorem V_wg : V m c main_v3 = castU (m ((c : Thread nD τ).loc main_arg5)) := by
  entry_read; rfl

/-- The up projection as the tiles find it. -/
theorem V_wu : V m c main_v4 = castU (m ((c : Thread nD τ).loc main_arg6)) := by
  entry_read; rfl

/-- The down projection as the tiles find it. -/
theorem V_wd : V m c main_v5 = castD (m ((c : Thread nD τ).loc main_arg7)) := by
  entry_read; rfl

end Cert.FirstIdeal.First
end
-- ==== Proof.FirstValue.lean ====
/- The first feed-forward block: the result array after the run. -/
module

public import proofs.«01_k».proof.Proof.FirstTile
public import proofs.«01_k».proof.Proof.FirstPack

@[expose] public section

set_option maxRecDepth 16384

noncomputable section

open Idealize.ShloMosaic Idealize.ShloMosaic.TcCoe Idealize.SL.Sem

namespace Cert.FirstIdeal.First
open Cert.FirstIdeal Cert.FirstIdeal.Gen

variable (m : (ℓ : Loc nD τ sig) → Buf (Elt Ideal) ℓ) (c : Dev nD)

/-- Every window's block at each point. -/
theorem idx : ∀ t : Fin cfg0.N, win0_0.index t = ![t.val / 17, t.val % 17 - 1, 0] ∧ win0_1.index t = ![t.val / 17, 0, 0]
    ∧ win0_2.index t = ![if t.val % 17 = 0 then 4 else t.val / 17, 0, 0] ∧ win0_3.index t = ![0, 0]
    ∧ win0_4.index t = ![0, 0] ∧ win0_5.index t = ![0, 0] ∧ win0_6.index t = ![0, 0]
    ∧ win0_7.index t = ![t.val / 17, t.val % 17, 0] ∧ (grid0.coords t 1).val = t.val % 17 ∧ t.val / 17 < 4 :=
  (by decide +kernel : ∀ t : Fin grid0.N, _)

/-- The latent rows of a point's block. -/
theorem blk0 (t : Fin cfg0.N) (A : FVec Ideal S8x4096x1024 .f32) (hA : V m c (Pipeline.arrRef spec0 0) = A) (q : Fin 2) (r : Fin 256) (j : Fin 1024)
    (b : Fin 8) (s : Fin 4096) (hb : b.val = 2 * (t.val / 17) + q.val) (hs : s.val = 256 * (t.val % 17 - 1) + r.val) : iblk m c 0 t (ix3 q r j) = A (ix3 b s j) := by
  unfold iblk
  rw [hA]
  blk_ext [idx t]

/-- The context rows of a point's block. -/
theorem blk1 (t : Fin cfg0.N) (A : FVec Ideal S8x256x1024 .f32) (hA : V m c (Pipeline.arrRef spec0 1) = A) (q : Fin 2) (r : Fin 256) (j : Fin 1024)
    (b : Fin 8) (hb : b.val = 2 * (t.val / 17) + q.val) : iblk m c 1 t (ix3 q r j) = A (ix3 b r j) := by
  unfold iblk
  rw [hA]
  blk_ext [idx t]

/-- The modulations of a latent point's block. -/
theorem blk2 (t : Fin cfg0.N) (A : FVec Ideal S16x3x1024 .f32) (hA : V m c (Pipeline.arrRef spec0 2) = A) (q : Fin 2) (e : Fin 3) (j : Fin 1024)
    (n : ℕ) (hn : win0_2.index t = ![n, 0, 0]) (b : Fin 16) (hb : b.val = 2 * n + q.val) : iblk m c 2 t (ix3 q e j) = A (ix3 b e j) := by
  unfold iblk
  rw [hA]
  blk_ext [hn]

/-- The norm's weights of a point's block. -/
theorem blk3 (t : Fin cfg0.N) (A : FVec Ideal S1x1024 .f32) (hA : V m c (Pipeline.arrRef spec0 3) = A) (r : Fin 1) (j : Fin 1024) :
    iblk m c 3 t (ix2 r j) = A (ix2 r j) := by
  unfold iblk
  rw [hA]
  blk_ext [idx t]

/-- The gate projection of a point's block. -/
theorem blk4 (t : Fin cfg0.N) (A : FVec Ideal S1024x2816 .bf16) (hA : V m c (Pipeline.arrRef spec0 4) = A) (r : Fin 1024) (j : Fin 2816) :
    iblk m c 4 t (ix2 r j) = A (ix2 r j) := by
  unfold iblk
  rw [hA]
  blk_ext [idx t]

/-- The up projection of a point's block. -/
theorem blk5 (t : Fin cfg0.N) (A : FVec Ideal S1024x2816 .bf16) (hA : V m c (Pipeline.arrRef spec0 5) = A) (r : Fin 1024) (j : Fin 2816) :
    iblk m c 5 t (ix2 r j) = A (ix2 r j) := by
  unfold iblk
  rw [hA]
  blk_ext [idx t]

/-- The down projection of a point's block. -/
theorem blk6 (t : Fin cfg0.N) (A : FVec Ideal S2816x1024 .bf16) (hA : V m c (Pipeline.arrRef spec0 6) = A) (r : Fin 2816) (j : Fin 1024) :
    iblk m c 6 t (ix2 r j) = A (ix2 r j) := by
  unfold iblk
  rw [hA]
  blk_ext [idx t]

/-- A point's row of one of its two batches is the token's row. -/
theorem blockRow_eq (t : Fin cfg0.N) (q : Fin 2) (r : Fin 256) (j : Fin 1024) (b : Fin 8) (s : Fin 4352)
    (hb : b.val = 2 * (t.val / 17) + q.val) (hs : s.val = 256 * (t.val % 17) + r.val) :
    blockRow (grid0.coords t 1) (iblk m c 0 t) (iblk m c 1 t) (iblk m c 2 t) (iblk m c 3 t) (iblk m c 4 t) (iblk m c 5 t) (iblk m c 6 t) q r j = token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s j := by
  have hn : (grid0.coords t 1).val = t.val % 17 := (idx t).2.2.2.2.2.2.2.2.1
  have hm := (idx t).2.2.1
  have hr : r.val < 256 := r.isLt
  unfold blockRow token
  by_cases h0 : t.val % 17 = 0
  · rw [if_pos h0] at hm
    have hlt : s.val < 256 := by omega
    have hq : (⟨8 + q.val, by omega⟩ : Fin 16).val = 2 * 4 + q.val := rfl
    have er : (⟨s.val, hlt⟩ : Fin 256) = r := Fin.ext (by show s.val = r.val; omega)
    rw [dif_pos hlt, er]
    simp only [if_pos (hn.trans h0)]
    unfold ctxRow
    refine Ffn.step_congr ?_ ?_ ?_ ?_ ?_ ?_ ?_ ?_ rfl
    · exact fun l => blk1 m c t _ (V_main_arg0 m c) q r l b hb
    · exact fun l => (blk3 m c t _ (V_g m c) 0 l).trans (packN_at _ l)
    · exact fun l => (blk2 m c t _ (V_m m c) q 0 l 4 hm _ hq).trans (packM_ctx _ _ ⟨q.val, by omega⟩ 0 l)
    · exact fun l => (blk2 m c t _ (V_m m c) q 1 l 4 hm _ hq).trans (packM_ctx _ _ ⟨q.val, by omega⟩ 1 l)
    · exact fun l => (blk2 m c t _ (V_m m c) q 2 l 4 hm _ hq).trans (packM_ctx _ _ ⟨q.val, by omega⟩ 2 l)
    · exact fun l f => blk4 m c t _ (V_wg m c) l f
    · exact fun l f => blk5 m c t _ (V_wu m c) l f
    · exact fun f j => blk6 m c t _ (V_wd m c) f j
  · rw [if_neg h0] at hm
    have hge : ¬ s.val < 256 := by omega
    have hb' : (⟨b.val, by omega⟩ : Fin 16).val = 2 * (t.val / 17) + q.val := hb
    have hs' : (⟨s.val - 256, by omega⟩ : Fin 4096).val = 256 * (t.val % 17 - 1) + r.val := by show s.val - 256 = _; omega
    have hn0 : ¬ (grid0.coords t 1).val = 0 := fun h => h0 (hn.symm.trans h)
    rw [dif_neg hge]
    simp only [if_neg hn0]
    unfold latRow
    refine Ffn.step_congr ?_ ?_ ?_ ?_ ?_ ?_ ?_ ?_ rfl
    · exact fun l => blk0 m c t _ (V_main_arg1 m c) q r l b _ hb hs'
    · exact fun l => (blk3 m c t _ (V_g m c) 0 l).trans (packN_at _ l)
    · exact fun l => (blk2 m c t _ (V_m m c) q 0 l _ hm _ hb').trans (packM_at _ _ b 0 l)
    · exact fun l => (blk2 m c t _ (V_m m c) q 1 l _ hm _ hb').trans (packM_at _ _ b 1 l)
    · exact fun l => (blk2 m c t _ (V_m m c) q 2 l _ hm _ hb').trans (packM_at _ _ b 2 l)
    · exact fun l f => blk4 m c t _ (V_wg m c) l f
    · exact fun l f => blk5 m c t _ (V_wu m c) l f
    · exact fun f j => blk6 m c t _ (V_wd m c) f j

/-- The result array after the run holds every token's row. -/
theorem final : (dats m 0 c).arrAt 7 (cfgs 0).N = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t _ y => ?_
  have ht : t.val / 17 < 4 := (idx t).2.2.2.2.2.2.2.2.2
  have hy0 : 2 * (t.val / 17) + (y 0).val < 8 := by have : (y 0).val < 2 := (y 0).isLt; omega
  have hy : 256 * (t.val % 17) + (y 1).val < 4352 := by have : (y 1).val < 256 := (y 1).isLt; omega
  have e : ((cfg0.win 7).blk t).view.emb y = (ix3 (⟨2 * (t.val / 17) + (y 0).val, hy0⟩ : Fin 8)
      (⟨256 * (t.val % 17) + (y 1).val, hy⟩ : Fin 4352) (⟨(y 2).val, (y 2).isLt⟩ : Fin 1024) : S8x4352x1024.Idx) := by
    blk_ext [idx t]
  blk_simp
  rw [after0_7]
  refine (tile (grid0.coords t) (iblk m c 0 t) (iblk m c 1 t) (iblk m c 2 t) (iblk m c 3 t) (iblk m c 4 t) (iblk m c 5 t) (iblk m c 6 t) y).trans ?_
  refine (blockRow_eq m c t _ _ _ ⟨2 * (t.val / 17) + (y 0).val, hy0⟩ ⟨256 * (t.val % 17) + (y 1).val, hy⟩ rfl rfl).trans ?_
  exact congrArg (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) e.symm

end Cert.FirstIdeal.First
end
-- ==== Proof.FirstRef.lean ====
/- The first feed-forward block: the reference, stage by stage. -/
module

public import proofs.«01_k».proof.Proof.FirstPack
public import proofs.«01_k».proof.Proof.MixRef
public import proofs.«01_k».proof.Proof.Gen.FirstReferenceIdeal.Run

@[expose] public section

set_option maxRecDepth 16384

noncomputable section

open Idealize.ShloMosaic Idealize.ShloMosaic.TcCoe Idealize.SL.Sem

namespace Cert.FirstReferenceIdeal.First
open Cert.FirstReferenceIdeal Cert.FirstReferenceIdeal.Gen

/-- The rows over their root mean squares, times a weight. -/
def norms (x : FVec Ideal S8x256x1024 .f32) (g : FVec Ideal S1024 .f32) : FVec Ideal S8x256x1024 .f32 :=
  mulf (mulf x (broadcastInDim S8x256x1024 ![0, 1, 2] bcast_S8x256x1_S8x256x1024_0_1_2 (Host.rsqrt (addf
      (Host.divf (broadcastInDim S8x256x1 ![0, 1] bcast_S8x256_S8x256x1_0_1
          (Host.reduceAdd (mulf x x) (constant (F := Ideal) S_ .f32 0x00000000#32) reducesTo_S8x256x1024_S8x256_d2 h_S_))
        (broadcastInDim S8x256x1 ![] bcast_S_S8x256x1 (constant (F := Ideal) S_ .f32 0x44800000#32)))
      (broadcastInDim S8x256x1 ![] bcast_S_S8x256x1 (constant (F := Ideal) S_ .f32 0x358637BD#32))))))
    (broadcastInDim S8x256x1024 ![0, 1, 2] bcast_S1x1x1024_S8x256x1024_0_1_2 (broadcastInDim S1x1x1024 ![2] bcast_S1024_S1x1x1024_2 g))

/-- The normalised rows scaled and shifted. -/
def shifted (n : FVec Ideal S8x256x1024 .f32) (mf : FVec Ideal S1x3x1024 .f32) : FVec Ideal S8x256x1024 .f32 :=
  addf (mulf n (broadcastInDim S8x256x1024 ![0, 1, 2] bcast_S1x1x1024_S8x256x1024_0_1_2
      (addf (broadcastInDim S1x1x1024 ![] bcast_S_S1x1x1024 (constant (F := Ideal) S_ .f32 0x3F800000#32))
        (extractStridedSlice S1x1x1024 ![0, 1, 0] mf slices_S1x3x1024_S1x1x1024_0_1_0))))
    (broadcastInDim S8x256x1024 ![0, 1, 2] bcast_S1x1x1024_S8x256x1024_0_1_2 (extractStridedSlice S1x1x1024 ![0, 0, 0] mf slices_S1x3x1024_S1x1x1024_0_0_0))

/-- A product with an up projection. -/
def up (h : FVec Ideal S8x256x1024 .f32) (w : FVec Ideal S1024x2816 .f32) : FVec Ideal S8x256x2816 .f32 :=
  Host.dotGeneral dot_S8x256x1024_S1024x2816_S8x256x2816_2_0_01_1_n_n none h w

/-- The gate of the network. -/
def silu (a : FVec Ideal S8x256x2816 .f32) : FVec Ideal S8x256x2816 .f32 :=
  mulf a (Host.divf (broadcastInDim S8x256x2816 ![] bcast_S_S8x256x2816 (constant (F := Ideal) S_ .f32 0x3F800000#32))
    (addf (broadcastInDim S8x256x2816 ![] bcast_S_S8x256x2816 (constant (F := Ideal) S_ .f32 0x3F800000#32)) (Host.exp (Host.negf a))))

/-- The product with the down projection. -/
def down (a u : FVec Ideal S8x256x2816 .f32) (w : FVec Ideal S2816x1024 .f32) : FVec Ideal S8x256x1024 .f32 :=
  Host.dotGeneral dot_S8x256x2816_S2816x1024_S8x256x1024_2_0_01_1_n_n none (mulf a u) w

/-- The rows plus half the gated network. -/
def stepped (x y : FVec Ideal S8x256x1024 .f32) (mf : FVec Ideal S1x3x1024 .f32) : FVec Ideal S8x256x1024 .f32 :=
  addf x (mulf (broadcastInDim S8x256x1024 ![0, 1, 2] bcast_S1x1x1024_S8x256x1024_0_1_2
    (mulf (broadcastInDim S1x1x1024 ![] bcast_S_S1x1x1024 (constant (F := Ideal) S_ .f32 0x3F000000#32))
      (extractStridedSlice S1x1x1024 ![0, 2, 0] mf slices_S1x3x1024_S1x1x1024_0_2_0))) y)

/-- The network of rows. -/
def net (x : FVec Ideal S8x256x1024 .f32) (mf : FVec Ideal S1x3x1024 .f32) (n3 : FVec Ideal S1024 .f32)
    (wg wu : FVec Ideal S1024x2816 .f32) (wd : FVec Ideal S2816x1024 .f32) : FVec Ideal S8x256x1024 .f32 :=
  down (silu (up (shifted (norms x n3) mf) wg)) (up (shifted (norms x n3) mf) wu) wd

/-- The reference: the context tokens' rows before the latent tokens'. -/
def result (xc : FVec Ideal S8x256x1024 .f32) (x : FVec Ideal S8x4096x1024 .f32) (mc : FVec Ideal S1x3x1024 .f32) (mx : FVec Ideal S8x3x1024 .f32)
    (g : FVec Ideal S1024 .f32) (wg wu : FVec Ideal S1024x2816 .f32) (wd : FVec Ideal S2816x1024 .f32) : FVec Ideal S8x4352x1024 .f32 :=
  concatenate S8x4352x1024 1 [⟨S8x256x1024, stepped xc (net xc mc g wg wu wd) mc⟩, ⟨S8x4096x1024, Cert.MixReferenceIdeal.Mix.stepped x (Cert.MixReferenceIdeal.Mix.net x mx g wg wu wd) mx⟩]
    concatenates_S8x256x1024_S8x4096x1024_S8x4352x1024_d1

section
variable (b : Fin 8) (s : Fin 256)

/-- A normalised entry. -/
theorem norms_at (x : FVec Ideal S8x256x1024 .f32) (g : FVec Ideal S1024 .f32) (j : Fin 1024) :
    (norms x g (ix3 b s j) : EReal) = Ffn.norm (fun l => x (ix3 b s l)) (fun l => g (ix1 l)) j := by
  pointwise [norms]
  rfl

/-- A scaled and shifted entry. -/
theorem shifted_at (n : FVec Ideal S8x256x1024 .f32) (mf : FVec Ideal S1x3x1024 .f32) (j : Fin 1024) :
    (shifted n mf (ix3 b s j) : EReal) = (n (ix3 b s j) : EReal) * (1 + mf (ix3 0 1 j)) + mf (ix3 0 0 j) := by
  pointwise [shifted]

/-- An entry of a product with an up projection. -/
theorem up_at (h : FVec Ideal S8x256x1024 .f32) (w : FVec Ideal S1024x2816 .f32) (f : Fin 2816) :
    (up h w (ix3 b s f) : EReal) = ∑ l : Fin 1024, (h (ix3 b s l) : EReal) * w (ix2 l f) := by
  pointwise [up]

/-- An entry of the gate. -/
theorem silu_at (a : FVec Ideal S8x256x2816 .f32) (f : Fin 2816) : (silu a (ix3 b s f) : EReal) = Ffn.silu (a (ix3 b s f)) := by
  unfold Ffn.silu
  rw [zero_sub]
  pointwise [silu]

/-- An entry of the product with the down projection. -/
theorem down_at (a u : FVec Ideal S8x256x2816 .f32) (w : FVec Ideal S2816x1024 .f32) (j : Fin 1024) :
    (down a u w (ix3 b s j) : EReal) = ∑ f : Fin 2816, (a (ix3 b s f) : EReal) * u (ix3 b s f) * w (ix2 f j) := by
  pointwise [down]

/-- An entry after the network. -/
theorem stepped_at (x y : FVec Ideal S8x256x1024 .f32) (mf : FVec Ideal S1x3x1024 .f32) (j : Fin 1024) :
    (stepped x y mf (ix3 b s j) : EReal) = (x (ix3 b s j) : EReal) + Ffn.half * mf (ix3 0 2 j) * y (ix3 b s j) := by
  pointwise [stepped]
  rfl

/-- An entry of the network. -/
theorem net_at (x : FVec Ideal S8x256x1024 .f32) (mf : FVec Ideal S1x3x1024 .f32) (n3 : FVec Ideal S1024 .f32)
    (wg wu : FVec Ideal S1024x2816 .f32) (wd : FVec Ideal S2816x1024 .f32) (j : Fin 1024) :
    (net x mf n3 wg wu wd (ix3 b s j) : EReal) = Ffn.swi (Ffn.pre (fun l => x (ix3 b s l)) (fun l => n3 (ix1 l)) (fun l => mf (ix3 0 0 l)) (fun l => mf (ix3 0 1 l)))
      (fun l f => wg (ix2 l f)) (fun l f => wu (ix2 l f)) (fun f j => wd (ix2 f j)) j := by
  unfold net
  rw [down_at]
  simp only [silu_at, up_at, shifted_at, norms_at]
  rfl

end

/-- Every row of the reference. -/
theorem result_eq (xc : FVec Ideal S8x256x1024 .f32) (x : FVec Ideal S8x4096x1024 .f32) (mc : FVec Ideal S1x3x1024 .f32) (mx : FVec Ideal S8x3x1024 .f32)
    (g : FVec Ideal S1024 .f32) (wg wu : FVec Ideal S1024x2816 .f32) (wd : FVec Ideal S2816x1024 .f32) : result xc x mc mx g wg wu wd = Cert.FirstIdeal.First.layer xc x mc mx g wg wu wd := by
  funext y
  idx_vars y
  have e : ∀ (A : FVec Ideal S8x256x1024 .f32) (B : FVec Ideal S8x4096x1024 .f32),
      ((concatenate S8x4352x1024 1 [⟨S8x256x1024, A⟩, ⟨S8x4096x1024, B⟩] concatenates_S8x256x1024_S8x4096x1024_S8x4352x1024_d1 : FVec Ideal S8x4352x1024 .f32) (ix3 y0 y1 y2) : EReal)
        = if h : y1.val < 256 then A (ix3 y0 ⟨y1.val, h⟩ y2) else B (ix3 y0 ⟨y1.val - 256, by omega⟩ y2) := by
    intro A B
    pointwise []
  refine (e _ _).trans ?_
  show _ = Cert.FirstIdeal.First.token xc x mc mx g wg wu wd y0 y1 y2
  unfold Cert.FirstIdeal.First.token
  by_cases h : y1.val < 256
  · rw [dif_pos h, dif_pos h, stepped_at, net_at]; rfl
  · rw [dif_neg h, dif_neg h, Cert.MixReferenceIdeal.Mix.stepped_at, Cert.MixReferenceIdeal.Mix.net_at]; rfl

/-- The run's result is that. -/
theorem res_eq (m : (ℓ : Loc nD τ sig) → Buf (Elt Ideal) ℓ) (c : Dev nD) : Value.res_main_v64 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

end Cert.FirstReferenceIdeal.First
end
-- ==== Proof.FirstClaim.lean ====
/- The first feed-forward block computes the reference's. -/
module

public import proofs.«01_k».proof.Defs
public import proofs.«01_k».proof.Proof.FirstValue
public import proofs.«01_k».proof.Proof.FirstRef
public import proofs.«01_k».proof.Proof.Gen.FirstIdeal.Frame
public import proofs.«01_k».proof.Proof.Gen.FirstReferenceIdeal

@[expose] public section

set_option maxRecDepth 16384

noncomputable section

open Idealize.ShloMosaic Idealize.ShloMosaic.TcCoe Idealize.SL.Sem

namespace Cert.First
/-- The reference's term, of arrays equal to the kernel's arguments, is the kernel's result array. -/
theorem reference_eq (m : (ℓ : Loc Cert.FirstIdeal.nD Cert.FirstIdeal.τ Cert.FirstIdeal.sig) → Buf (Elt Ideal) ℓ) (c : Dev Cert.FirstIdeal.nD) (T : FVec Ideal Cert.FirstReferenceIdeal.S8x4352x1024 .f32)
    (a0 : FVec Ideal Cert.FirstReferenceIdeal.S8x256x1024 .f32)
    (a1 : FVec Ideal Cert.FirstReferenceIdeal.S8x4096x1024 .f32)
    (a2 : FVec Ideal Cert.FirstReferenceIdeal.S1x3x1024 .f32)
    (a3 : FVec Ideal Cert.FirstReferenceIdeal.S8x3x1024 .f32)
    (a4 : FVec Ideal Cert.FirstReferenceIdeal.S1024 .f32)
    (a5 : FVec Ideal Cert.FirstReferenceIdeal.S1024x2816 .f32)
    (a6 : FVec Ideal Cert.FirstReferenceIdeal.S1024x2816 .f32)
    (a7 : FVec Ideal Cert.FirstReferenceIdeal.S2816x1024 .f32)
    (hT : T = Cert.FirstReferenceIdeal.First.result a0 a1 a2 a3 a4 a5 a6 a7)
    (h0 : a0 = (m ((c : Thread Cert.FirstIdeal.nD Cert.FirstIdeal.τ).loc Cert.FirstIdeal.main_arg0)))
    (h1 : a1 = (m ((c : Thread Cert.FirstIdeal.nD Cert.FirstIdeal.τ).loc Cert.FirstIdeal.main_arg1)))
    (h2 : a2 = (m ((c : Thread Cert.FirstIdeal.nD Cert.FirstIdeal.τ).loc Cert.FirstIdeal.main_arg2)))
    (h3 : a3 = (m ((c : Thread Cert.FirstIdeal.nD Cert.FirstIdeal.τ).loc Cert.FirstIdeal.main_arg3)))
    (h4 : a4 = (m ((c : Thread Cert.FirstIdeal.nD Cert.FirstIdeal.τ).loc Cert.FirstIdeal.main_arg4)))
    (h5 : a5 = (m ((c : Thread Cert.FirstIdeal.nD Cert.FirstIdeal.τ).loc Cert.FirstIdeal.main_arg5)))
    (h6 : a6 = (m ((c : Thread Cert.FirstIdeal.nD Cert.FirstIdeal.τ).loc Cert.FirstIdeal.main_arg6)))
    (h7 : a7 = (m ((c : Thread Cert.FirstIdeal.nD Cert.FirstIdeal.τ).loc Cert.FirstIdeal.main_arg7))) :
    T = (Cert.FirstIdeal.Gen.dats m 0 c).arrAt 7 (Cert.FirstIdeal.cfgs 0).N := by
  subst h0 h1 h2 h3 h4 h5 h6 h7
  exact hT.trans ((Cert.FirstReferenceIdeal.First.result_eq _ _ _ _ _ _ _ _).trans (Cert.FirstIdeal.First.final m c).symm)

set_option maxHeartbeats 2000000 in
/-- The kernel and the reference end with equal results. -/
theorem algebraic : Cert.algebraic_FirstIdeal_FirstReferenceIdeal (hFirstIdeal := Cert.FirstIdeal.Gen.facts) (hFirstReferenceIdeal := Cert.FirstReferenceIdeal.Gen.facts) := by
  intro m g m' g' _ hagree
  refine ⟨fun c => (Cert.FirstIdeal.Gen.dats m 0 c).arrAt 7 (Cert.FirstIdeal.cfgs 0).N, ?_, ?_⟩
  · refine θ_run_mono (θ_run_and (Cert.FirstIdeal.Gen.run_main m g) (Cert.FirstIdeal.Gen.frame m g)) ?_
    rintro r ⟨h, hf⟩ c
    exact ⟨(h c).1 7, hf.1 c⟩
  · refine θ_run_mono (Cert.FirstReferenceIdeal.Value.run m' g') ?_
    intro r h c
    exact ⟨(h c).1.trans (reference_eq m c _ _ _ _ _ _ _ _ _ (Cert.FirstReferenceIdeal.First.res_eq m' c)
      (hagree c).1 (hagree c).2.1 (hagree c).2.2.1 (hagree c).2.2.2.1 (hagree c).2.2.2.2.1 (hagree c).2.2.2.2.2.1 (hagree c).2.2.2.2.2.2.1 (hagree c).2.2.2.2.2.2.2), (h c).2⟩

end Cert.First
end
-- ==== Proof.LaterBody.lean ====
/- The later feed-forward block: what its body computes at an entry. -/
module

public import proofs.«01_k».proof.Proof.Step
public import proofs.«01_k».proof.Proof.Gen.LaterIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.LaterIdeal.Later
open Cert.LaterIdeal Cert.LaterIdeal.Gen

/-- A block's rows. -/
theorem pay3_at (v : FVec Ideal S1x256x1024 .f32) (r : Fin 256) (l : Fin 1024) : (k0_pay3 (F := Ideal) v (ix2 r l) : EReal) = v (ix3 0 r l) := by
  pointwise [k0_pay3]

/-- The other batch's rows. -/
theorem pay5_at (v : FVec Ideal S1x256x1024 .f32) (r : Fin 256) (l : Fin 1024) : (k0_pay5 (F := Ideal) v (ix2 r l) : EReal) = v (ix3 0 r l) := by
  pointwise [k0_pay5]

/-- The first batch's modulated norm. -/
theorem pay4_at (v0 : FVec Ideal S1x256x1024 .f32) (v2 : FVec Ideal S1x3x1024 .f32) (v4 : FVec Ideal S1x1024 .f32) (r : Fin 256) (j : Fin 1024) :
    (k0_pay4 (F := Ideal) v0 v2 v4 (ix2 r j) : EReal) = Ffn.pre (fun l => k0_pay3 (F := Ideal) v0 (ix2 r l)) (fun l => v4 (ix2 0 l)) (fun l => v2 (ix3 0 0 l)) (fun l => v2 (ix3 0 1 l)) j := by
  pointwise [k0_pay4]; rfl

/-- The network of a row of the first batch. -/
theorem pay11_at0 (v26 : FVec Ideal S256x1024 .bf16) (v27 : FVec Ideal S1x256x1024 .f32) (v31 : FVec Ideal S1x1024 .f32) (v29 v29' : FVec Ideal S1x3x1024 .f32)
    (wg wu : FVec Ideal S1024x2816 .bf16) (wd : FVec Ideal S2816x1024 .bf16) (r : Fin 256) (j : Fin 1024) :
    (k0_pay11 (F := Ideal) v26 (k0_pay5 v27) (k0_pay7 v31) (k0_pay8 v29) (k0_pay9 v29') (k0_pay10 v27) wg wu wd (ix2 ⟨r.val, by omega⟩ j) : EReal)
      = ∑ f : Fin 2816, Ffn.silu (∑ l : Fin 1024, (v26 (ix2 r l) : EReal) * wg (ix2 l f)) * (∑ l : Fin 1024, (v26 (ix2 r l) : EReal) * wu (ix2 l f)) * wd (ix2 f j) := by
  pointwise [k0_pay11]; rfl

/-- The network of a row of the second batch. -/
theorem pay11_at1 (v26 : FVec Ideal S256x1024 .bf16) (v27 : FVec Ideal S1x256x1024 .f32) (v31 : FVec Ideal S1x1024 .f32) (v29 v29' : FVec Ideal S1x3x1024 .f32)
    (wg wu : FVec Ideal S1024x2816 .bf16) (wd : FVec Ideal S2816x1024 .bf16) (r : Fin 256) (j : Fin 1024) :
    (k0_pay11 (F := Ideal) v26 (k0_pay5 v27) (k0_pay7 v31) (k0_pay8 v29) (k0_pay9 v29') (k0_pay10 v27) wg wu wd (ix2 ⟨256 + r.val, by omega⟩ j) : EReal)
      = ∑ f : Fin 2816, Ffn.silu (∑ l : Fin 1024, Ffn.pre (fun l => k0_pay5 (F := Ideal) v27 (ix2 r l)) (fun l => v31 (ix2 0 l)) (fun l => v29 (ix3 0 0 l)) (fun l => v29' (ix3 0 1 l)) l * wg (ix2 l f)) * (∑ l : Fin 1024, Ffn.pre (fun l => k0_pay5 (F := Ideal) v27 (ix2 r l)) (fun l => v31 (ix2 0 l)) (fun l => v29 (ix3 0 0 l)) (fun l => v29' (ix3 0 1 l)) l * wu (ix2 l f)) * wd (ix2 f j) := by
  pointwise [k0_pay11, k0_pay7, k0_pay8, k0_pay9, k0_pay6, k0_pay10]; rfl

/-- The first batch's stored row over the network's. -/
theorem pay1_at (x : FVec Ideal S256x1024 .f32) (n : FVec Ideal S512x1024 .f32) (v74 : FVec Ideal S1x3x1024 .f32) (r : Fin 256) (j : Fin 1024) :
    (k0_pay1 (F := Ideal) x n (k0_pay12 v74) k0_pay13 (ix3 0 r j) : EReal) = (x (ix2 r j) : EReal) + Ffn.half * v74 (ix3 0 2 j) * n (ix2 ⟨r.val, by omega⟩ j) := by
  pointwise [k0_pay1, k0_pay12, k0_pay13]; rfl

/-- The second batch's stored row over the network's. -/
theorem pay2_at (x : FVec Ideal S256x1024 .f32) (n : FVec Ideal S512x1024 .f32) (v86 : FVec Ideal S1x3x1024 .f32) (r : Fin 256) (j : Fin 1024) :
    (k0_pay2 (F := Ideal) x n v86 (ix3 0 r j) : EReal) = (x (ix2 r j) : EReal) + Ffn.half * v86 (ix3 0 2 j) * n (ix2 ⟨256 + r.val, by omega⟩ j) := by
  pointwise [k0_pay2]; rfl

/-- The first batch's stored row. -/
theorem store0_at (v0 : FVec Ideal S1x256x1024 .f32) (v2 : FVec Ideal S1x3x1024 .f32) (v4 : FVec Ideal S1x1024 .f32) (v27 : FVec Ideal S1x256x1024 .f32) (v31 : FVec Ideal S1x1024 .f32) (v29 v29' : FVec Ideal S1x3x1024 .f32)
    (wg wu : FVec Ideal S1024x2816 .bf16) (wd : FVec Ideal S2816x1024 .bf16) (v74 : FVec Ideal S1x3x1024 .f32) (r : Fin 256) (j : Fin 1024) :
    (k0_pay1 (F := Ideal) (k0_pay3 v0) (k0_pay11 (F := Ideal) (k0_pay4 v0 v2 v4) (k0_pay5 v27) (k0_pay7 v31) (k0_pay8 v29) (k0_pay9 v29') (k0_pay10 v27) wg wu wd) (k0_pay12 v74) k0_pay13 (ix3 0 r j) : EReal)
      = Ffn.step (fun l => v0 (ix3 0 r l)) (fun l => v4 (ix2 0 l)) (fun l => v2 (ix3 0 0 l)) (fun l => v2 (ix3 0 1 l)) (fun l => v74 (ix3 0 2 l)) (fun l f => wg (ix2 l f)) (fun l f => wu (ix2 l f)) (fun f j => wd (ix2 f j)) j := by
  simp only [pay1_at, pay11_at0, pay4_at, pay3_at]; rfl

/-- The second batch's stored row. -/
theorem store1_at (v26 : FVec Ideal S256x1024 .bf16) (v27 : FVec Ideal S1x256x1024 .f32) (v31 : FVec Ideal S1x1024 .f32) (v29 v29' : FVec Ideal S1x3x1024 .f32)
    (wg wu : FVec Ideal S1024x2816 .bf16) (wd : FVec Ideal S2816x1024 .bf16) (v86 : FVec Ideal S1x3x1024 .f32) (r : Fin 256) (j : Fin 1024) :
    (k0_pay2 (F := Ideal) (k0_pay5 v27) (k0_pay11 (F := Ideal) v26 (k0_pay5 v27) (k0_pay7 v31) (k0_pay8 v29) (k0_pay9 v29') (k0_pay10 v27) wg wu wd) v86 (ix3 0 r j) : EReal)
      = Ffn.step (fun l => v27 (ix3 0 r l)) (fun l => v31 (ix2 0 l)) (fun l => v29 (ix3 0 0 l)) (fun l => v29' (ix3 0 1 l)) (fun l => v86 (ix3 0 2 l)) (fun l f => wg (ix2 l f)) (fun l f => wu (ix2 l f)) (fun f j => wd (ix2 f j)) j := by
  simp only [pay2_at, pay11_at1, pay5_at]; rfl

end Cert.LaterIdeal.Later
end
-- ==== Proof.LaterTile.lean ====
/- The later feed-forward block: what one tile stores, from the blocks it reads. -/
module

public import proofs.«01_k».proof.Proof.LaterBody

@[expose] public section

set_option maxRecDepth 16384

noncomputable section

open Idealize.ShloMosaic Idealize.ShloMosaic.TcCoe Idealize.SL.Sem

namespace Cert.LaterIdeal.Later
open Cert.LaterIdeal Cert.LaterIdeal.Gen

/-- The row of a token of one of the two batches, from the blocks. -/
def blockRow (u0 : FVec Ideal S2x256x1024 .f32) (u2 : FVec Ideal S2x3x1024 .f32) (u3 : FVec Ideal S1x1024 .f32) (u4 u5 : FVec Ideal S1024x2816 .bf16) (u6 : FVec Ideal S2816x1024 .bf16) (b : Fin 2) (r : Fin 256) (j : Fin 1024) : EReal :=
  Ffn.step (fun l => u0 (ix3 b r l)) (fun l => u3 (ix2 0 l)) (fun l => u2 (ix3 b 0 l)) (fun l => u2 (ix3 b 1 l)) (fun l => u2 (ix3 b 2 l))
    (fun l f => u4 (ix2 l f)) (fun l f => u5 (ix2 l f)) (fun f j => u6 (ix2 f j)) j

set_option maxHeartbeats 1000000 in
/-- A tile's stored entry is its token's row. -/
theorem tile (u0 : FVec Ideal S2x256x1024 .f32) (u2 : FVec Ideal S2x3x1024 .f32) (u3 : FVec Ideal S1x1024 .f32) (u4 u5 : FVec Ideal S1024x2816 .bf16) (u6 : FVec Ideal S2816x1024 .bf16) (y : S2x256x1024.Idx) :
    (out0_6 (F := Ideal) u0 u2 u3 u4 u5 u6 y : EReal) = blockRow u0 u2 u3 u4 u5 u6 ⟨(y 0).val, (y 0).isLt⟩ ⟨(y 1).val, (y 1).isLt⟩ ⟨(y 2).val, (y 2).isLt⟩ := by
  unfold_out out0_6
  canon_tiles x hx
  case piece0 =>
    idx_vars x
    obtain rfl : x0 = 0 := Subsingleton.elim _ _
    refine (store1_at _ _ _ _ _ _ _ _ _ x1 x2).trans ?_
    unfold blockRow
    refine Ffn.step_congr ?_ ?_ ?_ ?_ ?_ ?_ ?_ ?_ (Fin.ext hx2.symm)
    all_goals intros
    all_goals pointwise []
    all_goals blk_ext
  case piece1 =>
    idx_vars x
    obtain rfl : x0 = 0 := Subsingleton.elim _ _
    refine (store0_at _ _ _ _ _ _ _ _ _ _ _ x1 x2).trans ?_
    unfold blockRow
    refine Ffn.step_congr ?_ ?_ ?_ ?_ ?_ ?_ ?_ ?_ (Fin.ext hx2.symm)
    all_goals intros
    all_goals pointwise []
    all_goals blk_ext

end Cert.LaterIdeal.Later
end
-- ==== Proof.LaterValue.lean ====
/- The later feed-forward block: the arrays its tiles read and the result array after the run. -/
module

public import proofs.«01_k».proof.Proof.LaterTile
public import proofs.«01_k».proof.Proof.FirstPack

@[expose] public section

set_option maxRecDepth 16384

noncomputable section

open Idealize.ShloMosaic Idealize.ShloMosaic.TcCoe Idealize.SL.Sem

namespace Cert.LaterIdeal.Later
open Cert.LaterIdeal Cert.LaterIdeal.Gen

/-- The context tokens' rows before the latent tokens'. -/
def packX (xc : FVec Ideal S8x256x1024 .f32) (x : FVec Ideal S8x4096x1024 .f32) : FVec Ideal S8x4352x1024 .f32 :=
  concatenate S8x4352x1024 1 [⟨S8x256x1024, xc⟩, ⟨S8x4096x1024, x⟩] concatenates_S8x256x1024_S8x4096x1024_S8x4352x1024_d1

/-- A joined row: the context's first. -/
theorem packX_at (xc : FVec Ideal S8x256x1024 .f32) (x : FVec Ideal S8x4096x1024 .f32) (b : Fin 8) (s : Fin 4352) (l : Fin 1024) :
    (packX xc x (ix3 b s l) : EReal) = if h : s.val < 256 then xc (ix3 b ⟨s.val, h⟩ l) else x (ix3 b ⟨s.val - 256, by omega⟩ l) := by
  pointwise [packX]

variable (m : (ℓ : Loc nD τ sig) → Buf (Elt Ideal) ℓ) (c : Dev nD)

/-- The joined rows as the tiles find them. -/
theorem V_x : V m c main_v0 = packX (m ((c : Thread nD τ).loc main_arg0)) (m ((c : Thread nD τ).loc main_arg1)) := by
  entry_read; rfl

/-- The modulations as the tiles find them. -/
theorem V_m : V m c main_v2 = Cert.FirstIdeal.First.packM (m ((c : Thread nD τ).loc main_arg3)) (m ((c : Thread nD τ).loc main_arg2)) := by
  entry_read; rfl

/-- The norm's weights as the tiles find them. -/
theorem V_g : V m c main_v3 = Cert.FirstIdeal.First.packN (m ((c : Thread nD τ).loc main_arg4)) := by
  entry_read; rfl

/-- The gate projection as the tiles find it. -/
theorem V_wg : V m c main_v4 = Cert.FirstIdeal.First.castU (m ((c : Thread nD τ).loc main_arg5)) := by
  entry_read; rfl

/-- The up projection as the tiles find it. -/
theorem V_wu : V m c main_v5 = Cert.FirstIdeal.First.castU (m ((c : Thread nD τ).loc main_arg6)) := by
  entry_read; rfl

/-- The down projection as the tiles find it. -/
theorem V_wd : V m c main_v6 = Cert.FirstIdeal.First.castD (m ((c : Thread nD τ).loc main_arg7)) := by
  entry_read; rfl

/-- Every window's block at each point. -/
theorem idx : ∀ t : Fin cfg0.N, win0_0.index t = ![t.val / 17, t.val % 17, 0]
    ∧ win0_1.index t = ![if t.val % 17 = 0 then 4 else t.val / 17, 0, 0] ∧ win0_2.index t = ![0, 0]
    ∧ win0_3.index t = ![0, 0] ∧ win0_4.index t = ![0, 0] ∧ win0_5.index t = ![0, 0]
    ∧ win0_6.index t = ![t.val / 17, t.val % 17, 0] ∧ t.val / 17 < 4 :=
  (by decide +kernel : ∀ t : Fin grid0.N, _)

/-- The rows of a point's block. -/
theorem blk0 (t : Fin cfg0.N) (A : FVec Ideal S8x4352x1024 .f32) (hA : V m c (Pipeline.arrRef spec0 0) = A) (q : Fin 2) (r : Fin 256) (j : Fin 1024)
    (b : Fin 8) (s : Fin 4352) (hb : b.val = 2 * (t.val / 17) + q.val) (hs : s.val = 256 * (t.val % 17) + r.val) : iblk m c 0 t (ix3 q r j) = A (ix3 b s j) := by
  unfold iblk
  rw [hA]
  blk_ext [idx t]

/-- The modulations of a point's block. -/
theorem blk1 (t : Fin cfg0.N) (A : FVec Ideal S16x3x1024 .f32) (hA : V m c (Pipeline.arrRef spec0 1) = A) (q : Fin 2) (e : Fin 3) (j : Fin 1024)
    (n : ℕ) (hn : win0_1.index t = ![n, 0, 0]) (b : Fin 16) (hb : b.val = 2 * n + q.val) : iblk m c 1 t (ix3 q e j) = A (ix3 b e j) := by
  unfold iblk
  rw [hA]
  blk_ext [hn]

/-- The norm's weights of a point's block. -/
theorem blk2 (t : Fin cfg0.N) (A : FVec Ideal S1x1024 .f32) (hA : V m c (Pipeline.arrRef spec0 2) = A) (r : Fin 1) (j : Fin 1024) :
    iblk m c 2 t (ix2 r j) = A (ix2 r j) := by
  unfold iblk
  rw [hA]
  blk_ext [idx t]

/-- The gate projection of a point's block. -/
theorem blk3 (t : Fin cfg0.N) (A : FVec Ideal S1024x2816 .bf16) (hA : V m c (Pipeline.arrRef spec0 3) = A) (r : Fin 1024) (j : Fin 2816) :
    iblk m c 3 t (ix2 r j) = A (ix2 r j) := by
  unfold iblk
  rw [hA]
  blk_ext [idx t]

/-- The up projection of a point's block. -/
theorem blk4 (t : Fin cfg0.N) (A : FVec Ideal S1024x2816 .bf16) (hA : V m c (Pipeline.arrRef spec0 4) = A) (r : Fin 1024) (j : Fin 2816) :
    iblk m c 4 t (ix2 r j) = A (ix2 r j) := by
  unfold iblk
  rw [hA]
  blk_ext [idx t]

/-- The down projection of a point's block. -/
theorem blk5 (t : Fin cfg0.N) (A : FVec Ideal S2816x1024 .bf16) (hA : V m c (Pipeline.arrRef spec0 5) = A) (r : Fin 2816) (j : Fin 1024) :
    iblk m c 5 t (ix2 r j) = A (ix2 r j) := by
  unfold iblk
  rw [hA]
  blk_ext [idx t]

/-- A point's row of one of its two batches is the token's row. -/
theorem blockRow_eq (t : Fin cfg0.N) (q : Fin 2) (r : Fin 256) (j : Fin 1024) (b : Fin 8) (s : Fin 4352)
    (hb : b.val = 2 * (t.val / 17) + q.val) (hs : s.val = 256 * (t.val % 17) + r.val) :
    blockRow (iblk m c 0 t) (iblk m c 1 t) (iblk m c 2 t) (iblk m c 3 t) (iblk m c 4 t) (iblk m c 5 t) q r j = Cert.FirstIdeal.First.token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s j := by
  have hm := (idx t).2.1
  have hr : r.val < 256 := r.isLt
  unfold blockRow Cert.FirstIdeal.First.token
  by_cases h0 : t.val % 17 = 0
  · rw [if_pos h0] at hm
    have hlt : s.val < 256 := by omega
    have hq : (⟨8 + q.val, by omega⟩ : Fin 16).val = 2 * 4 + q.val := rfl
    rw [dif_pos hlt]
    unfold Cert.FirstIdeal.First.ctxRow
    refine Ffn.step_congr ?_ ?_ ?_ ?_ ?_ ?_ ?_ ?_ rfl
    · exact fun l => (blk0 m c t _ (V_x m c) q r l b s hb hs).trans ((packX_at _ _ b s l).trans (dif_pos hlt))
    · exact fun l => (blk2 m c t _ (V_g m c) 0 l).trans (Cert.FirstIdeal.First.packN_at _ l)
    · exact fun l => (blk1 m c t _ (V_m m c) q 0 l 4 hm _ hq).trans (Cert.FirstIdeal.First.packM_ctx _ _ ⟨q.val, by omega⟩ 0 l)
    · exact fun l => (blk1 m c t _ (V_m m c) q 1 l 4 hm _ hq).trans (Cert.FirstIdeal.First.packM_ctx _ _ ⟨q.val, by omega⟩ 1 l)
    · exact fun l => (blk1 m c t _ (V_m m c) q 2 l 4 hm _ hq).trans (Cert.FirstIdeal.First.packM_ctx _ _ ⟨q.val, by omega⟩ 2 l)
    · exact fun l f => blk3 m c t _ (V_wg m c) l f
    · exact fun l f => blk4 m c t _ (V_wu m c) l f
    · exact fun f j => blk5 m c t _ (V_wd m c) f j
  · rw [if_neg h0] at hm
    have hge : ¬ s.val < 256 := by omega
    have hb' : (⟨b.val, by omega⟩ : Fin 16).val = 2 * (t.val / 17) + q.val := hb
    rw [dif_neg hge]
    unfold Cert.FirstIdeal.First.latRow
    refine Ffn.step_congr ?_ ?_ ?_ ?_ ?_ ?_ ?_ ?_ rfl
    · exact fun l => (blk0 m c t _ (V_x m c) q r l b s hb hs).trans ((packX_at _ _ b s l).trans (dif_neg hge))
    · exact fun l => (blk2 m c t _ (V_g m c) 0 l).trans (Cert.FirstIdeal.First.packN_at _ l)
    · exact fun l => (blk1 m c t _ (V_m m c) q 0 l _ hm _ hb').trans (Cert.FirstIdeal.First.packM_at _ _ b 0 l)
    · exact fun l => (blk1 m c t _ (V_m m c) q 1 l _ hm _ hb').trans (Cert.FirstIdeal.First.packM_at _ _ b 1 l)
    · exact fun l => (blk1 m c t _ (V_m m c) q 2 l _ hm _ hb').trans (Cert.FirstIdeal.First.packM_at _ _ b 2 l)
    · exact fun l f => blk3 m c t _ (V_wg m c) l f
    · exact fun l f => blk4 m c t _ (V_wu m c) l f
    · exact fun f j => blk5 m c t _ (V_wd m c) f j

/-- The result array after the run holds every token's row. -/
theorem final : (dats m 0 c).arrAt 6 (cfgs 0).N = Cert.FirstIdeal.First.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 6 _ (by decide +kernel) fun t _ y => ?_
  have ht : t.val / 17 < 4 := (idx t).2.2.2.2.2.2.2
  have hy0 : 2 * (t.val / 17) + (y 0).val < 8 := by have : (y 0).val < 2 := (y 0).isLt; omega
  have hy : 256 * (t.val % 17) + (y 1).val < 4352 := by have : (y 1).val < 256 := (y 1).isLt; omega
  have e : ((cfg0.win 6).blk t).view.emb y = (ix3 (⟨2 * (t.val / 17) + (y 0).val, hy0⟩ : Fin 8)
      (⟨256 * (t.val % 17) + (y 1).val, hy⟩ : Fin 4352) (⟨(y 2).val, (y 2).isLt⟩ : Fin 1024) : S8x4352x1024.Idx) := by
    blk_ext [idx t]
  blk_simp
  rw [after0_6]
  refine (tile (iblk m c 0 t) (iblk m c 1 t) (iblk m c 2 t) (iblk m c 3 t) (iblk m c 4 t) (iblk m c 5 t) y).trans ?_
  refine (blockRow_eq m c t _ _ _ ⟨2 * (t.val / 17) + (y 0).val, hy0⟩ ⟨256 * (t.val % 17) + (y 1).val, hy⟩ rfl rfl).trans ?_
  exact congrArg (Cert.FirstIdeal.First.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) e.symm

end Cert.LaterIdeal.Later
end
-- ==== Proof.LaterClaim.lean ====
/- The later feed-forward block computes the reference's. -/
module

public import proofs.«01_k».proof.Defs
public import proofs.«01_k».proof.Proof.LaterValue
public import proofs.«01_k».proof.Proof.FirstRef
public import proofs.«01_k».proof.Proof.Gen.LaterIdeal.Frame
public import proofs.«01_k».proof.Proof.Gen.FirstReferenceIdeal

@[expose] public section

set_option maxRecDepth 16384

noncomputable section

open Idealize.ShloMosaic Idealize.ShloMosaic.TcCoe Idealize.SL.Sem

namespace Cert.Later
/-- The reference's term, of arrays equal to the kernel's arguments, is the kernel's result array. -/
theorem reference_eq (m : (ℓ : Loc Cert.LaterIdeal.nD Cert.LaterIdeal.τ Cert.LaterIdeal.sig) → Buf (Elt Ideal) ℓ) (c : Dev Cert.LaterIdeal.nD) (T : FVec Ideal Cert.FirstReferenceIdeal.S8x4352x1024 .f32)
    (a0 : FVec Ideal Cert.FirstReferenceIdeal.S8x256x1024 .f32)
    (a1 : FVec Ideal Cert.FirstReferenceIdeal.S8x4096x1024 .f32)
    (a2 : FVec Ideal Cert.FirstReferenceIdeal.S1x3x1024 .f32)
    (a3 : FVec Ideal Cert.FirstReferenceIdeal.S8x3x1024 .f32)
    (a4 : FVec Ideal Cert.FirstReferenceIdeal.S1024 .f32)
    (a5 : FVec Ideal Cert.FirstReferenceIdeal.S1024x2816 .f32)
    (a6 : FVec Ideal Cert.FirstReferenceIdeal.S1024x2816 .f32)
    (a7 : FVec Ideal Cert.FirstReferenceIdeal.S2816x1024 .f32)
    (hT : T = Cert.FirstReferenceIdeal.First.result a0 a1 a2 a3 a4 a5 a6 a7)
    (h0 : a0 = (m ((c : Thread Cert.LaterIdeal.nD Cert.LaterIdeal.τ).loc Cert.LaterIdeal.main_arg0)))
    (h1 : a1 = (m ((c : Thread Cert.LaterIdeal.nD Cert.LaterIdeal.τ).loc Cert.LaterIdeal.main_arg1)))
    (h2 : a2 = (m ((c : Thread Cert.LaterIdeal.nD Cert.LaterIdeal.τ).loc Cert.LaterIdeal.main_arg2)))
    (h3 : a3 = (m ((c : Thread Cert.LaterIdeal.nD Cert.LaterIdeal.τ).loc Cert.LaterIdeal.main_arg3)))
    (h4 : a4 = (m ((c : Thread Cert.LaterIdeal.nD Cert.LaterIdeal.τ).loc Cert.LaterIdeal.main_arg4)))
    (h5 : a5 = (m ((c : Thread Cert.LaterIdeal.nD Cert.LaterIdeal.τ).loc Cert.LaterIdeal.main_arg5)))
    (h6 : a6 = (m ((c : Thread Cert.LaterIdeal.nD Cert.LaterIdeal.τ).loc Cert.LaterIdeal.main_arg6)))
    (h7 : a7 = (m ((c : Thread Cert.LaterIdeal.nD Cert.LaterIdeal.τ).loc Cert.LaterIdeal.main_arg7))) :
    T = (Cert.LaterIdeal.Gen.dats m 0 c).arrAt 6 (Cert.LaterIdeal.cfgs 0).N := by
  subst h0 h1 h2 h3 h4 h5 h6 h7
  exact hT.trans ((Cert.FirstReferenceIdeal.First.result_eq _ _ _ _ _ _ _ _).trans (Cert.LaterIdeal.Later.final m c).symm)

set_option maxHeartbeats 2000000 in
/-- The kernel and the reference end with equal results. -/
theorem algebraic : Cert.algebraic_LaterIdeal_FirstReferenceIdeal (hLaterIdeal := Cert.LaterIdeal.Gen.facts) (hFirstReferenceIdeal := Cert.FirstReferenceIdeal.Gen.facts) := by
  intro m g m' g' _ hagree
  refine ⟨fun c => (Cert.LaterIdeal.Gen.dats m 0 c).arrAt 6 (Cert.LaterIdeal.cfgs 0).N, ?_, ?_⟩
  · refine θ_run_mono (θ_run_and (Cert.LaterIdeal.Gen.run_main m g) (Cert.LaterIdeal.Gen.frame m g)) ?_
    rintro r ⟨h, hf⟩ c
    exact ⟨(h c).1 6, hf.1 c⟩
  · refine θ_run_mono (Cert.FirstReferenceIdeal.Value.run m' g') ?_
    intro r h c
    exact ⟨(h c).1.trans (reference_eq m c _ _ _ _ _ _ _ _ _ (Cert.FirstReferenceIdeal.First.res_eq m' c)
      (hagree c).1 (hagree c).2.1 (hagree c).2.2.1 (hagree c).2.2.2.1 (hagree c).2.2.2.2.1 (hagree c).2.2.2.2.2.1 (hagree c).2.2.2.2.2.2.1 (hagree c).2.2.2.2.2.2.2), (h c).2⟩

end Cert.Later
end
-- ==== Proof.BothStep.lean ====
/- A token's row of the first layer's output half: the projection of the joined mixers, then the network. -/
module

public import proofs.«01_k».proof.Proof.Step

@[expose] public section

set_option maxRecDepth 16384

noncomputable section

open Idealize.ShloMosaic Idealize.ShloMosaic.TcCoe Idealize.SL.Sem

namespace Cert.Ffn
/-- A row after the projection and the network. -/
def joint (x gate cat : Fin 1024 → EReal) (w : Fin 1024 → Fin 1024 → EReal) (g sh sc ga : Fin 1024 → EReal)
    (wg wu : Fin 1024 → Fin 2816 → EReal) (wd : Fin 2816 → Fin 1024 → EReal) : Fin 1024 → EReal :=
  step (mix x gate cat w) g sh sc ga wg wu wd

/-- Equal entries give equal rows. -/
theorem joint_congr {x x' gate gate' cat cat' : Fin 1024 → EReal} {w w' : Fin 1024 → Fin 1024 → EReal} {g g' sh sh' sc sc' ga ga' : Fin 1024 → EReal}
    {wg wg' wu wu' : Fin 1024 → Fin 2816 → EReal} {wd wd' : Fin 2816 → Fin 1024 → EReal} {j j' : Fin 1024}
    (h0 : ∀ l, x l = x' l) (h1 : ∀ l, gate l = gate' l) (h2 : ∀ l, cat l = cat' l) (h3 : ∀ l j, w l j = w' l j) (h4 : ∀ l, g l = g' l)
    (h5 : ∀ l, sh l = sh' l) (h6 : ∀ l, sc l = sc' l) (h7 : ∀ l, ga l = ga' l) (h8 : ∀ l f, wg l f = wg' l f) (h9 : ∀ l f, wu l f = wu' l f)
    (h10 : ∀ f j, wd f j = wd' f j) (h11 : j = j') :
    joint x gate cat w g sh sc ga wg wu wd j = joint x' gate' cat' w' g' sh' sc' ga' wg' wu' wd' j' := by
  obtain rfl := funext h0; obtain rfl := funext h1; obtain rfl := funext h2; obtain rfl := funext fun l => funext (h3 l)
  exact step_congr (fun _ => rfl) h4 h5 h6 h7 h8 h9 h10 h11

/-- The swapped order and the masked mean squares leave the row as it is. -/
theorem joint_swap (x gate : Fin 1024 → EReal) (ya o z ym yn : Fin 256 → EReal) (gn : Fin 64 → EReal) (w : Fin 1024 → Fin 1024 → EReal)
    (g sh sc ga : Fin 1024 → EReal) (wg wu : Fin 1024 → Fin 2816 → EReal) (wd : Fin 2816 → Fin 1024 → EReal) (j : Fin 1024) :
    joint x gate (four (fun j => ya ⟨place j.val, place_lt j.isLt⟩)
        (gated (fun x j => if x.val / 64 = j.val / 64 then 1 else 0) o z (fun j => gn ⟨j.val % 64, by omega⟩)) ym yn)
      (fun l j => w (swap l) j) g sh sc ga wg wu wd j
    = joint x gate (four ya (headed o z gn) ym yn) w g sh sc ga wg wu wd j := by
  unfold joint
  rw [gated_eq, funext (four_swap ya (headed o z gn) ym yn), mix_swap]

/-- A choice between two arrays at an entry. -/
theorem select_at {s : Shape} {t : FTy} (c : BitVec 1) (a b : FVec Ideal s t) (y : s.Idx) :
    ((Scalar.select c a b : FVec Ideal s t) y : EReal) = if c = 1#1 then a y else b y := by
  by_cases h : c = 1#1
  · exact (congrFun (if_pos h) y).trans (if_pos h).symm
  · exact (congrFun (if_neg h) y).trans (if_neg h).symm

/-- A coordinate's choice. -/
theorem choice (n : Fin 17) (a b : EReal) : (if Scalar.cmpi .eq (BitVec.ofNat 32 n.val) 0#32 = 1#1 then a else b) = if n.val = 0 then a else b := by
  have h : Scalar.cmpi .eq (BitVec.ofNat 32 n.val) 0#32 = if n.val = 0 then 1#1 else 0#1 := is_zero n
  rw [h]
  by_cases e : n.val = 0
  · rw [if_pos e, if_pos e, if_pos rfl]
  · rw [if_neg e, if_neg e, if_neg (by decide)]

end Cert.Ffn
end
-- ==== Proof.BothBody.lean ====
/- The first layer's output half: what one tile of tokens of two batches computes from its blocks, entry by entry. -/
module

public import proofs.«01_k».proof.Proof.BothStep
public import proofs.«01_k».proof.Proof.Gen.BothIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.BothIdeal.Both
open Cert.BothIdeal Cert.BothIdeal.Gen

/-- The rows plus the gated projection of the joined mixers, the third of them given. -/
def joinedWith (x : FVec Ideal S256x1024 .f32) (yd : FVec Ideal S256x256 .f32) (T : FVec Ideal S256x256 .bf16) (ya yn : FVec Ideal S1x256x256 .bf16)
    (mm : FVec Ideal S1x3x1024 .f32) (w : FVec Ideal S1024x1024 .bf16) : FVec Ideal S256x1024 .f32 :=
  addf x (mulf (broadcastTo S256x1024 (extractStridedSlice S1x1024 ![2, 0] (shapeCast S3x1024 mm shapeCasts_S1x3x1024_S3x1024) slices_S3x1024_o2_0_S1x1024) broadcasts_S1x1024_S256x1024)
    (matmul dot_S256x1024_S1024x1024_S256x1024_1_0_0_1_n_n none
      (concatenate S256x1024 1 [⟨S256x256, shapeCast S256x256 ya shapeCasts_S1x256x256_S256x256⟩, ⟨S256x256, truncf .bf16 yd bitsLt_bf16_f32⟩, ⟨S256x256, T⟩,
        ⟨S256x256, shapeCast S256x256 yn shapeCasts_S1x256x256_S256x256⟩] concatenates_S256x256_S256x256_S256x256_S256x256_S256x1024_d1)
      (shapeCast S1024x1024 w shapeCasts_S1024x1024_S1024x1024) (constant S256x1024 .f32 0x00000000#32)))

/-- An entry of those rows. -/
theorem joinedWith_at (x : FVec Ideal S256x1024 .f32) (yd : FVec Ideal S256x256 .f32) (T : FVec Ideal S256x256 .bf16) (ya yn : FVec Ideal S1x256x256 .bf16)
    (mm : FVec Ideal S1x3x1024 .f32) (w : FVec Ideal S1024x1024 .bf16) (r : Fin 256) (j : Fin 1024) :
    (joinedWith x yd T ya yn mm w (ix2 r j) : EReal) = Ffn.mix (fun l => x (ix2 r l)) (fun l => mm (ix3 0 2 l))
        (Ffn.four (fun l => ya (ix3 0 r l)) (fun l => yd (ix2 r l)) (fun l => T (ix2 r l)) (fun l => yn (ix3 0 r l))) (fun l j => w (ix2 l j)) j := by
  pointwise [joinedWith]; rfl

/-- A block's rows. -/
theorem pay3_at (v : FVec Ideal S1x256x1024 .f32) (r : Fin 256) (l : Fin 1024) : (k0_pay3 (F := Ideal) v (ix2 r l) : EReal) = v (ix3 0 r l) := by
  pointwise [k0_pay3]

/-- The gated norm of the summed directions. -/
theorem pay4_at (f b : FVec Ideal S1x256x256 .f32) (bd : FVec Ideal S256x256 .bf16) (dn : FVec Ideal S1x256 .f32) (z : FVec Ideal S1x256x256 .f32) (r j : Fin 256) :
    (k0_pay4 (F := Ideal) f b bd dn z (ix2 r j) : EReal)
      = Ffn.gated (fun x j => bd (ix2 x j)) (fun x => f (ix3 0 r x) + b (ix3 0 r x)) (fun x => z (ix3 0 r x)) (fun x => dn (ix2 0 x)) j := by
  pointwise [k0_pay4]; rfl

/-- The gated projection of the joined mixers. -/
theorem pay5_at (x : FVec Ideal S256x1024 .f32) (yd : FVec Ideal S256x256 .f32) (n : Fin 17) (yc ym ya yn : FVec Ideal S1x256x256 .bf16)
    (mm : FVec Ideal S1x3x1024 .f32) (w : FVec Ideal S1024x1024 .bf16) (r : Fin 256) (j : Fin 1024) :
    (k0_pay5 (F := Ideal) x yd (Scalar.cmpi .eq (BitVec.ofNat 32 n.val) 0#32) yc ym ya yn mm w (ix2 r j) : EReal)
      = Ffn.mix (fun l => x (ix2 r l)) (fun l => mm (ix3 0 2 l))
        (Ffn.four (fun l => ya (ix3 0 r l)) (fun l => yd (ix2 r l)) (fun l => if n.val = 0 then yc (ix3 0 r l) else ym (ix3 0 r l)) (fun l => yn (ix3 0 r l)))
        (fun l j => w (ix2 l j)) j := by
  have e : k0_pay5 (F := Ideal) x yd (Scalar.cmpi .eq (BitVec.ofNat 32 n.val) 0#32) yc ym ya yn mm w = joinedWith x yd (Scalar.select (Scalar.cmpi .eq (BitVec.ofNat 32 n.val) 0#32)
      (shapeCast S256x256 yc shapeCasts_S1x256x256_S256x256) (shapeCast S256x256 ym shapeCasts_S1x256x256_S256x256)) ya yn mm w := rfl
  have h : ∀ l : Fin 256, ((Scalar.select (Scalar.cmpi .eq (BitVec.ofNat 32 n.val) 0#32) (shapeCast S256x256 yc shapeCasts_S1x256x256_S256x256)
      (shapeCast S256x256 ym shapeCasts_S1x256x256_S256x256) : FVec Ideal S256x256 .bf16) (ix2 r l) : EReal) = if n.val = 0 then yc (ix3 0 r l) else ym (ix3 0 r l) := by
    intro l
    refine (Ffn.select_at _ _ _ _).trans ((Ffn.choice n _ _).trans ?_)
    congr 1
    · pointwise []
    · pointwise []
  rw [e, joinedWith_at, funext h]

/-- The second batch's projection is computed as the first's. -/
theorem pay17_eq (x : FVec Ideal S256x1024 .f32) (f b : FVec Ideal S1x256x256 .f32) (bd : FVec Ideal S256x256 .bf16) (dn : FVec Ideal S1x256 .f32) (z : FVec Ideal S1x256x256 .f32) (n : Fin 17) (yc ym ya yn : FVec Ideal S1x256x256 .bf16)
    (mm : FVec Ideal S1x3x1024 .f32) (w : FVec Ideal S1024x1024 .bf16) : k0_pay17 (F := Ideal) (BitVec.ofNat 32 n.val) x (k0_pay13 f b bd dn) (k0_pay14 z) (k0_pay15 z) k0_pay16 yc ym ya yn mm w = k0_pay5 x (k0_pay4 f b bd dn z) (Scalar.cmpi .eq (BitVec.ofNat 32 n.val) 0#32) yc ym ya yn mm w := rfl

/-- The first batch's modulated norm. -/
theorem pay11_at (x : FVec Ideal S256x1024 .f32) (yd : FVec Ideal S256x256 .f32) (n : Fin 17) (yc ym ya yn : FVec Ideal S1x256x256 .bf16)
    (mm : FVec Ideal S1x3x1024 .f32) (w : FVec Ideal S1024x1024 .bf16) (g : FVec Ideal S1x1024 .f32) (mf : FVec Ideal S1x3x1024 .f32) (r : Fin 256) (j : Fin 1024) :
    (k0_pay11 (F := Ideal) (k0_pay5 x yd (Scalar.cmpi .eq (BitVec.ofNat 32 n.val) 0#32) yc ym ya yn mm w) (k0_pay7 g) (k0_pay8 mf) (k0_pay9 mf) (k0_pay10 x yd (Scalar.cmpi .eq (BitVec.ofNat 32 n.val) 0#32) yc ym ya yn mm w) (ix2 r j) : EReal)
      = Ffn.pre (fun l => k0_pay5 (F := Ideal) x yd (Scalar.cmpi .eq (BitVec.ofNat 32 n.val) 0#32) yc ym ya yn mm w (ix2 r l)) (fun l => g (ix2 0 l)) (fun l => mf (ix3 0 0 l)) (fun l => mf (ix3 0 1 l)) j := by
  pointwise [k0_pay11, k0_pay7, k0_pay8, k0_pay9, k0_pay6, k0_pay10]; rfl

/-- The network of a row of the first batch. -/
theorem pay23_at0 (h : FVec Ideal S256x1024 .bf16) (X : FVec Ideal S256x1024 .f32) (a b c : FVec Ideal S1x1024 .f32) (q : FVec Ideal S256 .f32)
    (wg wu : FVec Ideal S1024x2816 .bf16) (wd : FVec Ideal S2816x1024 .bf16) (r : Fin 256) (j : Fin 1024) :
    (k0_pay23 (F := Ideal) h X a b c q wg wu wd (ix2 ⟨r.val, by omega⟩ j) : EReal) = Ffn.swi (fun l => h (ix2 r l)) (fun l f => wg (ix2 l f)) (fun l f => wu (ix2 l f)) (fun f j => wd (ix2 f j)) j := by
  pointwise [k0_pay23]; rfl

/-- The network of a row of the second batch, over its mean squares. -/
theorem pay23_at1 (h : FVec Ideal S256x1024 .bf16) (X : FVec Ideal S256x1024 .f32) (g : FVec Ideal S1x1024 .f32) (mf : FVec Ideal S1x3x1024 .f32) (q : FVec Ideal S256 .f32)
    (wg wu : FVec Ideal S1024x2816 .bf16) (wd : FVec Ideal S2816x1024 .bf16) (r : Fin 256) (hq : (q (ix1 r) : EReal) = ∑ l : Fin 1024, (X (ix2 r l) : EReal) * X (ix2 r l)) (j : Fin 1024) :
    (k0_pay23 (F := Ideal) h X (k0_pay19 g) (k0_pay20 mf) (k0_pay21 mf) q wg wu wd (ix2 ⟨256 + r.val, by omega⟩ j) : EReal)
      = Ffn.swi (Ffn.pre (fun l => X (ix2 r l)) (fun l => g (ix2 0 l)) (fun l => mf (ix3 0 0 l)) (fun l => mf (ix3 0 1 l))) (fun l f => wg (ix2 l f)) (fun l f => wu (ix2 l f)) (fun f j => wd (ix2 f j)) j := by
  have e : Ffn.pre (fun l => X (ix2 r l)) (fun l => g (ix2 0 l)) (fun l => mf (ix3 0 0 l)) (fun l => mf (ix3 0 1 l))
      = fun l => (X (ix2 r l) : EReal) * Ideal.rsqrt (Ideal.div (q (ix1 r)) Ffn.width + Ffn.eps) * g (ix2 0 l) * (1 + mf (ix3 0 1 l)) + mf (ix3 0 0 l) := by
    funext l
    rw [hq]; rfl
  rw [e]
  pointwise [k0_pay23, k0_pay19, k0_pay20, k0_pay21, k0_pay18]; rfl

/-- The second batch's mean squares. -/
theorem pay22_at (x : FVec Ideal S256x1024 .f32) (f b : FVec Ideal S1x256x256 .f32) (bd : FVec Ideal S256x256 .bf16) (dn : FVec Ideal S1x256 .f32) (z : FVec Ideal S1x256x256 .f32) (n : Fin 17) (yc ym ya yn : FVec Ideal S1x256x256 .bf16)
    (mm : FVec Ideal S1x3x1024 .f32) (w : FVec Ideal S1024x1024 .bf16) (r : Fin 256) :
    (k0_pay22 (F := Ideal) (BitVec.ofNat 32 n.val) x (k0_pay13 f b bd dn) (k0_pay14 z) (k0_pay15 z) k0_pay16 yc ym ya yn mm w (ix1 r) : EReal)
      = ∑ l : Fin 1024, (k0_pay17 (F := Ideal) (BitVec.ofNat 32 n.val) x (k0_pay13 f b bd dn) (k0_pay14 z) (k0_pay15 z) k0_pay16 yc ym ya yn mm w (ix2 r l) : EReal) * k0_pay17 (F := Ideal) (BitVec.ofNat 32 n.val) x (k0_pay13 f b bd dn) (k0_pay14 z) (k0_pay15 z) k0_pay16 yc ym ya yn mm w (ix2 r l) := by
  pointwise [k0_pay22]

/-- The first batch's stored row over the network's. -/
theorem pay1_at (x : FVec Ideal S256x1024 .f32) (y : FVec Ideal S512x1024 .f32) (mf : FVec Ideal S1x3x1024 .f32) (r : Fin 256) (j : Fin 1024) :
    (k0_pay1 (F := Ideal) x y (k0_pay24 mf) k0_pay25 (ix3 0 r j) : EReal) = (x (ix2 r j) : EReal) + Ffn.half * mf (ix3 0 2 j) * y (ix2 ⟨r.val, by omega⟩ j) := by
  pointwise [k0_pay1, k0_pay24, k0_pay25]; rfl

/-- The second batch's stored row over the network's. -/
theorem pay2_at (x : FVec Ideal S256x1024 .f32) (y : FVec Ideal S512x1024 .f32) (mf : FVec Ideal S1x3x1024 .f32) (r : Fin 256) (j : Fin 1024) :
    (k0_pay2 (F := Ideal) x y mf (ix3 0 r j) : EReal) = (x (ix2 r j) : EReal) + Ffn.half * mf (ix3 0 2 j) * y (ix2 ⟨256 + r.val, by omega⟩ j) := by
  pointwise [k0_pay2]; rfl

/-- The first batch's stored row. -/
theorem store0_at (x : FVec Ideal S256x1024 .f32) (yd : FVec Ideal S256x256 .f32) (n : Fin 17) (yc ym ya yn : FVec Ideal S1x256x256 .bf16)
    (mm : FVec Ideal S1x3x1024 .f32) (w : FVec Ideal S1024x1024 .bf16) (g : FVec Ideal S1x1024 .f32) (mf : FVec Ideal S1x3x1024 .f32)
    (X : FVec Ideal S256x1024 .f32) (a b c : FVec Ideal S1x1024 .f32) (q : FVec Ideal S256 .f32) (wg wu : FVec Ideal S1024x2816 .bf16) (wd : FVec Ideal S2816x1024 .bf16) (mf' : FVec Ideal S1x3x1024 .f32) (r : Fin 256) (j : Fin 1024) :
    (k0_pay1 (F := Ideal) (k0_pay5 x yd (Scalar.cmpi .eq (BitVec.ofNat 32 n.val) 0#32) yc ym ya yn mm w) (k0_pay23 (k0_pay11 (k0_pay5 x yd (Scalar.cmpi .eq (BitVec.ofNat 32 n.val) 0#32) yc ym ya yn mm w) (k0_pay7 g) (k0_pay8 mf) (k0_pay9 mf) (k0_pay10 x yd (Scalar.cmpi .eq (BitVec.ofNat 32 n.val) 0#32) yc ym ya yn mm w)) X a b c q wg wu wd) (k0_pay24 mf') k0_pay25 (ix3 0 r j) : EReal)
      = Ffn.joint (fun l => x (ix2 r l)) (fun l => mm (ix3 0 2 l))
        (Ffn.four (fun l => ya (ix3 0 r l)) (fun l => yd (ix2 r l)) (fun l => if n.val = 0 then yc (ix3 0 r l) else ym (ix3 0 r l)) (fun l => yn (ix3 0 r l)))
        (fun l j => w (ix2 l j))
        (fun l => g (ix2 0 l)) (fun l => mf (ix3 0 0 l)) (fun l => mf (ix3 0 1 l)) (fun l => mf' (ix3 0 2 l)) (fun l f => wg (ix2 l f)) (fun l f => wu (ix2 l f)) (fun f j => wd (ix2 f j)) j := by
  rw [pay1_at, pay23_at0]
  simp only [pay11_at, pay5_at]; rfl

/-- The second batch's stored row. -/
theorem store1_at (h : FVec Ideal S256x1024 .bf16) (x : FVec Ideal S256x1024 .f32) (f b : FVec Ideal S1x256x256 .f32) (bd : FVec Ideal S256x256 .bf16) (dn : FVec Ideal S1x256 .f32) (z : FVec Ideal S1x256x256 .f32) (n : Fin 17) (yc ym ya yn : FVec Ideal S1x256x256 .bf16)
    (mm : FVec Ideal S1x3x1024 .f32) (w : FVec Ideal S1024x1024 .bf16) (g : FVec Ideal S1x1024 .f32) (mf : FVec Ideal S1x3x1024 .f32) (wg wu : FVec Ideal S1024x2816 .bf16) (wd : FVec Ideal S2816x1024 .bf16) (mf' : FVec Ideal S1x3x1024 .f32) (r : Fin 256) (j : Fin 1024) :
    (k0_pay2 (F := Ideal) (k0_pay17 (BitVec.ofNat 32 n.val) x (k0_pay13 f b bd dn) (k0_pay14 z) (k0_pay15 z) k0_pay16 yc ym ya yn mm w) (k0_pay23 h (k0_pay17 (BitVec.ofNat 32 n.val) x (k0_pay13 f b bd dn) (k0_pay14 z) (k0_pay15 z) k0_pay16 yc ym ya yn mm w) (k0_pay19 g) (k0_pay20 mf) (k0_pay21 mf) (k0_pay22 (BitVec.ofNat 32 n.val) x (k0_pay13 f b bd dn) (k0_pay14 z) (k0_pay15 z) k0_pay16 yc ym ya yn mm w) wg wu wd) mf' (ix3 0 r j) : EReal)
      = Ffn.joint (fun l => x (ix2 r l)) (fun l => mm (ix3 0 2 l))
        (Ffn.four (fun l => ya (ix3 0 r l)) (fun l => k0_pay4 (F := Ideal) f b bd dn z (ix2 r l)) (fun l => if n.val = 0 then yc (ix3 0 r l) else ym (ix3 0 r l)) (fun l => yn (ix3 0 r l)))
        (fun l j => w (ix2 l j))
        (fun l => g (ix2 0 l)) (fun l => mf (ix3 0 0 l)) (fun l => mf (ix3 0 1 l)) (fun l => mf' (ix3 0 2 l)) (fun l f => wg (ix2 l f)) (fun l f => wu (ix2 l f)) (fun f j => wd (ix2 f j)) j := by
  rw [pay2_at, pay23_at1 _ _ _ _ _ _ _ _ _ (pay22_at _ _ _ _ _ _ _ _ _ _ _ _ _ _), pay17_eq]
  simp only [pay5_at]; rfl

end Cert.BothIdeal.Both
end
-- ==== Proof.BothTile.lean ====
/- The first layer's output half: what one tile stores, from the blocks it reads. -/
module

public import proofs.«01_k».proof.Proof.BothBody

@[expose] public section

set_option maxRecDepth 16384

noncomputable section

open Idealize.ShloMosaic Idealize.ShloMosaic.TcCoe Idealize.SL.Sem

namespace Cert.BothIdeal.Both
open Cert.BothIdeal Cert.BothIdeal.Gen

/-- The row of a token of one of the two batches, from the blocks. -/
def blockRow (n : Fin 17) (u0 : FVec Ideal S2x256x1024 .f32) (u1 : FVec Ideal S2x256x256 .bf16) (u2 u3 u4 : FVec Ideal S2x256x256 .f32)
    (u5 u6 u7 : FVec Ideal S2x256x256 .bf16) (u8 : FVec Ideal S2x3x1024 .f32) (u9 : FVec Ideal S1x256 .f32) (u10 : FVec Ideal S256x256 .bf16)
    (u11 : FVec Ideal S1024x1024 .bf16) (u12 : FVec Ideal S2x3x1024 .f32) (u13 : FVec Ideal S1x1024 .f32) (u14 u15 : FVec Ideal S1024x2816 .bf16)
    (u16 : FVec Ideal S2816x1024 .bf16) (b : Fin 2) (r : Fin 256) (j : Fin 1024) : EReal :=
  Ffn.joint (fun l => u0 (ix3 b r l)) (fun l => u8 (ix3 b 2 l))
    (Ffn.four (fun l => u1 (ix3 b r l))
      (Ffn.gated (fun x j => u10 (ix2 x j)) (fun x => u2 (ix3 b r x) + u3 (ix3 b r x)) (fun x => u4 (ix3 b r x)) (fun x => u9 (ix2 0 x)))
      (fun l => if n.val = 0 then u7 (ix3 b r l) else u5 (ix3 b r l)) (fun l => u6 (ix3 b r l))) (fun l j => u11 (ix2 l j))
    (fun l => u13 (ix2 0 l)) (fun l => u12 (ix3 b 0 l)) (fun l => u12 (ix3 b 1 l)) (fun l => u12 (ix3 b 2 l))
    (fun l f => u14 (ix2 l f)) (fun l f => u15 (ix2 l f)) (fun f j => u16 (ix2 f j)) j

/-- The second batch's block's rows. -/
theorem pay12_at (v : FVec Ideal S1x256x1024 .f32) (r : Fin 256) (l : Fin 1024) : (k0_pay12 (F := Ideal) v (ix2 r l) : EReal) = v (ix3 0 r l) := by
  pointwise [k0_pay12]

set_option maxHeartbeats 2000000 in
/-- A tile's stored entry is its token's row. -/
theorem tile (i : grid0.Coords) (u0 : FVec Ideal S2x256x1024 .f32) (u1 : FVec Ideal S2x256x256 .bf16) (u2 u3 u4 : FVec Ideal S2x256x256 .f32)
    (u5 u6 u7 : FVec Ideal S2x256x256 .bf16) (u8 : FVec Ideal S2x3x1024 .f32) (u9 : FVec Ideal S1x256 .f32) (u10 : FVec Ideal S256x256 .bf16)
    (u11 : FVec Ideal S1024x1024 .bf16) (u12 : FVec Ideal S2x3x1024 .f32) (u13 : FVec Ideal S1x1024 .f32) (u14 u15 : FVec Ideal S1024x2816 .bf16)
    (u16 : FVec Ideal S2816x1024 .bf16) (y : S2x256x1024.Idx) :
    (out0_17 (F := Ideal) i u0 u1 u2 u3 u4 u5 u6 u7 u8 u9 u10 u11 u12 u13 u14 u15 u16 y : EReal) = blockRow (i 1) u0 u1 u2 u3 u4 u5 u6 u7 u8 u9 u10 u11 u12 u13 u14 u15 u16 ⟨(y 0).val, (y 0).isLt⟩ ⟨(y 1).val, (y 1).isLt⟩ ⟨(y 2).val, (y 2).isLt⟩ := by
  unfold_out out0_17
  canon_tiles x hx
  case piece0 =>
    idx_vars x
    obtain rfl : x0 = 0 := Subsingleton.elim _ _
    refine (store1_at _ _ _ _ _ _ _ _ _ _ _ _ _ _ _ _ _ _ _ _ x1 x2).trans ?_
    simp only [pay4_at, pay12_at]
    unfold blockRow
    refine Ffn.joint_congr ?_ ?_ (Ffn.four_congr ?_ (Ffn.gated_congr ?_ (Ffn.add_congr ?_ ?_) ?_ ?_) ?_ ?_) ?_ ?_ ?_ ?_ ?_ ?_ ?_ ?_ (Fin.ext hx2.symm)
    case refine_9 => intro l; congr 1 <;> (pointwise []; blk_ext)
    all_goals intros
    all_goals pointwise []
    all_goals blk_ext
  case piece1 =>
    idx_vars x
    obtain rfl : x0 = 0 := Subsingleton.elim _ _
    refine (store0_at _ _ _ _ _ _ _ _ _ _ _ _ _ _ _ _ _ _ _ _ x1 x2).trans ?_
    simp only [pay4_at, pay3_at]
    unfold blockRow
    refine Ffn.joint_congr ?_ ?_ (Ffn.four_congr ?_ (Ffn.gated_congr ?_ (Ffn.add_congr ?_ ?_) ?_ ?_) ?_ ?_) ?_ ?_ ?_ ?_ ?_ ?_ ?_ ?_ (Fin.ext hx2.symm)
    case refine_9 => intro l; congr 1 <;> (pointwise []; blk_ext)
    all_goals intros
    all_goals pointwise []
    all_goals blk_ext

end Cert.BothIdeal.Both
end
-- ==== Proof.BothPack.lean ====
/- The first layer's output half: the arrays the tiles read, and every token's row. -/
module

public import proofs.«01_k».proof.Proof.BothStep
public import proofs.«01_k».proof.Proof.MixPack
public import proofs.«01_k».proof.Proof.FirstPack
public import proofs.«01_k».proof.Proof.Gen.BothIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.BothIdeal.Both
open Cert.BothIdeal Cert.BothIdeal.Gen

/-- A context token's row. -/
def ctxRow (xc : FVec Ideal S8x256x1024 .f32) (yac : FVec Ideal S8x256x256 .f32) (ofc : FVec Ideal S8x256x256 .f32) (obc : FVec Ideal S8x256x256 .f32) (zc : FVec Ideal S8x256x256 .f32) (ymc : FVec Ideal S8x256x256 .f32) (ync : FVec Ideal S8x256x256 .f32)
    (mmc : FVec Ideal S1x3x1024 .f32) (mfc : FVec Ideal S1x3x1024 .f32) (g : FVec Ideal S64 .f32) (w : FVec Ideal S1024x1024 .f32) (n3 : FVec Ideal S1024 .f32) (wg : FVec Ideal S1024x2816 .f32) (wu : FVec Ideal S1024x2816 .f32) (wd : FVec Ideal S2816x1024 .f32) (b : Fin 8) (s : Fin 256) (j : Fin 1024) : EReal :=
  Ffn.joint (fun l => xc (ix3 b s l)) (fun l => mmc (ix3 0 2 l))
    (Ffn.four (fun l => yac (ix3 b s l)) (Ffn.headed (fun l => ofc (ix3 b s l) + obc (ix3 b s l)) (fun l => zc (ix3 b s l)) (fun l => g (ix1 l)))
      (fun l => ymc (ix3 b s l)) (fun l => ync (ix3 b s l))) (fun l j => w (ix2 l j))
    (fun l => n3 (ix1 l)) (fun l => mfc (ix3 0 0 l)) (fun l => mfc (ix3 0 1 l)) (fun l => mfc (ix3 0 2 l))
    (fun l f => wg (ix2 l f)) (fun l f => wu (ix2 l f)) (fun f j => wd (ix2 f j)) j

/-- A latent token's row. -/
def latRow (x : FVec Ideal S8x4096x1024 .f32) (ya : FVec Ideal S8x4096x256 .f32) (of : FVec Ideal S8x4096x256 .f32) (ob : FVec Ideal S8x4096x256 .f32) (z : FVec Ideal S8x4096x256 .f32) (ym : FVec Ideal S8x4096x256 .f32) (yn : FVec Ideal S8x4096x256 .f32)
    (mm : FVec Ideal S8x3x1024 .f32) (mf : FVec Ideal S8x3x1024 .f32) (g : FVec Ideal S64 .f32) (w : FVec Ideal S1024x1024 .f32) (n3 : FVec Ideal S1024 .f32) (wg : FVec Ideal S1024x2816 .f32) (wu : FVec Ideal S1024x2816 .f32) (wd : FVec Ideal S2816x1024 .f32) (b : Fin 8) (s : Fin 4096) (j : Fin 1024) : EReal :=
  Ffn.joint (fun l => x (ix3 b s l)) (fun l => mm (ix3 b 2 l))
    (Ffn.four (fun l => ya (ix3 b s l)) (Ffn.headed (fun l => of (ix3 b s l) + ob (ix3 b s l)) (fun l => z (ix3 b s l)) (fun l => g (ix1 l)))
      (fun l => ym (ix3 b s l)) (fun l => yn (ix3 b s l))) (fun l j => w (ix2 l j))
    (fun l => n3 (ix1 l)) (fun l => mf (ix3 b 0 l)) (fun l => mf (ix3 b 1 l)) (fun l => mf (ix3 b 2 l))
    (fun l f => wg (ix2 l f)) (fun l f => wu (ix2 l f)) (fun f j => wd (ix2 f j)) j

/-- A token's row: the context tokens come first. -/
def token (xc : FVec Ideal S8x256x1024 .f32) (x : FVec Ideal S8x4096x1024 .f32)
    (yac : FVec Ideal S8x256x256 .f32) (ya : FVec Ideal S8x4096x256 .f32) (ofc : FVec Ideal S8x256x256 .f32) (of : FVec Ideal S8x4096x256 .f32) (obc : FVec Ideal S8x256x256 .f32) (ob : FVec Ideal S8x4096x256 .f32)
    (zc : FVec Ideal S8x256x256 .f32) (z : FVec Ideal S8x4096x256 .f32) (ymc : FVec Ideal S8x256x256 .f32) (ym : FVec Ideal S8x4096x256 .f32) (ync : FVec Ideal S8x256x256 .f32) (yn : FVec Ideal S8x4096x256 .f32)
    (mmc : FVec Ideal S1x3x1024 .f32) (mm : FVec Ideal S8x3x1024 .f32) (mfc : FVec Ideal S1x3x1024 .f32) (mf : FVec Ideal S8x3x1024 .f32)
    (g : FVec Ideal S64 .f32) (w : FVec Ideal S1024x1024 .f32) (n3 : FVec Ideal S1024 .f32) (wg wu : FVec Ideal S1024x2816 .f32) (wd : FVec Ideal S2816x1024 .f32) (b : Fin 8) (s : Fin 4352) (j : Fin 1024) : EReal :=
  if h : s.val < 256 then ctxRow xc yac ofc obc zc ymc ync mmc mfc g w n3 wg wu wd b ⟨s.val, h⟩ j
  else latRow x ya of ob z ym yn mm mf g w n3 wg wu wd b ⟨s.val - 256, by omega⟩ j

/-- Every token's row. -/
def layer (xc : FVec Ideal S8x256x1024 .f32) (x : FVec Ideal S8x4096x1024 .f32)
    (yac : FVec Ideal S8x256x256 .f32) (ya : FVec Ideal S8x4096x256 .f32) (ofc : FVec Ideal S8x256x256 .f32) (of : FVec Ideal S8x4096x256 .f32) (obc : FVec Ideal S8x256x256 .f32) (ob : FVec Ideal S8x4096x256 .f32)
    (zc : FVec Ideal S8x256x256 .f32) (z : FVec Ideal S8x4096x256 .f32) (ymc : FVec Ideal S8x256x256 .f32) (ym : FVec Ideal S8x4096x256 .f32) (ync : FVec Ideal S8x256x256 .f32) (yn : FVec Ideal S8x4096x256 .f32)
    (mmc : FVec Ideal S1x3x1024 .f32) (mm : FVec Ideal S8x3x1024 .f32) (mfc : FVec Ideal S1x3x1024 .f32) (mf : FVec Ideal S8x3x1024 .f32)
    (g : FVec Ideal S64 .f32) (w : FVec Ideal S1024x1024 .f32) (n3 : FVec Ideal S1024 .f32) (wg wu : FVec Ideal S1024x2816 .f32) (wd : FVec Ideal S2816x1024 .f32) : FVec Ideal S8x4352x1024 .f32 :=
  fun i => token xc x yac ya ofc of obc ob zc z ymc ym ync yn mmc mm mfc mf g w n3 wg wu wd ⟨(i 0).val, (i 0).isLt⟩ ⟨(i 1).val, (i 1).isLt⟩ ⟨(i 2).val, (i 2).isLt⟩

/-- A context row cast for the product. -/
def castC (T : FVec Ideal S8x256x256 .f32) : FVec Ideal S8x256x256 .bf16 := truncf .bf16 T bitsLt_bf16_f32

/-- A context token's row of the joined rows of 256. -/
theorem joined_ctx (a : FVec Ideal S8x256x256 .f32) (b : FVec Ideal S8x4096x256 .f32) (i : Fin 8) (s : Fin 4352) (h : s.val < 256) (j : Fin 256) :
    (Cert.MixIdeal.Mix.joined a b (ix3 i s j) : EReal) = a (ix3 i ⟨s.val, h⟩ j) := by
  have e : (Cert.MixIdeal.Mix.joined a b (ix3 i s j) : EReal) = if h : s.val < 256 then a (ix3 i ⟨s.val, h⟩ j) else b (ix3 i ⟨s.val - 256, by omega⟩ j) := by
    pointwise [Cert.MixIdeal.Mix.joined]
  rw [e, dif_pos h]

/-- A latent token's row of the joined rows of 256. -/
theorem joined_lat (a : FVec Ideal S8x256x256 .f32) (b : FVec Ideal S8x4096x256 .f32) (i : Fin 8) (s : Fin 4352) (h : ¬ s.val < 256) (j : Fin 256) :
    (Cert.MixIdeal.Mix.joined a b (ix3 i s j) : EReal) = b (ix3 i ⟨s.val - 256, by omega⟩ j) := by
  have e : (Cert.MixIdeal.Mix.joined a b (ix3 i s j) : EReal) = if h : s.val < 256 then a (ix3 i ⟨s.val, h⟩ j) else b (ix3 i ⟨s.val - 256, by omega⟩ j) := by
    pointwise [Cert.MixIdeal.Mix.joined]
  rw [e, dif_neg h]

/-- A context token's row of the joined rows of 1024. -/
theorem joinedX_ctx (a : FVec Ideal S8x256x1024 .f32) (b : FVec Ideal S8x4096x1024 .f32) (i : Fin 8) (s : Fin 4352) (h : s.val < 256) (j : Fin 1024) :
    (Cert.MixIdeal.Mix.joinedX a b (ix3 i s j) : EReal) = a (ix3 i ⟨s.val, h⟩ j) := by
  have e : (Cert.MixIdeal.Mix.joinedX a b (ix3 i s j) : EReal) = if h : s.val < 256 then a (ix3 i ⟨s.val, h⟩ j) else b (ix3 i ⟨s.val - 256, by omega⟩ j) := by
    pointwise [Cert.MixIdeal.Mix.joinedX]
  rw [e, dif_pos h]

/-- A latent token's row of the joined rows of 1024. -/
theorem joinedX_lat (a : FVec Ideal S8x256x1024 .f32) (b : FVec Ideal S8x4096x1024 .f32) (i : Fin 8) (s : Fin 4352) (h : ¬ s.val < 256) (j : Fin 1024) :
    (Cert.MixIdeal.Mix.joinedX a b (ix3 i s j) : EReal) = b (ix3 i ⟨s.val - 256, by omega⟩ j) := by
  have e : (Cert.MixIdeal.Mix.joinedX a b (ix3 i s j) : EReal) = if h : s.val < 256 then a (ix3 i ⟨s.val, h⟩ j) else b (ix3 i ⟨s.val - 256, by omega⟩ j) := by
    pointwise [Cert.MixIdeal.Mix.joinedX]
  rw [e, dif_neg h]

variable (m : (ℓ : Loc nD τ sig) → Buf (Elt Ideal) ℓ) (c : Dev nD)

/-- The rows as the tiles find them. -/
theorem V_x : V m c main_v30 = Cert.MixIdeal.Mix.joinedX (m ((c : Thread nD τ).loc main_arg0)) (m ((c : Thread nD τ).loc main_arg1)) := by
  entry_read; rfl

/-- The first mixer's rows as the tiles find them. -/
theorem V_ya : V m c main_v16 = Cert.MixIdeal.Mix.packYa (Cert.MixIdeal.Mix.joined (m ((c : Thread nD τ).loc main_arg2)) (m ((c : Thread nD τ).loc main_arg3))) := by
  entry_read; rfl

/-- The forward direction's rows as the tiles find them. -/
theorem V_of : V m c main_v17 = Cert.MixIdeal.Mix.joined (m ((c : Thread nD τ).loc main_arg4)) (m ((c : Thread nD τ).loc main_arg5)) := by
  entry_read; rfl

/-- The backward direction's rows as the tiles find them. -/
theorem V_ob : V m c main_v18 = Cert.MixIdeal.Mix.joined (m ((c : Thread nD τ).loc main_arg6)) (m ((c : Thread nD τ).loc main_arg7)) := by
  entry_read; rfl

/-- The gates' rows as the tiles find them. -/
theorem V_z : V m c main_v19 = Cert.MixIdeal.Mix.joined (m ((c : Thread nD τ).loc main_arg8)) (m ((c : Thread nD τ).loc main_arg9)) := by
  entry_read; rfl

/-- The latent tokens' third mixer's rows as the tiles find them. -/
theorem V_ym : V m c main_v20 = Cert.MixIdeal.Mix.castL (m ((c : Thread nD τ).loc main_arg11)) := by
  entry_read; rfl

/-- The context tokens' third mixer's rows as the tiles find them. -/
theorem V_ymc : V m c main_v21 = castC (m ((c : Thread nD τ).loc main_arg10)) := by
  entry_read; rfl

/-- The fourth mixer's rows as the tiles find them. -/
theorem V_yn : V m c main_v23 = Cert.MixIdeal.Mix.castT (Cert.MixIdeal.Mix.joined (m ((c : Thread nD τ).loc main_arg12)) (m ((c : Thread nD τ).loc main_arg13))) := by
  entry_read; rfl

/-- The mixers' modulations as the tiles find them. -/
theorem V_mm : V m c main_v25 = Cert.FirstIdeal.First.packM (m ((c : Thread nD τ).loc main_arg15)) (m ((c : Thread nD τ).loc main_arg14)) := by
  entry_read; rfl

/-- The heads' weights as the tiles find them. -/
theorem V_g : V m c main_v29 = Cert.MixIdeal.Mix.packG (m ((c : Thread nD τ).loc main_arg18)) := by
  entry_read; rfl

/-- The heads' mask as the tiles find it. -/
theorem V_mask : V m c main_v4 = Cert.MixIdeal.Mix.mask := by
  entry_read; rfl

/-- The output projection as the tiles find it. -/
theorem V_w : V m c main_v11 = Cert.MixIdeal.Mix.packW (m ((c : Thread nD τ).loc main_arg19)) := by
  entry_read; rfl

/-- The network's modulations as the tiles find them. -/
theorem V_mf : V m c main_v32 = Cert.FirstIdeal.First.packM (m ((c : Thread nD τ).loc main_arg17)) (m ((c : Thread nD τ).loc main_arg16)) := by
  entry_read; rfl

/-- The network's norm weights as the tiles find them. -/
theorem V_n3 : V m c main_v33 = Cert.MixIdeal.Mix.packN (m ((c : Thread nD τ).loc main_arg20)) := by
  entry_read; rfl

/-- The gate projection as the tiles find it. -/
theorem V_wg : V m c main_v34 = Cert.MixIdeal.Mix.castU (m ((c : Thread nD τ).loc main_arg21)) := by
  entry_read; rfl

/-- The up projection as the tiles find it. -/
theorem V_wu : V m c main_v35 = Cert.MixIdeal.Mix.castU (m ((c : Thread nD τ).loc main_arg22)) := by
  entry_read; rfl

/-- The down projection as the tiles find it. -/
theorem V_wd : V m c main_v36 = Cert.MixIdeal.Mix.castD (m ((c : Thread nD τ).loc main_arg23)) := by
  entry_read; rfl

end Cert.BothIdeal.Both
end
-- ==== Proof.BothValue.lean ====
/- The first layer's output half: the result array after the run. -/
module

public import proofs.«01_k».proof.Proof.BothTile
public import proofs.«01_k».proof.Proof.BothPack

@[expose] public section

set_option maxRecDepth 16384

noncomputable section

open Idealize.ShloMosaic Idealize.ShloMosaic.TcCoe Idealize.SL.Sem

namespace Cert.BothIdeal.Both
open Cert.BothIdeal Cert.BothIdeal.Gen

variable (m : (ℓ : Loc nD τ sig) → Buf (Elt Ideal) ℓ) (c : Dev nD)

/-- Every window's block at each point. -/
theorem idx : ∀ t : Fin cfg0.N, win0_0.index t = ![t.val / 17, t.val % 17, 0]
    ∧ win0_1.index t = ![t.val / 17, t.val % 17, 0]
    ∧ win0_2.index t = ![t.val / 17, t.val % 17, 0]
    ∧ win0_3.index t = ![t.val / 17, t.val % 17, 0]
    ∧ win0_4.index t = ![t.val / 17, t.val % 17, 0]
    ∧ win0_5.index t = ![t.val / 17, t.val % 17 - 1, 0]
    ∧ win0_6.index t = ![t.val / 17, t.val % 17, 0]
    ∧ win0_7.index t = ![t.val / 17, 0, 0]
    ∧ win0_8.index t = ![if t.val % 17 = 0 then 4 else t.val / 17, 0, 0]
    ∧ win0_9.index t = ![0, 0]
    ∧ win0_10.index t = ![0, 0]
    ∧ win0_11.index t = ![0, 0]
    ∧ win0_12.index t = ![if t.val % 17 = 0 then 4 else t.val / 17, 0, 0]
    ∧ win0_13.index t = ![0, 0]
    ∧ win0_14.index t = ![0, 0]
    ∧ win0_15.index t = ![0, 0]
    ∧ win0_16.index t = ![0, 0]
    ∧ win0_17.index t = ![t.val / 17, t.val % 17, 0]
    ∧ (grid0.coords t 1).val = t.val % 17
    ∧ t.val / 17 < 4 :=
  (by decide +kernel : ∀ t : Fin grid0.N, _)

/-- The rows of a point's block. -/
theorem blk0 (t : Fin cfg0.N) (A : FVec Ideal S8x4352x1024 .f32) (hA : V m c (Pipeline.arrRef spec0 0) = A) (q : Fin 2) (r : Fin 256) (j : Fin 1024)
    (b : Fin 8) (s : Fin 4352) (hb : b.val = 2 * (t.val / 17) + q.val) (hs : s.val = 256 * (t.val % 17) + r.val) : iblk m c 0 t (ix3 q r j) = A (ix3 b s j) := by
  unfold iblk
  rw [hA]
  blk_ext [idx t]

/-- The first mixer's rows of a point's block. -/
theorem blk1 (t : Fin cfg0.N) (A : FVec Ideal S8x4352x256 .bf16) (hA : V m c (Pipeline.arrRef spec0 1) = A) (q : Fin 2) (r : Fin 256) (j : Fin 256)
    (b : Fin 8) (s : Fin 4352) (hb : b.val = 2 * (t.val / 17) + q.val) (hs : s.val = 256 * (t.val % 17) + r.val) : iblk m c 1 t (ix3 q r j) = A (ix3 b s j) := by
  unfold iblk
  rw [hA]
  blk_ext [idx t]

/-- The forward direction's rows of a point's block. -/
theorem blk2 (t : Fin cfg0.N) (A : FVec Ideal S8x4352x256 .f32) (hA : V m c (Pipeline.arrRef spec0 2) = A) (q : Fin 2) (r : Fin 256) (j : Fin 256)
    (b : Fin 8) (s : Fin 4352) (hb : b.val = 2 * (t.val / 17) + q.val) (hs : s.val = 256 * (t.val % 17) + r.val) : iblk m c 2 t (ix3 q r j) = A (ix3 b s j) := by
  unfold iblk
  rw [hA]
  blk_ext [idx t]

/-- The backward direction's rows of a point's block. -/
theorem blk3 (t : Fin cfg0.N) (A : FVec Ideal S8x4352x256 .f32) (hA : V m c (Pipeline.arrRef spec0 3) = A) (q : Fin 2) (r : Fin 256) (j : Fin 256)
    (b : Fin 8) (s : Fin 4352) (hb : b.val = 2 * (t.val / 17) + q.val) (hs : s.val = 256 * (t.val % 17) + r.val) : iblk m c 3 t (ix3 q r j) = A (ix3 b s j) := by
  unfold iblk
  rw [hA]
  blk_ext [idx t]

/-- The gates' rows of a point's block. -/
theorem blk4 (t : Fin cfg0.N) (A : FVec Ideal S8x4352x256 .f32) (hA : V m c (Pipeline.arrRef spec0 4) = A) (q : Fin 2) (r : Fin 256) (j : Fin 256)
    (b : Fin 8) (s : Fin 4352) (hb : b.val = 2 * (t.val / 17) + q.val) (hs : s.val = 256 * (t.val % 17) + r.val) : iblk m c 4 t (ix3 q r j) = A (ix3 b s j) := by
  unfold iblk
  rw [hA]
  blk_ext [idx t]

/-- The latent third mixer's rows of a point's block. -/
theorem blk5 (t : Fin cfg0.N) (A : FVec Ideal S8x4096x256 .bf16) (hA : V m c (Pipeline.arrRef spec0 5) = A) (q : Fin 2) (r : Fin 256) (j : Fin 256)
    (b : Fin 8) (s : Fin 4096) (hb : b.val = 2 * (t.val / 17) + q.val) (hs : s.val = 256 * (t.val % 17 - 1) + r.val) : iblk m c 5 t (ix3 q r j) = A (ix3 b s j) := by
  unfold iblk
  rw [hA]
  blk_ext [idx t]

/-- The fourth mixer's rows of a point's block. -/
theorem blk6 (t : Fin cfg0.N) (A : FVec Ideal S8x4352x256 .bf16) (hA : V m c (Pipeline.arrRef spec0 6) = A) (q : Fin 2) (r : Fin 256) (j : Fin 256)
    (b : Fin 8) (s : Fin 4352) (hb : b.val = 2 * (t.val / 17) + q.val) (hs : s.val = 256 * (t.val % 17) + r.val) : iblk m c 6 t (ix3 q r j) = A (ix3 b s j) := by
  unfold iblk
  rw [hA]
  blk_ext [idx t]

/-- The context's third mixer's rows of a point's block. -/
theorem blk7 (t : Fin cfg0.N) (A : FVec Ideal S8x256x256 .bf16) (hA : V m c (Pipeline.arrRef spec0 7) = A) (q : Fin 2) (r : Fin 256) (j : Fin 256)
    (b : Fin 8) (s : Fin 256) (hb : b.val = 2 * (t.val / 17) + q.val) (hs : s.val = r.val) : iblk m c 7 t (ix3 q r j) = A (ix3 b s j) := by
  unfold iblk
  rw [hA]
  blk_ext [idx t]

/-- The mixers' modulations of a point's block. -/
theorem blk8 (t : Fin cfg0.N) (A : FVec Ideal S16x3x1024 .f32) (hA : V m c (Pipeline.arrRef spec0 8) = A) (q : Fin 2) (e : Fin 3) (j : Fin 1024)
    (n : ℕ) (hn : win0_8.index t = ![n, 0, 0]) (b : Fin 16) (hb : b.val = 2 * n + q.val) : iblk m c 8 t (ix3 q e j) = A (ix3 b e j) := by
  unfold iblk
  rw [hA]
  blk_ext [hn]

/-- The heads' weights of a point's block. -/
theorem blk9 (t : Fin cfg0.N) (A : FVec Ideal S1x256 .f32) (hA : V m c (Pipeline.arrRef spec0 9) = A) (r : Fin 1) (j : Fin 256) :
    iblk m c 9 t (ix2 r j) = A (ix2 r j) := by
  unfold iblk
  rw [hA]
  blk_ext [idx t]

/-- The heads' mask of a point's block. -/
theorem blk10 (t : Fin cfg0.N) (A : FVec Ideal S256x256 .bf16) (hA : V m c (Pipeline.arrRef spec0 10) = A) (r : Fin 256) (j : Fin 256) :
    iblk m c 10 t (ix2 r j) = A (ix2 r j) := by
  unfold iblk
  rw [hA]
  blk_ext [idx t]

/-- The output projection of a point's block. -/
theorem blk11 (t : Fin cfg0.N) (A : FVec Ideal S1024x1024 .bf16) (hA : V m c (Pipeline.arrRef spec0 11) = A) (r : Fin 1024) (j : Fin 1024) :
    iblk m c 11 t (ix2 r j) = A (ix2 r j) := by
  unfold iblk
  rw [hA]
  blk_ext [idx t]

/-- The network's modulations of a point's block. -/
theorem blk12 (t : Fin cfg0.N) (A : FVec Ideal S16x3x1024 .f32) (hA : V m c (Pipeline.arrRef spec0 12) = A) (q : Fin 2) (e : Fin 3) (j : Fin 1024)
    (n : ℕ) (hn : win0_12.index t = ![n, 0, 0]) (b : Fin 16) (hb : b.val = 2 * n + q.val) : iblk m c 12 t (ix3 q e j) = A (ix3 b e j) := by
  unfold iblk
  rw [hA]
  blk_ext [hn]

/-- The network's norm weights of a point's block. -/
theorem blk13 (t : Fin cfg0.N) (A : FVec Ideal S1x1024 .f32) (hA : V m c (Pipeline.arrRef spec0 13) = A) (r : Fin 1) (j : Fin 1024) :
    iblk m c 13 t (ix2 r j) = A (ix2 r j) := by
  unfold iblk
  rw [hA]
  blk_ext [idx t]

/-- The gate projection of a point's block. -/
theorem blk14 (t : Fin cfg0.N) (A : FVec Ideal S1024x2816 .bf16) (hA : V m c (Pipeline.arrRef spec0 14) = A) (r : Fin 1024) (j : Fin 2816) :
    iblk m c 14 t (ix2 r j) = A (ix2 r j) := by
  unfold iblk
  rw [hA]
  blk_ext [idx t]

/-- The up projection of a point's block. -/
theorem blk15 (t : Fin cfg0.N) (A : FVec Ideal S1024x2816 .bf16) (hA : V m c (Pipeline.arrRef spec0 15) = A) (r : Fin 1024) (j : Fin 2816) :
    iblk m c 15 t (ix2 r j) = A (ix2 r j) := by
  unfold iblk
  rw [hA]
  blk_ext [idx t]

/-- The down projection of a point's block. -/
theorem blk16 (t : Fin cfg0.N) (A : FVec Ideal S2816x1024 .bf16) (hA : V m c (Pipeline.arrRef spec0 16) = A) (r : Fin 2816) (j : Fin 1024) :
    iblk m c 16 t (ix2 r j) = A (ix2 r j) := by
  unfold iblk
  rw [hA]
  blk_ext [idx t]

/-- A point of the first tiles: the context tokens' rows. -/
theorem blockRow_ctx (t : Fin cfg0.N) (q : Fin 2) (r : Fin 256) (j : Fin 1024) (b : Fin 8) (s : Fin 4352)
    (hb : b.val = 2 * (t.val / 17) + q.val) (hs : s.val = 256 * (t.val % 17) + r.val) (h0 : t.val % 17 = 0) (hl : s.val < 256) :
    blockRow (grid0.coords t 1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) q r j
      = ctxRow (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14)) (m ((c : Thread nD τ).loc main_arg16)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) b ⟨s.val, hl⟩ j := by
  have hn : (grid0.coords t 1).val = t.val % 17 := (idx t).2.2.2.2.2.2.2.2.2.2.2.2.2.2.2.2.2.2.1
  have hm8 := (idx t).2.2.2.2.2.2.2.2.1
  have hm12 := (idx t).2.2.2.2.2.2.2.2.2.2.2.2.1
  rw [if_pos h0] at hm8 hm12
  have hq : (⟨8 + q.val, by omega⟩ : Fin 16).val = 2 * 4 + q.val := rfl
  have hr' : (⟨s.val, hl⟩ : Fin 256).val = r.val := by show s.val = r.val; omega
  unfold blockRow ctxRow
  rw [← Ffn.joint_swap]
  refine Ffn.joint_congr ?_ ?_ (Ffn.four_congr ?_ (Ffn.gated_congr ?_ (Ffn.add_congr ?_ ?_) ?_ ?_) ?_ ?_) ?_ ?_ ?_ ?_ ?_ ?_ ?_ ?_ rfl
  · exact fun l => (blk0 m c t _ (V_x m c) q r l b s hb hs).trans (joinedX_ctx _ _ b s hl l)
  · exact fun l => (blk8 m c t _ (V_mm m c) q 2 l 4 hm8 _ hq).trans (Cert.FirstIdeal.First.packM_ctx _ _ ⟨q.val, by omega⟩ 2 l)
  · exact fun l => (blk1 m c t _ (V_ya m c) q r l b s hb hs).trans ((Cert.MixIdeal.Mix.packYa_at _ b s l).trans (joined_ctx _ _ b s hl _))
  · exact fun x j => (blk10 m c t _ (V_mask m c) x j).trans (Cert.MixIdeal.Mix.mask_at x j)
  · exact fun l => (blk2 m c t _ (V_of m c) q r l b s hb hs).trans (joined_ctx _ _ b s hl l)
  · exact fun l => (blk3 m c t _ (V_ob m c) q r l b s hb hs).trans (joined_ctx _ _ b s hl l)
  · exact fun l => (blk4 m c t _ (V_z m c) q r l b s hb hs).trans (joined_ctx _ _ b s hl l)
  · exact fun l => (blk9 m c t _ (V_g m c) 0 l).trans (Cert.MixIdeal.Mix.packG_at _ l)
  · exact fun l => (if_pos (hn.trans h0)).trans (blk7 m c t _ (V_ymc m c) q r l b ⟨s.val, hl⟩ hb hr')
  · exact fun l => (blk6 m c t _ (V_yn m c) q r l b s hb hs).trans (joined_ctx _ _ b s hl l)
  · exact fun l j => (blk11 m c t _ (V_w m c) l j).trans (Cert.MixIdeal.Mix.packW_at _ l j)
  · exact fun l => (blk13 m c t _ (V_n3 m c) 0 l).trans (Cert.MixIdeal.Mix.packN_at _ l)
  · exact fun l => (blk12 m c t _ (V_mf m c) q 0 l 4 hm12 _ hq).trans (Cert.FirstIdeal.First.packM_ctx _ _ ⟨q.val, by omega⟩ 0 l)
  · exact fun l => (blk12 m c t _ (V_mf m c) q 1 l 4 hm12 _ hq).trans (Cert.FirstIdeal.First.packM_ctx _ _ ⟨q.val, by omega⟩ 1 l)
  · exact fun l => (blk12 m c t _ (V_mf m c) q 2 l 4 hm12 _ hq).trans (Cert.FirstIdeal.First.packM_ctx _ _ ⟨q.val, by omega⟩ 2 l)
  · exact fun l f => blk14 m c t _ (V_wg m c) l f
  · exact fun l f => blk15 m c t _ (V_wu m c) l f
  · exact fun f j => blk16 m c t _ (V_wd m c) f j

/-- A point of the other tiles: the latent tokens' rows. -/
theorem blockRow_lat (t : Fin cfg0.N) (q : Fin 2) (r : Fin 256) (j : Fin 1024) (b : Fin 8) (s : Fin 4352)
    (hb : b.val = 2 * (t.val / 17) + q.val) (hs : s.val = 256 * (t.val % 17) + r.val) (h0 : ¬ t.val % 17 = 0) (hl : ¬ s.val < 256) :
    blockRow (grid0.coords t 1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) q r j
      = latRow (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg11)) (m ((c : Thread nD τ).loc main_arg13)) (m ((c : Thread nD τ).loc main_arg15)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) b ⟨s.val - 256, by omega⟩ j := by
  have hn : (grid0.coords t 1).val = t.val % 17 := (idx t).2.2.2.2.2.2.2.2.2.2.2.2.2.2.2.2.2.2.1
  have hm8 := (idx t).2.2.2.2.2.2.2.2.1
  have hm12 := (idx t).2.2.2.2.2.2.2.2.2.2.2.2.1
  rw [if_neg h0] at hm8 hm12
  have hb' : (⟨b.val, by omega⟩ : Fin 16).val = 2 * (t.val / 17) + q.val := hb
  have hs' : (⟨s.val - 256, by omega⟩ : Fin 4096).val = 256 * (t.val % 17 - 1) + r.val := by show s.val - 256 = _; omega
  have hn0 : ¬ (grid0.coords t 1).val = 0 := fun h => h0 (hn.symm.trans h)
  unfold blockRow latRow
  rw [← Ffn.joint_swap]
  refine Ffn.joint_congr ?_ ?_ (Ffn.four_congr ?_ (Ffn.gated_congr ?_ (Ffn.add_congr ?_ ?_) ?_ ?_) ?_ ?_) ?_ ?_ ?_ ?_ ?_ ?_ ?_ ?_ rfl
  · exact fun l => (blk0 m c t _ (V_x m c) q r l b s hb hs).trans (joinedX_lat _ _ b s hl l)
  · exact fun l => (blk8 m c t _ (V_mm m c) q 2 l _ hm8 _ hb').trans (Cert.FirstIdeal.First.packM_at _ _ b 2 l)
  · exact fun l => (blk1 m c t _ (V_ya m c) q r l b s hb hs).trans ((Cert.MixIdeal.Mix.packYa_at _ b s l).trans (joined_lat _ _ b s hl _))
  · exact fun x j => (blk10 m c t _ (V_mask m c) x j).trans (Cert.MixIdeal.Mix.mask_at x j)
  · exact fun l => (blk2 m c t _ (V_of m c) q r l b s hb hs).trans (joined_lat _ _ b s hl l)
  · exact fun l => (blk3 m c t _ (V_ob m c) q r l b s hb hs).trans (joined_lat _ _ b s hl l)
  · exact fun l => (blk4 m c t _ (V_z m c) q r l b s hb hs).trans (joined_lat _ _ b s hl l)
  · exact fun l => (blk9 m c t _ (V_g m c) 0 l).trans (Cert.MixIdeal.Mix.packG_at _ l)
  · exact fun l => (if_neg hn0).trans (blk5 m c t _ (V_ym m c) q r l b _ hb hs')
  · exact fun l => (blk6 m c t _ (V_yn m c) q r l b s hb hs).trans (joined_lat _ _ b s hl l)
  · exact fun l j => (blk11 m c t _ (V_w m c) l j).trans (Cert.MixIdeal.Mix.packW_at _ l j)
  · exact fun l => (blk13 m c t _ (V_n3 m c) 0 l).trans (Cert.MixIdeal.Mix.packN_at _ l)
  · exact fun l => (blk12 m c t _ (V_mf m c) q 0 l _ hm12 _ hb').trans (Cert.FirstIdeal.First.packM_at _ _ b 0 l)
  · exact fun l => (blk12 m c t _ (V_mf m c) q 1 l _ hm12 _ hb').trans (Cert.FirstIdeal.First.packM_at _ _ b 1 l)
  · exact fun l => (blk12 m c t _ (V_mf m c) q 2 l _ hm12 _ hb').trans (Cert.FirstIdeal.First.packM_at _ _ b 2 l)
  · exact fun l f => blk14 m c t _ (V_wg m c) l f
  · exact fun l f => blk15 m c t _ (V_wu m c) l f
  · exact fun f j => blk16 m c t _ (V_wd m c) f j

/-- A point's row of one of its two batches is the token's row. -/
theorem blockRow_eq (t : Fin cfg0.N) (q : Fin 2) (r : Fin 256) (j : Fin 1024) (b : Fin 8) (s : Fin 4352)
    (hb : b.val = 2 * (t.val / 17) + q.val) (hs : s.val = 256 * (t.val % 17) + r.val) :
    blockRow (grid0.coords t 1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) q r j
      = token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) b s j := by
  have hr : r.val < 256 := r.isLt
  unfold token
  by_cases h0 : t.val % 17 = 0
  · have hl : s.val < 256 := by omega
    rw [dif_pos hl]
    exact blockRow_ctx m c t q r j b s hb hs h0 hl
  · have hl : ¬ s.val < 256 := by omega
    rw [dif_neg hl]
    exact blockRow_lat m c t q r j b s hb hs h0 hl

/-- The result array after the run holds every token's row. -/
theorem final : (dats m 0 c).arrAt 17 (cfgs 0).N = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (dats m 0 c).arrAt_eq_of_covers 17 _ (by decide +kernel) fun t _ y => ?_
  have ht : t.val / 17 < 4 := (idx t).2.2.2.2.2.2.2.2.2.2.2.2.2.2.2.2.2.2.2
  have hy0 : 2 * (t.val / 17) + (y 0).val < 8 := by have : (y 0).val < 2 := (y 0).isLt; omega
  have hy : 256 * (t.val % 17) + (y 1).val < 4352 := by have : (y 1).val < 256 := (y 1).isLt; omega
  have e : ((cfg0.win 17).blk t).view.emb y = (ix3 (⟨2 * (t.val / 17) + (y 0).val, hy0⟩ : Fin 8)
      (⟨256 * (t.val % 17) + (y 1).val, hy⟩ : Fin 4352) (⟨(y 2).val, (y 2).isLt⟩ : Fin 1024) : S8x4352x1024.Idx) := by
    blk_ext [idx t]
  blk_simp
  rw [after0_17]
  refine (tile (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y).trans ?_
  refine (blockRow_eq m c t _ _ _ ⟨2 * (t.val / 17) + (y 0).val, hy0⟩ ⟨256 * (t.val % 17) + (y 1).val, hy⟩ rfl rfl).trans ?_
  exact congrArg (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) e.symm

end Cert.BothIdeal.Both
end
-- ==== Proof.BothRef.lean ====
/- The first layer's output half: the reference, stage by stage. -/
module

public import proofs.«01_k».proof.Proof.BothPack
public import proofs.«01_k».proof.Proof.FirstRef
public import proofs.«01_k».proof.Proof.Gen.BothReferenceIdeal.Run

@[expose] public section

set_option maxRecDepth 16384

noncomputable section

open Idealize.ShloMosaic Idealize.ShloMosaic.TcCoe Idealize.SL.Sem

namespace Cert.BothReferenceIdeal.Both
open Cert.BothReferenceIdeal Cert.BothReferenceIdeal.Gen

/-- The two directions' sum, head by head. -/
def summed (f b : FVec Ideal S8x256x256 .f32) : FVec Ideal S8x256x4x64 .f32 :=
  shapeCast S8x256x4x64 (addf f b) shapeCasts_S8x256x256_S8x256x4x64

/-- Each head over its root mean square, times the weight. -/
def normed (o : FVec Ideal S8x256x4x64 .f32) (g : FVec Ideal S64 .f32) : FVec Ideal S8x256x4x64 .f32 :=
  mulf (mulf o (broadcastInDim S8x256x4x64 ![0, 1, 2, 3] bcast_S8x256x4x1_S8x256x4x64_0_1_2_3 (Host.rsqrt (addf
      (Host.divf (broadcastInDim S8x256x4x1 ![0, 1, 2] bcast_S8x256x4_S8x256x4x1_0_1_2
          (Host.reduceAdd (mulf o o) (constant (F := Ideal) S_ .f32 0x00000000#32) reducesTo_S8x256x4x64_S8x256x4_d3 h_S_))
        (broadcastInDim S8x256x4x1 ![] bcast_S_S8x256x4x1 (constant (F := Ideal) S_ .f32 0x42800000#32)))
      (broadcastInDim S8x256x4x1 ![] bcast_S_S8x256x4x1 (constant (F := Ideal) S_ .f32 0x358637BD#32))))))
    (broadcastInDim S8x256x4x64 ![0, 1, 2, 3] bcast_S1x1x1x64_S8x256x4x64_0_1_2_3 (broadcastInDim S1x1x1x64 ![3] bcast_S64_S1x1x1x64_3 g))

/-- The heads' gates. -/
def gates (z : FVec Ideal S8x256x256 .f32) : FVec Ideal S8x256x4x64 .f32 :=
  mulf (shapeCast S8x256x4x64 z shapeCasts_S8x256x256_S8x256x4x64)
    (Host.divf (broadcastInDim S8x256x4x64 ![] bcast_S_S8x256x4x64 (constant (F := Ideal) S_ .f32 0x3F800000#32))
      (addf (broadcastInDim S8x256x4x64 ![] bcast_S_S8x256x4x64 (constant (F := Ideal) S_ .f32 0x3F800000#32))
        (Host.exp (Host.negf (shapeCast S8x256x4x64 z shapeCasts_S8x256x256_S8x256x4x64)))))

/-- The gated heads side by side. -/
def headed (n z : FVec Ideal S8x256x4x64 .f32) : FVec Ideal S8x256x256 .f32 :=
  shapeCast S8x256x256 (mulf n z) shapeCasts_S8x256x4x64_S8x256x256

/-- The four mixers side by side. -/
def sides (ya yd ym yn : FVec Ideal S8x256x256 .f32) : FVec Ideal S8x256x1024 .f32 :=
  concatenate S8x256x1024 2 [⟨S8x256x256, ya⟩, ⟨S8x256x256, yd⟩, ⟨S8x256x256, ym⟩, ⟨S8x256x256, yn⟩] concatenates_S8x256x256_S8x256x256_S8x256x256_S8x256x256_S8x256x1024_d2

/-- The rows plus the gated projection. -/
def mixed (x cat : FVec Ideal S8x256x1024 .f32) (mm : FVec Ideal S1x3x1024 .f32) (w : FVec Ideal S1024x1024 .f32) : FVec Ideal S8x256x1024 .f32 :=
  addf x (mulf (broadcastInDim S8x256x1024 ![0, 1, 2] bcast_S1x1x1024_S8x256x1024_0_1_2 (extractStridedSlice S1x1x1024 ![0, 2, 0] mm slices_S1x3x1024_S1x1x1024_0_2_0))
    (Host.dotGeneral dot_S8x256x1024_S1024x1024_S8x256x1024_2_0_01_1_n_n none cat w))

/-- The rows after the projection. -/
def base (x : FVec Ideal S8x256x1024 .f32) (ya of ob z ym yn : FVec Ideal S8x256x256 .f32) (mm : FVec Ideal S1x3x1024 .f32)
    (g : FVec Ideal S64 .f32) (w : FVec Ideal S1024x1024 .f32) : FVec Ideal S8x256x1024 .f32 :=
  mixed x (sides ya (headed (normed (summed of ob) g) (gates z)) ym yn) mm w

/-- The reference: the context tokens' rows before the latent tokens'. -/
def result (xc : FVec Ideal S8x256x1024 .f32) (x : FVec Ideal S8x4096x1024 .f32)
    (yac : FVec Ideal S8x256x256 .f32) (ya : FVec Ideal S8x4096x256 .f32) (ofc : FVec Ideal S8x256x256 .f32) (of : FVec Ideal S8x4096x256 .f32) (obc : FVec Ideal S8x256x256 .f32) (ob : FVec Ideal S8x4096x256 .f32)
    (zc : FVec Ideal S8x256x256 .f32) (z : FVec Ideal S8x4096x256 .f32) (ymc : FVec Ideal S8x256x256 .f32) (ym : FVec Ideal S8x4096x256 .f32) (ync : FVec Ideal S8x256x256 .f32) (yn : FVec Ideal S8x4096x256 .f32)
    (mmc : FVec Ideal S1x3x1024 .f32) (mm : FVec Ideal S8x3x1024 .f32) (mfc : FVec Ideal S1x3x1024 .f32) (mf : FVec Ideal S8x3x1024 .f32)
    (g : FVec Ideal S64 .f32) (w : FVec Ideal S1024x1024 .f32) (n3 : FVec Ideal S1024 .f32) (wg wu : FVec Ideal S1024x2816 .f32) (wd : FVec Ideal S2816x1024 .f32) : FVec Ideal S8x4352x1024 .f32 :=
  concatenate S8x4352x1024 1 [⟨S8x256x1024, Cert.FirstReferenceIdeal.First.stepped (base xc yac ofc obc zc ymc ync mmc g w) (Cert.FirstReferenceIdeal.First.net (base xc yac ofc obc zc ymc ync mmc g w) mfc n3 wg wu wd) mfc⟩,
      ⟨S8x4096x1024, Cert.MixReferenceIdeal.Mix.stepped (Cert.MixReferenceIdeal.Mix.base x ya of ob z ym yn mm g w) (Cert.MixReferenceIdeal.Mix.net (Cert.MixReferenceIdeal.Mix.base x ya of ob z ym yn mm g w) mf n3 wg wu wd) mf⟩]
    concatenates_S8x256x1024_S8x4096x1024_S8x4352x1024_d1

section
variable (b : Fin 8) (s : Fin 256)

/-- A lane of a normalised head. -/
theorem normed_at (f r : FVec Ideal S8x256x256 .f32) (g : FVec Ideal S64 .f32) (h : Fin 4) (d : Fin 64) :
    (normed (summed f r) g (ix4 b s h d) : EReal) = ((f (ix3 b s ⟨h.val * 64 + d.val, by omega⟩) : EReal) + r (ix3 b s ⟨h.val * 64 + d.val, by omega⟩))
      * Ideal.rsqrt (Ideal.div (∑ e : Fin 64, ((f (ix3 b s ⟨h.val * 64 + e.val, by omega⟩) : EReal) + r (ix3 b s ⟨h.val * 64 + e.val, by omega⟩))
          * ((f (ix3 b s ⟨h.val * 64 + e.val, by omega⟩) : EReal) + r (ix3 b s ⟨h.val * 64 + e.val, by omega⟩))) (Ideal.ofBits FTy.f32 1115684864#32) + Ffn.eps)
      * g (ix1 d) := by
  have e : ∀ d : Fin 64, (summed f r (ix4 b s h d) : EReal) = (f (ix3 b s ⟨h.val * 64 + d.val, by omega⟩) : EReal) + r (ix3 b s ⟨h.val * 64 + d.val, by omega⟩) := by
    intro d
    pointwise [summed]
  simp only [← e]
  generalize summed f r = o
  pointwise [normed]
  rfl

/-- A lane of the gates. -/
theorem gates_at (z : FVec Ideal S8x256x256 .f32) (h : Fin 4) (d : Fin 64) :
    (gates z (ix4 b s h d) : EReal) = Ffn.silu (z (ix3 b s ⟨h.val * 64 + d.val, by omega⟩)) := by
  unfold Ffn.silu
  rw [zero_sub]
  pointwise [gates]

/-- A lane of the gated heads. -/
theorem headed_at (f r z : FVec Ideal S8x256x256 .f32) (g : FVec Ideal S64 .f32) (j : Fin 256) :
    (headed (normed (summed f r) g) (gates z) (ix3 b s j) : EReal)
      = Ffn.headed (fun l => f (ix3 b s l) + r (ix3 b s l)) (fun l => z (ix3 b s l)) (fun l => g (ix1 l)) j := by
  have e : ∀ n z : FVec Ideal S8x256x4x64 .f32, (headed n z (ix3 b s j) : EReal)
      = (n (ix4 b s ⟨j.val / 64, by omega⟩ ⟨j.val % 64, by omega⟩) : EReal) * z (ix4 b s ⟨j.val / 64, by omega⟩ ⟨j.val % 64, by omega⟩) := by
    intro n z
    pointwise [headed]
  rw [e, normed_at, gates_at]
  have hj : (⟨j.val / 64 * 64 + j.val % 64, by omega⟩ : Fin 256) = j := Fin.ext (Nat.div_add_mod' j.val 64)
  simp only [hj]
  rfl

/-- An entry of the four mixers side by side. -/
theorem sides_at (ya yd ym yn : FVec Ideal S8x256x256 .f32) (l : Fin 1024) : (sides ya yd ym yn (ix3 b s l) : EReal)
    = Ffn.four (fun l => ya (ix3 b s l)) (fun l => yd (ix3 b s l)) (fun l => ym (ix3 b s l)) (fun l => yn (ix3 b s l)) l := by
  pointwise [sides]
  rfl

/-- An entry after the projection. -/
theorem mixed_at (x cat : FVec Ideal S8x256x1024 .f32) (mm : FVec Ideal S1x3x1024 .f32) (w : FVec Ideal S1024x1024 .f32) (j : Fin 1024) :
    (mixed x cat mm w (ix3 b s j) : EReal) = Ffn.mix (fun l => x (ix3 b s l)) (fun l => mm (ix3 0 2 l)) (fun l => cat (ix3 b s l)) (fun l j => w (ix2 l j)) j := by
  pointwise [mixed]
  rfl

/-- A context token's row of the reference. -/
theorem ctx_at (xc : FVec Ideal S8x256x1024 .f32) (yac : FVec Ideal S8x256x256 .f32) (ofc : FVec Ideal S8x256x256 .f32) (obc : FVec Ideal S8x256x256 .f32) (zc : FVec Ideal S8x256x256 .f32) (ymc : FVec Ideal S8x256x256 .f32) (ync : FVec Ideal S8x256x256 .f32)
    (mmc : FVec Ideal S1x3x1024 .f32) (mfc : FVec Ideal S1x3x1024 .f32) (g : FVec Ideal S64 .f32) (w : FVec Ideal S1024x1024 .f32) (n3 : FVec Ideal S1024 .f32) (wg : FVec Ideal S1024x2816 .f32) (wu : FVec Ideal S1024x2816 .f32) (wd : FVec Ideal S2816x1024 .f32) (j : Fin 1024) :
    (Cert.FirstReferenceIdeal.First.stepped (base xc yac ofc obc zc ymc ync mmc g w) (Cert.FirstReferenceIdeal.First.net (base xc yac ofc obc zc ymc ync mmc g w) mfc n3 wg wu wd) mfc (ix3 b s j) : EReal)
      = Cert.BothIdeal.Both.ctxRow xc yac ofc obc zc ymc ync mmc mfc g w n3 wg wu wd b s j := by
  simp only [Cert.FirstReferenceIdeal.First.stepped_at, Cert.FirstReferenceIdeal.First.net_at, base, mixed_at, sides_at, headed_at]
  rfl

end

/-- A latent token's row of the reference. -/
theorem lat_at (b : Fin 8) (s : Fin 4096) (x : FVec Ideal S8x4096x1024 .f32) (ya : FVec Ideal S8x4096x256 .f32) (of : FVec Ideal S8x4096x256 .f32) (ob : FVec Ideal S8x4096x256 .f32) (z : FVec Ideal S8x4096x256 .f32) (ym : FVec Ideal S8x4096x256 .f32) (yn : FVec Ideal S8x4096x256 .f32)
    (mm : FVec Ideal S8x3x1024 .f32) (mf : FVec Ideal S8x3x1024 .f32) (g : FVec Ideal S64 .f32) (w : FVec Ideal S1024x1024 .f32) (n3 : FVec Ideal S1024 .f32) (wg : FVec Ideal S1024x2816 .f32) (wu : FVec Ideal S1024x2816 .f32) (wd : FVec Ideal S2816x1024 .f32) (j : Fin 1024) :
    (Cert.MixReferenceIdeal.Mix.stepped (Cert.MixReferenceIdeal.Mix.base x ya of ob z ym yn mm g w) (Cert.MixReferenceIdeal.Mix.net (Cert.MixReferenceIdeal.Mix.base x ya of ob z ym yn mm g w) mf n3 wg wu wd) mf (ix3 b s j) : EReal)
      = Cert.BothIdeal.Both.latRow x ya of ob z ym yn mm mf g w n3 wg wu wd b s j := by
  simp only [Cert.MixReferenceIdeal.Mix.stepped_at, Cert.MixReferenceIdeal.Mix.net_at, Cert.MixReferenceIdeal.Mix.base, Cert.MixReferenceIdeal.Mix.mixed_at, Cert.MixReferenceIdeal.Mix.sides_at, Cert.MixReferenceIdeal.Mix.headed_at]
  rfl

/-- Every row of the reference. -/
theorem result_eq (xc : FVec Ideal S8x256x1024 .f32) (x : FVec Ideal S8x4096x1024 .f32)
    (yac : FVec Ideal S8x256x256 .f32) (ya : FVec Ideal S8x4096x256 .f32) (ofc : FVec Ideal S8x256x256 .f32) (of : FVec Ideal S8x4096x256 .f32) (obc : FVec Ideal S8x256x256 .f32) (ob : FVec Ideal S8x4096x256 .f32)
    (zc : FVec Ideal S8x256x256 .f32) (z : FVec Ideal S8x4096x256 .f32) (ymc : FVec Ideal S8x256x256 .f32) (ym : FVec Ideal S8x4096x256 .f32) (ync : FVec Ideal S8x256x256 .f32) (yn : FVec Ideal S8x4096x256 .f32)
    (mmc : FVec Ideal S1x3x1024 .f32) (mm : FVec Ideal S8x3x1024 .f32) (mfc : FVec Ideal S1x3x1024 .f32) (mf : FVec Ideal S8x3x1024 .f32)
    (g : FVec Ideal S64 .f32) (w : FVec Ideal S1024x1024 .f32) (n3 : FVec Ideal S1024 .f32) (wg wu : FVec Ideal S1024x2816 .f32) (wd : FVec Ideal S2816x1024 .f32) :
    result xc x yac ya ofc of obc ob zc z ymc ym ync yn mmc mm mfc mf g w n3 wg wu wd = Cert.BothIdeal.Both.layer xc x yac ya ofc of obc ob zc z ymc ym ync yn mmc mm mfc mf g w n3 wg wu wd := by
  funext y
  idx_vars y
  have e : ∀ (A : FVec Ideal S8x256x1024 .f32) (B : FVec Ideal S8x4096x1024 .f32),
      ((concatenate S8x4352x1024 1 [⟨S8x256x1024, A⟩, ⟨S8x4096x1024, B⟩] concatenates_S8x256x1024_S8x4096x1024_S8x4352x1024_d1 : FVec Ideal S8x4352x1024 .f32) (ix3 y0 y1 y2) : EReal)
        = if h : y1.val < 256 then A (ix3 y0 ⟨y1.val, h⟩ y2) else B (ix3 y0 ⟨y1.val - 256, by omega⟩ y2) := by
    intro A B
    pointwise []
  refine (e _ _).trans ?_
  show _ = Cert.BothIdeal.Both.token xc x yac ya ofc of obc ob zc z ymc ym ync yn mmc mm mfc mf g w n3 wg wu wd y0 y1 y2
  unfold Cert.BothIdeal.Both.token
  by_cases h : y1.val < 256
  · rw [dif_pos h, dif_pos h]; exact ctx_at _ _ xc yac ofc obc zc ymc ync mmc mfc g w n3 wg wu wd _
  · rw [dif_neg h, dif_neg h]; exact lat_at _ _ x ya of ob z ym yn mm mf g w n3 wg wu wd _

/-- The run's result is that. -/
theorem res_eq (m : (ℓ : Loc nD τ sig) → Buf (Elt Ideal) ℓ) (c : Dev nD) :
    Value.res_main_v114 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := rfl

end Cert.BothReferenceIdeal.Both
end
-- ==== Proof.BothClaim.lean ====
/- The first layer's output half: the kernel computes the reference's. -/
module

public import proofs.«01_k».proof.Defs
public import proofs.«01_k».proof.Proof.BothValue
public import proofs.«01_k».proof.Proof.BothRef
public import proofs.«01_k».proof.Proof.Gen.BothIdeal.Frame
public import proofs.«01_k».proof.Proof.Gen.BothReferenceIdeal

@[expose] public section

set_option maxRecDepth 16384

noncomputable section

open Idealize.ShloMosaic Idealize.ShloMosaic.TcCoe Idealize.SL.Sem

namespace Cert.Both
/-- The reference's term, of arrays equal to the kernel's arguments, is the kernel's result array. -/
theorem reference_eq (m : (ℓ : Loc Cert.BothIdeal.nD Cert.BothIdeal.τ Cert.BothIdeal.sig) → Buf (Elt Ideal) ℓ) (c : Dev Cert.BothIdeal.nD) (T : FVec Ideal Cert.BothReferenceIdeal.S8x4352x1024 .f32)
    (a0 : FVec Ideal Cert.BothReferenceIdeal.S8x256x1024 .f32)
    (a1 : FVec Ideal Cert.BothReferenceIdeal.S8x4096x1024 .f32)
    (a2 : FVec Ideal Cert.BothReferenceIdeal.S8x256x256 .f32)
    (a3 : FVec Ideal Cert.BothReferenceIdeal.S8x4096x256 .f32)
    (a4 : FVec Ideal Cert.BothReferenceIdeal.S8x256x256 .f32)
    (a5 : FVec Ideal Cert.BothReferenceIdeal.S8x4096x256 .f32)
    (a6 : FVec Ideal Cert.BothReferenceIdeal.S8x256x256 .f32)
    (a7 : FVec Ideal Cert.BothReferenceIdeal.S8x4096x256 .f32)
    (a8 : FVec Ideal Cert.BothReferenceIdeal.S8x256x256 .f32)
    (a9 : FVec Ideal Cert.BothReferenceIdeal.S8x4096x256 .f32)
    (a10 : FVec Ideal Cert.BothReferenceIdeal.S8x256x256 .f32)
    (a11 : FVec Ideal Cert.BothReferenceIdeal.S8x4096x256 .f32)
    (a12 : FVec Ideal Cert.BothReferenceIdeal.S8x256x256 .f32)
    (a13 : FVec Ideal Cert.BothReferenceIdeal.S8x4096x256 .f32)
    (a14 : FVec Ideal Cert.BothReferenceIdeal.S1x3x1024 .f32)
    (a15 : FVec Ideal Cert.BothReferenceIdeal.S8x3x1024 .f32)
    (a16 : FVec Ideal Cert.BothReferenceIdeal.S1x3x1024 .f32)
    (a17 : FVec Ideal Cert.BothReferenceIdeal.S8x3x1024 .f32)
    (a18 : FVec Ideal Cert.BothReferenceIdeal.S64 .f32)
    (a19 : FVec Ideal Cert.BothReferenceIdeal.S1024x1024 .f32)
    (a20 : FVec Ideal Cert.BothReferenceIdeal.S1024 .f32)
    (a21 : FVec Ideal Cert.BothReferenceIdeal.S1024x2816 .f32)
    (a22 : FVec Ideal Cert.BothReferenceIdeal.S1024x2816 .f32)
    (a23 : FVec Ideal Cert.BothReferenceIdeal.S2816x1024 .f32)
    (hT : T = Cert.BothReferenceIdeal.Both.result a0 a1 a2 a3 a4 a5 a6 a7 a8 a9 a10 a11 a12 a13 a14 a15 a16 a17 a18 a19 a20 a21 a22 a23)
    (h0 : a0 = (m ((c : Thread Cert.BothIdeal.nD Cert.BothIdeal.τ).loc Cert.BothIdeal.main_arg0)))
    (h1 : a1 = (m ((c : Thread Cert.BothIdeal.nD Cert.BothIdeal.τ).loc Cert.BothIdeal.main_arg1)))
    (h2 : a2 = (m ((c : Thread Cert.BothIdeal.nD Cert.BothIdeal.τ).loc Cert.BothIdeal.main_arg2)))
    (h3 : a3 = (m ((c : Thread Cert.BothIdeal.nD Cert.BothIdeal.τ).loc Cert.BothIdeal.main_arg3)))
    (h4 : a4 = (m ((c : Thread Cert.BothIdeal.nD Cert.BothIdeal.τ).loc Cert.BothIdeal.main_arg4)))
    (h5 : a5 = (m ((c : Thread Cert.BothIdeal.nD Cert.BothIdeal.τ).loc Cert.BothIdeal.main_arg5)))
    (h6 : a6 = (m ((c : Thread Cert.BothIdeal.nD Cert.BothIdeal.τ).loc Cert.BothIdeal.main_arg6)))
    (h7 : a7 = (m ((c : Thread Cert.BothIdeal.nD Cert.BothIdeal.τ).loc Cert.BothIdeal.main_arg7)))
    (h8 : a8 = (m ((c : Thread Cert.BothIdeal.nD Cert.BothIdeal.τ).loc Cert.BothIdeal.main_arg8)))
    (h9 : a9 = (m ((c : Thread Cert.BothIdeal.nD Cert.BothIdeal.τ).loc Cert.BothIdeal.main_arg9)))
    (h10 : a10 = (m ((c : Thread Cert.BothIdeal.nD Cert.BothIdeal.τ).loc Cert.BothIdeal.main_arg10)))
    (h11 : a11 = (m ((c : Thread Cert.BothIdeal.nD Cert.BothIdeal.τ).loc Cert.BothIdeal.main_arg11)))
    (h12 : a12 = (m ((c : Thread Cert.BothIdeal.nD Cert.BothIdeal.τ).loc Cert.BothIdeal.main_arg12)))
    (h13 : a13 = (m ((c : Thread Cert.BothIdeal.nD Cert.BothIdeal.τ).loc Cert.BothIdeal.main_arg13)))
    (h14 : a14 = (m ((c : Thread Cert.BothIdeal.nD Cert.BothIdeal.τ).loc Cert.BothIdeal.main_arg14)))
    (h15 : a15 = (m ((c : Thread Cert.BothIdeal.nD Cert.BothIdeal.τ).loc Cert.BothIdeal.main_arg15)))
    (h16 : a16 = (m ((c : Thread Cert.BothIdeal.nD Cert.BothIdeal.τ).loc Cert.BothIdeal.main_arg16)))
    (h17 : a17 = (m ((c : Thread Cert.BothIdeal.nD Cert.BothIdeal.τ).loc Cert.BothIdeal.main_arg17)))
    (h18 : a18 = (m ((c : Thread Cert.BothIdeal.nD Cert.BothIdeal.τ).loc Cert.BothIdeal.main_arg18)))
    (h19 : a19 = (m ((c : Thread Cert.BothIdeal.nD Cert.BothIdeal.τ).loc Cert.BothIdeal.main_arg19)))
    (h20 : a20 = (m ((c : Thread Cert.BothIdeal.nD Cert.BothIdeal.τ).loc Cert.BothIdeal.main_arg20)))
    (h21 : a21 = (m ((c : Thread Cert.BothIdeal.nD Cert.BothIdeal.τ).loc Cert.BothIdeal.main_arg21)))
    (h22 : a22 = (m ((c : Thread Cert.BothIdeal.nD Cert.BothIdeal.τ).loc Cert.BothIdeal.main_arg22)))
    (h23 : a23 = (m ((c : Thread Cert.BothIdeal.nD Cert.BothIdeal.τ).loc Cert.BothIdeal.main_arg23))) :
    T = (Cert.BothIdeal.Gen.dats m 0 c).arrAt 17 (Cert.BothIdeal.cfgs 0).N := by
  subst h0 h1 h2 h3 h4 h5 h6 h7 h8 h9 h10 h11 h12 h13 h14 h15 h16 h17 h18 h19 h20 h21 h22 h23
  exact hT.trans ((Cert.BothReferenceIdeal.Both.result_eq _ _ _ _ _ _ _ _ _ _ _ _ _ _ _ _ _ _ _ _ _ _ _ _ ).trans (Cert.BothIdeal.Both.final m c).symm)

set_option maxHeartbeats 2000000 in
/-- The kernel and the reference end with equal results. -/
theorem algebraic : Cert.algebraic_BothIdeal_BothReferenceIdeal (hBothIdeal := Cert.BothIdeal.Gen.facts) (hBothReferenceIdeal := Cert.BothReferenceIdeal.Gen.facts) := by
  intro m g m' g' _ hagree
  refine ⟨fun c => (Cert.BothIdeal.Gen.dats m 0 c).arrAt 17 (Cert.BothIdeal.cfgs 0).N, ?_, ?_⟩
  · refine θ_run_mono (θ_run_and (Cert.BothIdeal.Gen.run_main m g) (Cert.BothIdeal.Gen.frame m g)) ?_
    rintro r ⟨h, hf⟩ c
    exact ⟨(h c).1 17, hf.1 c⟩
  · refine θ_run_mono (Cert.BothReferenceIdeal.Value.run m' g') ?_
    intro r h c
    exact ⟨(h c).1.trans (reference_eq m c _ _ _ _ _ _ _ _ _ _ _ _ _ _ _ _ _ _ _ _ _ _ _ _ _ (Cert.BothReferenceIdeal.Both.res_eq m' c)
      (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2), (h c).2⟩

end Cert.Both
end
-- ==== Proof.ProjRow.lean ====
/- The input projection: a token's modulated norm against a column of the weights. -/
module

public import proofs.«01_k».proof.Proof.Ffn

@[expose] public section

set_option maxRecDepth 16384

noncomputable section

open Idealize.ShloMosaic Idealize.ShloMosaic.TcCoe Idealize.SL.Sem

namespace Cert.Ffn
/-- The scale of the neighbourhood's queries, as the programs hold it. -/
def scaleQ : EReal := Ideal.ofBits FTy.f32 1043900987#32

/-- A token's modulated norm against a column. -/
def against (x g sh sc w : Fin 1024 → EReal) : EReal := ∑ l : Fin 1024, pre x g sh sc l * w l

/-- Equal entries give equal products. -/
theorem against_congr {x x' g g' sh sh' sc sc' w w' : Fin 1024 → EReal} (h0 : ∀ l, x l = x' l) (h1 : ∀ l, g l = g' l) (h2 : ∀ l, sh l = sh' l)
    (h3 : ∀ l, sc l = sc' l) (h4 : ∀ l, w l = w' l) : against x g sh sc w = against x' g' sh' sc' w' := by
  obtain rfl := funext h0; obtain rfl := funext h1; obtain rfl := funext h2; obtain rfl := funext h3; obtain rfl := funext h4
  rfl

/-- Against a column of zeros the product is zero. -/
theorem against_zero (x g sh sc : Fin 1024 → EReal) : against x g sh sc (fun _ => 0) = 0 := by
  unfold against
  simp

end Cert.Ffn
end
-- ==== Proof.ProjBody.lean ====
/- The input projection: what one tile of tokens of two batches computes from its blocks, entry by entry. -/
module

public import proofs.«01_k».proof.Proof.ProjRow
public import proofs.«01_k».proof.Proof.Gen.ProjectIdeal.Frame
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjectIdeal.Proj
open Cert.ProjectIdeal Cert.ProjectIdeal.Gen

/-- A product's entry for a token of the first batch. -/
theorem pay6_at0 (v : FVec Ideal S1x1024 .f32) (h : FVec Ideal S256x1024 .bf16) (x : FVec Ideal S256x1024 .f32) (sh : FVec Ideal S1x1024 .f32)
    (mm : FVec Ideal S1x3x1024 .f32) (w : FVec Ideal S1024x2944 .bf16) (r : Fin 256) (j : Fin 2944) :
    (k0_pay6 (F := Ideal) v h x sh mm w (ix2 ⟨r.val, by omega⟩ j) : EReal) = ∑ l : Fin 1024, (h (ix2 r l) : EReal) * w (ix2 l j) := by
  pointwise [k0_pay6]

/-- A product's entry for a token of the second batch. -/
theorem pay6_at1 (v : FVec Ideal S1x1024 .f32) (h : FVec Ideal S256x1024 .bf16) (x : FVec Ideal S256x1024 .f32) (sh : FVec Ideal S1x1024 .f32)
    (mm : FVec Ideal S1x3x1024 .f32) (w : FVec Ideal S1024x2944 .bf16) (r : Fin 256) (j : Fin 2944) :
    (k0_pay6 (F := Ideal) v h x sh mm w (ix2 ⟨256 + r.val, by omega⟩ j) : EReal)
      = Ffn.against (fun l => x (ix2 r l)) (fun l => v (ix2 0 l)) (fun l => sh (ix2 0 l)) (fun l => mm (ix3 0 1 l)) (fun l => w (ix2 l j)) := by
  pointwise [k0_pay6]; rfl

/-- The first batch's modulated norm. -/
theorem pay3_at (g : FVec Ideal S1x1024 .f32) (x : FVec Ideal S1x256x1024 .f32) (mm mm' : FVec Ideal S1x3x1024 .f32) (r : Fin 256) (l : Fin 1024) :
    (k0_pay3 (F := Ideal) g x mm mm' (ix2 r l) : EReal)
      = Ffn.pre (fun l => x (ix3 0 r l)) (fun l => g (ix2 0 l)) (fun l => mm (ix3 0 0 l)) (fun l => mm' (ix3 0 1 l)) l := by
  pointwise [k0_pay3, k0_pay2]; rfl

/-- The norm's weights. -/
theorem pay2_at (g : FVec Ideal S1x1024 .f32) (l : Fin 1024) : (k0_pay2 (F := Ideal) g (ix2 0 l) : EReal) = g (ix2 0 l) := by
  pointwise [k0_pay2]

/-- The second batch's rows. -/
theorem pay4_at (x : FVec Ideal S1x256x1024 .f32) (r : Fin 256) (l : Fin 1024) : (k0_pay4 (F := Ideal) x (ix2 r l) : EReal) = x (ix3 0 r l) := by
  pointwise [k0_pay4]

/-- The second batch's shifts. -/
theorem pay5_at (mm : FVec Ideal S1x3x1024 .f32) (l : Fin 1024) : (k0_pay5 (F := Ideal) mm (ix2 0 l) : EReal) = mm (ix3 0 0 l) := by
  pointwise [k0_pay5]

/-- The first batch's projected entry. -/
theorem first_at (g : FVec Ideal S1x1024 .f32) (x : FVec Ideal S1x256x1024 .f32) (a a' : FVec Ideal S1x3x1024 .f32) (v sh : FVec Ideal S1x1024 .f32)
    (X : FVec Ideal S256x1024 .f32) (mm : FVec Ideal S1x3x1024 .f32) (w : FVec Ideal S1024x2944 .bf16) (r : Fin 256) (j : Fin 2944) :
    (k0_pay16 (F := Ideal) v (k0_pay3 g x a a') X sh mm w (ix2 r j) : EReal)
      = Ffn.against (fun l => x (ix3 0 r l)) (fun l => g (ix2 0 l)) (fun l => a (ix3 0 0 l)) (fun l => a' (ix3 0 1 l)) (fun l => w (ix2 l j)) := by
  have e : ∀ V : FVec Ideal S512x2944 .f32, ((extractStridedSlice S256x2944 ![0, 0] V slices_S512x2944_o0_0_S256x2944 : FVec Ideal S256x2944 .f32) (ix2 r j) : EReal)
      = V (ix2 ⟨r.val, by omega⟩ j) := by
    intro V
    pointwise []
  refine (e _).trans ((pay6_at0 _ _ _ _ _ _ r j).trans ?_)
  simp only [pay3_at]
  rfl

/-- The second batch's projected entry. -/
theorem second_at (g : FVec Ideal S1x1024 .f32) (h : FVec Ideal S256x1024 .bf16) (x : FVec Ideal S1x256x1024 .f32) (a mm : FVec Ideal S1x3x1024 .f32)
    (w : FVec Ideal S1024x2944 .bf16) (r : Fin 256) (j : Fin 2944) :
    (k0_pay46 (F := Ideal) (k0_pay6 (k0_pay2 g) h (k0_pay4 x) (k0_pay5 a) mm w) (ix2 r j) : EReal)
      = Ffn.against (fun l => x (ix3 0 r l)) (fun l => g (ix2 0 l)) (fun l => a (ix3 0 0 l)) (fun l => mm (ix3 0 1 l)) (fun l => w (ix2 l j)) := by
  have e : ∀ V : FVec Ideal S512x2944 .f32, (k0_pay46 (F := Ideal) V (ix2 r j) : EReal) = V (ix2 ⟨256 + r.val, by omega⟩ j) := by
    intro V
    pointwise [k0_pay46]
  refine (e _).trans ((pay6_at1 _ _ _ _ _ _ r j).trans ?_)
  simp only [pay2_at, pay4_at, pay5_at]

/-- The delta rule's queries, keys and values as stored for the second batch. -/
theorem pay52_at (v : FVec Ideal S256x2944 .f32) (r : Fin 256) (j : Fin 768) : (k0_pay52 (F := Ideal) v (ix3 0 r j) : EReal) = (v (ix2 r ⟨512 + j.val, by omega⟩) : EReal) := by
  pointwise [k0_pay52]

/-- The delta rule's queries, keys and values as stored for the first batch. -/
theorem pay26_at (v : FVec Ideal S256x2944 .f32) (r : Fin 256) (j : Fin 768) : (k0_pay26 (F := Ideal) v (ix3 0 r j) : EReal) = (v (ix2 r ⟨512 + j.val, by omega⟩) : EReal) := by
  pointwise [k0_pay26]

/-- The delta rule's gates as stored for the second batch. -/
theorem pay53_at (v : FVec Ideal S256x2944 .f32) (r : Fin 256) (j : Fin 256) : (k0_pay53 (F := Ideal) v (ix3 0 r j) : EReal) = (v (ix2 r ⟨1280 + j.val, by omega⟩) : EReal) := by
  pointwise [k0_pay53]

/-- The delta rule's gates as stored for the first batch. -/
theorem pay27_at (v : FVec Ideal S256x2944 .f32) (r : Fin 256) (j : Fin 256) : (k0_pay27 (F := Ideal) v (ix3 0 r j) : EReal) = (v (ix2 r ⟨1280 + j.val, by omega⟩) : EReal) := by
  pointwise [k0_pay27]

/-- The delta rule's decays and rates as stored for the second batch. -/
theorem pay54_at (v : FVec Ideal S256x2944 .f32) (r : Fin 256) (j : Fin 128) : (k0_pay54 (F := Ideal) v (ix3 0 r j) : EReal) = (v (ix2 r ⟨1536 + j.val, by omega⟩) : EReal) := by
  pointwise [k0_pay54]

/-- The delta rule's decays and rates as stored for the first batch. -/
theorem pay28_at (v : FVec Ideal S256x2944 .f32) (r : Fin 256) (j : Fin 128) : (k0_pay28 (F := Ideal) v (ix3 0 r j) : EReal) = (v (ix2 r ⟨1536 + j.val, by omega⟩) : EReal) := by
  pointwise [k0_pay28]

/-- The neighbourhood's scaled queries as stored for the second batch. -/
theorem pay55_at (v : FVec Ideal S256x2944 .f32) (r : Fin 256) (j : Fin 256) : (k0_pay55 (F := Ideal) v (ix3 0 r j) : EReal) = (v (ix2 r ⟨2176 + j.val, by omega⟩) : EReal) * Ffn.scaleQ := by
  pointwise [k0_pay55]; rfl

/-- The neighbourhood's scaled queries as stored for the first batch. -/
theorem pay30_at (v : FVec Ideal S256x2944 .f32) (r : Fin 256) (j : Fin 256) : (k0_pay30 (F := Ideal) (k0_pay29 v) (ix3 0 r j) : EReal) = (v (ix2 r ⟨2176 + j.val, by omega⟩) : EReal) * Ffn.scaleQ := by
  pointwise [k0_pay30, k0_pay29]; rfl

/-- The neighbourhood's keys and values as stored for the second batch. -/
theorem pay56_at (v : FVec Ideal S256x2944 .f32) (r : Fin 256) (j : Fin 512) : (k0_pay56 (F := Ideal) v (ix3 0 r j) : EReal) = (v (ix2 r ⟨2432 + j.val, by omega⟩) : EReal) := by
  pointwise [k0_pay56]

/-- The neighbourhood's keys and values as stored for the first batch. -/
theorem pay31_at (v : FVec Ideal S256x2944 .f32) (r : Fin 256) (j : Fin 512) : (k0_pay31 (F := Ideal) v (ix3 0 r j) : EReal) = (v (ix2 r ⟨2432 + j.val, by omega⟩) : EReal) := by
  pointwise [k0_pay31]

end Cert.ProjectIdeal.Proj
end
-- ==== Proof.ProjTile.lean ====
/- The input projection: what one tile stores, from the blocks it reads. -/
module

public import proofs.«01_k».proof.Proof.ProjBody

@[expose] public section

set_option maxRecDepth 16384

noncomputable section

open Idealize.ShloMosaic Idealize.ShloMosaic.TcCoe Idealize.SL.Sem

namespace Cert.ProjectIdeal.Proj
open Cert.ProjectIdeal Cert.ProjectIdeal.Gen

/-- A token's projected entry in one of the two batches, from the blocks. -/
def blockCol (u0 : FVec Ideal S2x256x1024 .f32) (u1 : FVec Ideal S2x3x1024 .f32) (u2 : FVec Ideal S1x1024 .f32) (u3 : FVec Ideal S1024x2944 .bf16) (b : Fin 2) (r : Fin 256) (j : Fin 2944) : EReal :=
  Ffn.against (fun l => u0 (ix3 b r l)) (fun l => u2 (ix2 0 l)) (fun l => u1 (ix3 b 0 l)) (fun l => u1 (ix3 b 1 l)) (fun l => u3 (ix2 l j))

set_option maxHeartbeats 2000000 in
/-- The delta rule's queries, keys and values of a tile. -/
theorem tile_qkv (u0 : FVec Ideal S2x256x1024 .f32) (u1 : FVec Ideal S2x3x1024 .f32) (u2 : FVec Ideal S1x1024 .f32) (u3 : FVec Ideal S1024x2944 .bf16)
    (u4 u5 : FVec Ideal S256x128 .f32) (u6 : FVec Ideal S1x256 .f32) (u7 : FVec Ideal S1x128 .f32) (u8 : FVec Ideal S256x512 .bf16)
    (u9 u10 : FVec Ideal S128x512 .bf16) (u11 : FVec Ideal S1x512 .f32) (u12 u13 : FVec Ideal S256x128 .f32) (y : S2x256x768.Idx) :
    (out0_16 (F := Ideal) u0 u1 u2 u3 u4 u5 u6 u7 u8 u9 u10 u11 u12 u13 y : EReal) = blockCol u0 u1 u2 u3 ⟨(y 0).val, (y 0).isLt⟩ ⟨(y 1).val, (y 1).isLt⟩
      ⟨512 + (y 2).val, by have : (y 2).val < 768 := (y 2).isLt; omega⟩ := by
  unfold_out out0_16
  canon_tiles x hx
  case piece0 =>
    idx_vars x
    obtain rfl : x0 = 0 := Subsingleton.elim _ _
    refine (pay52_at _ x1 x2).trans ?_
    refine (second_at _ _ _ _ _ _ x1 _).trans ?_
    unfold blockCol
    refine Ffn.against_congr ?_ ?_ ?_ ?_ ?_
    all_goals intros
    all_goals pointwise []
    all_goals blk_ext
  case piece1 =>
    idx_vars x
    obtain rfl : x0 = 0 := Subsingleton.elim _ _
    refine (pay26_at _ x1 x2).trans ?_
    refine (first_at _ _ _ _ _ _ _ _ _ x1 _).trans ?_
    unfold blockCol
    refine Ffn.against_congr ?_ ?_ ?_ ?_ ?_
    all_goals intros
    all_goals pointwise []
    all_goals blk_ext

set_option maxHeartbeats 2000000 in
/-- The delta rule's gates of a tile. -/
theorem tile_gate (u0 : FVec Ideal S2x256x1024 .f32) (u1 : FVec Ideal S2x3x1024 .f32) (u2 : FVec Ideal S1x1024 .f32) (u3 : FVec Ideal S1024x2944 .bf16)
    (u4 u5 : FVec Ideal S256x128 .f32) (u6 : FVec Ideal S1x256 .f32) (u7 : FVec Ideal S1x128 .f32) (u8 : FVec Ideal S256x512 .bf16)
    (u9 u10 : FVec Ideal S128x512 .bf16) (u11 : FVec Ideal S1x512 .f32) (u12 u13 : FVec Ideal S256x128 .f32) (y : S2x256x256.Idx) :
    (out0_17 (F := Ideal) u0 u1 u2 u3 u4 u5 u6 u7 u8 u9 u10 u11 u12 u13 y : EReal) = blockCol u0 u1 u2 u3 ⟨(y 0).val, (y 0).isLt⟩ ⟨(y 1).val, (y 1).isLt⟩
      ⟨1280 + (y 2).val, by have : (y 2).val < 256 := (y 2).isLt; omega⟩ := by
  unfold_out out0_17
  canon_tiles x hx
  case piece0 =>
    idx_vars x
    obtain rfl : x0 = 0 := Subsingleton.elim _ _
    refine (pay53_at _ x1 x2).trans ?_
    refine (second_at _ _ _ _ _ _ x1 _).trans ?_
    unfold blockCol
    refine Ffn.against_congr ?_ ?_ ?_ ?_ ?_
    all_goals intros
    all_goals pointwise []
    all_goals blk_ext
  case piece1 =>
    idx_vars x
    obtain rfl : x0 = 0 := Subsingleton.elim _ _
    refine (pay27_at _ x1 x2).trans ?_
    refine (first_at _ _ _ _ _ _ _ _ _ x1 _).trans ?_
    unfold blockCol
    refine Ffn.against_congr ?_ ?_ ?_ ?_ ?_
    all_goals intros
    all_goals pointwise []
    all_goals blk_ext

set_option maxHeartbeats 2000000 in
/-- The delta rule's decays and rates of a tile. -/
theorem tile_rates (u0 : FVec Ideal S2x256x1024 .f32) (u1 : FVec Ideal S2x3x1024 .f32) (u2 : FVec Ideal S1x1024 .f32) (u3 : FVec Ideal S1024x2944 .bf16)
    (u4 u5 : FVec Ideal S256x128 .f32) (u6 : FVec Ideal S1x256 .f32) (u7 : FVec Ideal S1x128 .f32) (u8 : FVec Ideal S256x512 .bf16)
    (u9 u10 : FVec Ideal S128x512 .bf16) (u11 : FVec Ideal S1x512 .f32) (u12 u13 : FVec Ideal S256x128 .f32) (y : S2x256x128.Idx) :
    (out0_18 (F := Ideal) u0 u1 u2 u3 u4 u5 u6 u7 u8 u9 u10 u11 u12 u13 y : EReal) = blockCol u0 u1 u2 u3 ⟨(y 0).val, (y 0).isLt⟩ ⟨(y 1).val, (y 1).isLt⟩
      ⟨1536 + (y 2).val, by have : (y 2).val < 128 := (y 2).isLt; omega⟩ := by
  unfold_out out0_18
  canon_tiles x hx
  case piece0 =>
    idx_vars x
    obtain rfl : x0 = 0 := Subsingleton.elim _ _
    refine (pay54_at _ x1 x2).trans ?_
    refine (second_at _ _ _ _ _ _ x1 _).trans ?_
    unfold blockCol
    refine Ffn.against_congr ?_ ?_ ?_ ?_ ?_
    all_goals intros
    all_goals pointwise []
    all_goals blk_ext
  case piece1 =>
    idx_vars x
    obtain rfl : x0 = 0 := Subsingleton.elim _ _
    refine (pay28_at _ x1 x2).trans ?_
    refine (first_at _ _ _ _ _ _ _ _ _ x1 _).trans ?_
    unfold blockCol
    refine Ffn.against_congr ?_ ?_ ?_ ?_ ?_
    all_goals intros
    all_goals pointwise []
    all_goals blk_ext

set_option maxHeartbeats 2000000 in
/-- The neighbourhood's scaled queries of a tile. -/
theorem tile_nq (u0 : FVec Ideal S2x256x1024 .f32) (u1 : FVec Ideal S2x3x1024 .f32) (u2 : FVec Ideal S1x1024 .f32) (u3 : FVec Ideal S1024x2944 .bf16)
    (u4 u5 : FVec Ideal S256x128 .f32) (u6 : FVec Ideal S1x256 .f32) (u7 : FVec Ideal S1x128 .f32) (u8 : FVec Ideal S256x512 .bf16)
    (u9 u10 : FVec Ideal S128x512 .bf16) (u11 : FVec Ideal S1x512 .f32) (u12 u13 : FVec Ideal S256x128 .f32) (y : S2x256x256.Idx) :
    (out0_19 (F := Ideal) u0 u1 u2 u3 u4 u5 u6 u7 u8 u9 u10 u11 u12 u13 y : EReal) = blockCol u0 u1 u2 u3 ⟨(y 0).val, (y 0).isLt⟩ ⟨(y 1).val, (y 1).isLt⟩
      ⟨2176 + (y 2).val, by have : (y 2).val < 256 := (y 2).isLt; omega⟩ * Ffn.scaleQ := by
  unfold_out out0_19
  canon_tiles x hx
  case piece0 =>
    idx_vars x
    obtain rfl : x0 = 0 := Subsingleton.elim _ _
    refine (pay55_at _ x1 x2).trans ?_
    refine congrArg (fun e : EReal => e * Ffn.scaleQ) ?_
    refine (second_at _ _ _ _ _ _ x1 _).trans ?_
    unfold blockCol
    refine Ffn.against_congr ?_ ?_ ?_ ?_ ?_
    all_goals intros
    all_goals pointwise []
    all_goals blk_ext
  case piece1 =>
    idx_vars x
    obtain rfl : x0 = 0 := Subsingleton.elim _ _
    refine (pay30_at _ x1 x2).trans ?_
    refine congrArg (fun e : EReal => e * Ffn.scaleQ) ?_
    refine (first_at _ _ _ _ _ _ _ _ _ x1 _).trans ?_
    unfold blockCol
    refine Ffn.against_congr ?_ ?_ ?_ ?_ ?_
    all_goals intros
    all_goals pointwise []
    all_goals blk_ext

set_option maxHeartbeats 2000000 in
/-- The neighbourhood's keys and values of a tile. -/
theorem tile_nkv (u0 : FVec Ideal S2x256x1024 .f32) (u1 : FVec Ideal S2x3x1024 .f32) (u2 : FVec Ideal S1x1024 .f32) (u3 : FVec Ideal S1024x2944 .bf16)
    (u4 u5 : FVec Ideal S256x128 .f32) (u6 : FVec Ideal S1x256 .f32) (u7 : FVec Ideal S1x128 .f32) (u8 : FVec Ideal S256x512 .bf16)
    (u9 u10 : FVec Ideal S128x512 .bf16) (u11 : FVec Ideal S1x512 .f32) (u12 u13 : FVec Ideal S256x128 .f32) (y : S2x256x512.Idx) :
    (out0_20 (F := Ideal) u0 u1 u2 u3 u4 u5 u6 u7 u8 u9 u10 u11 u12 u13 y : EReal) = blockCol u0 u1 u2 u3 ⟨(y 0).val, (y 0).isLt⟩ ⟨(y 1).val, (y 1).isLt⟩
      ⟨2432 + (y 2).val, by have : (y 2).val < 512 := (y 2).isLt; omega⟩ := by
  unfold_out out0_20
  canon_tiles x hx
  case piece0 =>
    idx_vars x
    obtain rfl : x0 = 0 := Subsingleton.elim _ _
    refine (pay56_at _ x1 x2).trans ?_
    refine (second_at _ _ _ _ _ _ x1 _).trans ?_
    unfold blockCol
    refine Ffn.against_congr ?_ ?_ ?_ ?_ ?_
    all_goals intros
    all_goals pointwise []
    all_goals blk_ext
  case piece1 =>
    idx_vars x
    obtain rfl : x0 = 0 := Subsingleton.elim _ _
    refine (pay31_at _ x1 x2).trans ?_
    refine (first_at _ _ _ _ _ _ _ _ _ x1 _).trans ?_
    unfold blockCol
    refine Ffn.against_congr ?_ ?_ ?_ ?_ ?_
    all_goals intros
    all_goals pointwise []
    all_goals blk_ext

end Cert.ProjectIdeal.Proj
end
-- ==== Proof.ProjPack.lean ====
/- The input projection: the arrays the tiles read, and every token's entries. -/
module

public import proofs.«01_k».proof.Proof.ProjRow
public import proofs.«01_k».proof.Proof.MixPack
public import proofs.«01_k».proof.Proof.FirstPack
public import proofs.«01_k».proof.Proof.BothPack
public import Idealize.ShloMosaic.Lib.StableHlo.RunRead
public import proofs.«01_k».proof.Proof.Gen.ProjectIdeal.Frame
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjectIdeal.Proj
open Cert.ProjectIdeal Cert.ProjectIdeal.Gen

/-- A token's modulated norm against a column: the context tokens come first. -/
def token (xc : FVec Ideal S8x256x1024 .f32) (x : FVec Ideal S8x4096x1024 .f32) (mmc : FVec Ideal S1x3x1024 .f32) (mm : FVec Ideal S8x3x1024 .f32)
    (g : FVec Ideal S1024 .f32) (b : Fin 8) (s : Fin 4352) (w : Fin 1024 → EReal) : EReal :=
  if h : s.val < 256 then Ffn.against (fun l => xc (ix3 b ⟨s.val, h⟩ l)) (fun l => g (ix1 l)) (fun l => mmc (ix3 0 0 l)) (fun l => mmc (ix3 0 1 l)) w
  else Ffn.against (fun l => x (ix3 b ⟨s.val - 256, by omega⟩ l)) (fun l => g (ix1 l)) (fun l => mm (ix3 b 0 l)) (fun l => mm (ix3 b 1 l)) w

/-- Against a column of zeros a token's entry is zero. -/
theorem token_zero (xc : FVec Ideal S8x256x1024 .f32) (x : FVec Ideal S8x4096x1024 .f32) (mmc : FVec Ideal S1x3x1024 .f32) (mm : FVec Ideal S8x3x1024 .f32)
    (g : FVec Ideal S1024 .f32) (b : Fin 8) (s : Fin 4352) : token xc x mmc mm g b s (fun _ => 0) = 0 := by
  unfold token
  split
  · exact Ffn.against_zero _ _ _ _
  · exact Ffn.against_zero _ _ _ _

/-- The delta rule's queries, keys and values. -/
def qkv (xc : FVec Ideal S8x256x1024 .f32) (x : FVec Ideal S8x4096x1024 .f32) (mmc : FVec Ideal S1x3x1024 .f32) (mm : FVec Ideal S8x3x1024 .f32)
    (g : FVec Ideal S1024 .f32) (w : FVec Ideal S1024x2736 .f32) : FVec Ideal S8x4352x768 .f32 :=
  fun i => (token xc x mmc mm g ⟨(i 0).val, (i 0).isLt⟩ ⟨(i 1).val, (i 1).isLt⟩
    (fun l => w (ix2 l ⟨512 + (i 2).val, by have : (i 2).val < 768 := (i 2).isLt; omega⟩)) : EReal)

/-- The delta rule's gates. -/
def gate (xc : FVec Ideal S8x256x1024 .f32) (x : FVec Ideal S8x4096x1024 .f32) (mmc : FVec Ideal S1x3x1024 .f32) (mm : FVec Ideal S8x3x1024 .f32)
    (g : FVec Ideal S1024 .f32) (w : FVec Ideal S1024x2736 .f32) : FVec Ideal S8x4352x256 .f32 :=
  fun i => (token xc x mmc mm g ⟨(i 0).val, (i 0).isLt⟩ ⟨(i 1).val, (i 1).isLt⟩
    (fun l => w (ix2 l ⟨1280 + (i 2).val, by have : (i 2).val < 256 := (i 2).isLt; omega⟩)) : EReal)

/-- The delta rule's decays and rates, then empty lanes. -/
def rates (xc : FVec Ideal S8x256x1024 .f32) (x : FVec Ideal S8x4096x1024 .f32) (mmc : FVec Ideal S1x3x1024 .f32) (mm : FVec Ideal S8x3x1024 .f32)
    (g : FVec Ideal S1024 .f32) (w : FVec Ideal S1024x2736 .f32) : FVec Ideal S8x4352x128 .f32 :=
  fun i => if h : (i 2).val < 16 then token xc x mmc mm g ⟨(i 0).val, (i 0).isLt⟩ ⟨(i 1).val, (i 1).isLt⟩ (fun l => w (ix2 l ⟨1536 + (i 2).val, by omega⟩)) else (0 : EReal)

/-- The neighbourhood's scaled queries. -/
def nq (xc : FVec Ideal S8x256x1024 .f32) (x : FVec Ideal S8x4096x1024 .f32) (mmc : FVec Ideal S1x3x1024 .f32) (mm : FVec Ideal S8x3x1024 .f32)
    (g : FVec Ideal S1024 .f32) (w : FVec Ideal S1024x2736 .f32) : FVec Ideal S8x4352x256 .bf16 :=
  fun i => (token xc x mmc mm g ⟨(i 0).val, (i 0).isLt⟩ ⟨(i 1).val, (i 1).isLt⟩
    (fun l => w (ix2 l ⟨1968 + (i 2).val, by have : (i 2).val < 256 := (i 2).isLt; omega⟩)) : EReal) * Ffn.scaleQ

/-- The neighbourhood's keys and values. -/
def nkv (xc : FVec Ideal S8x256x1024 .f32) (x : FVec Ideal S8x4096x1024 .f32) (mmc : FVec Ideal S1x3x1024 .f32) (mm : FVec Ideal S8x3x1024 .f32)
    (g : FVec Ideal S1024 .f32) (w : FVec Ideal S1024x2736 .f32) : FVec Ideal S8x4352x512 .bf16 :=
  fun i => (token xc x mmc mm g ⟨(i 0).val, (i 0).isLt⟩ ⟨(i 1).val, (i 1).isLt⟩
    (fun l => w (ix2 l ⟨2224 + (i 2).val, by have : (i 2).val < 512 := (i 2).isLt; omega⟩)) : EReal)

/-- The weights' columns in the order the tiles split them, with empty lanes between. -/
def packW (w : FVec Ideal S1024x2736 .f32) : FVec Ideal S1024x2944 .bf16 :=
  truncf .bf16 (concatenate S1024x2944 1 [
    ⟨S1024x256, shapeCast S1024x256 (transpose S1024x2x2x64 [0, 2, 1, 3] (shapeCast S1024x2x2x64 (extractStridedSlice S1024x256 ![0, 0] w slices_S1024x2736_S1024x256_0_0)
      shapeCasts_S1024x256_S1024x2x2x64) transposes_S1024x2x2x64_S1024x2x2x64_0_2_1_3) shapeCasts_S1024x2x2x64_S1024x256⟩,
    ⟨S1024x1296, extractStridedSlice S1024x1296 ![0, 256] w slices_S1024x2736_S1024x1296_0_256⟩,
    ⟨S1024x112, broadcastInDim S1024x112 ![] bcast_S_S1024x112 (constant (F := Ideal) S_ .f32 0x00000000#32)⟩,
    ⟨S1024x384, extractStridedSlice S1024x384 ![0, 1552] w slices_S1024x2736_S1024x384_0_1552⟩,
    ⟨S1024x64, broadcastInDim S1024x64 ![] bcast_S_S1024x64 (constant (F := Ideal) S_ .f32 0x00000000#32)⟩,
    ⟨S1024x32, extractStridedSlice S1024x32 ![0, 1936] w slices_S1024x2736_S1024x32_0_1936⟩,
    ⟨S1024x32, broadcastInDim S1024x32 ![] bcast_S_S1024x32 (constant (F := Ideal) S_ .f32 0x00000000#32)⟩,
    ⟨S1024x768, extractStridedSlice S1024x768 ![0, 1968] w slices_S1024x2736_S1024x768_0_1968⟩] concatenates_S1024x256_S1024x1296_S1024x112_S1024x384_S1024x64_S1024x32_S1024x32_S1024x768_S1024x2944_d1) bitsLt_bf16_f32

/-- A column of the delta rule's. -/
theorem packW_delta (w : FVec Ideal S1024x2736 .f32) (l : Fin 1024) (j : Fin 1040) :
    (packW w (ix2 l ⟨512 + j.val, by omega⟩) : EReal) = w (ix2 l ⟨512 + j.val, by omega⟩) := by
  pointwise [packW]
  rw [dif_neg (by omega), dif_pos (by omega)]
  exact congrArg (fun k : Fin 2736 => w (ix2 l k)) (Fin.ext (by show 256 + (512 + j.val - 256) = 512 + j.val; omega))

/-- An empty lane. -/
theorem packW_empty (w : FVec Ideal S1024x2736 .f32) (l : Fin 1024) (j : Fin 112) :
    (packW w (ix2 l ⟨1552 + j.val, by omega⟩) : EReal) = 0 := by
  pointwise [packW]
  rw [dif_neg (by omega), dif_neg (by omega), dif_pos (by omega)]

/-- A column of the neighbourhood's. -/
theorem packW_near (w : FVec Ideal S1024x2736 .f32) (l : Fin 1024) (j : Fin 768) :
    (packW w (ix2 l ⟨2176 + j.val, by omega⟩) : EReal) = w (ix2 l ⟨1968 + j.val, by omega⟩) := by
  pointwise [packW]
  rw [dif_neg (by omega), dif_neg (by omega), dif_neg (by omega), dif_neg (by omega), dif_neg (by omega), dif_neg (by omega), dif_neg (by omega)]
  exact congrArg (fun k : Fin 2736 => w (ix2 l k)) (Fin.ext (by show 1968 + (2176 + j.val - 256 - 1296 - 112 - 384 - 64 - 32 - 32) = 1968 + j.val; omega))

variable (m : (ℓ : Loc nD τ sig) → Buf (Elt Ideal) ℓ) (c : Dev nD)

/-- The rows as the tiles find them. -/
theorem V_x : V m c main_v101 = Cert.MixIdeal.Mix.joinedX (m ((c : Thread nD τ).loc main_arg0)) (m ((c : Thread nD τ).loc main_arg1)) := by
  after_reads_simp [↓ StableHlo.readPieces]
  rfl

/-- The modulations as the tiles find them. -/
theorem V_m : V m c main_v103 = Cert.FirstIdeal.First.packM (m ((c : Thread nD τ).loc main_arg3)) (m ((c : Thread nD τ).loc main_arg2)) := by
  after_reads_simp [↓ StableHlo.readPieces]
  rfl

/-- The norm's weights as the tiles find them. -/
theorem V_g : V m c main_v104 = Cert.MixIdeal.Mix.packN (m ((c : Thread nD τ).loc main_arg4)) := by
  after_reads_simp [↓ StableHlo.readPieces]
  rfl

/-- The columns as the tiles find them. -/
theorem V_w : V m c main_v117 = packW (m ((c : Thread nD τ).loc main_arg5)) := by
  after_reads_simp [↓ StableHlo.readPieces]
  rfl

end Cert.ProjectIdeal.Proj
end
-- ==== Proof.ProjValue.lean ====
/- The input projection: the result arrays after the run. -/
module

public import proofs.«01_k».proof.Proof.ProjTile
public import proofs.«01_k».proof.Proof.ProjPack

@[expose] public section

set_option maxRecDepth 16384

noncomputable section

open Idealize.ShloMosaic Idealize.ShloMosaic.TcCoe Idealize.SL.Sem

namespace Cert.ProjectIdeal.Proj
open Cert.ProjectIdeal Cert.ProjectIdeal.Gen

variable (m : (ℓ : Loc nD τ sig) → Buf (Elt Ideal) ℓ) (c : Dev nD)

/-- Every window's block at each point. -/
theorem idx : ∀ t : Fin cfg0.N, win0_0.index t = ![t.val / 17, t.val % 17, 0]
    ∧ win0_1.index t = ![if t.val % 17 = 0 then 4 else t.val / 17, 0, 0]
    ∧ win0_2.index t = ![0, 0]
    ∧ win0_3.index t = ![0, 0]
    ∧ win0_16.index t = ![t.val / 17, t.val % 17, 0]
    ∧ win0_17.index t = ![t.val / 17, t.val % 17, 0]
    ∧ win0_18.index t = ![t.val / 17, t.val % 17, 0]
    ∧ win0_19.index t = ![t.val / 17, t.val % 17, 0]
    ∧ win0_20.index t = ![t.val / 17, t.val % 17, 0]
    ∧ t.val / 17 < 4 :=
  (by decide +kernel : ∀ t : Fin grid0.N, _)

/-- The rows of a point's block. -/
theorem blk0 (t : Fin cfg0.N) (A : FVec Ideal S8x4352x1024 .f32) (hA : V m c (Pipeline.arrRef spec0 0) = A) (q : Fin 2) (r : Fin 256) (j : Fin 1024)
    (b : Fin 8) (s : Fin 4352) (hb : b.val = 2 * (t.val / 17) + q.val) (hs : s.val = 256 * (t.val % 17) + r.val) : iblk m c 0 t (ix3 q r j) = A (ix3 b s j) := by
  unfold iblk
  rw [hA]
  blk_ext [idx t]

/-- The modulations of a point's block. -/
theorem blk1 (t : Fin cfg0.N) (A : FVec Ideal S16x3x1024 .f32) (hA : V m c (Pipeline.arrRef spec0 1) = A) (q : Fin 2) (e : Fin 3) (j : Fin 1024)
    (n : ℕ) (hn : win0_1.index t = ![n, 0, 0]) (b : Fin 16) (hb : b.val = 2 * n + q.val) : iblk m c 1 t (ix3 q e j) = A (ix3 b e j) := by
  unfold iblk
  rw [hA]
  blk_ext [hn]

/-- The norm's weights of a point's block. -/
theorem blk2 (t : Fin cfg0.N) (A : FVec Ideal S1x1024 .f32) (hA : V m c (Pipeline.arrRef spec0 2) = A) (r : Fin 1) (j : Fin 1024) :
    iblk m c 2 t (ix2 r j) = A (ix2 r j) := by
  unfold iblk
  rw [hA]
  blk_ext [idx t]

/-- The columns of a point's block. -/
theorem blk3 (t : Fin cfg0.N) (A : FVec Ideal S1024x2944 .bf16) (hA : V m c (Pipeline.arrRef spec0 3) = A) (r : Fin 1024) (j : Fin 2944) :
    iblk m c 3 t (ix2 r j) = A (ix2 r j) := by
  unfold iblk
  rw [hA]
  blk_ext [idx t]

/-- A point's projected entry in one of its two batches is the token's, against the packed column. -/
theorem blockCol_eq (t : Fin cfg0.N) (q : Fin 2) (r : Fin 256) (j : Fin 2944) (b : Fin 8) (s : Fin 4352) (w : Fin 1024 → EReal)
    (hb : b.val = 2 * (t.val / 17) + q.val) (hs : s.val = 256 * (t.val % 17) + r.val) (hw : ∀ l, (packW (m ((c : Thread nD τ).loc main_arg5)) (ix2 l j) : EReal) = w l) :
    blockCol (iblk m c 0 t) (iblk m c 1 t) (iblk m c 2 t) (iblk m c 3 t) q r j = token (m ((c : Thread nD τ).loc main_arg0)) (m ((c : Thread nD τ).loc main_arg1)) (m ((c : Thread nD τ).loc main_arg2)) (m ((c : Thread nD τ).loc main_arg3)) (m ((c : Thread nD τ).loc main_arg4)) b s w := by
  have hr : r.val < 256 := r.isLt
  have hm := (idx t).2.1
  unfold blockCol token
  by_cases h0 : t.val % 17 = 0
  · have hl : s.val < 256 := by omega
    rw [if_pos h0] at hm
    have hq : (⟨8 + q.val, by omega⟩ : Fin 16).val = 2 * 4 + q.val := rfl
    rw [dif_pos hl]
    refine Ffn.against_congr ?_ ?_ ?_ ?_ ?_
    · exact fun l => (blk0 m c t _ (V_x m c) q r l b s hb hs).trans (Cert.BothIdeal.Both.joinedX_ctx _ _ b s hl l)
    · exact fun l => (blk2 m c t _ (V_g m c) 0 l).trans (Cert.MixIdeal.Mix.packN_at _ l)
    · exact fun l => (blk1 m c t _ (V_m m c) q 0 l 4 hm _ hq).trans (Cert.FirstIdeal.First.packM_ctx _ _ ⟨q.val, by omega⟩ 0 l)
    · exact fun l => (blk1 m c t _ (V_m m c) q 1 l 4 hm _ hq).trans (Cert.FirstIdeal.First.packM_ctx _ _ ⟨q.val, by omega⟩ 1 l)
    · exact fun l => (blk3 m c t _ (V_w m c) l j).trans (hw l)
  · have hl : ¬ s.val < 256 := by omega
    rw [if_neg h0] at hm
    have hb' : (⟨b.val, by omega⟩ : Fin 16).val = 2 * (t.val / 17) + q.val := hb
    rw [dif_neg hl]
    refine Ffn.against_congr ?_ ?_ ?_ ?_ ?_
    · exact fun l => (blk0 m c t _ (V_x m c) q r l b s hb hs).trans (Cert.BothIdeal.Both.joinedX_lat _ _ b s hl l)
    · exact fun l => (blk2 m c t _ (V_g m c) 0 l).trans (Cert.MixIdeal.Mix.packN_at _ l)
    · exact fun l => (blk1 m c t _ (V_m m c) q 0 l _ hm _ hb').trans (Cert.FirstIdeal.First.packM_at _ _ b 0 l)
    · exact fun l => (blk1 m c t _ (V_m m c) q 1 l _ hm _ hb').trans (Cert.FirstIdeal.First.packM_at _ _ b 1 l)
    · exact fun l => (blk3 m c t _ (V_w m c) l j).trans (hw l)

/-- The delta rule's queries, keys and values after the run. -/
theorem final_qkv : (dats m 0 c).arrAt 16 (cfgs 0).N = qkv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 16 _ (by decide +kernel) fun t _ y => ?_
  have ht : t.val / 17 < 4 := (idx t).2.2.2.2.2.2.2.2.2
  have hy0 : 2 * (t.val / 17) + (y 0).val < 8 := by have : (y 0).val < 2 := (y 0).isLt; omega
  have hy : 256 * (t.val % 17) + (y 1).val < 4352 := by have : (y 1).val < 256 := (y 1).isLt; omega
  have e : ((cfg0.win 16).blk t).view.emb y = (ix3 (⟨2 * (t.val / 17) + (y 0).val, hy0⟩ : Fin 8)
      (⟨256 * (t.val % 17) + (y 1).val, hy⟩ : Fin 4352) (⟨(y 2).val, (y 2).isLt⟩ : Fin 768) : S8x4352x768.Idx) := by
    blk_ext [idx t]
  blk_simp
  rw [after0_16]
  refine (tile_qkv (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y).trans ?_
  have hp : ∀ l, (packW (m ((c : Thread nD τ).loc main_arg5)) (ix2 l (⟨512 + (y 2).val, by have : (y 2).val < 768 := (y 2).isLt; omega⟩ : Fin 2944)) : EReal) = (m ((c : Thread nD τ).loc main_arg5)) (ix2 l ⟨512 + (y 2).val, by have : (y 2).val < 768 := (y 2).isLt; omega⟩) := by
    intro l
    have q := packW_delta (m ((c : Thread nD τ).loc main_arg5)) l ⟨0 + (y 2).val, by have : (y 2).val < 768 := (y 2).isLt; omega⟩
    have e1 : (⟨512 + (0 + (y 2).val), by have : (y 2).val < 768 := (y 2).isLt; omega⟩ : Fin 2944) = (⟨512 + (y 2).val, by have : (y 2).val < 768 := (y 2).isLt; omega⟩ : Fin 2944) := Fin.ext (by show 512 + (0 + (y 2).val) = 512 + (y 2).val; omega)
    have e2 : (⟨512 + (0 + (y 2).val), by have : (y 2).val < 768 := (y 2).isLt; omega⟩ : Fin 2736) = ⟨512 + (y 2).val, by have : (y 2).val < 768 := (y 2).isLt; omega⟩ := Fin.ext (by show 512 + (0 + (y 2).val) = 512 + (y 2).val; omega)
    simp only [e1, e2] at q
    exact q
  refine (blockCol_eq m c t _ _ (⟨512 + (y 2).val, by have : (y 2).val < 768 := (y 2).isLt; omega⟩ : Fin 2944) ⟨2 * (t.val / 17) + (y 0).val, hy0⟩ ⟨256 * (t.val % 17) + (y 1).val, hy⟩ (fun l => (m ((c : Thread nD τ).loc main_arg5)) (ix2 l ⟨512 + (y 2).val, by have : (y 2).val < 768 := (y 2).isLt; omega⟩)) rfl rfl hp).trans ?_
  exact congrArg (qkv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e.symm

/-- The delta rule's gates after the run. -/
theorem final_gate : (dats m 0 c).arrAt 17 (cfgs 0).N = gate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 17 _ (by decide +kernel) fun t _ y => ?_
  have ht : t.val / 17 < 4 := (idx t).2.2.2.2.2.2.2.2.2
  have hy0 : 2 * (t.val / 17) + (y 0).val < 8 := by have : (y 0).val < 2 := (y 0).isLt; omega
  have hy : 256 * (t.val % 17) + (y 1).val < 4352 := by have : (y 1).val < 256 := (y 1).isLt; omega
  have e : ((cfg0.win 17).blk t).view.emb y = (ix3 (⟨2 * (t.val / 17) + (y 0).val, hy0⟩ : Fin 8)
      (⟨256 * (t.val % 17) + (y 1).val, hy⟩ : Fin 4352) (⟨(y 2).val, (y 2).isLt⟩ : Fin 256) : S8x4352x256.Idx) := by
    blk_ext [idx t]
  blk_simp
  rw [after0_17]
  refine (tile_gate (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y).trans ?_
  have hp : ∀ l, (packW (m ((c : Thread nD τ).loc main_arg5)) (ix2 l (⟨1280 + (y 2).val, by have : (y 2).val < 256 := (y 2).isLt; omega⟩ : Fin 2944)) : EReal) = (m ((c : Thread nD τ).loc main_arg5)) (ix2 l ⟨1280 + (y 2).val, by have : (y 2).val < 256 := (y 2).isLt; omega⟩) := by
    intro l
    have q := packW_delta (m ((c : Thread nD τ).loc main_arg5)) l ⟨768 + (y 2).val, by have : (y 2).val < 256 := (y 2).isLt; omega⟩
    have e1 : (⟨512 + (768 + (y 2).val), by have : (y 2).val < 256 := (y 2).isLt; omega⟩ : Fin 2944) = (⟨1280 + (y 2).val, by have : (y 2).val < 256 := (y 2).isLt; omega⟩ : Fin 2944) := Fin.ext (by show 512 + (768 + (y 2).val) = 1280 + (y 2).val; omega)
    have e2 : (⟨512 + (768 + (y 2).val), by have : (y 2).val < 256 := (y 2).isLt; omega⟩ : Fin 2736) = ⟨1280 + (y 2).val, by have : (y 2).val < 256 := (y 2).isLt; omega⟩ := Fin.ext (by show 512 + (768 + (y 2).val) = 1280 + (y 2).val; omega)
    simp only [e1, e2] at q
    exact q
  refine (blockCol_eq m c t _ _ (⟨1280 + (y 2).val, by have : (y 2).val < 256 := (y 2).isLt; omega⟩ : Fin 2944) ⟨2 * (t.val / 17) + (y 0).val, hy0⟩ ⟨256 * (t.val % 17) + (y 1).val, hy⟩ (fun l => (m ((c : Thread nD τ).loc main_arg5)) (ix2 l ⟨1280 + (y 2).val, by have : (y 2).val < 256 := (y 2).isLt; omega⟩)) rfl rfl hp).trans ?_
  exact congrArg (gate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e.symm

/-- The delta rule's decays and rates after the run. -/
theorem final_rates : (dats m 0 c).arrAt 18 (cfgs 0).N = rates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 18 _ (by decide +kernel) fun t _ y => ?_
  have ht : t.val / 17 < 4 := (idx t).2.2.2.2.2.2.2.2.2
  have hy0 : 2 * (t.val / 17) + (y 0).val < 8 := by have : (y 0).val < 2 := (y 0).isLt; omega
  have hy : 256 * (t.val % 17) + (y 1).val < 4352 := by have : (y 1).val < 256 := (y 1).isLt; omega
  have e : ((cfg0.win 18).blk t).view.emb y = (ix3 (⟨2 * (t.val / 17) + (y 0).val, hy0⟩ : Fin 8)
      (⟨256 * (t.val % 17) + (y 1).val, hy⟩ : Fin 4352) (⟨(y 2).val, (y 2).isLt⟩ : Fin 128) : S8x4352x128.Idx) := by
    blk_ext [idx t]
  blk_simp
  rw [after0_18]
  refine (tile_rates (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y).trans ?_
  refine Eq.trans ?_ (congrArg (rates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e.symm)
  by_cases h16 : (y 2).val < 16
  · refine Eq.trans ?_ (dif_pos h16).symm
    refine (blockCol_eq m c t _ _ (⟨1536 + (y 2).val, by have : (y 2).val < 128 := (y 2).isLt; omega⟩ : Fin 2944) ⟨2 * (t.val / 17) + (y 0).val, hy0⟩ ⟨256 * (t.val % 17) + (y 1).val, hy⟩ (fun l => (m ((c : Thread nD τ).loc main_arg5)) (ix2 l ⟨1536 + (y 2).val, by omega⟩)) rfl rfl ?_)
    intro l
    have q := packW_delta (m ((c : Thread nD τ).loc main_arg5)) l ⟨1024 + (y 2).val, by omega⟩
    have e1 : (⟨512 + (1024 + (y 2).val), by omega⟩ : Fin 2944) = (⟨1536 + (y 2).val, by have : (y 2).val < 128 := (y 2).isLt; omega⟩ : Fin 2944) := Fin.ext (by show 512 + (1024 + (y 2).val) = 1536 + (y 2).val; omega)
    have e2 : (⟨512 + (1024 + (y 2).val), by omega⟩ : Fin 2736) = ⟨1536 + (y 2).val, by omega⟩ := Fin.ext (by show 512 + (1024 + (y 2).val) = 1536 + (y 2).val; omega)
    simp only [e1, e2] at q
    exact q
  · refine Eq.trans ?_ (dif_neg h16).symm
    have h2 : (y 2).val < 128 := (y 2).isLt
    refine (blockCol_eq m c t _ _ (⟨1536 + (y 2).val, by have : (y 2).val < 128 := (y 2).isLt; omega⟩ : Fin 2944) ⟨2 * (t.val / 17) + (y 0).val, hy0⟩ ⟨256 * (t.val % 17) + (y 1).val, hy⟩ (fun _ => 0) rfl rfl ?_).trans (token_zero _ _ _ _ _ _ _)
    intro l
    have q := packW_empty (m ((c : Thread nD τ).loc main_arg5)) l ⟨(y 2).val - 16, by omega⟩
    have e1 : (⟨1552 + ((y 2).val - 16), by omega⟩ : Fin 2944) = (⟨1536 + (y 2).val, by have : (y 2).val < 128 := (y 2).isLt; omega⟩ : Fin 2944) := Fin.ext (by show 1552 + ((y 2).val - 16) = 1536 + (y 2).val; omega)
    simp only [e1] at q
    exact q

/-- The neighbourhood's scaled queries after the run. -/
theorem final_nq : (dats m 0 c).arrAt 19 (cfgs 0).N = nq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 19 _ (by decide +kernel) fun t _ y => ?_
  have ht : t.val / 17 < 4 := (idx t).2.2.2.2.2.2.2.2.2
  have hy0 : 2 * (t.val / 17) + (y 0).val < 8 := by have : (y 0).val < 2 := (y 0).isLt; omega
  have hy : 256 * (t.val % 17) + (y 1).val < 4352 := by have : (y 1).val < 256 := (y 1).isLt; omega
  have e : ((cfg0.win 19).blk t).view.emb y = (ix3 (⟨2 * (t.val / 17) + (y 0).val, hy0⟩ : Fin 8)
      (⟨256 * (t.val % 17) + (y 1).val, hy⟩ : Fin 4352) (⟨(y 2).val, (y 2).isLt⟩ : Fin 256) : S8x4352x256.Idx) := by
    blk_ext [idx t]
  blk_simp
  rw [after0_19]
  refine (tile_nq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y).trans ?_
  have hp : ∀ l, (packW (m ((c : Thread nD τ).loc main_arg5)) (ix2 l (⟨2176 + (y 2).val, by have : (y 2).val < 256 := (y 2).isLt; omega⟩ : Fin 2944)) : EReal) = (m ((c : Thread nD τ).loc main_arg5)) (ix2 l ⟨1968 + (y 2).val, by have : (y 2).val < 256 := (y 2).isLt; omega⟩) := by
    intro l
    have q := packW_near (m ((c : Thread nD τ).loc main_arg5)) l ⟨0 + (y 2).val, by have : (y 2).val < 256 := (y 2).isLt; omega⟩
    have e1 : (⟨2176 + (0 + (y 2).val), by have : (y 2).val < 256 := (y 2).isLt; omega⟩ : Fin 2944) = (⟨2176 + (y 2).val, by have : (y 2).val < 256 := (y 2).isLt; omega⟩ : Fin 2944) := Fin.ext (by show 2176 + (0 + (y 2).val) = 2176 + (y 2).val; omega)
    have e2 : (⟨1968 + (0 + (y 2).val), by have : (y 2).val < 256 := (y 2).isLt; omega⟩ : Fin 2736) = ⟨1968 + (y 2).val, by have : (y 2).val < 256 := (y 2).isLt; omega⟩ := Fin.ext (by show 1968 + (0 + (y 2).val) = 1968 + (y 2).val; omega)
    simp only [e1, e2] at q
    exact q
  refine (congrArg (fun e : EReal => e * Ffn.scaleQ) (blockCol_eq m c t _ _ (⟨2176 + (y 2).val, by have : (y 2).val < 256 := (y 2).isLt; omega⟩ : Fin 2944) ⟨2 * (t.val / 17) + (y 0).val, hy0⟩ ⟨256 * (t.val % 17) + (y 1).val, hy⟩ (fun l => (m ((c : Thread nD τ).loc main_arg5)) (ix2 l ⟨1968 + (y 2).val, by have : (y 2).val < 256 := (y 2).isLt; omega⟩)) rfl rfl hp)).trans ?_
  exact congrArg (nq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e.symm

/-- The neighbourhood's keys and values after the run. -/
theorem final_nkv : (dats m 0 c).arrAt 20 (cfgs 0).N = nkv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 20 _ (by decide +kernel) fun t _ y => ?_
  have ht : t.val / 17 < 4 := (idx t).2.2.2.2.2.2.2.2.2
  have hy0 : 2 * (t.val / 17) + (y 0).val < 8 := by have : (y 0).val < 2 := (y 0).isLt; omega
  have hy : 256 * (t.val % 17) + (y 1).val < 4352 := by have : (y 1).val < 256 := (y 1).isLt; omega
  have e : ((cfg0.win 20).blk t).view.emb y = (ix3 (⟨2 * (t.val / 17) + (y 0).val, hy0⟩ : Fin 8)
      (⟨256 * (t.val % 17) + (y 1).val, hy⟩ : Fin 4352) (⟨(y 2).val, (y 2).isLt⟩ : Fin 512) : S8x4352x512.Idx) := by
    blk_ext [idx t]
  blk_simp
  rw [after0_20]
  refine (tile_nkv (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y).trans ?_
  have hp : ∀ l, (packW (m ((c : Thread nD τ).loc main_arg5)) (ix2 l (⟨2432 + (y 2).val, by have : (y 2).val < 512 := (y 2).isLt; omega⟩ : Fin 2944)) : EReal) = (m ((c : Thread nD τ).loc main_arg5)) (ix2 l ⟨2224 + (y 2).val, by have : (y 2).val < 512 := (y 2).isLt; omega⟩) := by
    intro l
    have q := packW_near (m ((c : Thread nD τ).loc main_arg5)) l ⟨256 + (y 2).val, by have : (y 2).val < 512 := (y 2).isLt; omega⟩
    have e1 : (⟨2176 + (256 + (y 2).val), by have : (y 2).val < 512 := (y 2).isLt; omega⟩ : Fin 2944) = (⟨2432 + (y 2).val, by have : (y 2).val < 512 := (y 2).isLt; omega⟩ : Fin 2944) := Fin.ext (by show 2176 + (256 + (y 2).val) = 2432 + (y 2).val; omega)
    have e2 : (⟨1968 + (256 + (y 2).val), by have : (y 2).val < 512 := (y 2).isLt; omega⟩ : Fin 2736) = ⟨2224 + (y 2).val, by have : (y 2).val < 512 := (y 2).isLt; omega⟩ := Fin.ext (by show 1968 + (256 + (y 2).val) = 2224 + (y 2).val; omega)
    simp only [e1, e2] at q
    exact q
  refine (blockCol_eq m c t _ _ (⟨2432 + (y 2).val, by have : (y 2).val < 512 := (y 2).isLt; omega⟩ : Fin 2944) ⟨2 * (t.val / 17) + (y 0).val, hy0⟩ ⟨256 * (t.val % 17) + (y 1).val, hy⟩ (fun l => (m ((c : Thread nD τ).loc main_arg5)) (ix2 l ⟨2224 + (y 2).val, by have : (y 2).val < 512 := (y 2).isLt; omega⟩)) rfl rfl hp).trans ?_
  exact congrArg (nkv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e.symm

end Cert.ProjectIdeal.Proj
end
-- ==== Proof.ProjRef.lean ====
/- The input projection: the reference, stage by stage. -/
module

public import proofs.«01_k».proof.Proof.ProjPack
public import proofs.«01_k».proof.Proof.MixRef
public import proofs.«01_k».proof.Proof.FirstRef
public import proofs.«01_k».proof.Proof.Gen.ProjectReferenceIdeal.Run

@[expose] public section

set_option maxRecDepth 16384

noncomputable section

open Idealize.ShloMosaic Idealize.ShloMosaic.TcCoe Idealize.SL.Sem

namespace Cert.ProjectReferenceIdeal.Proj
open Cert.ProjectReferenceIdeal Cert.ProjectReferenceIdeal.Gen

/-- The context tokens' products. -/
def wideC (xc : FVec Ideal S8x256x1024 .f32) (mmc : FVec Ideal S1x3x1024 .f32) (g : FVec Ideal S1024 .f32) (w : FVec Ideal S1024x2736 .f32) : FVec Ideal S8x256x2736 .f32 :=
  Host.dotGeneral dot_S8x256x1024_S1024x2736_S8x256x2736_2_0_01_1_n_n none (Cert.FirstReferenceIdeal.First.shifted (Cert.FirstReferenceIdeal.First.norms xc g) mmc) w

/-- The latent tokens' products. -/
def wideL (x : FVec Ideal S8x4096x1024 .f32) (mm : FVec Ideal S8x3x1024 .f32) (g : FVec Ideal S1024 .f32) (w : FVec Ideal S1024x2736 .f32) : FVec Ideal S8x4096x2736 .f32 :=
  Host.dotGeneral dot_S8x4096x1024_S1024x2736_S8x4096x2736_2_0_01_1_n_n none (Cert.MixReferenceIdeal.Mix.shifted (Cert.MixReferenceIdeal.Mix.norms x g) mm) w

/-- A slice of both kinds of tokens' products, 768 columns from 512. -/
def at512 (A : FVec Ideal S8x256x2736 .f32) (B : FVec Ideal S8x4096x2736 .f32) : FVec Ideal S8x4352x768 .f32 :=
  concatenate S8x4352x768 1 [⟨S8x256x768, extractStridedSlice S8x256x768 ![0, 0, 512] A slices_S8x256x2736_S8x256x768_0_0_512⟩,
    ⟨S8x4096x768, extractStridedSlice S8x4096x768 ![0, 0, 512] B slices_S8x4096x2736_S8x4096x768_0_0_512⟩] concatenates_S8x256x768_S8x4096x768_S8x4352x768_d1

/-- A slice of both kinds of tokens' products, 256 columns from 1280. -/
def at1280 (A : FVec Ideal S8x256x2736 .f32) (B : FVec Ideal S8x4096x2736 .f32) : FVec Ideal S8x4352x256 .f32 :=
  concatenate S8x4352x256 1 [⟨S8x256x256, extractStridedSlice S8x256x256 ![0, 0, 1280] A slices_S8x256x2736_S8x256x256_0_0_1280⟩,
    ⟨S8x4096x256, extractStridedSlice S8x4096x256 ![0, 0, 1280] B slices_S8x4096x2736_S8x4096x256_0_0_1280⟩] concatenates_S8x256x256_S8x4096x256_S8x4352x256_d1

/-- A slice of both kinds of tokens' products, 8 columns from 1536. -/
def at1536 (A : FVec Ideal S8x256x2736 .f32) (B : FVec Ideal S8x4096x2736 .f32) : FVec Ideal S8x4352x8 .f32 :=
  concatenate S8x4352x8 1 [⟨S8x256x8, extractStridedSlice S8x256x8 ![0, 0, 1536] A slices_S8x256x2736_S8x256x8_0_0_1536⟩,
    ⟨S8x4096x8, extractStridedSlice S8x4096x8 ![0, 0, 1536] B slices_S8x4096x2736_S8x4096x8_0_0_1536⟩] concatenates_S8x256x8_S8x4096x8_S8x4352x8_d1

/-- A slice of both kinds of tokens' products, 8 columns from 1544. -/
def at1544 (A : FVec Ideal S8x256x2736 .f32) (B : FVec Ideal S8x4096x2736 .f32) : FVec Ideal S8x4352x8 .f32 :=
  concatenate S8x4352x8 1 [⟨S8x256x8, extractStridedSlice S8x256x8 ![0, 0, 1544] A slices_S8x256x2736_S8x256x8_0_0_1544⟩,
    ⟨S8x4096x8, extractStridedSlice S8x4096x8 ![0, 0, 1544] B slices_S8x4096x2736_S8x4096x8_0_0_1544⟩] concatenates_S8x256x8_S8x4096x8_S8x4352x8_d1

/-- A slice of both kinds of tokens' products, 256 columns from 1968. -/
def at1968 (A : FVec Ideal S8x256x2736 .f32) (B : FVec Ideal S8x4096x2736 .f32) : FVec Ideal S8x4352x256 .f32 :=
  concatenate S8x4352x256 1 [⟨S8x256x256, extractStridedSlice S8x256x256 ![0, 0, 1968] A slices_S8x256x2736_S8x256x256_0_0_1968⟩,
    ⟨S8x4096x256, extractStridedSlice S8x4096x256 ![0, 0, 1968] B slices_S8x4096x2736_S8x4096x256_0_0_1968⟩] concatenates_S8x256x256_S8x4096x256_S8x4352x256_d1

/-- A slice of both kinds of tokens' products, 256 columns from 2224. -/
def at2224 (A : FVec Ideal S8x256x2736 .f32) (B : FVec Ideal S8x4096x2736 .f32) : FVec Ideal S8x4352x256 .f32 :=
  concatenate S8x4352x256 1 [⟨S8x256x256, extractStridedSlice S8x256x256 ![0, 0, 2224] A slices_S8x256x2736_S8x256x256_0_0_2224⟩,
    ⟨S8x4096x256, extractStridedSlice S8x4096x256 ![0, 0, 2224] B slices_S8x4096x2736_S8x4096x256_0_0_2224⟩] concatenates_S8x256x256_S8x4096x256_S8x4352x256_d1

/-- A slice of both kinds of tokens' products, 256 columns from 2480. -/
def at2480 (A : FVec Ideal S8x256x2736 .f32) (B : FVec Ideal S8x4096x2736 .f32) : FVec Ideal S8x4352x256 .f32 :=
  concatenate S8x4352x256 1 [⟨S8x256x256, extractStridedSlice S8x256x256 ![0, 0, 2480] A slices_S8x256x2736_S8x256x256_0_0_2480⟩,
    ⟨S8x4096x256, extractStridedSlice S8x4096x256 ![0, 0, 2480] B slices_S8x4096x2736_S8x4096x256_0_0_2480⟩] concatenates_S8x256x256_S8x4096x256_S8x4352x256_d1

/-- The delta rule's decays and rates, then empty lanes. -/
def rates (A : FVec Ideal S8x256x2736 .f32) (B : FVec Ideal S8x4096x2736 .f32) : FVec Ideal S8x4352x128 .f32 :=
  concatenate S8x4352x128 2 [⟨S8x4352x8, at1536 A B⟩, ⟨S8x4352x8, at1544 A B⟩,
    ⟨S8x4352x112, broadcastInDim S8x4352x112 ![] bcast_S_S8x4352x112 (constant (F := Ideal) S_ .f32 0x00000000#32)⟩] concatenates_S8x4352x8_S8x4352x8_S8x4352x112_S8x4352x128_d2

/-- The neighbourhood's scaled queries. -/
def nq (A : FVec Ideal S8x256x2736 .f32) (B : FVec Ideal S8x4096x2736 .f32) : FVec Ideal S8x4352x256 .bf16 :=
  truncf .bf16 (mulf (at1968 A B) (broadcastInDim S8x4352x256 ![] bcast_S_S8x4352x256 (constant (F := Ideal) S_ .f32 0x3E38AA3B#32))) bitsLt_bf16_f32

/-- The neighbourhood's keys and values. -/
def nkv (A : FVec Ideal S8x256x2736 .f32) (B : FVec Ideal S8x4096x2736 .f32) : FVec Ideal S8x4352x512 .bf16 :=
  truncf .bf16 (concatenate S8x4352x512 2 [⟨S8x4352x256, at2224 A B⟩, ⟨S8x4352x256, at2480 A B⟩] concatenates_S8x4352x256_S8x4352x256_S8x4352x512_d2) bitsLt_bf16_f32

/-- An entry of the context tokens' products. -/
theorem wideC_at (xc : FVec Ideal S8x256x1024 .f32) (mmc : FVec Ideal S1x3x1024 .f32) (g : FVec Ideal S1024 .f32) (w : FVec Ideal S1024x2736 .f32)
    (b : Fin 8) (s : Fin 256) (j : Fin 2736) : (wideC xc mmc g w (ix3 b s j) : EReal)
      = Ffn.against (fun l => xc (ix3 b s l)) (fun l => g (ix1 l)) (fun l => mmc (ix3 0 0 l)) (fun l => mmc (ix3 0 1 l)) (fun l => w (ix2 l j)) := by
  have e : ∀ h : FVec Ideal S8x256x1024 .f32, ((Host.dotGeneral dot_S8x256x1024_S1024x2736_S8x256x2736_2_0_01_1_n_n none h w : FVec Ideal S8x256x2736 .f32) (ix3 b s j) : EReal)
      = ∑ l : Fin 1024, (h (ix3 b s l) : EReal) * w (ix2 l j) := by
    intro h
    pointwise []
  refine (e _).trans ?_
  simp only [Cert.FirstReferenceIdeal.First.shifted_at, Cert.FirstReferenceIdeal.First.norms_at]
  rfl

/-- An entry of the latent tokens' products. -/
theorem wideL_at (x : FVec Ideal S8x4096x1024 .f32) (mm : FVec Ideal S8x3x1024 .f32) (g : FVec Ideal S1024 .f32) (w : FVec Ideal S1024x2736 .f32)
    (b : Fin 8) (s : Fin 4096) (j : Fin 2736) : (wideL x mm g w (ix3 b s j) : EReal)
      = Ffn.against (fun l => x (ix3 b s l)) (fun l => g (ix1 l)) (fun l => mm (ix3 b 0 l)) (fun l => mm (ix3 b 1 l)) (fun l => w (ix2 l j)) := by
  have e : ∀ h : FVec Ideal S8x4096x1024 .f32, ((Host.dotGeneral dot_S8x4096x1024_S1024x2736_S8x4096x2736_2_0_01_1_n_n none h w : FVec Ideal S8x4096x2736 .f32) (ix3 b s j) : EReal)
      = ∑ l : Fin 1024, (h (ix3 b s l) : EReal) * w (ix2 l j) := by
    intro h
    pointwise []
  refine (e _).trans ?_
  simp only [Cert.MixReferenceIdeal.Mix.shifted_at, Cert.MixReferenceIdeal.Mix.norms_at]
  rfl

/-- An entry of both kinds of tokens' products. -/
def both (A : FVec Ideal S8x256x2736 .f32) (B : FVec Ideal S8x4096x2736 .f32) (b : Fin 8) (s : Fin 4352) (j : Fin 2736) : EReal :=
  if h : s.val < 256 then A (ix3 b ⟨s.val, h⟩ j) else B (ix3 b ⟨s.val - 256, by omega⟩ j)

/-- An entry of both is the token's, against the column. -/
theorem both_eq (xc : FVec Ideal S8x256x1024 .f32) (x : FVec Ideal S8x4096x1024 .f32) (mmc : FVec Ideal S1x3x1024 .f32) (mm : FVec Ideal S8x3x1024 .f32)
    (g : FVec Ideal S1024 .f32) (w : FVec Ideal S1024x2736 .f32) (b : Fin 8) (s : Fin 4352) (j : Fin 2736) :
    both (wideC xc mmc g w) (wideL x mm g w) b s j = Cert.ProjectIdeal.Proj.token xc x mmc mm g b s (fun l => w (ix2 l j)) := by
  unfold both Cert.ProjectIdeal.Proj.token
  split
  · exact wideC_at _ _ _ _ _ _ _
  · exact wideL_at _ _ _ _ _ _ _

/-- An entry of the slice from 512. -/
theorem at512_at (A : FVec Ideal S8x256x2736 .f32) (B : FVec Ideal S8x4096x2736 .f32) (b : Fin 8) (s : Fin 4352) (j : Fin 768) : (at512 A B (ix3 b s j) : EReal) = both A B b s ⟨512 + j.val, by omega⟩ := by
  unfold both
  pointwise [at512]

/-- An entry of the slice from 1280. -/
theorem at1280_at (A : FVec Ideal S8x256x2736 .f32) (B : FVec Ideal S8x4096x2736 .f32) (b : Fin 8) (s : Fin 4352) (j : Fin 256) : (at1280 A B (ix3 b s j) : EReal) = both A B b s ⟨1280 + j.val, by omega⟩ := by
  unfold both
  pointwise [at1280]

/-- An entry of the slice from 1536. -/
theorem at1536_at (A : FVec Ideal S8x256x2736 .f32) (B : FVec Ideal S8x4096x2736 .f32) (b : Fin 8) (s : Fin 4352) (j : Fin 8) : (at1536 A B (ix3 b s j) : EReal) = both A B b s ⟨1536 + j.val, by omega⟩ := by
  unfold both
  pointwise [at1536]

/-- An entry of the slice from 1544. -/
theorem at1544_at (A : FVec Ideal S8x256x2736 .f32) (B : FVec Ideal S8x4096x2736 .f32) (b : Fin 8) (s : Fin 4352) (j : Fin 8) : (at1544 A B (ix3 b s j) : EReal) = both A B b s ⟨1544 + j.val, by omega⟩ := by
  unfold both
  pointwise [at1544]

/-- An entry of the slice from 1968. -/
theorem at1968_at (A : FVec Ideal S8x256x2736 .f32) (B : FVec Ideal S8x4096x2736 .f32) (b : Fin 8) (s : Fin 4352) (j : Fin 256) : (at1968 A B (ix3 b s j) : EReal) = both A B b s ⟨1968 + j.val, by omega⟩ := by
  unfold both
  pointwise [at1968]

/-- An entry of the slice from 2224. -/
theorem at2224_at (A : FVec Ideal S8x256x2736 .f32) (B : FVec Ideal S8x4096x2736 .f32) (b : Fin 8) (s : Fin 4352) (j : Fin 256) : (at2224 A B (ix3 b s j) : EReal) = both A B b s ⟨2224 + j.val, by omega⟩ := by
  unfold both
  pointwise [at2224]

/-- An entry of the slice from 2480. -/
theorem at2480_at (A : FVec Ideal S8x256x2736 .f32) (B : FVec Ideal S8x4096x2736 .f32) (b : Fin 8) (s : Fin 4352) (j : Fin 256) : (at2480 A B (ix3 b s j) : EReal) = both A B b s ⟨2480 + j.val, by omega⟩ := by
  unfold both
  pointwise [at2480]

/-- An entry of the decays and rates. -/
theorem rates_at (A : FVec Ideal S8x256x2736 .f32) (B : FVec Ideal S8x4096x2736 .f32) (b : Fin 8) (s : Fin 4352) (j : Fin 128) :
    (rates A B (ix3 b s j) : EReal) = if h : j.val < 16 then both A B b s ⟨1536 + j.val, by omega⟩ else (0 : EReal) := by
  have e : ∀ (C E : FVec Ideal S8x4352x8 .f32), ((concatenate S8x4352x128 2 [⟨S8x4352x8, C⟩, ⟨S8x4352x8, E⟩,
      ⟨S8x4352x112, broadcastInDim S8x4352x112 ![] bcast_S_S8x4352x112 (constant (F := Ideal) S_ .f32 0x00000000#32)⟩] concatenates_S8x4352x8_S8x4352x8_S8x4352x112_S8x4352x128_d2 : FVec Ideal S8x4352x128 .f32) (ix3 b s j) : EReal)
      = if h : j.val < 8 then C (ix3 b s ⟨j.val, h⟩) else if h' : j.val < 16 then E (ix3 b s ⟨j.val - 8, by omega⟩) else (0 : EReal) := by
    intro C E
    pointwise []
    by_cases h : j.val < 8
    · rw [dif_pos h, dif_pos h]
    · rw [dif_neg h, dif_neg h]
      by_cases h' : j.val < 16
      · rw [dif_pos (by omega), dif_pos h']
      · rw [dif_neg (by omega), dif_neg h']
  refine (e _ _).trans ?_
  by_cases h : j.val < 8
  · rw [dif_pos h, dif_pos (by omega), at1536_at]
  · rw [dif_neg h]
    by_cases h' : j.val < 16
    · rw [dif_pos h', dif_pos h', at1544_at]
      refine congrArg (both A B b s) (Fin.ext ?_)
      show 1544 + (j.val - 8) = 1536 + j.val
      omega
    · rw [dif_neg h', dif_neg h']

/-- An entry of the scaled queries. -/
theorem nq_at (A : FVec Ideal S8x256x2736 .f32) (B : FVec Ideal S8x4096x2736 .f32) (b : Fin 8) (s : Fin 4352) (j : Fin 256) :
    (nq A B (ix3 b s j) : EReal) = both A B b s ⟨1968 + j.val, by omega⟩ * Ffn.scaleQ := by
  have e : ∀ C : FVec Ideal S8x4352x256 .f32, ((truncf .bf16 (mulf C (broadcastInDim S8x4352x256 ![] bcast_S_S8x4352x256 (constant (F := Ideal) S_ .f32 0x3E38AA3B#32))) bitsLt_bf16_f32 : FVec Ideal S8x4352x256 .bf16) (ix3 b s j) : EReal)
      = (C (ix3 b s j) : EReal) * Ffn.scaleQ := by
    intro C
    pointwise []
    rfl
  refine (e _).trans ?_
  rw [at1968_at]

/-- An entry of the keys and values. -/
theorem nkv_at (A : FVec Ideal S8x256x2736 .f32) (B : FVec Ideal S8x4096x2736 .f32) (b : Fin 8) (s : Fin 4352) (j : Fin 512) :
    (nkv A B (ix3 b s j) : EReal) = both A B b s ⟨2224 + j.val, by omega⟩ := by
  have e : ∀ C E : FVec Ideal S8x4352x256 .f32, ((truncf .bf16 (concatenate S8x4352x512 2 [⟨S8x4352x256, C⟩, ⟨S8x4352x256, E⟩] concatenates_S8x4352x256_S8x4352x256_S8x4352x512_d2) bitsLt_bf16_f32 : FVec Ideal S8x4352x512 .bf16) (ix3 b s j) : EReal)
      = if h : j.val < 256 then C (ix3 b s ⟨j.val, h⟩) else E (ix3 b s ⟨j.val - 256, by omega⟩) := by
    intro C E
    pointwise []
  refine (e _ _).trans ?_
  by_cases h : j.val < 256
  · rw [dif_pos h, at2224_at]
  · rw [dif_neg h, at2480_at]
    refine congrArg (both A B b s) (Fin.ext ?_)
    show 2480 + (j.val - 256) = 2224 + j.val
    omega

/-- The delta rule's queries, keys and values are the kernel's. -/
theorem qkv_eq (xc : FVec Ideal S8x256x1024 .f32) (x : FVec Ideal S8x4096x1024 .f32) (mmc : FVec Ideal S1x3x1024 .f32) (mm : FVec Ideal S8x3x1024 .f32)
    (g : FVec Ideal S1024 .f32) (w : FVec Ideal S1024x2736 .f32) :
    at512 (wideC xc mmc g w) (wideL x mm g w) = Cert.ProjectIdeal.Proj.qkv xc x mmc mm g w := by
  funext y
  idx_vars y
  refine (at512_at _ _ y0 y1 y2).trans ?_
  simp only [both_eq]
  rfl

/-- The delta rule's gates are the kernel's. -/
theorem gate_eq (xc : FVec Ideal S8x256x1024 .f32) (x : FVec Ideal S8x4096x1024 .f32) (mmc : FVec Ideal S1x3x1024 .f32) (mm : FVec Ideal S8x3x1024 .f32)
    (g : FVec Ideal S1024 .f32) (w : FVec Ideal S1024x2736 .f32) :
    at1280 (wideC xc mmc g w) (wideL x mm g w) = Cert.ProjectIdeal.Proj.gate xc x mmc mm g w := by
  funext y
  idx_vars y
  refine (at1280_at _ _ y0 y1 y2).trans ?_
  simp only [both_eq]
  rfl

/-- The delta rule's decays and rates are the kernel's. -/
theorem rates_eq (xc : FVec Ideal S8x256x1024 .f32) (x : FVec Ideal S8x4096x1024 .f32) (mmc : FVec Ideal S1x3x1024 .f32) (mm : FVec Ideal S8x3x1024 .f32)
    (g : FVec Ideal S1024 .f32) (w : FVec Ideal S1024x2736 .f32) :
    rates (wideC xc mmc g w) (wideL x mm g w) = Cert.ProjectIdeal.Proj.rates xc x mmc mm g w := by
  funext y
  idx_vars y
  refine (rates_at _ _ y0 y1 y2).trans ?_
  simp only [both_eq]
  rfl

/-- The neighbourhood's scaled queries are the kernel's. -/
theorem nq_eq (xc : FVec Ideal S8x256x1024 .f32) (x : FVec Ideal S8x4096x1024 .f32) (mmc : FVec Ideal S1x3x1024 .f32) (mm : FVec Ideal S8x3x1024 .f32)
    (g : FVec Ideal S1024 .f32) (w : FVec Ideal S1024x2736 .f32) :
    nq (wideC xc mmc g w) (wideL x mm g w) = Cert.ProjectIdeal.Proj.nq xc x mmc mm g w := by
  funext y
  idx_vars y
  refine (nq_at _ _ y0 y1 y2).trans ?_
  simp only [both_eq]
  rfl

/-- The neighbourhood's keys and values are the kernel's. -/
theorem nkv_eq (xc : FVec Ideal S8x256x1024 .f32) (x : FVec Ideal S8x4096x1024 .f32) (mmc : FVec Ideal S1x3x1024 .f32) (mm : FVec Ideal S8x3x1024 .f32)
    (g : FVec Ideal S1024 .f32) (w : FVec Ideal S1024x2736 .f32) :
    nkv (wideC xc mmc g w) (wideL x mm g w) = Cert.ProjectIdeal.Proj.nkv xc x mmc mm g w := by
  funext y
  idx_vars y
  refine (nkv_at _ _ y0 y1 y2).trans ?_
  simp only [both_eq]
  rfl

/-- The run's result is that. -/
theorem res_rates (m : (ℓ : Loc nD τ sig) → Buf (Elt Ideal) ℓ) (c : Dev nD) :
    Value.res_main_v75 m c = rates (wideC (m ((c.tc : Thread nD τ).loc main_arg0)) (m ((c.tc : Thread nD τ).loc main_arg2)) (m ((c.tc : Thread nD τ).loc main_arg4)) (m ((c.tc : Thread nD τ).loc main_arg5))) (wideL (m ((c.tc : Thread nD τ).loc main_arg1)) (m ((c.tc : Thread nD τ).loc main_arg3)) (m ((c.tc : Thread nD τ).loc main_arg4)) (m ((c.tc : Thread nD τ).loc main_arg5))) := rfl

/-- The run's result is that. -/
theorem res_nkv (m : (ℓ : Loc nD τ sig) → Buf (Elt Ideal) ℓ) (c : Dev nD) :
    Value.res_main_v83 m c = nkv (wideC (m ((c.tc : Thread nD τ).loc main_arg0)) (m ((c.tc : Thread nD τ).loc main_arg2)) (m ((c.tc : Thread nD τ).loc main_arg4)) (m ((c.tc : Thread nD τ).loc main_arg5))) (wideL (m ((c.tc : Thread nD τ).loc main_arg1)) (m ((c.tc : Thread nD τ).loc main_arg3)) (m ((c.tc : Thread nD τ).loc main_arg4)) (m ((c.tc : Thread nD τ).loc main_arg5))) := rfl

end Cert.ProjectReferenceIdeal.Proj
end
-- ==== Proof.ProjClaim.lean ====
/- The input projection: the kernel computes the reference's. -/
module

public import proofs.«01_k».proof.Defs
public import proofs.«01_k».proof.Proof.ProjValue
public import proofs.«01_k».proof.Proof.ProjRef
public import proofs.«01_k».proof.Proof.Gen.ProjectReferenceIdeal

@[expose] public section

set_option maxRecDepth 16384

noncomputable section

open Idealize.ShloMosaic Idealize.ShloMosaic.TcCoe Idealize.SL.Sem

namespace Cert.Project
/-- The delta rule's queries, keys and values: the reference's term, of arrays equal to the kernel's arguments, is the kernel's result array. -/
theorem reference_qkv (m : (ℓ : Loc Cert.ProjectIdeal.nD Cert.ProjectIdeal.τ Cert.ProjectIdeal.sig) → Buf (Elt Ideal) ℓ) (c : Dev Cert.ProjectIdeal.nD) (T : FVec Ideal Cert.ProjectReferenceIdeal.S8x4352x768 .f32)
    (a0 : FVec Ideal Cert.ProjectReferenceIdeal.S8x256x1024 .f32)
    (a1 : FVec Ideal Cert.ProjectReferenceIdeal.S8x4096x1024 .f32)
    (a2 : FVec Ideal Cert.ProjectReferenceIdeal.S1x3x1024 .f32)
    (a3 : FVec Ideal Cert.ProjectReferenceIdeal.S8x3x1024 .f32)
    (a4 : FVec Ideal Cert.ProjectReferenceIdeal.S1024 .f32)
    (a5 : FVec Ideal Cert.ProjectReferenceIdeal.S1024x2736 .f32)
    (hT : T = Cert.ProjectReferenceIdeal.Proj.at512 (Cert.ProjectReferenceIdeal.Proj.wideC a0 a2 a4 a5) (Cert.ProjectReferenceIdeal.Proj.wideL a1 a3 a4 a5))
    (h0 : a0 = (m ((c : Thread Cert.ProjectIdeal.nD Cert.ProjectIdeal.τ).loc Cert.ProjectIdeal.main_arg0)))
    (h1 : a1 = (m ((c : Thread Cert.ProjectIdeal.nD Cert.ProjectIdeal.τ).loc Cert.ProjectIdeal.main_arg1)))
    (h2 : a2 = (m ((c : Thread Cert.ProjectIdeal.nD Cert.ProjectIdeal.τ).loc Cert.ProjectIdeal.main_arg2)))
    (h3 : a3 = (m ((c : Thread Cert.ProjectIdeal.nD Cert.ProjectIdeal.τ).loc Cert.ProjectIdeal.main_arg3)))
    (h4 : a4 = (m ((c : Thread Cert.ProjectIdeal.nD Cert.ProjectIdeal.τ).loc Cert.ProjectIdeal.main_arg4)))
    (h5 : a5 = (m ((c : Thread Cert.ProjectIdeal.nD Cert.ProjectIdeal.τ).loc Cert.ProjectIdeal.main_arg5))) :
    T = (Cert.ProjectIdeal.Gen.dats m 0 c).arrAt 16 (Cert.ProjectIdeal.cfgs 0).N := by
  subst h0 h1 h2 h3 h4 h5
  exact hT.trans ((Cert.ProjectReferenceIdeal.Proj.qkv_eq _ _ _ _ _ _ ).trans (Cert.ProjectIdeal.Proj.final_qkv m c).symm)

/-- The delta rule's gates: the reference's term, of arrays equal to the kernel's arguments, is the kernel's result array. -/
theorem reference_gate (m : (ℓ : Loc Cert.ProjectIdeal.nD Cert.ProjectIdeal.τ Cert.ProjectIdeal.sig) → Buf (Elt Ideal) ℓ) (c : Dev Cert.ProjectIdeal.nD) (T : FVec Ideal Cert.ProjectReferenceIdeal.S8x4352x256 .f32)
    (a0 : FVec Ideal Cert.ProjectReferenceIdeal.S8x256x1024 .f32)
    (a1 : FVec Ideal Cert.ProjectReferenceIdeal.S8x4096x1024 .f32)
    (a2 : FVec Ideal Cert.ProjectReferenceIdeal.S1x3x1024 .f32)
    (a3 : FVec Ideal Cert.ProjectReferenceIdeal.S8x3x1024 .f32)
    (a4 : FVec Ideal Cert.ProjectReferenceIdeal.S1024 .f32)
    (a5 : FVec Ideal Cert.ProjectReferenceIdeal.S1024x2736 .f32)
    (hT : T = Cert.ProjectReferenceIdeal.Proj.at1280 (Cert.ProjectReferenceIdeal.Proj.wideC a0 a2 a4 a5) (Cert.ProjectReferenceIdeal.Proj.wideL a1 a3 a4 a5))
    (h0 : a0 = (m ((c : Thread Cert.ProjectIdeal.nD Cert.ProjectIdeal.τ).loc Cert.ProjectIdeal.main_arg0)))
    (h1 : a1 = (m ((c : Thread Cert.ProjectIdeal.nD Cert.ProjectIdeal.τ).loc Cert.ProjectIdeal.main_arg1)))
    (h2 : a2 = (m ((c : Thread Cert.ProjectIdeal.nD Cert.ProjectIdeal.τ).loc Cert.ProjectIdeal.main_arg2)))
    (h3 : a3 = (m ((c : Thread Cert.ProjectIdeal.nD Cert.ProjectIdeal.τ).loc Cert.ProjectIdeal.main_arg3)))
    (h4 : a4 = (m ((c : Thread Cert.ProjectIdeal.nD Cert.ProjectIdeal.τ).loc Cert.ProjectIdeal.main_arg4)))
    (h5 : a5 = (m ((c : Thread Cert.ProjectIdeal.nD Cert.ProjectIdeal.τ).loc Cert.ProjectIdeal.main_arg5))) :
    T = (Cert.ProjectIdeal.Gen.dats m 0 c).arrAt 17 (Cert.ProjectIdeal.cfgs 0).N := by
  subst h0 h1 h2 h3 h4 h5
  exact hT.trans ((Cert.ProjectReferenceIdeal.Proj.gate_eq _ _ _ _ _ _ ).trans (Cert.ProjectIdeal.Proj.final_gate m c).symm)

/-- The delta rule's decays and rates: the reference's term, of arrays equal to the kernel's arguments, is the kernel's result array. -/
theorem reference_rates (m : (ℓ : Loc Cert.ProjectIdeal.nD Cert.ProjectIdeal.τ Cert.ProjectIdeal.sig) → Buf (Elt Ideal) ℓ) (c : Dev Cert.ProjectIdeal.nD) (T : FVec Ideal Cert.ProjectReferenceIdeal.S8x4352x128 .f32)
    (a0 : FVec Ideal Cert.ProjectReferenceIdeal.S8x256x1024 .f32)
    (a1 : FVec Ideal Cert.ProjectReferenceIdeal.S8x4096x1024 .f32)
    (a2 : FVec Ideal Cert.ProjectReferenceIdeal.S1x3x1024 .f32)
    (a3 : FVec Ideal Cert.ProjectReferenceIdeal.S8x3x1024 .f32)
    (a4 : FVec Ideal Cert.ProjectReferenceIdeal.S1024 .f32)
    (a5 : FVec Ideal Cert.ProjectReferenceIdeal.S1024x2736 .f32)
    (hT : T = Cert.ProjectReferenceIdeal.Proj.rates (Cert.ProjectReferenceIdeal.Proj.wideC a0 a2 a4 a5) (Cert.ProjectReferenceIdeal.Proj.wideL a1 a3 a4 a5))
    (h0 : a0 = (m ((c : Thread Cert.ProjectIdeal.nD Cert.ProjectIdeal.τ).loc Cert.ProjectIdeal.main_arg0)))
    (h1 : a1 = (m ((c : Thread Cert.ProjectIdeal.nD Cert.ProjectIdeal.τ).loc Cert.ProjectIdeal.main_arg1)))
    (h2 : a2 = (m ((c : Thread Cert.ProjectIdeal.nD Cert.ProjectIdeal.τ).loc Cert.ProjectIdeal.main_arg2)))
    (h3 : a3 = (m ((c : Thread Cert.ProjectIdeal.nD Cert.ProjectIdeal.τ).loc Cert.ProjectIdeal.main_arg3)))
    (h4 : a4 = (m ((c : Thread Cert.ProjectIdeal.nD Cert.ProjectIdeal.τ).loc Cert.ProjectIdeal.main_arg4)))
    (h5 : a5 = (m ((c : Thread Cert.ProjectIdeal.nD Cert.ProjectIdeal.τ).loc Cert.ProjectIdeal.main_arg5))) :
    T = (Cert.ProjectIdeal.Gen.dats m 0 c).arrAt 18 (Cert.ProjectIdeal.cfgs 0).N := by
  subst h0 h1 h2 h3 h4 h5
  exact hT.trans ((Cert.ProjectReferenceIdeal.Proj.rates_eq _ _ _ _ _ _ ).trans (Cert.ProjectIdeal.Proj.final_rates m c).symm)

/-- The neighbourhood's scaled queries: the reference's term, of arrays equal to the kernel's arguments, is the kernel's result array. -/
theorem reference_nq (m : (ℓ : Loc Cert.ProjectIdeal.nD Cert.ProjectIdeal.τ Cert.ProjectIdeal.sig) → Buf (Elt Ideal) ℓ) (c : Dev Cert.ProjectIdeal.nD) (T : FVec Ideal Cert.ProjectReferenceIdeal.S8x4352x256 .bf16)
    (a0 : FVec Ideal Cert.ProjectReferenceIdeal.S8x256x1024 .f32)
    (a1 : FVec Ideal Cert.ProjectReferenceIdeal.S8x4096x1024 .f32)
    (a2 : FVec Ideal Cert.ProjectReferenceIdeal.S1x3x1024 .f32)
    (a3 : FVec Ideal Cert.ProjectReferenceIdeal.S8x3x1024 .f32)
    (a4 : FVec Ideal Cert.ProjectReferenceIdeal.S1024 .f32)
    (a5 : FVec Ideal Cert.ProjectReferenceIdeal.S1024x2736 .f32)
    (hT : T = Cert.ProjectReferenceIdeal.Proj.nq (Cert.ProjectReferenceIdeal.Proj.wideC a0 a2 a4 a5) (Cert.ProjectReferenceIdeal.Proj.wideL a1 a3 a4 a5))
    (h0 : a0 = (m ((c : Thread Cert.ProjectIdeal.nD Cert.ProjectIdeal.τ).loc Cert.ProjectIdeal.main_arg0)))
    (h1 : a1 = (m ((c : Thread Cert.ProjectIdeal.nD Cert.ProjectIdeal.τ).loc Cert.ProjectIdeal.main_arg1)))
    (h2 : a2 = (m ((c : Thread Cert.ProjectIdeal.nD Cert.ProjectIdeal.τ).loc Cert.ProjectIdeal.main_arg2)))
    (h3 : a3 = (m ((c : Thread Cert.ProjectIdeal.nD Cert.ProjectIdeal.τ).loc Cert.ProjectIdeal.main_arg3)))
    (h4 : a4 = (m ((c : Thread Cert.ProjectIdeal.nD Cert.ProjectIdeal.τ).loc Cert.ProjectIdeal.main_arg4)))
    (h5 : a5 = (m ((c : Thread Cert.ProjectIdeal.nD Cert.ProjectIdeal.τ).loc Cert.ProjectIdeal.main_arg5))) :
    T = (Cert.ProjectIdeal.Gen.dats m 0 c).arrAt 19 (Cert.ProjectIdeal.cfgs 0).N := by
  subst h0 h1 h2 h3 h4 h5
  exact hT.trans ((Cert.ProjectReferenceIdeal.Proj.nq_eq _ _ _ _ _ _ ).trans (Cert.ProjectIdeal.Proj.final_nq m c).symm)

/-- The neighbourhood's keys and values: the reference's term, of arrays equal to the kernel's arguments, is the kernel's result array. -/
theorem reference_nkv (m : (ℓ : Loc Cert.ProjectIdeal.nD Cert.ProjectIdeal.τ Cert.ProjectIdeal.sig) → Buf (Elt Ideal) ℓ) (c : Dev Cert.ProjectIdeal.nD) (T : FVec Ideal Cert.ProjectReferenceIdeal.S8x4352x512 .bf16)
    (a0 : FVec Ideal Cert.ProjectReferenceIdeal.S8x256x1024 .f32)
    (a1 : FVec Ideal Cert.ProjectReferenceIdeal.S8x4096x1024 .f32)
    (a2 : FVec Ideal Cert.ProjectReferenceIdeal.S1x3x1024 .f32)
    (a3 : FVec Ideal Cert.ProjectReferenceIdeal.S8x3x1024 .f32)
    (a4 : FVec Ideal Cert.ProjectReferenceIdeal.S1024 .f32)
    (a5 : FVec Ideal Cert.ProjectReferenceIdeal.S1024x2736 .f32)
    (hT : T = Cert.ProjectReferenceIdeal.Proj.nkv (Cert.ProjectReferenceIdeal.Proj.wideC a0 a2 a4 a5) (Cert.ProjectReferenceIdeal.Proj.wideL a1 a3 a4 a5))
    (h0 : a0 = (m ((c : Thread Cert.ProjectIdeal.nD Cert.ProjectIdeal.τ).loc Cert.ProjectIdeal.main_arg0)))
    (h1 : a1 = (m ((c : Thread Cert.ProjectIdeal.nD Cert.ProjectIdeal.τ).loc Cert.ProjectIdeal.main_arg1)))
    (h2 : a2 = (m ((c : Thread Cert.ProjectIdeal.nD Cert.ProjectIdeal.τ).loc Cert.ProjectIdeal.main_arg2)))
    (h3 : a3 = (m ((c : Thread Cert.ProjectIdeal.nD Cert.ProjectIdeal.τ).loc Cert.ProjectIdeal.main_arg3)))
    (h4 : a4 = (m ((c : Thread Cert.ProjectIdeal.nD Cert.ProjectIdeal.τ).loc Cert.ProjectIdeal.main_arg4)))
    (h5 : a5 = (m ((c : Thread Cert.ProjectIdeal.nD Cert.ProjectIdeal.τ).loc Cert.ProjectIdeal.main_arg5))) :
    T = (Cert.ProjectIdeal.Gen.dats m 0 c).arrAt 20 (Cert.ProjectIdeal.cfgs 0).N := by
  subst h0 h1 h2 h3 h4 h5
  exact hT.trans ((Cert.ProjectReferenceIdeal.Proj.nkv_eq _ _ _ _ _ _ ).trans (Cert.ProjectIdeal.Proj.final_nkv m c).symm)

set_option maxHeartbeats 2000000 in
/-- The kernel and the reference end with equal results. -/
theorem algebraic : Cert.algebraic_ProjectIdeal_ProjectReferenceIdeal (hProjectIdeal := Cert.ProjectIdeal.Gen.facts) (hProjectReferenceIdeal := Cert.ProjectReferenceIdeal.Gen.facts) := by
  intro m g m' g' _ hagree
  refine ⟨fun c => (Cert.ProjectIdeal.Gen.dats m 0 c).arrAt 16 (Cert.ProjectIdeal.cfgs 0).N, fun c => (Cert.ProjectIdeal.Gen.dats m 0 c).arrAt 17 (Cert.ProjectIdeal.cfgs 0).N, fun c => (Cert.ProjectIdeal.Gen.dats m 0 c).arrAt 18 (Cert.ProjectIdeal.cfgs 0).N, fun c => (Cert.ProjectIdeal.Gen.dats m 0 c).arrAt 19 (Cert.ProjectIdeal.cfgs 0).N, fun c => (Cert.ProjectIdeal.Gen.dats m 0 c).arrAt 20 (Cert.ProjectIdeal.cfgs 0).N, ?_, ?_⟩
  · refine θ_run_mono (θ_run_and (Cert.ProjectIdeal.Gen.run_main m g) (Cert.ProjectIdeal.Gen.frame m g)) ?_
    rintro r ⟨h, hf⟩ c
    exact ⟨(h c).1 16, (h c).1 17, (h c).1 18, (h c).1 19, (h c).1 20, hf.1 c⟩
  · refine θ_run_mono (Cert.ProjectReferenceIdeal.Value.run m' g') ?_
    intro r h c
    exact ⟨((h c).1).trans (reference_qkv m c _ _ _ _ _ _ _ rfl (hagree c).1 (hagree c).2.1 (hagree c).2.2.1 (hagree c).2.2.2.1 (hagree c).2.2.2.2.1 (hagree c).2.2.2.2.2.1),
      ((h c).2.1).trans (reference_gate m c _ _ _ _ _ _ _ rfl (hagree c).1 (hagree c).2.1 (hagree c).2.2.1 (hagree c).2.2.2.1 (hagree c).2.2.2.2.1 (hagree c).2.2.2.2.2.1),
      ((h c).2.2.1).trans (reference_rates m c _ _ _ _ _ _ _ (Cert.ProjectReferenceIdeal.Proj.res_rates m' c) (hagree c).1 (hagree c).2.1 (hagree c).2.2.1 (hagree c).2.2.2.1 (hagree c).2.2.2.2.1 (hagree c).2.2.2.2.2.1),
      ((h c).2.2.2.1).trans (reference_nq m c _ _ _ _ _ _ _ rfl (hagree c).1 (hagree c).2.1 (hagree c).2.2.1 (hagree c).2.2.2.1 (hagree c).2.2.2.2.1 (hagree c).2.2.2.2.2.1),
      ((h c).2.2.2.2.1).trans (reference_nkv m c _ _ _ _ _ _ _ (Cert.ProjectReferenceIdeal.Proj.res_nkv m' c) (hagree c).1 (hagree c).2.1 (hagree c).2.2.1 (hagree c).2.2.2.1 (hagree c).2.2.2.2.1 (hagree c).2.2.2.2.2.1), (h c).2.2.2.2.2⟩

end Cert.Project
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.Later
public import proofs.«01_k».proof.Proof.Gen.Later.Skeleton
public import proofs.«01_k».proof.Proof.Gen.Later.Launch
public import proofs.«01_k».proof.Proof.Gen.Later.Points
public import proofs.«01_k».proof.Proof.Gen.Later.Frame
public import proofs.«01_k».proof.Proof.Gen.LaterIdeal
public import proofs.«01_k».proof.Proof.Gen.LaterIdeal.Skeleton
public import proofs.«01_k».proof.Proof.Gen.LaterIdeal.Launch
public import proofs.«01_k».proof.Proof.Gen.LaterIdeal.Points
public import proofs.«01_k».proof.Proof.Gen.LaterIdeal.Frame
public import proofs.«01_k».proof.Proof.Gen.LaterIdeal.Value
public import proofs.«01_k».proof.Proof.Gen.FirstReferenceIdeal
public import proofs.«01_k».proof.Proof.Gen.FirstReferenceIdeal.Run
public import proofs.«01_k».proof.Proof.Gen.Both
public import proofs.«01_k».proof.Proof.Gen.Both.Skeleton
public import proofs.«01_k».proof.Proof.Gen.Both.Launch
public import proofs.«01_k».proof.Proof.Gen.Both.Points
public import proofs.«01_k».proof.Proof.Gen.Both.Frame
public import proofs.«01_k».proof.Proof.Gen.BothIdeal
public import proofs.«01_k».proof.Proof.Gen.BothIdeal.Skeleton
public import proofs.«01_k».proof.Proof.Gen.BothIdeal.Launch
public import proofs.«01_k».proof.Proof.Gen.BothIdeal.Points
public import proofs.«01_k».proof.Proof.Gen.BothIdeal.Frame
public import proofs.«01_k».proof.Proof.Gen.BothIdeal.Value
public import proofs.«01_k».proof.Proof.Gen.BothReferenceIdeal
public import proofs.«01_k».proof.Proof.Gen.BothReferenceIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectReferenceIdeal
public import proofs.«01_k».proof.Proof.Gen.ProjectReferenceIdeal.Run
public import proofs.«01_k».proof.Proof.MlaClaim
public import proofs.«01_k».proof.Proof.MixClaim
public import proofs.«01_k».proof.Proof.FirstClaim
public import proofs.«01_k».proof.Proof.LaterClaim
public import proofs.«01_k».proof.Proof.BothClaim
public import proofs.«01_k».proof.Proof.ProjClaim
public import Idealize.ShloMosaic.Adequacy
public import Idealize.ShloMosaic.Init

@[expose] public section

noncomputable section

namespace Cert.Proof

open Idealize.ShloMosaic Idealize.SL.Sem

/-- The reference runs, leaves its arguments unchanged and ends with every semaphore at zero. -/
theorem frame_reference : Cert.quiescent_ReferenceIdeal (hReferenceIdeal := Cert.ReferenceIdeal.Gen.facts) := by
  intro m g _
  refine (θ_run Cert.ReferenceIdeal.defs _ _).mono (fun r h => ⟨fun c => (h c).2, Idealize.ShloMosaic.sem_eq_zero_of_no_sems (by decide) r.2⟩)
    (Cert.ReferenceIdeal.Value.run m g)

/-- The layer's reference runs, leaves its arguments unchanged and ends with every semaphore at zero. -/
theorem frame_mix_reference : Cert.quiescent_MixReferenceIdeal (hMixReferenceIdeal := Cert.MixReferenceIdeal.Gen.facts) := by
  intro m g _
  refine (θ_run Cert.MixReferenceIdeal.defs _ _).mono (fun r h => ⟨fun c => (h c).2, Idealize.ShloMosaic.sem_eq_zero_of_no_sems (by decide) r.2⟩)
    (Cert.MixReferenceIdeal.Mix.run m g)

/-- The first feed-forward block's reference runs, leaves its arguments unchanged and ends with every semaphore at zero. -/
theorem frame_first_reference : Cert.quiescent_FirstReferenceIdeal (hFirstReferenceIdeal := Cert.FirstReferenceIdeal.Gen.facts) := by
  intro m g _
  refine (θ_run Cert.FirstReferenceIdeal.defs _ _).mono (fun r h => ⟨fun c => (h c).2, Idealize.ShloMosaic.sem_eq_zero_of_no_sems (by decide) r.2⟩)
    (Cert.FirstReferenceIdeal.Value.run m g)

/-- The reference of the first layer's output half runs, leaves its arguments unchanged and ends with every semaphore at zero. -/
theorem frame_both_reference : Cert.quiescent_BothReferenceIdeal (hBothReferenceIdeal := Cert.BothReferenceIdeal.Gen.facts) := by
  intro m g _
  refine (θ_run Cert.BothReferenceIdeal.defs _ _).mono (fun r h => ⟨fun c => (h c).2, Idealize.ShloMosaic.sem_eq_zero_of_no_sems (by decide) r.2⟩)
    (Cert.BothReferenceIdeal.Value.run m g)

/-- The input projection's reference runs, leaves its arguments unchanged and ends with every semaphore at zero. -/
theorem frame_project_reference : Cert.quiescent_ProjectReferenceIdeal (hProjectReferenceIdeal := Cert.ProjectReferenceIdeal.Gen.facts) := by
  intro m g _
  refine (θ_run Cert.ProjectReferenceIdeal.defs _ _).mono (fun r h => ⟨fun c => (h c).2.2.2.2.2, Idealize.ShloMosaic.sem_eq_zero_of_no_sems (by decide) r.2⟩)
    (Cert.ProjectReferenceIdeal.Value.run m g)

/-- Every claim of the certificate. -/
theorem claim : Cert.Claim := ⟨Cert.Kernel.Gen.facts, Cert.KernelIdeal.Gen.facts, Cert.ReferenceIdeal.Gen.facts,
  Cert.Mix.Gen.facts, Cert.MixIdeal.Gen.facts, Cert.MixReferenceIdeal.Gen.facts,
  Cert.First.Gen.facts, Cert.FirstIdeal.Gen.facts, Cert.FirstReferenceIdeal.Gen.facts, Cert.Later.Gen.facts, Cert.LaterIdeal.Gen.facts,
  Cert.Both.Gen.facts, Cert.BothIdeal.Gen.facts, Cert.BothReferenceIdeal.Gen.facts,
  Cert.Project.Gen.facts, Cert.ProjectIdeal.Gen.facts, Cert.ProjectReferenceIdeal.Gen.facts, Cert.Mla.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Mix.Gen.frame m ρ, fun m ρ _ => Cert.MixIdeal.Gen.frame m ρ, frame_mix_reference,
  fun m ρ _ => Cert.First.Gen.frame m ρ, fun m ρ _ => Cert.FirstIdeal.Gen.frame m ρ, frame_first_reference,
  fun m ρ _ => Cert.Later.Gen.frame m ρ, fun m ρ _ => Cert.LaterIdeal.Gen.frame m ρ,
  fun m ρ _ => Cert.Both.Gen.frame m ρ, fun m ρ _ => Cert.BothIdeal.Gen.frame m ρ, frame_both_reference,
  fun m ρ _ => Cert.Project.Gen.frame m ρ, fun m ρ _ => Cert.ProjectIdeal.Gen.frame m ρ, frame_project_reference,
  trivial, Cert.Mla.algebraic, trivial, Cert.Mix.algebraic, trivial, Cert.First.algebraic, trivial, Cert.Later.algebraic, trivial, Cert.Both.algebraic,
  trivial, Cert.Project.algebraic⟩

end Cert.Proof

end
